-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_real_KernelIdeal [hPre_real_KernelIdeal : Cert.Pre_real_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_real_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_real_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_real_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_real_ReferenceIdeal [hPre_real_ReferenceIdeal : Cert.Pre_real_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_real_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_real_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_real_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_real_KernelIdeal [hKernelIdeal : Cert.KernelIdeal.Facts] [hPre_real_KernelIdeal : Cert.Pre_real_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_real_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_real_ReferenceIdeal [hReferenceIdeal : Cert.ReferenceIdeal.Facts] [hPre_real_ReferenceIdeal : Cert.Pre_real_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_real_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_real_KernelIdeal [hKernelIdeal : Cert.KernelIdeal.Facts] [hReferenceIdeal : Cert.ReferenceIdeal.Facts] [hPre_real_KernelIdeal : Cert.Pre_real_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_real_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨4, ![1, 2048, 32, 128]⟩ ⟨4, ![1, 8192, 32, 128]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![1, 2048, 32, 128]⟩ ⟨4, ![1, 8192, 32, 128]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![1024, 1024]⟩ ⟨2, ![4096, 1024]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v34) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_real_KernelIdeal : Cert.Pre_real_KernelIdeal.Facts) (hPre_real_ReferenceIdeal : Cert.Pre_real_ReferenceIdeal.Facts),
    quiescent_Kernel (hKernel := hKernel)
    ∧ quiescent_KernelIdeal (hKernelIdeal := hKernelIdeal)
    ∧ quiescent_KernelIdeal_pre_real_KernelIdeal (hKernelIdeal := hKernelIdeal) (hPre_real_KernelIdeal := hPre_real_KernelIdeal)
    ∧ quiescent_ReferenceIdeal (hReferenceIdeal := hReferenceIdeal)
    ∧ quiescent_ReferenceIdeal_pre_real_ReferenceIdeal (hReferenceIdeal := hReferenceIdeal) (hPre_real_ReferenceIdeal := hPre_real_ReferenceIdeal)
    ∧ preserves_Kernel_KernelIdeal
    ∧ algebraic_KernelIdeal_ReferenceIdeal_pre_real_KernelIdeal (hKernelIdeal := hKernelIdeal) (hReferenceIdeal := hReferenceIdeal) (hPre_real_KernelIdeal := hPre_real_KernelIdeal)
-- ==== Pre_real_KernelIdeal.lean ====
abbrev S1x2048x1024 : Shape := ⟨3, ![1, 2048, 1024]⟩
abbrev S1024x1024 : Shape := ⟨2, ![1024, 1024]⟩
abbrev S1x2048x32x128 : Shape := ⟨4, ![1, 2048, 32, 128]⟩
abbrev S_ : Shape := ⟨0, ![]⟩

class Facts : Prop where
  bcast_S_S1x2048x1024 : S_.BroadcastsInDim S1x2048x1024 (![] : Fin 0 → Fin S1x2048x1024.rank)
  bcast_S_S1024x1024 : S_.BroadcastsInDim S1024x1024 (![] : Fin 0 → Fin S1024x1024.rank)
  bcast_S_S1x2048x32x128 : S_.BroadcastsInDim S1x2048x32x128 (![] : Fin 0 → Fin S1x2048x32x128.rank)

variable [Facts]

def fn {F : FTy → Type} [FloatOps F] (main_arg0 : FVec F S1x2048x1024 .f32) (main_arg1 : FVec F S1024x1024 .f32) (main_arg2 : FVec F S1x2048x32x128 .f32) (main_arg3 : FVec F S1x2048x32x128 .f32) (main_arg4 : FVec F S1024x1024 .f32) : IVec S1x2048x1024 1 × IVec S1024x1024 1 × IVec S1x2048x32x128 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_v3 : FVec F S1024x1024 .f32 := Host.absf main_arg1
  let main_cst_0 : FVec F S_ .f32 := constant S_ .f32 0x7F800000#32
  let main_v4 : FVec F S1024x1024 .f32 := broadcastInDim S1024x1024 ![] bcast_S_S1024x1024 main_cst_0
  let main_v5 : IVec S1024x1024 1 := cmpf .olt main_v3 main_v4
  let main_v6 : FVec F S1x2048x32x128 .f32 := Host.absf main_arg2
  let main_cst_1 : FVec F S_ .f32 := constant S_ .f32 0x7F800000#32
  let main_v7 : FVec F S1x2048x32x128 .f32 := broadcastInDim S1x2048x32x128 ![] bcast_S_S1x2048x32x128 main_cst_1
  let main_v8 : IVec S1x2048x32x128 1 := cmpf .olt main_v6 main_v7
  (main_v2, main_v5, main_v8)
-- ==== Pre_real_ReferenceIdeal.lean ====
abbrev S1x2048x1024 : Shape := ⟨3, ![1, 2048, 1024]⟩
abbrev S1024x4096 : Shape := ⟨2, ![1024, 4096]⟩
abbrev S1x8192x32x128 : Shape := ⟨4, ![1, 8192, 32, 128]⟩
abbrev S4096x1024 : Shape := ⟨2, ![4096, 1024]⟩
abbrev S_ : Shape := ⟨0, ![]⟩

class Facts : Prop where
  bcast_S_S1x2048x1024 : S_.BroadcastsInDim S1x2048x1024 (![] : Fin 0 → Fin S1x2048x1024.rank)
  bcast_S_S1024x4096 : S_.BroadcastsInDim S1024x4096 (![] : Fin 0 → Fin S1024x4096.rank)
  bcast_S_S1x8192x32x128 : S_.BroadcastsInDim S1x8192x32x128 (![] : Fin 0 → Fin S1x8192x32x128.rank)

variable [Facts]

def fn {F : FTy → Type} [FloatOps F] (main_arg0 : FVec F S1x2048x1024 .f32) (main_arg1 : FVec F S1024x4096 .f32) (main_arg2 : FVec F S1x8192x32x128 .f32) (main_arg3 : FVec F S1x8192x32x128 .f32) (main_arg4 : FVec F S4096x1024 .f32) : IVec S1x2048x1024 1 × IVec S1024x4096 1 × IVec S1x8192x32x128 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_v3 : FVec F S1024x4096 .f32 := Host.absf main_arg1
  let main_cst_0 : FVec F S_ .f32 := constant S_ .f32 0x7F800000#32
  let main_v4 : FVec F S1024x4096 .f32 := broadcastInDim S1024x4096 ![] bcast_S_S1024x4096 main_cst_0
  let main_v5 : IVec S1024x4096 1 := cmpf .olt main_v3 main_v4
  let main_v6 : FVec F S1x8192x32x128 .f32 := Host.absf main_arg2
  let main_cst_1 : FVec F S_ .f32 := constant S_ .f32 0x7F800000#32
  let main_v7 : FVec F S1x8192x32x128 .f32 := broadcastInDim S1x8192x32x128 ![] bcast_S_S1x8192x32x128 main_cst_1
  let main_v8 : IVec S1x8192x32x128 1 := cmpf .olt main_v6 main_v7
  (main_v2, main_v5, main_v8)
-- ==== Kernel.lean ====
abbrev S1x2048x1024 : Shape := ⟨3, ![1, 2048, 1024]⟩
abbrev S1024x1024 : Shape := ⟨2, ![1024, 1024]⟩
abbrev S1x2048x32x128 : Shape := ⟨4, ![1, 2048, 32, 128]⟩
abbrev S2048x1024 : Shape := ⟨2, ![2048, 1024]⟩
abbrev S2048x8x128 : Shape := ⟨3, ![2048, 8, 128]⟩
abbrev S128x8x128 : Shape := ⟨3, ![128, 8, 128]⟩
abbrev S512x1024 : Shape := ⟨2, ![512, 1024]⟩
abbrev S512x8x128 : Shape := ⟨3, ![512, 8, 128]⟩
abbrev S2x2048x8x128 : Shape := ⟨4, ![2, 2048, 8, 128]⟩
abbrev S128x32x128 : Shape := ⟨3, ![128, 32, 128]⟩
abbrev S2048x512 : Shape := ⟨2, ![2048, 512]⟩
abbrev S2x512x512 : Shape := ⟨3, ![2, 512, 512]⟩
abbrev S_ : Shape := ⟨0, ![]⟩
abbrev S2x4 : Shape := ⟨2, ![2, 4]⟩
abbrev S4 : Shape := ⟨1, ![4]⟩
abbrev S6 : Shape := ⟨1, ![6]⟩
abbrev S1x512x8x128 : Shape := ⟨4, ![1, 512, 8, 128]⟩
abbrev S1x1 : Shape := ⟨2, ![1, 1]⟩
abbrev S1 : Shape := ⟨1, ![1]⟩
abbrev S1x128x32x128 : Shape := ⟨4, ![1, 128, 32, 128]⟩
abbrev S1x512x1024 : Shape := ⟨3, ![1, 512, 1024]⟩
abbrev S512x1x128 : Shape := ⟨3, ![512, 1, 128]⟩
abbrev S512x128 : Shape := ⟨2, ![512, 128]⟩
abbrev S256x128 : Shape := ⟨2, ![256, 128]⟩
abbrev S256x512 : Shape := ⟨2, ![256, 512]⟩
abbrev S256 : Shape := ⟨1, ![256]⟩
abbrev S256x1 : Shape := ⟨2, ![256, 1]⟩
abbrev S384x1x128 : Shape := ⟨3, ![384, 1, 128]⟩
abbrev S384x128 : Shape := ⟨2, ![384, 128]⟩
abbrev S128x1x128 : Shape := ⟨3, ![128, 1, 128]⟩
abbrev S128x128 : Shape := ⟨2, ![128, 128]⟩
abbrev S512x512 : Shape := ⟨2, ![512, 512]⟩
abbrev S1x512x512 : Shape := ⟨3, ![1, 512, 512]⟩

abbrev nBuf : Space → Nat
  | .hbm => 6
  | .vmem => 20
  | .smem => 0
  | _ => 0

abbrev bufTy : (tb : Table) → Fin (tcTables nBuf tb) → BufTy
  | .hbm, ⟨0, _⟩ => ⟨S1x2048x1024, .f32⟩
  | .hbm, ⟨1, _⟩ => ⟨S1024x1024, .f32⟩
  | .hbm, ⟨2, _⟩ => ⟨S1x2048x32x128, .f32⟩
  | .hbm, ⟨3, _⟩ => ⟨S1x2048x32x128, .f32⟩
  | .hbm, ⟨4, _⟩ => ⟨S1024x1024, .f32⟩
  | .hbm, ⟨5, _⟩ => ⟨S1x2048x1024, .f32⟩
  | .local _ .vmem, ⟨0, _⟩ => ⟨S1x2048x1024, .f32⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x8x128, .bf16⟩
  | .local _ .vmem, ⟨5, _⟩ => ⟨S2048x8x128, .bf16⟩
  | .local _ .vmem, ⟨6, _⟩ => ⟨S128x8x128, .bf16⟩
  | .local _ .vmem, ⟨7, _⟩ => ⟨S128x8x128, .bf16⟩
  | .local _ .vmem, ⟨8, _⟩ => ⟨S512x1024, .f32⟩
  | .local _ .vmem, ⟨9, _⟩ => ⟨S512x8x128, .f32⟩
  | .local _ .vmem, ⟨10, _⟩ => ⟨S2x2048x8x128, .bf16⟩
  | .local _ .vmem, ⟨11, _⟩ => ⟨S128x32x128, .f32⟩
  | .local _ .vmem, ⟨12, _⟩ => ⟨S128x8x128, .bf16⟩
  | .local _ .vmem, ⟨13, _⟩ => ⟨S2048x1024, .bf16⟩
  | .local _ .vmem, ⟨14, _⟩ => ⟨S2048x512, .bf16⟩
  | .local _ .vmem, ⟨15, _⟩ => ⟨S2048x512, .bf16⟩
  | .local _ .vmem, ⟨16, _⟩ => ⟨S2048x512, .bf16⟩
  | .local _ .vmem, ⟨17, _⟩ => ⟨S2048x512, .bf16⟩
  | .local _ .vmem, ⟨18, _⟩ => ⟨S2x512x512, .bf16⟩
  | .local _ .vmem, ⟨19, _⟩ => ⟨S2x512x512, .bf16⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 1 → Bool
  | ⟨0, _⟩ => false
  | _ => false

abbrev dmaSemScoped : Fin 57 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | _ => false

abbrev sig : RefSig :=
  (ofTc nBuf bufTy 1 57 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_scratch6 : Ref sig .tc := ⟨.vmem, 7, rfl⟩
abbrev cc0_scratch7 : Ref sig .tc := ⟨.vmem, 8, rfl⟩
abbrev cc0_scratch8 : Ref sig .tc := ⟨.vmem, 9, rfl⟩
abbrev cc0_scratch9 : Ref sig .tc := ⟨.vmem, 10, rfl⟩
abbrev cc0_scratch10 : Ref sig .tc := ⟨.vmem, 11, rfl⟩
abbrev cc0_scratch11 : Ref sig .tc := ⟨.vmem, 12, rfl⟩
abbrev cc0_scratch12 : Ref sig .tc := ⟨.vmem, 13, rfl⟩
abbrev cc0_scratch13 : Ref sig .tc := ⟨.vmem, 14, rfl⟩
abbrev cc0_scratch14 : Ref sig .tc := ⟨.vmem, 15, rfl⟩
abbrev cc0_scratch15 : Ref sig .tc := ⟨.vmem, 16, rfl⟩
abbrev cc0_scratch16 : Ref sig .tc := ⟨.vmem, 17, rfl⟩
abbrev cc0_scratch17 : Ref sig .tc := ⟨.vmem, 18, rfl⟩
abbrev cc0_scratch18 : Ref sig .tc := ⟨.vmem, 19, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let v5 : BitVec 32 := Scalar.remsi v4 c4_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_4 : BitVec 32 := 4#32
  let v9 : BitVec 32 := Scalar.remsi v8 c4_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v12 : BitVec 32 := Scalar.addi v2 c3_i32
  let c4_i32_8 : BitVec 32 := 4#32
  let v13 : BitVec 32 := Scalar.remsi v12 c4_i32_8
  let c1_i32_10 : BitVec 32 := 1#32
  let v14 : BitVec 32 := Scalar.muli v13 c1_i32_10
  let v15 : BitVec 32 := Scalar.addi c0_i32_11 v14
  v15.toNat
def k0_cond1 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_13 : BitVec 32 := 0#32
  let v16 : BitVec 1 := Scalar.cmpi .eq v2 c0_i32_13
  let v17 : BitVec 32 := Scalar.extui v16
  let c0_i32_14 : BitVec 32 := 0#32
  let v18 : BitVec 1 := Scalar.cmpi .ne v17 c0_i32_14
  v18

def k0_dev4 : Nat :=
  let c0_i32_1804 : BitVec 32 := 0#32
  let c1_i32_1802 : BitVec 32 := 1#32
  let c1_i32_1803 : BitVec 32 := 1#32
  let v2894 : BitVec 32 := Scalar.muli c1_i32_1802 c1_i32_1803
  let v2895 : BitVec 32 := Scalar.addi c0_i32_1804 v2894
  v2895.toNat
def k0_dev5 : Nat :=
  let c0_i32_1833 : BitVec 32 := 0#32
  let c3_i32_1831 : BitVec 32 := 3#32
  let c1_i32_1832 : BitVec 32 := 1#32
  let v2913 : BitVec 32 := Scalar.muli c3_i32_1831 c1_i32_1832
  let v2914 : BitVec 32 := Scalar.addi c0_i32_1833 v2913
  v2914.toNat
def k0_dev6 : Nat :=
  let c0_i32_1862 : BitVec 32 := 0#32
  let c1_i32_1860 : BitVec 32 := 1#32
  let c1_i32_1861 : BitVec 32 := 1#32
  let v2932 : BitVec 32 := Scalar.muli c1_i32_1860 c1_i32_1861
  let v2933 : BitVec 32 := Scalar.addi c0_i32_1862 v2932
  v2933.toNat
def k0_dev7 : Nat :=
  let c0_i32_1891 : BitVec 32 := 0#32
  let c3_i32_1889 : BitVec 32 := 3#32
  let c1_i32_1890 : BitVec 32 := 1#32
  let v2951 : BitVec 32 := Scalar.muli c3_i32_1889 c1_i32_1890
  let v2952 : BitVec 32 := Scalar.addi c0_i32_1891 v2951
  v2952.toNat
def k0_dev8 : Nat :=
  let c0_i32_1920 : BitVec 32 := 0#32
  let c1_i32_1918 : BitVec 32 := 1#32
  let c1_i32_1919 : BitVec 32 := 1#32
  let v2970 : BitVec 32 := Scalar.muli c1_i32_1918 c1_i32_1919
  let v2971 : BitVec 32 := Scalar.addi c0_i32_1920 v2970
  v2971.toNat
def k0_dev9 : Nat :=
  let c0_i32_1949 : BitVec 32 := 0#32
  let c3_i32_1947 : BitVec 32 := 3#32
  let c1_i32_1948 : BitVec 32 := 1#32
  let v2989 : BitVec 32 := Scalar.muli c3_i32_1947 c1_i32_1948
  let v2990 : BitVec 32 := Scalar.addi c0_i32_1949 v2989
  v2990.toNat
def k0_dev10 : Nat :=
  let c0_i32_1978 : BitVec 32 := 0#32
  let c1_i32_1976 : BitVec 32 := 1#32
  let c1_i32_1977 : BitVec 32 := 1#32
  let v3008 : BitVec 32 := Scalar.muli c1_i32_1976 c1_i32_1977
  let v3009 : BitVec 32 := Scalar.addi c0_i32_1978 v3008
  v3009.toNat
def k0_dev11 : Nat :=
  let c0_i32_2007 : BitVec 32 := 0#32
  let c3_i32_2005 : BitVec 32 := 3#32
  let c1_i32_2006 : BitVec 32 := 1#32
  let v3027 : BitVec 32 := Scalar.muli c3_i32_2005 c1_i32_2006
  let v3028 : BitVec 32 := Scalar.addi c0_i32_2007 v3027
  v3028.toNat
def k0_cond2 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_15 : BitVec 32 := 1#32
  let v19 : BitVec 1 := Scalar.cmpi .eq v2 c1_i32_15
  let v20 : BitVec 32 := Scalar.extui v19
  let c0_i32_16 : BitVec 32 := 0#32
  let v21 : BitVec 1 := Scalar.cmpi .ne v20 c0_i32_16
  v21

def k0_dev12 : Nat :=
  let c0_i32_1802 : BitVec 32 := 0#32
  let c0_i32_1800 : BitVec 32 := 0#32
  let c1_i32_1801 : BitVec 32 := 1#32
  let v2899 : BitVec 32 := Scalar.muli c0_i32_1800 c1_i32_1801
  let v2900 : BitVec 32 := Scalar.addi c0_i32_1802 v2899
  v2900.toNat
def k0_dev13 : Nat :=
  let c0_i32_1810 : BitVec 32 := 0#32
  let c2_i32_1808 : BitVec 32 := 2#32
  let c1_i32_1809 : BitVec 32 := 1#32
  let v2905 : BitVec 32 := Scalar.muli c2_i32_1808 c1_i32_1809
  let v2906 : BitVec 32 := Scalar.addi c0_i32_1810 v2905
  v2906.toNat
def k0_dev14 : Nat :=
  let c0_i32_1818 : BitVec 32 := 0#32
  let c3_i32_1816 : BitVec 32 := 3#32
  let c1_i32_1817 : BitVec 32 := 1#32
  let v2911 : BitVec 32 := Scalar.muli c3_i32_1816 c1_i32_1817
  let v2912 : BitVec 32 := Scalar.addi c0_i32_1818 v2911
  v2912.toNat
def k0_dev15 : Nat :=
  let c0_i32_1840 : BitVec 32 := 0#32
  let c0_i32_1838 : BitVec 32 := 0#32
  let c1_i32_1839 : BitVec 32 := 1#32
  let v2927 : BitVec 32 := Scalar.muli c0_i32_1838 c1_i32_1839
  let v2928 : BitVec 32 := Scalar.addi c0_i32_1840 v2927
  v2928.toNat
def k0_dev16 : Nat :=
  let c0_i32_1848 : BitVec 32 := 0#32
  let c2_i32_1846 : BitVec 32 := 2#32
  let c1_i32_1847 : BitVec 32 := 1#32
  let v2933 : BitVec 32 := Scalar.muli c2_i32_1846 c1_i32_1847
  let v2934 : BitVec 32 := Scalar.addi c0_i32_1848 v2933
  v2934.toNat
def k0_dev17 : Nat :=
  let c0_i32_1856 : BitVec 32 := 0#32
  let c3_i32_1854 : BitVec 32 := 3#32
  let c1_i32_1855 : BitVec 32 := 1#32
  let v2939 : BitVec 32 := Scalar.muli c3_i32_1854 c1_i32_1855
  let v2940 : BitVec 32 := Scalar.addi c0_i32_1856 v2939
  v2940.toNat
def k0_cond3 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_17 : BitVec 32 := 1#32
  let v22 : BitVec 1 := Scalar.cmpi .eq v2 c1_i32_17
  let v23 : BitVec 32 := Scalar.extui v22
  let c0_i32_18 : BitVec 32 := 0#32
  let v24 : BitVec 1 := Scalar.cmpi .ne v23 c0_i32_18
  v24

def k0_dev18 : Nat :=
  let c0_i32_1801 : BitVec 32 := 0#32
  let c2_i32_1799 : BitVec 32 := 2#32
  let c1_i32_1800 : BitVec 32 := 1#32
  let v2893 : BitVec 32 := Scalar.muli c2_i32_1799 c1_i32_1800
  let v2894 : BitVec 32 := Scalar.addi c0_i32_1801 v2893
  v2894.toNat
def k0_dev19 : Nat :=
  let c0_i32_1826 : BitVec 32 := 0#32
  let c2_i32_1824 : BitVec 32 := 2#32
  let c1_i32_1825 : BitVec 32 := 1#32
  let v2910 : BitVec 32 := Scalar.muli c2_i32_1824 c1_i32_1825
  let v2911 : BitVec 32 := Scalar.addi c0_i32_1826 v2910
  v2911.toNat
def k0_dev20 : Nat :=
  let c0_i32_1851 : BitVec 32 := 0#32
  let c2_i32_1849 : BitVec 32 := 2#32
  let c1_i32_1850 : BitVec 32 := 1#32
  let v2927 : BitVec 32 := Scalar.muli c2_i32_1849 c1_i32_1850
  let v2928 : BitVec 32 := Scalar.addi c0_i32_1851 v2927
  v2928.toNat
def k0_dev21 : Nat :=
  let c0_i32_1876 : BitVec 32 := 0#32
  let c2_i32_1874 : BitVec 32 := 2#32
  let c1_i32_1875 : BitVec 32 := 1#32
  let v2944 : BitVec 32 := Scalar.muli c2_i32_1874 c1_i32_1875
  let v2945 : BitVec 32 := Scalar.addi c0_i32_1876 v2944
  v2945.toNat
def k0_cond4 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_19 : BitVec 32 := 3#32
  let v25 : BitVec 1 := Scalar.cmpi .eq v2 c3_i32_19
  let v26 : BitVec 32 := Scalar.extui v25
  let c0_i32_20 : BitVec 32 := 0#32
  let v27 : BitVec 1 := Scalar.cmpi .ne v26 c0_i32_20
  v27

def k0_dev22 : Nat :=
  let c0_i32_1801 : BitVec 32 := 0#32
  let c2_i32_1799 : BitVec 32 := 2#32
  let c1_i32_1800 : BitVec 32 := 1#32
  let v2893 : BitVec 32 := Scalar.muli c2_i32_1799 c1_i32_1800
  let v2894 : BitVec 32 := Scalar.addi c0_i32_1801 v2893
  v2894.toNat
def k0_dev23 : Nat :=
  let c0_i32_1826 : BitVec 32 := 0#32
  let c2_i32_1824 : BitVec 32 := 2#32
  let c1_i32_1825 : BitVec 32 := 1#32
  let v2910 : BitVec 32 := Scalar.muli c2_i32_1824 c1_i32_1825
  let v2911 : BitVec 32 := Scalar.addi c0_i32_1826 v2910
  v2911.toNat
def k0_dev24 : Nat :=
  let c0_i32_1851 : BitVec 32 := 0#32
  let c2_i32_1849 : BitVec 32 := 2#32
  let c1_i32_1850 : BitVec 32 := 1#32
  let v2927 : BitVec 32 := Scalar.muli c2_i32_1849 c1_i32_1850
  let v2928 : BitVec 32 := Scalar.addi c0_i32_1851 v2927
  v2928.toNat
def k0_dev25 : Nat :=
  let c0_i32_1876 : BitVec 32 := 0#32
  let c2_i32_1874 : BitVec 32 := 2#32
  let c1_i32_1875 : BitVec 32 := 1#32
  let v2944 : BitVec 32 := Scalar.muli c2_i32_1874 c1_i32_1875
  let v2945 : BitVec 32 := Scalar.addi c0_i32_1876 v2944
  v2945.toNat
def k0_cond5 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_97 : BitVec 32 := 0#32
  let v104 : BitVec 1 := Scalar.cmpi .eq v2 c0_i32_97
  let v105 : BitVec 32 := Scalar.extui v104
  let c0_i32_98 : BitVec 32 := 0#32
  let v106 : BitVec 1 := Scalar.cmpi .ne v105 c0_i32_98
  v106

def k0_dev26 : Nat :=
  let c0_i32_1815 : BitVec 32 := 0#32
  let c1_i32_1813 : BitVec 32 := 1#32
  let c1_i32_1814 : BitVec 32 := 1#32
  let v2899 : BitVec 32 := Scalar.muli c1_i32_1813 c1_i32_1814
  let v2900 : BitVec 32 := Scalar.addi c0_i32_1815 v2899
  v2900.toNat
def k0_dev27 : Nat :=
  let c0_i32_1854 : BitVec 32 := 0#32
  let c3_i32_1852 : BitVec 32 := 3#32
  let c1_i32_1853 : BitVec 32 := 1#32
  let v2922 : BitVec 32 := Scalar.muli c3_i32_1852 c1_i32_1853
  let v2923 : BitVec 32 := Scalar.addi c0_i32_1854 v2922
  v2923.toNat
def k0_dev28 : Nat :=
  let c0_i32_1908 : BitVec 32 := 0#32
  let c1_i32_1906 : BitVec 32 := 1#32
  let c1_i32_1907 : BitVec 32 := 1#32
  let v2954 : BitVec 32 := Scalar.muli c1_i32_1906 c1_i32_1907
  let v2955 : BitVec 32 := Scalar.addi c0_i32_1908 v2954
  v2955.toNat
def k0_dev29 : Nat :=
  let c0_i32_1948 : BitVec 32 := 0#32
  let c3_i32_1946 : BitVec 32 := 3#32
  let c1_i32_1947 : BitVec 32 := 1#32
  let v2977 : BitVec 32 := Scalar.muli c3_i32_1946 c1_i32_1947
  let v2978 : BitVec 32 := Scalar.addi c0_i32_1948 v2977
  v2978.toNat
def k0_dev30 : Nat :=
  let c0_i32_2002 : BitVec 32 := 0#32
  let c1_i32_2000 : BitVec 32 := 1#32
  let c1_i32_2001 : BitVec 32 := 1#32
  let v3009 : BitVec 32 := Scalar.muli c1_i32_2000 c1_i32_2001
  let v3010 : BitVec 32 := Scalar.addi c0_i32_2002 v3009
  v3010.toNat
def k0_dev31 : Nat :=
  let c0_i32_2042 : BitVec 32 := 0#32
  let c3_i32_2040 : BitVec 32 := 3#32
  let c1_i32_2041 : BitVec 32 := 1#32
  let v3032 : BitVec 32 := Scalar.muli c3_i32_2040 c1_i32_2041
  let v3033 : BitVec 32 := Scalar.addi c0_i32_2042 v3032
  v3033.toNat
def k0_dev32 : Nat :=
  let c0_i32_2096 : BitVec 32 := 0#32
  let c1_i32_2094 : BitVec 32 := 1#32
  let c1_i32_2095 : BitVec 32 := 1#32
  let v3064 : BitVec 32 := Scalar.muli c1_i32_2094 c1_i32_2095
  let v3065 : BitVec 32 := Scalar.addi c0_i32_2096 v3064
  v3065.toNat
def k0_dev33 : Nat :=
  let c0_i32_2136 : BitVec 32 := 0#32
  let c3_i32_2134 : BitVec 32 := 3#32
  let c1_i32_2135 : BitVec 32 := 1#32
  let v3087 : BitVec 32 := Scalar.muli c3_i32_2134 c1_i32_2135
  let v3088 : BitVec 32 := Scalar.addi c0_i32_2136 v3087
  v3088.toNat
def k0_dev34 : Nat :=
  let c0_i32_2190 : BitVec 32 := 0#32
  let c1_i32_2188 : BitVec 32 := 1#32
  let c1_i32_2189 : BitVec 32 := 1#32
  let v3119 : BitVec 32 := Scalar.muli c1_i32_2188 c1_i32_2189
  let v3120 : BitVec 32 := Scalar.addi c0_i32_2190 v3119
  v3120.toNat
def k0_dev35 : Nat :=
  let c0_i32_2230 : BitVec 32 := 0#32
  let c3_i32_2228 : BitVec 32 := 3#32
  let c1_i32_2229 : BitVec 32 := 1#32
  let v3142 : BitVec 32 := Scalar.muli c3_i32_2228 c1_i32_2229
  let v3143 : BitVec 32 := Scalar.addi c0_i32_2230 v3142
  v3143.toNat
def k0_dev36 : Nat :=
  let c0_i32_2284 : BitVec 32 := 0#32
  let c1_i32_2282 : BitVec 32 := 1#32
  let c1_i32_2283 : BitVec 32 := 1#32
  let v3174 : BitVec 32 := Scalar.muli c1_i32_2282 c1_i32_2283
  let v3175 : BitVec 32 := Scalar.addi c0_i32_2284 v3174
  v3175.toNat
def k0_dev37 : Nat :=
  let c0_i32_2324 : BitVec 32 := 0#32
  let c3_i32_2322 : BitVec 32 := 3#32
  let c1_i32_2323 : BitVec 32 := 1#32
  let v3197 : BitVec 32 := Scalar.muli c3_i32_2322 c1_i32_2323
  let v3198 : BitVec 32 := Scalar.addi c0_i32_2324 v3197
  v3198.toNat
def k0_dev38 : Nat :=
  let c0_i32_2378 : BitVec 32 := 0#32
  let c1_i32_2376 : BitVec 32 := 1#32
  let c1_i32_2377 : BitVec 32 := 1#32
  let v3229 : BitVec 32 := Scalar.muli c1_i32_2376 c1_i32_2377
  let v3230 : BitVec 32 := Scalar.addi c0_i32_2378 v3229
  v3230.toNat
def k0_dev39 : Nat :=
  let c0_i32_2418 : BitVec 32 := 0#32
  let c3_i32_2416 : BitVec 32 := 3#32
  let c1_i32_2417 : BitVec 32 := 1#32
  let v3252 : BitVec 32 := Scalar.muli c3_i32_2416 c1_i32_2417
  let v3253 : BitVec 32 := Scalar.addi c0_i32_2418 v3252
  v3253.toNat
def k0_dev40 : Nat :=
  let c0_i32_2472 : BitVec 32 := 0#32
  let c1_i32_2470 : BitVec 32 := 1#32
  let c1_i32_2471 : BitVec 32 := 1#32
  let v3284 : BitVec 32 := Scalar.muli c1_i32_2470 c1_i32_2471
  let v3285 : BitVec 32 := Scalar.addi c0_i32_2472 v3284
  v3285.toNat
def k0_dev41 : Nat :=
  let c0_i32_2512 : BitVec 32 := 0#32
  let c3_i32_2510 : BitVec 32 := 3#32
  let c1_i32_2511 : BitVec 32 := 1#32
  let v3307 : BitVec 32 := Scalar.muli c3_i32_2510 c1_i32_2511
  let v3308 : BitVec 32 := Scalar.addi c0_i32_2512 v3307
  v3308.toNat
def k0_off1 (d0 : Dev nD) (c4_i32_1388 : BitVec 32) (c0_i32_1389 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v2472 : BitVec 32 := Scalar.addi v2 c4_i32_1388
  let v2473 : BitVec 32 := Scalar.subi v2472 c0_i32_1389
  let c4_i32_1390 : BitVec 32 := 4#32
  let v2474 : BitVec 32 := Scalar.remsi v2473 c4_i32_1390
  let c512_i32_1392 : BitVec 32 := 512#32
  let v2476 : BitVec 32 := Scalar.muli v2474 c512_i32_1392
  let c0_i32_1397 : BitVec 32 := 0#32
  ![v2476.toNat, 0]
def k0_dev42 (d0 : Dev nD) : Nat :=
  let c0_i32_1396 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1384 : BitVec 32 := 1#32
  let v2468 : BitVec 32 := Scalar.addi v2 c1_i32_1384
  let c4_i32_1385 : BitVec 32 := 4#32
  let v2469 : BitVec 32 := Scalar.remsi v2468 c4_i32_1385
  let c1_i32_1395 : BitVec 32 := 1#32
  let v2477 : BitVec 32 := Scalar.muli v2469 c1_i32_1395
  let v2478 : BitVec 32 := Scalar.addi c0_i32_1396 v2477
  v2478.toNat
def k0_off2 (d0 : Dev nD) (c0_i32_1399 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v2485 : BitVec 32 := Scalar.addi v2 c0_i32_1399
  let c4_i32_1400 : BitVec 32 := 4#32
  let v2486 : BitVec 32 := Scalar.remsi v2485 c4_i32_1400
  let c512_i32_1402 : BitVec 32 := 512#32
  let v2488 : BitVec 32 := Scalar.muli v2486 c512_i32_1402
  let c0_i32_1407 : BitVec 32 := 0#32
  ![v2488.toNat, 0]
def k0_off2_at (r : Fin 5) : BitVec 32 :=
  if r.val < 2 then
    if r.val < 1 then
      0#32
    else
      1#32
  else
    if r.val < 3 then
      2#32
    else
      if r.val < 4 then
        3#32
      else
        6#32
def k0_dev43 (d0 : Dev nD) : Nat :=
  let c0_i32_1406 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_1386 : BitVec 32 := 3#32
  let v2470 : BitVec 32 := Scalar.addi v2 c3_i32_1386
  let c4_i32_1387 : BitVec 32 := 4#32
  let v2471 : BitVec 32 := Scalar.remsi v2470 c4_i32_1387
  let c1_i32_1405 : BitVec 32 := 1#32
  let v2489 : BitVec 32 := Scalar.muli v2471 c1_i32_1405
  let v2490 : BitVec 32 := Scalar.addi c0_i32_1406 v2489
  v2490.toNat
def k0_off3 (d0 : Dev nD) (c1_i32_1410 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_1409 : BitVec 32 := 4#32
  let v2497 : BitVec 32 := Scalar.addi v2 c4_i32_1409
  let v2498 : BitVec 32 := Scalar.subi v2497 c1_i32_1410
  let c4_i32_1411 : BitVec 32 := 4#32
  let v2499 : BitVec 32 := Scalar.remsi v2498 c4_i32_1411
  let c512_i32_1421 : BitVec 32 := 512#32
  let v2508 : BitVec 32 := Scalar.muli v2499 c512_i32_1421
  let v2509 : Index := Scalar.indexCast v2508
  let c0_1422 : Index := 0#32
  ![v2509.toNat, 0]
def k0_dev44 (d0 : Dev nD) : Nat :=
  let c0_i32_1433 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1384 : BitVec 32 := 1#32
  let v2468 : BitVec 32 := Scalar.addi v2 c1_i32_1384
  let c4_i32_1385 : BitVec 32 := 4#32
  let v2469 : BitVec 32 := Scalar.remsi v2468 c4_i32_1385
  let c1_i32_1432 : BitVec 32 := 1#32
  let v2519 : BitVec 32 := Scalar.muli v2469 c1_i32_1432
  let v2520 : BitVec 32 := Scalar.addi c0_i32_1433 v2519
  v2520.toNat
def k0_off4 (d0 : Dev nD) (c1_i32_1437 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v2528 : BitVec 32 := Scalar.addi v2 c1_i32_1437
  let c4_i32_1438 : BitVec 32 := 4#32
  let v2529 : BitVec 32 := Scalar.remsi v2528 c4_i32_1438
  let c512_i32_1448 : BitVec 32 := 512#32
  let v2538 : BitVec 32 := Scalar.muli v2529 c512_i32_1448
  let v2539 : Index := Scalar.indexCast v2538
  let c0_1449 : Index := 0#32
  ![v2539.toNat, 0]
def k0_dev45 (d0 : Dev nD) : Nat :=
  let c0_i32_1460 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_1386 : BitVec 32 := 3#32
  let v2470 : BitVec 32 := Scalar.addi v2 c3_i32_1386
  let c4_i32_1387 : BitVec 32 := 4#32
  let v2471 : BitVec 32 := Scalar.remsi v2470 c4_i32_1387
  let c1_i32_1459 : BitVec 32 := 1#32
  let v2549 : BitVec 32 := Scalar.muli v2471 c1_i32_1459
  let v2550 : BitVec 32 := Scalar.addi c0_i32_1460 v2549
  v2550.toNat
def k0_dev46 (d0 : Dev nD) : Nat :=
  let c0_i32_1488 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1384 : BitVec 32 := 1#32
  let v2468 : BitVec 32 := Scalar.addi v2 c1_i32_1384
  let c4_i32_1385 : BitVec 32 := 4#32
  let v2469 : BitVec 32 := Scalar.remsi v2468 c4_i32_1385
  let c1_i32_1487 : BitVec 32 := 1#32
  let v2580 : BitVec 32 := Scalar.muli v2469 c1_i32_1487
  let v2581 : BitVec 32 := Scalar.addi c0_i32_1488 v2580
  v2581.toNat
def k0_dev47 (d0 : Dev nD) : Nat :=
  let c0_i32_1515 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_1386 : BitVec 32 := 3#32
  let v2470 : BitVec 32 := Scalar.addi v2 c3_i32_1386
  let c4_i32_1387 : BitVec 32 := 4#32
  let v2471 : BitVec 32 := Scalar.remsi v2470 c4_i32_1387
  let c1_i32_1514 : BitVec 32 := 1#32
  let v2610 : BitVec 32 := Scalar.muli v2471 c1_i32_1514
  let v2611 : BitVec 32 := Scalar.addi c0_i32_1515 v2610
  v2611.toNat
def k0_dev48 (d0 : Dev nD) : Nat :=
  let c0_i32_1560 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1384 : BitVec 32 := 1#32
  let v2468 : BitVec 32 := Scalar.addi v2 c1_i32_1384
  let c4_i32_1385 : BitVec 32 := 4#32
  let v2469 : BitVec 32 := Scalar.remsi v2468 c4_i32_1385
  let c1_i32_1559 : BitVec 32 := 1#32
  let v2668 : BitVec 32 := Scalar.muli v2469 c1_i32_1559
  let v2669 : BitVec 32 := Scalar.addi c0_i32_1560 v2668
  v2669.toNat
def k0_off5 (d0 : Dev nD) (c0_i32_1564 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_1563 : BitVec 32 := 3#32
  let v2676 : BitVec 32 := Scalar.addi v2 c3_i32_1563
  let v2677 : BitVec 32 := Scalar.addi v2676 c0_i32_1564
  let c4_i32_1565 : BitVec 32 := 4#32
  let v2678 : BitVec 32 := Scalar.remsi v2677 c4_i32_1565
  let c512_i32_1567 : BitVec 32 := 512#32
  let v2680 : BitVec 32 := Scalar.muli v2678 c512_i32_1567
  let c0_i32_1572 : BitVec 32 := 0#32
  ![v2680.toNat, 0]
def k0_dev49 (d0 : Dev nD) : Nat :=
  let c0_i32_1571 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_1386 : BitVec 32 := 3#32
  let v2470 : BitVec 32 := Scalar.addi v2 c3_i32_1386
  let c4_i32_1387 : BitVec 32 := 4#32
  let v2471 : BitVec 32 := Scalar.remsi v2470 c4_i32_1387
  let c1_i32_1570 : BitVec 32 := 1#32
  let v2681 : BitVec 32 := Scalar.muli v2471 c1_i32_1570
  let v2682 : BitVec 32 := Scalar.addi c0_i32_1571 v2681
  v2682.toNat
def k0_dev50 (d0 : Dev nD) : Nat :=
  let c0_i32_1591 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1384 : BitVec 32 := 1#32
  let v2468 : BitVec 32 := Scalar.addi v2 c1_i32_1384
  let c4_i32_1385 : BitVec 32 := 4#32
  let v2469 : BitVec 32 := Scalar.remsi v2468 c4_i32_1385
  let c1_i32_1590 : BitVec 32 := 1#32
  let v2702 : BitVec 32 := Scalar.muli v2469 c1_i32_1590
  let v2703 : BitVec 32 := Scalar.addi c0_i32_1591 v2702
  v2703.toNat
def k0_dev51 (d0 : Dev nD) : Nat :=
  let c0_i32_1611 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_1386 : BitVec 32 := 3#32
  let v2470 : BitVec 32 := Scalar.addi v2 c3_i32_1386
  let c4_i32_1387 : BitVec 32 := 4#32
  let v2471 : BitVec 32 := Scalar.remsi v2470 c4_i32_1387
  let c1_i32_1610 : BitVec 32 := 1#32
  let v2723 : BitVec 32 := Scalar.muli v2471 c1_i32_1610
  let v2724 : BitVec 32 := Scalar.addi c0_i32_1611 v2723
  v2724.toNat
def k0_dev52 (d0 : Dev nD) : Nat :=
  let c0_i32_1631 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1384 : BitVec 32 := 1#32
  let v2468 : BitVec 32 := Scalar.addi v2 c1_i32_1384
  let c4_i32_1385 : BitVec 32 := 4#32
  let v2469 : BitVec 32 := Scalar.remsi v2468 c4_i32_1385
  let c1_i32_1630 : BitVec 32 := 1#32
  let v2744 : BitVec 32 := Scalar.muli v2469 c1_i32_1630
  let v2745 : BitVec 32 := Scalar.addi c0_i32_1631 v2744
  v2745.toNat
def k0_dev53 (d0 : Dev nD) : Nat :=
  let c0_i32_1651 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_1386 : BitVec 32 := 3#32
  let v2470 : BitVec 32 := Scalar.addi v2 c3_i32_1386
  let c4_i32_1387 : BitVec 32 := 4#32
  let v2471 : BitVec 32 := Scalar.remsi v2470 c4_i32_1387
  let c1_i32_1650 : BitVec 32 := 1#32
  let v2765 : BitVec 32 := Scalar.muli v2471 c1_i32_1650
  let v2766 : BitVec 32 := Scalar.addi c0_i32_1651 v2765
  v2766.toNat
abbrev stage0_0 : Fin 1 → Memref sig .tc .vmem S1x2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S1x2048x1024 : Shape := ⟨3, ![1, 2048, 1024]⟩
abbrev S1024x4096 : Shape := ⟨2, ![1024, 4096]⟩
abbrev S1x8192x32x128 : Shape := ⟨4, ![1, 8192, 32, 128]⟩
abbrev S4096x1024 : Shape := ⟨2, ![4096, 1024]⟩
abbrev S1x2048x4096 : Shape := ⟨3, ![1, 2048, 4096]⟩
abbrev S1x2048x32x128 : Shape := ⟨4, ![1, 2048, 32, 128]⟩
abbrev S2048 : Shape := ⟨1, ![2048]⟩
abbrev S2048x1 : Shape := ⟨2, ![2048, 1]⟩
abbrev S8192 : Shape := ⟨1, ![8192]⟩
abbrev S1x8192 : Shape := ⟨2, ![1, 8192]⟩
abbrev S2048x8192 : Shape := ⟨2, ![2048, 8192]⟩
abbrev S_ : Shape := ⟨0, ![]⟩
abbrev S1x32x2048x8192 : Shape := ⟨4, ![1, 32, 2048, 8192]⟩
abbrev S1x1x2048x8192 : Shape := ⟨4, ![1, 1, 2048, 8192]⟩
abbrev S1x32x2048 : Shape := ⟨3, ![1, 32, 2048]⟩
abbrev S1x32x2048x1 : Shape := ⟨4, ![1, 32, 2048, 1]⟩
abbrev S1x1x2048x1 : Shape := ⟨4, ![1, 1, 2048, 1]⟩
abbrev S1x32x128x2048 : Shape := ⟨4, ![1, 32, 128, 2048]⟩

abbrev nBuf : Space → Nat
  | .hbm => 57
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1024x4096, .f32⟩
  | .hbm, ⟨2, _⟩ => ⟨S1x8192x32x128, .f32⟩
  | .hbm, ⟨3, _⟩ => ⟨S1x8192x32x128, .f32⟩
  | .hbm, ⟨4, _⟩ => ⟨S4096x1024, .f32⟩
  | .hbm, ⟨5, _⟩ => ⟨S1x2048x4096, .f32⟩
  | .hbm, ⟨6, _⟩ => ⟨S1x2048x32x128, .f32⟩
  | .hbm, ⟨7, _⟩ => ⟨S2048, .i32⟩
  | .hbm, ⟨8, _⟩ => ⟨S2048x1, .i32⟩
  | .hbm, ⟨9, _⟩ => ⟨S8192, .i32⟩
  | .hbm, ⟨10, _⟩ => ⟨S1x8192, .i32⟩
  | .hbm, ⟨11, _⟩ => ⟨S2048x8192, .i32⟩
  | .hbm, ⟨12, _⟩ => ⟨S2048x8192, .i32⟩
  | .hbm, ⟨13, _⟩ => ⟨S2048x8192, .i32⟩
  | .hbm, ⟨14, _⟩ => ⟨S2048x8192, .i32⟩
  | .hbm, ⟨15, _⟩ => ⟨S_, .i32⟩
  | .hbm, ⟨16, _⟩ => ⟨S2048x8192, .i32⟩
  | .hbm, ⟨17, _⟩ => ⟨S2048x8192, .i1⟩
  | .hbm, ⟨18, _⟩ => ⟨S1x32x2048x8192, .f32⟩
  | .hbm, ⟨19, _⟩ => ⟨S_, .f32⟩
  | .hbm, ⟨20, _⟩ => ⟨S1x32x2048x8192, .f32⟩
  | .hbm, ⟨21, _⟩ => ⟨S1x32x2048x8192, .f32⟩
  | .hbm, ⟨22, _⟩ => ⟨S1x1x2048x8192, .i1⟩
  | .hbm, ⟨23, _⟩ => ⟨S_, .f32⟩
  | .hbm, ⟨24, _⟩ => ⟨S_, .f32⟩
  | .hbm, ⟨25, _⟩ => ⟨S1x32x2048x8192, .i1⟩
  | .hbm, ⟨26, _⟩ => ⟨S1x32x2048x8192, .f32⟩
  | .hbm, ⟨27, _⟩ => ⟨S1x32x2048x8192, .f32⟩
  | .hbm, ⟨28, _⟩ => ⟨S_, .f32⟩
  | .hbm, ⟨29, _⟩ => ⟨S1x32x2048, .f32⟩
  | .hbm, ⟨30, _⟩ => ⟨S1x32x2048x1, .f32⟩
  | .hbm, ⟨31, _⟩ => ⟨S1x32x2048x8192, .f32⟩
  | .hbm, ⟨32, _⟩ => ⟨S1x32x2048x8192, .f32⟩
  | .hbm, ⟨33, _⟩ => ⟨S1x32x2048x8192, .f32⟩
  | .hbm, ⟨34, _⟩ => ⟨S_, .i1⟩
  | .hbm, ⟨35, _⟩ => ⟨S2048, .i1⟩
  | .hbm, ⟨36, _⟩ => ⟨S1x1x2048x1, .i1⟩
  | .hbm, ⟨37, _⟩ => ⟨S_, .f32⟩
  | .hbm, ⟨38, _⟩ => ⟨S1x32x2048, .f32⟩
  | .hbm, ⟨39, _⟩ => ⟨S1x32x2048x1, .f32⟩
  | .hbm, ⟨40, _⟩ => ⟨S_, .f32⟩
  | .hbm, ⟨41, _⟩ => ⟨S_, .f32⟩
  | .hbm, ⟨42, _⟩ => ⟨S1x32x2048x1, .i1⟩
  | .hbm, ⟨43, _⟩ => ⟨S1x32x2048x1, .f32⟩
  | .hbm, ⟨44, _⟩ => ⟨S1x32x2048x1, .f32⟩
  | .hbm, ⟨45, _⟩ => ⟨S1x32x2048x8192, .f32⟩
  | .hbm, ⟨46, _⟩ => ⟨S1x32x2048x8192, .f32⟩
  | .hbm, ⟨47, _⟩ => ⟨S1x1x2048x1, .i1⟩
  | .hbm, ⟨48, _⟩ => ⟨S_, .f32⟩
  | .hbm, ⟨49, _⟩ => ⟨S_, .f32⟩
  | .hbm, ⟨50, _⟩ => ⟨S1x32x2048x8192, .i1⟩
  | .hbm, ⟨51, _⟩ => ⟨S1x32x2048x8192, .f32⟩
  | .hbm, ⟨52, _⟩ => ⟨S1x32x2048x8192, .f32⟩
  | .hbm, ⟨53, _⟩ => ⟨S1x32x128x2048, .f32⟩
  | .hbm, ⟨54, _⟩ => ⟨S1x2048x32x128, .f32⟩
  | .hbm, ⟨55, _⟩ => ⟨S1x2048x4096, .f32⟩
  | .hbm, ⟨56, _⟩ => ⟨S1x2048x1024, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_2 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_5 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩

abbrev nD : Nat := 1
abbrev τ : Topo := Topo.v7x

variable {F : FTy → Type} [FloatOps F]
-- ==== Proof.Base.lean ====
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.Att

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The resource algebra: the pipeline library's copy beside the kernel's own rounds, whose duties are named by `Fin 4` -/

abbrev UB : Type := URounds (GSem nD τ sig) (Fin 4)
abbrev UU : Type := UR sig nD τ × (UB × Counters)

/-- The body's printed pieces all take the same memrefs and semaphore arrays; this applies one of them to the kernel's. -/
abbrev ap {β : Type 1} (f : ∀ (arg0 : Memref sig .tc .hbm S1x2048x1024 .f32) (harg0 : arg0.IsWhole) (arg1 : Memref sig .tc .hbm S1024x1024 .f32) (harg1 : arg1.IsWhole) (arg2 : Memref sig .tc .hbm S1x2048x32x128 .f32) (harg2 : arg2.IsWhole) (arg3 : Memref sig .tc .hbm S1x2048x32x128 .f32) (harg3 : arg3.IsWhole) (arg4 : Memref sig .tc .hbm S1024x1024 .f32) (harg4 : arg4.IsWhole) (arg5 : Memref sig .tc .vmem S1x2048x1024 .f32) (harg5 : arg5.IsWhole) (arg6 : Memref sig .tc .vmem S2048x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S2048x8x128 .bf16) (harg9 : arg9.IsWhole) (arg10 : Memref sig .tc .vmem S2048x8x128 .bf16) (harg10 : arg10.IsWhole) (arg11 : Memref sig .tc .vmem S128x8x128 .bf16) (harg11 : arg11.IsWhole) (arg12 : Memref sig .tc .vmem S128x8x128 .bf16) (harg12 : arg12.IsWhole) (arg13 : Memref sig .tc .vmem S512x1024 .f32) (harg13 : arg13.IsWhole) (arg14 : Memref sig .tc .vmem S512x8x128 .f32) (harg14 : arg14.IsWhole) (arg15 : Memref sig .tc .vmem S2x2048x8x128 .bf16) (harg15 : arg15.IsWhole) (arg16 : Memref sig .tc .vmem S128x32x128 .f32) (harg16 : arg16.IsWhole) (arg17 : Memref sig .tc .vmem S128x8x128 .bf16) (harg17 : arg17.IsWhole) (arg18 : Memref sig .tc .vmem S2048x1024 .bf16) (harg18 : arg18.IsWhole) (arg19 : Memref sig .tc .vmem S2048x512 .bf16) (harg19 : arg19.IsWhole) (arg20 : Memref sig .tc .vmem S2048x512 .bf16) (harg20 : arg20.IsWhole) (arg21 : Memref sig .tc .vmem S2048x512 .bf16) (harg21 : arg21.IsWhole) (arg22 : Memref sig .tc .vmem S2048x512 .bf16) (harg22 : arg22.IsWhole) (arg23 : Memref sig .tc .vmem S2x512x512 .bf16) (harg23 : arg23.IsWhole) (arg24 : Memref sig .tc .vmem S2x512x512 .bf16) (harg24 : arg24.IsWhole) (arg25 : DmaSems sig S_) (arg26 : DmaSems sig S2x4) (arg27 : DmaSems sig S_) (arg28 : DmaSems sig S4) (arg29 : DmaSems sig S4) (arg30 : DmaSems sig S4) (arg31 : DmaSems sig S_) (arg32 : DmaSems sig S_) (arg33 : DmaSems sig S4) (arg34 : DmaSems sig S4) (arg35 : DmaSems sig S6) (arg36 : DmaSems sig S6) (arg37 : DmaSems sig S6) (arg38 : DmaSems sig S6), β) : β :=
  f (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) cc0_scratch19 cc0_scratch20 cc0_scratch21 cc0_scratch22 cc0_scratch23 cc0_scratch24 cc0_scratch25 cc0_scratch26 cc0_scratch27 cc0_scratch28 cc0_scratch29 cc0_scratch30 cc0_scratch31 cc0_scratch32
abbrev ap0 {β : Type} (f : ∀ (arg0 : Memref sig .tc .hbm S1x2048x1024 .f32) (harg0 : arg0.IsWhole) (arg1 : Memref sig .tc .hbm S1024x1024 .f32) (harg1 : arg1.IsWhole) (arg2 : Memref sig .tc .hbm S1x2048x32x128 .f32) (harg2 : arg2.IsWhole) (arg3 : Memref sig .tc .hbm S1x2048x32x128 .f32) (harg3 : arg3.IsWhole) (arg4 : Memref sig .tc .hbm S1024x1024 .f32) (harg4 : arg4.IsWhole) (arg5 : Memref sig .tc .vmem S1x2048x1024 .f32) (harg5 : arg5.IsWhole) (arg6 : Memref sig .tc .vmem S2048x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S2048x8x128 .bf16) (harg9 : arg9.IsWhole) (arg10 : Memref sig .tc .vmem S2048x8x128 .bf16) (harg10 : arg10.IsWhole) (arg11 : Memref sig .tc .vmem S128x8x128 .bf16) (harg11 : arg11.IsWhole) (arg12 : Memref sig .tc .vmem S128x8x128 .bf16) (harg12 : arg12.IsWhole) (arg13 : Memref sig .tc .vmem S512x1024 .f32) (harg13 : arg13.IsWhole) (arg14 : Memref sig .tc .vmem S512x8x128 .f32) (harg14 : arg14.IsWhole) (arg15 : Memref sig .tc .vmem S2x2048x8x128 .bf16) (harg15 : arg15.IsWhole) (arg16 : Memref sig .tc .vmem S128x32x128 .f32) (harg16 : arg16.IsWhole) (arg17 : Memref sig .tc .vmem S128x8x128 .bf16) (harg17 : arg17.IsWhole) (arg18 : Memref sig .tc .vmem S2048x1024 .bf16) (harg18 : arg18.IsWhole) (arg19 : Memref sig .tc .vmem S2048x512 .bf16) (harg19 : arg19.IsWhole) (arg20 : Memref sig .tc .vmem S2048x512 .bf16) (harg20 : arg20.IsWhole) (arg21 : Memref sig .tc .vmem S2048x512 .bf16) (harg21 : arg21.IsWhole) (arg22 : Memref sig .tc .vmem S2048x512 .bf16) (harg22 : arg22.IsWhole) (arg23 : Memref sig .tc .vmem S2x512x512 .bf16) (harg23 : arg23.IsWhole) (arg24 : Memref sig .tc .vmem S2x512x512 .bf16) (harg24 : arg24.IsWhole) (arg25 : DmaSems sig S_) (arg26 : DmaSems sig S2x4) (arg27 : DmaSems sig S_) (arg28 : DmaSems sig S4) (arg29 : DmaSems sig S4) (arg30 : DmaSems sig S4) (arg31 : DmaSems sig S_) (arg32 : DmaSems sig S_) (arg33 : DmaSems sig S4) (arg34 : DmaSems sig S4) (arg35 : DmaSems sig S6) (arg36 : DmaSems sig S6) (arg37 : DmaSems sig S6) (arg38 : DmaSems sig S6), β) : β :=
  f (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) cc0_scratch19 cc0_scratch20 cc0_scratch21 cc0_scratch22 cc0_scratch23 cc0_scratch24 cc0_scratch25 cc0_scratch26 cc0_scratch27 cc0_scratch28 cc0_scratch29 cc0_scratch30 cc0_scratch31 cc0_scratch32

abbrev 𝒱₀ : Variants := Variants.none

end Cert.Att
-- ==== Proof.Proto.lean ====
module

public import proofs.«01_k».proof.Proof.Base
public import Idealize.ShloMosaic.Lib.ValueIdxCore

@[expose] public section

noncomputable section

namespace Cert.Att

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F] [Named F]

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR
abbrev EC : UEmb Counters (MT nD τ sig Unit (Elt F) ℕ UU ℕ) := countersEmb

/-! ## Buffers, windows and cells -/

abbrev xH : Memref sig .tc .hbm S1x2048x1024 .f32 := Memref.whole main_arg0
abbrev qH : Memref sig .tc .hbm S1024x1024 .f32 := Memref.whole main_arg1
abbrev kH : Memref sig .tc .hbm S1x2048x32x128 .f32 := Memref.whole main_arg2
abbrev vH : Memref sig .tc .hbm S1x2048x32x128 .f32 := Memref.whole main_arg3
abbrev oH : Memref sig .tc .hbm S1024x1024 .f32 := Memref.whole main_arg4
abbrev outM : Memref sig .tc .vmem S1x2048x1024 .f32 := Memref.whole cc0_stg0_0
abbrev qM : Memref sig .tc .vmem S2048x1024 .bf16 := Memref.whole cc0_scratch0
abbrev wqM : Memref sig .tc .vmem S1024x1024 .bf16 := Memref.whole cc0_scratch1
abbrev woM : Memref sig .tc .vmem S1024x1024 .bf16 := Memref.whole cc0_scratch2
abbrev kM : Memref sig .tc .vmem S2048x8x128 .bf16 := Memref.whole cc0_scratch3
abbrev vM : Memref sig .tc .vmem S2048x8x128 .bf16 := Memref.whole cc0_scratch4
abbrev ktM : Memref sig .tc .vmem S128x8x128 .bf16 := Memref.whole cc0_scratch5
abbrev vtM : Memref sig .tc .vmem S128x8x128 .bf16 := Memref.whole cc0_scratch6
abbrev ldM : Memref sig .tc .vmem S512x1024 .f32 := Memref.whole cc0_scratch7
abbrev stM : Memref sig .tc .vmem S512x8x128 .f32 := Memref.whole cc0_scratch8
abbrev sbM : Memref sig .tc .vmem S2x2048x8x128 .bf16 := Memref.whole cc0_scratch9
abbrev tsM : Memref sig .tc .vmem S128x32x128 .f32 := Memref.whole cc0_scratch10
abbrev tlM : Memref sig .tc .vmem S128x8x128 .bf16 := Memref.whole cc0_scratch11
abbrev cxM : Memref sig .tc .vmem S2048x1024 .bf16 := Memref.whole cc0_scratch12
abbrev prM : Memref sig .tc .vmem S2048x512 .bf16 := Memref.whole cc0_scratch13
abbrev plM : Memref sig .tc .vmem S2048x512 .bf16 := Memref.whole cc0_scratch14
abbrev rrM : Memref sig .tc .vmem S2048x512 .bf16 := Memref.whole cc0_scratch15
abbrev rlM : Memref sig .tc .vmem S2048x512 .bf16 := Memref.whole cc0_scratch16
abbrev arM : Memref sig .tc .vmem S2x512x512 .bf16 := Memref.whole cc0_scratch17
abbrev alM : Memref sig .tc .vmem S2x512x512 .bf16 := Memref.whole cc0_scratch18

/-- Rows `512 r …` of a key or value buffer. -/
abbrev kW (M : Memref sig .tc .vmem S2048x8x128 .bf16) (r : Fin 4) : Memref sig .tc .vmem S512x8x128 .bf16 :=
  M.slice (Rect.unit (s := S2048x8x128) ![512 * r.val, 0, 0] S512x8x128.size (by revert r; decide)) (fun _ => rfl)
/-- Rows `512 r …` of one of the two slots of the send buffer. -/
abbrev sW (b : Fin 2) (r : Fin 4) : Memref sig .tc .vmem S512x8x128 .bf16 :=
  (sbM.slice (Rect.unit (s := S2x2048x8x128) ![b.val, 512 * r.val, 0, 0] S1x512x8x128.size (by revert b r; decide)) (fun _ => rfl)).squeeze
    S512x8x128 squeezes_S1x512x8x128_S512x8x128
/-- Chunk `k` of a ring buffer. -/
abbrev cW (M : Memref sig .tc .vmem S2048x512 .bf16) (k : Fin 4) : Memref sig .tc .vmem S512x512 .bf16 :=
  M.slice (Rect.unit (s := S2048x512) ![512 * k.val, 0] S512x512.size (by revert k; decide)) (fun _ => rfl)
/-- One of the two places of an accumulator. -/
abbrev aW (M : Memref sig .tc .vmem S2x512x512 .bf16) (k : Fin 2) : Memref sig .tc .vmem S512x512 .bf16 :=
  (M.slice (Rect.unit (s := S2x512x512) ![k.val, 0, 0] S1x512x512.size (by revert k; decide)) (fun _ => rfl)).squeeze
    S512x512 squeezes_S1x512x512_S512x512

abbrev pts {sp : Space} {s : Shape} {e : EltTy} (M : Memref sig .tc sp s e) (c : Dev nD) (f : Buf (Elt F) (M.view.loc (c : Thread nD τ))) : sProp 𝕄 :=
  M.view.loc (c : Thread nD τ) ↦[M.view.set]{fullShare} f
abbrev anyP {sp : Space} {s : Shape} {e : EltTy} (M : Memref sig .tc sp s e) (c : Dev nD) : sProp 𝕄 :=
  iprop(∃ f : Buf (Elt F) (M.view.loc (c : Thread nD τ)), pts M c f)

abbrev barS : Sem sig := (SemArray.scalar (sig.barrier 0 rfl) : Sems sig S_).sem
abbrev bar (c : Dev nD) : GSem nD τ sig := ((c : Thread nD τ), .reg barS)
abbrev dm (c : Dev nD) (n : Fin 57) : GSem nD τ sig := ((c : Thread nD τ), .dma (n : DmaSem sig))

def nx (c : Dev nD) : Dev nD := ⟨(c.val + 1) % 4, Nat.mod_lt _ (by decide)⟩
def op (c : Dev nD) : Dev nD := ⟨(c.val + 2) % 4, Nat.mod_lt _ (by decide)⟩
def pv (c : Dev nD) : Dev nD := ⟨(c.val + 3) % 4, Nat.mod_lt _ (by decide)⟩

theorem nx_pv (c : Dev nD) : nx (pv c) = c := by revert c; decide
theorem pv_nx (c : Dev nD) : pv (nx c) = c := by revert c; decide
theorem nx_nx (c : Dev nD) : nx (nx c) = op c := by revert c; decide
theorem pv_pv (c : Dev nD) : pv (pv c) = op c := by revert c; decide
theorem nx_op (c : Dev nD) : nx (op c) = pv c := by revert c; decide
theorem pv_op (c : Dev nD) : pv (op c) = nx c := by revert c; decide
theorem op_nx (c : Dev nD) : op (nx c) = pv c := by revert c; decide
theorem op_pv (c : Dev nD) : op (pv c) = nx c := by revert c; decide
theorem op_op (c : Dev nD) : op (op c) = c := by revert c; decide

/-! ## Contents -/

/-- The contents that the protocol hands over: the key and value rows and tails of each device, the two halves of its partial projection. -/
structure Cont (F : FTy → Type) where
  K : Dev nD → FVec F S2048x8x128 .bf16
  V : Dev nD → FVec F S2048x8x128 .bf16
  KT : Dev nD → FVec F S128x8x128 .bf16
  VT : Dev nD → FVec F S128x8x128 .bf16
  PR : Dev nD → FVec F S2048x512 .bf16
  PL : Dev nD → FVec F S2048x512 .bf16

/-- The relayed rows as they lie in the send buffers: slot 0 has device 2's keys (on device 1), slot 1 its values (on device 3). -/
def Cont.SB (C : Cont F) : FVec F S2x2048x8x128 .bf16 := fun i =>
  if (i 0).val = 0 then C.K 2 (ix3 (i 1) (i 2) (i 3)) else C.V 2 (ix3 (i 1) (i 2) (i 3))

/-- The chunk a row of a ring buffer lies in. -/
def chunk (i : S2048x512.Idx) : Dev nD := ⟨(i 0).val / 512, by have : (i 0).val < 2048 := (i 0).isLt; show _ < 4; omega⟩

/-- What is in a chunk of a ring after `s` more devices have added their part, the ring running along `d`. -/
def ringV (P : Dev nD → FVec F S2048x512 .bf16) (d : Dev nD → Dev nD) : ℕ → FVec F S2048x512 .bf16
  | 0 => fun i => P (chunk i) i
  | s + 1 => fun i => FloatOps.addf (P (d^[s + 1] (chunk i)) i) (ringV P d s i)

def Cont.RR (C : Cont F) (s : ℕ) : FVec F S2048x512 .bf16 := ringV C.PR nx s
def Cont.RL (C : Cont F) (s : ℕ) : FVec F S2048x512 .bf16 := ringV C.PL pv s

/-! ## The schedule -/

/-- What a device gets on its ring-receive cell of step `s`: a chunk, and the chunks of other devices' buffers that are free again.
    `b` is the ring's previous device, `f` its next, `X s k c` chunk `k` of device `c` with its contents, `Y k c` with any. -/
def ringGot (X : ℕ → Dev nD → Dev nD → sProp 𝕄) (Y : Dev nD → Dev nD → sProp 𝕄) (b f : Dev nD → Dev nD) (c : Dev nD) : ℕ → sProp 𝕄
  | 0 => X 0 (b c) c
  | 1 => iprop(X 1 (op c) c ∗ Y (op c) (b c))
  | 2 => iprop(X 2 (f c) c ∗ Y (f c) (op c) ∗ Y (f c) (b c))
  | 3 => iprop(X 3 c c ∗ Y c (f c) ∗ Y c (op c))
  | 4 => iprop(X 3 (b c) c ∗ Y (b c) (f c))
  | _ => X 3 (op c) c

/-- What comes back on the ring-send cell of step `s`: the source. -/
def ringBack (X : ℕ → Dev nD → Dev nD → sProp 𝕄) (Z : sProp 𝕄) (A : Fin 2 → sProp 𝕄) (b f : Dev nD → Dev nD) (c : Dev nD) : ℕ → sProp 𝕄
  | 0 => Z
  | 1 => A 0
  | 2 => A 1
  | 3 => X 3 (f c) c
  | 4 => X 3 c c
  | _ => X 3 (b c) c

abbrev each (f : Fin 4 → sProp 𝕄) : sProp 𝕄 := iprop(f 0 ∗ f 1 ∗ f 2 ∗ f 3)
abbrev kRows (c : Dev nD) : sProp 𝕄 := each fun r => anyP (F := F) (kW kM r) c
abbrev vRows (c : Dev nD) : sProp 𝕄 := each fun r => anyP (F := F) (kW vM r) c
abbrev slotRows (b : Fin 2) (c : Dev nD) : sProp 𝕄 := each fun r => anyP (F := F) (sW b r) c
abbrev rChunks (c : Dev nD) : sProp 𝕄 := each fun k => anyP (F := F) (cW rrM k) c
abbrev lChunks (c : Dev nD) : sProp 𝕄 := each fun k => anyP (F := F) (cW rlM k) c
abbrev tails (c : Dev nD) : sProp 𝕄 := iprop(anyP (F := F) ktM c ∗ anyP (F := F) vtM c)

/-- What device `d` hands to device `o` at the handshake: those of its own landing buffers that `o` writes. -/
def barPay (o d : Dev nD) : sProp 𝕄 :=
  match o.val, d.val with
  | 0, 1 => iprop(kRows 1 ∗ vRows 1 ∗ slotRows 0 1 ∗ rChunks (F := F) 1)
  | 0, 3 => iprop(kRows 3 ∗ vRows 3 ∗ slotRows 1 3 ∗ lChunks (F := F) 3)
  | 1, 0 => iprop(tails 0 ∗ lChunks (F := F) 0)
  | 1, 2 => iprop(tails 2 ∗ kRows 2 ∗ rChunks (F := F) 2)
  | 1, 3 => tails 3
  | 2, 1 => lChunks 1
  | 2, 3 => rChunks 3
  | 3, 0 => rChunks 0
  | 3, 2 => iprop(vRows 2 ∗ lChunks (F := F) 2)
  | _, _ => iprop(emp)

section
variable (C : Cont F)

abbrev rX (s : ℕ) (k c : Dev nD) : sProp 𝕄 := pts (cW rrM k) c (C.RR s)
abbrev lX (s : ℕ) (k c : Dev nD) : sProp 𝕄 := pts (cW rlM k) c (C.RL s)
abbrev rY (k c : Dev nD) : sProp 𝕄 := anyP (F := F) (cW rrM k) c
abbrev lY (k c : Dev nD) : sProp 𝕄 := anyP (F := F) (cW rlM k) c

/-- What a DMA cell of device `c` hands it in round `r`. -/
def dmaPay (c : Dev nD) (n r : ℕ) : sProp 𝕄 :=
  match n with
  | 2 => anyP (sW 0 0) c | 3 => anyP (sW 0 1) c | 4 => anyP (sW 0 2) c | 5 => anyP (sW 0 3) c
  | 6 => anyP (sW 1 0) c | 7 => anyP (sW 1 1) c | 8 => anyP (sW 1 2) c | 9 => anyP (sW 1 3) c
  | 10 => anyP tlM c
  | 11 => if c.val = 1 then anyP (sW 0 0) c else anyP (sW 1 0) c
  | 12 => if c.val = 1 then anyP (sW 0 1) c else anyP (sW 1 1) c
  | 13 => if c.val = 1 then anyP (sW 0 2) c else anyP (sW 1 2) c
  | 14 => if c.val = 1 then anyP (sW 0 3) c else anyP (sW 1 3) c
  | 15 => pts (kW kM 0) c (C.K c) | 16 => pts (kW kM 1) c (C.K c) | 17 => pts (kW kM 2) c (C.K c) | 18 => pts (kW kM 3) c (C.K c)
  | 19 => pts (kW vM 0) c (C.V c) | 20 => pts (kW vM 1) c (C.V c) | 21 => pts (kW vM 2) c (C.V c) | 22 => pts (kW vM 3) c (C.V c)
  | 23 => pts ktM c (C.KT c) | 24 => pts vtM c (C.VT c)
  | 25 => pts (sW 0 0) c C.SB | 26 => pts (sW 0 1) c C.SB | 27 => pts (sW 0 2) c C.SB | 28 => pts (sW 0 3) c C.SB
  | 29 => pts (sW 1 0) c C.SB | 30 => pts (sW 1 1) c C.SB | 31 => pts (sW 1 2) c C.SB | 32 => pts (sW 1 3) c C.SB
  | n + 33 =>
    if n < 6 then ringBack (rX C) (anyP (cW prM c) c) (fun k => anyP (aW arM k) c) pv nx c n
    else if n < 12 then ringGot (rX C) rY pv nx c (n - 6)
    else if n < 18 then ringBack (lX C) (anyP (cW plM c) c) (fun k => anyP (aW alM k) c) nx pv c (n - 12)
    else ringGot (lX C) lY nx pv c (n - 18)
  | _ => iprop(emp)

/-- How many rounds a DMA cell of device `c` has. -/
def nR (c : Dev nD) (n : ℕ) : ℕ :=
  if 33 ≤ n then 1 else if n < 2 then 0
  else if n < 10 then (if c.val = 0 then 3 else 0)
  else if n < 11 then (if c.val = 1 then 6 else 0)
  else if n < 15 then (if c.val = 1 ∨ c.val = 3 then 1 else 0)
  else if n < 23 then (if c.val = 0 then 0 else 1)
  else if n < 25 then (if c.val = 1 then 0 else 1)
  else if n < 29 then (if c.val = 1 then 1 else 0)
  else (if c.val = 3 then 1 else 0)

/-- The credit of the copies on a DMA cell. -/
def amt (n : ℕ) : ℕ :=
  if 33 ≤ n then (cW rrM 0).view.dmaCredit
  else if n = 10 ∨ n = 23 ∨ n = 24 then ktM.view.dmaCredit
  else (kW kM 0).view.dmaCredit

theorem amt_pos (n : ℕ) : 0 < amt n := by
  unfold amt
  (repeat' split) <;> exact View.dmaCredit_pos _ (by decide)

def Rd : Rounds.Schedule (GSem nD τ sig) (Fin 4) 𝕄 where
  duties g r := if g.1.2 = .tc then
      (match g.2 with
        | .reg s => if s = barS ∧ r = 0 then Finset.univ.erase g.1.1 else ∅
        | .dma n => if r < nR g.1.1 n.val then {0} else ∅)
    else ∅
  unitless _ := False
  amount g _ _ := match g.2 with
    | .reg _ => 1
    | .dma n => amt n.val
  payload g r d := match g.2 with
    | .reg _ => barPay g.1.1 d
    | .dma n => dmaPay C g.1.1 n.val r
  amount_pos g _ _ _ := by
    dsimp only
    split
    · exact Nat.one_pos
    · exact amt_pos _

omit [FloatOps F] [Named F] in
theorem st_pts {sp : Space} {s : Shape} {e : EltTy} (M : Memref sig .tc sp s e) (c : Dev nD) (f) : BI.Storable (upEmb : UEmb _ 𝕄) (pts (F := F) M c f) :=
  inferInstance
omit [FloatOps F] [Named F] in
theorem st_any {sp : Space} {s : Shape} {e : EltTy} (M : Memref sig .tc sp s e) (c : Dev nD) : BI.Storable (upEmb : UEmb _ 𝕄) (anyP (F := F) M c) :=
  inferInstance
omit [FloatOps F] [Named F] in
theorem st_sep {P Q : sProp 𝕄} (h : BI.Storable (upEmb : UEmb _ 𝕄) P) (h' : BI.Storable (upEmb : UEmb _ 𝕄) Q) :
    BI.Storable (upEmb : UEmb _ 𝕄) iprop(P ∗ Q) := inferInstance
omit [FloatOps F] [Named F] in
theorem st_each {f : Fin 4 → sProp 𝕄} (h : ∀ k, BI.Storable (upEmb : UEmb _ 𝕄) (f k)) : BI.Storable (upEmb : UEmb _ 𝕄) (each f) :=
  st_sep (h 0) (st_sep (h 1) (st_sep (h 2) (h 3)))
omit [FloatOps F] [Named F] in
theorem st_emp : BI.Storable (upEmb : UEmb _ 𝕄) (iprop(emp) : sProp 𝕄) := inferInstance
omit [FloatOps F] [Named F] in
theorem st_tails (c : Dev nD) : BI.Storable (upEmb : UEmb _ 𝕄) (tails (F := F) c) := st_sep (st_any _ _) (st_any _ _)

omit [FloatOps F] [Named F] in
theorem st_bar (o d : Dev nD) : BI.Storable (upEmb : UEmb _ 𝕄) (barPay (F := F) o d) := by
  unfold barPay
  split
  · exact st_sep (st_each fun _ => st_any _ _) (st_sep (st_each fun _ => st_any _ _) (st_sep (st_each fun _ => st_any _ _) (st_each fun _ => st_any _ _)))
  · exact st_sep (st_each fun _ => st_any _ _) (st_sep (st_each fun _ => st_any _ _) (st_sep (st_each fun _ => st_any _ _) (st_each fun _ => st_any _ _)))
  · exact st_sep (st_tails _) (st_each fun _ => st_any _ _)
  · exact st_sep (st_tails _) (st_sep (st_each fun _ => st_any _ _) (st_each fun _ => st_any _ _))
  · exact st_tails _
  · exact st_each fun _ => st_any _ _
  · exact st_each fun _ => st_any _ _
  · exact st_each fun _ => st_any _ _
  · exact st_sep (st_each fun _ => st_any _ _) (st_each fun _ => st_any _ _)
  · exact st_emp

omit [FloatOps F] [Named F] in
theorem st_got {X : ℕ → Dev nD → Dev nD → sProp 𝕄} {Y : Dev nD → Dev nD → sProp 𝕄} {b f : Dev nD → Dev nD} {c : Dev nD} {n : ℕ}
    (hX : ∀ s k c, BI.Storable (upEmb : UEmb _ 𝕄) (X s k c)) (hY : ∀ k c, BI.Storable (upEmb : UEmb _ 𝕄) (Y k c)) :
    BI.Storable (upEmb : UEmb _ 𝕄) (ringGot X Y b f c n) := by
  unfold ringGot
  split
  · exact hX _ _ _
  · exact st_sep (hX _ _ _) (hY _ _)
  · exact st_sep (hX _ _ _) (st_sep (hY _ _) (hY _ _))
  · exact st_sep (hX _ _ _) (st_sep (hY _ _) (hY _ _))
  · exact st_sep (hX _ _ _) (hY _ _)
  · exact hX _ _ _

omit [FloatOps F] [Named F] in
theorem st_back {X : ℕ → Dev nD → Dev nD → sProp 𝕄} {Z : sProp 𝕄} {A : Fin 2 → sProp 𝕄} {b f : Dev nD → Dev nD} {c : Dev nD} {n : ℕ}
    (hX : ∀ s k c, BI.Storable (upEmb : UEmb _ 𝕄) (X s k c)) (hZ : BI.Storable (upEmb : UEmb _ 𝕄) Z) (hA : ∀ k, BI.Storable (upEmb : UEmb _ 𝕄) (A k)) :
    BI.Storable (upEmb : UEmb _ 𝕄) (ringBack X Z A b f c n) := by
  unfold ringBack
  split <;> first | exact hX _ _ _ | exact hZ | exact hA _

theorem st_dma (c : Dev nD) (n r : ℕ) : BI.Storable (upEmb : UEmb _ 𝕄) (dmaPay C c n r) := by
  unfold dmaPay
  (repeat' split) <;> first
    | exact st_any _ _
    | exact st_pts _ _ _
    | exact st_emp
    | exact st_back (fun _ _ _ => st_pts _ _ _) (st_any _ _) (fun _ => st_any _ _)
    | exact st_got (fun _ _ _ => st_pts _ _ _) (fun _ _ => st_any _ _)

instance Rd_payload_storable (g : GSem nD τ sig) (r : ℕ) (d : Fin 4) : BI.Storable (upEmb : UEmb _ 𝕄) ((Rd C).payload g r d) := by
  unfold Rd
  dsimp only
  split
  · exact st_bar _ _
  · exact st_dma _ _ _ _

theorem duties_dm {c : Dev nD} {n : Fin 57} {r : ℕ} (h : r < nR c n.val) : (Rd C).duties (dm c n) r = {0} := by
  show (if (Proc.tc : Proc τ) = .tc then (if r < nR c n.val then ({0} : Finset (Fin 4)) else ∅) else ∅) = _
  rw [if_pos rfl]
  exact if_pos h
theorem duties_dm_later {c : Dev nD} {n : Fin 57} {R : ℕ} (h : nR c n.val ≤ R) : ∀ r, R ≤ r → (Rd C).duties (dm c n) r = ∅ := fun r hr => by
  show (if (Proc.tc : Proc τ) = .tc then (if r < nR c n.val then ({0} : Finset (Fin 4)) else ∅) else ∅) = _
  rw [if_pos rfl]
  exact if_neg (by omega)
theorem duties_bar (c : Dev nD) : (Rd C).duties (bar c) 0 = Finset.univ.erase c := by
  show (if (Proc.tc : Proc τ) = .tc then (if barS = barS ∧ (0 : ℕ) = 0 then Finset.univ.erase c else ∅) else ∅) = _
  rw [if_pos rfl]
  exact if_pos ⟨rfl, rfl⟩
theorem duties_bar_later (c : Dev nD) : ∀ r, 1 ≤ r → (Rd C).duties (bar c) r = ∅ := fun r hr => by
  show (if (Proc.tc : Proc τ) = .tc then (if barS = barS ∧ r = 0 then Finset.univ.erase c else ∅) else ∅) = _
  rw [if_pos rfl]
  exact if_neg (by omega)
theorem amount_dm (c : Dev nD) (n : Fin 57) (r : ℕ) (d : Fin 4) : (Rd C).amount (dm c n) r d = amt n.val := rfl
theorem amount_bar (c : Dev nD) (r : ℕ) (d : Fin 4) : (Rd C).amount (bar c) r d = 1 := rfl
theorem payload_dm (c : Dev nD) (n : Fin 57) (r : ℕ) (d : Fin 4) : (Rd C).payload (dm c n) r d = dmaPay C c n.val r := rfl
theorem payload_bar (c : Dev nD) (r : ℕ) (d : Fin 4) : (Rd C).payload (bar c) r d = barPay c d := rfl

theorem expect_dm {c : Dev nD} {n : Fin 57} {r : ℕ} (h : r < nR c n.val) : (Rd C).expect (dm c n) r = amt n.val := by
  unfold Schedule.expect Schedule.amountOf
  rw [duties_dm C h, Finset.sum_singleton, amount_dm]
theorem expect_bar (c : Dev nD) : (Rd C).expect (bar c) 0 = 3 := by
  unfold Schedule.expect Schedule.amountOf
  rw [duties_bar, Finset.sum_congr rfl fun d _ => amount_bar C c 0 d, Finset.sum_const, Finset.card_erase_of_mem (Finset.mem_univ _)]
  rfl
theorem rest_dm {c : Dev nD} {n : Fin 57} {r : ℕ} (h : r < nR c n.val) :
    bigSep ((Rd C).duties (dm c n) r \ ∅) (fun d => (Rd C).payload (dm c n) r d) = dmaPay C c n.val r := by
  rw [Finset.sdiff_empty, duties_dm C h, bigSep_singleton, payload_dm]
end

/-! ## Levels, what is owed, tokens -/

def lvS : SemLoc sig → ℕ
  | .reg _ => 1
  | .dma n => if n.val < 15 then 0 else if n.val < 25 then 3 else if n.val < 33 then 2 else if n.val < 39 then 0
      else if n.val < 45 then n.val - 35 else if n.val < 51 then 0 else n.val - 47
def L (g : GSem nD τ sig) : Finset Unit := if g.1.2 = .tc then {()} else ∅
def lv (g : GSem nD τ sig) (_ : Unit) : ℕ := lvS g.2
theorem L_of_ne (g : GSem nD τ sig) (h : g.1.2 ≠ .tc) : L g = ∅ := if_neg h
theorem L_tc (c : Dev nD) (sm : SemLoc sig) : L ((c : Thread nD τ), sm) = {()} := if_pos rfl

/-- A duty towards another device: the device, its cell, the amount, the duty's name. -/
abbrev Duty : Type := Dev nD × SemLoc sig × ℕ × Fin 4
abbrev Duty.cell (p : Duty) : GSem nD τ sig := ((p.1 : Thread nD τ), p.2.1)
/-- The duty of a copy onto DMA cell `n` of device `d`, and of a signal from device `c` to device `d`. -/
abbrev dC (d : Dev nD) (n : Fin 57) : Duty := (d, .dma (n : DmaSem sig), amt n.val, 0)
abbrev dB (c d : Dev nD) : Duty := (d, .reg barS, 1, c)

def owedL : List Duty → CellTallies nD τ sig Unit
  | [] => 0
  | p :: l => owedL l + tallyAt (Duty.cell p) () p.2.2.1
def toksL : List Duty → sProp 𝕄
  | [] => iprop(emp)
  | p :: l => iprop(dutyTok ER (Duty.cell p) 0 p.2.2.2 ∗ toksL l)

theorem owedL_pos {l : List Duty} {g : GSem nD τ sig} {u : Unit} (h : 0 < owedL l g u) : ∃ p ∈ l, g = Duty.cell p := by
  induction l with
  | nil => exact absurd h (Nat.lt_irrefl 0)
  | cons p l ih =>
    unfold owedL at h
    rw [Pi.add_apply, Finsupp.add_apply, tallyAt_apply] at h
    by_cases hg : g = Duty.cell p ∧ u = ()
    · exact ⟨p, List.mem_cons_self, hg.1⟩
    · rw [if_neg hg] at h
      obtain ⟨q, hq, hq'⟩ := ih (by omega)
      exact ⟨q, List.mem_cons_of_mem _ hq, hq'⟩

/-- A device may wait on a cell that lies below everything it still owes. -/
theorem mayWait_list (c : Dev nD) (sm : SemLoc sig) (l : List Duty) (h : (l.all fun p => Nat.blt (lvS sm) (lvS p.2.1)) = true) :
    (levAts L lv : sProp 𝕄) ⊢ MayWait (c : Thread nD τ) sm () (owedL l) :=
  MayOwe.of_cut (L := L) (lev := lv) (lvS sm)
    (fun p hp => by rw [Finset.mem_singleton.mp hp, L_tc]; exact Finset.mem_singleton_self _)
    (fun g u hg => by
      obtain ⟨p, _, rfl⟩ := owedL_pos hg
      rw [L_tc]; exact Finset.mem_singleton_self _)
    (fun p hp => by rw [Finset.mem_singleton.mp hp]; exact le_refl _)
    (fun g u hg => by
      obtain ⟨p, hp, rfl⟩ := owedL_pos hg
      exact Nat.le_of_ble_eq_true (List.all_eq_true.mp h p hp))

end Cert.Att
-- ==== Proof.Macro.lean ====
module

public import proofs.«01_k».proof.Proof.Proto

@[expose] public section

noncomputable section

namespace Cert.Att

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F] [Named F]

/-- Programs of the kernel's body. -/
abbrev PG (F : FTy → Type) : Type → Type 1 := Prog (TpuEff nD τ sig (Elt F) Λ₀ .tc)

/-! ## Attention: one block of 256 queries of one head -/

/-- The arithmetic of a block: `qs`, `ks` are the places of its first query and of its first key. -/
def attn (qs ks : ℕ) (kk vv : FVec F S512x128 .bf16) (q : Vec F S256x128 .bf16) : FVec F S256x128 .bf16 :=
  let s : FVec F S256x512 .f32 := mulf (matmul dot_S256x128_S512x128_S256x512_1_1_0_0_n_n none q kk (constant S256x512 .f32 0x00000000#32))
    (broadcast S256x512 (Scalar.ofBits .f32 0x3DB504F3#32))
  let d : IVec S256x512 32 := subi (addi (broadcast S256x512 (BitVec.ofNat 32 qs)) (iota .tc S256x512 32 [0] iota_S256x512_d0_w32))
    (addi (broadcast S256x512 (BitVec.ofNat 32 ks)) (iota .tc S256x512 32 [1] iota_S256x512_d1_w32))
  let s : FVec F S256x512 .f32 := select (cmpi .sle (absi d) (broadcast S256x512 128#32)) s (broadcast S256x512 (Named.named κ "mask" 0xCE6E6B28#32))
  let mx : FVec F S256 .f32 := multiReduction .maximumf [1] S256 s 0xFF800000#32 reduces_S256x512_S256 (.inl rfl) rfl
  let p : FVec F S256x512 .f32 := exp (subf s (broadcastTo S256x512 (shapeCast S256x1 mx shapeCasts_S256_S256x1) broadcasts_S256x1_S256x512))
  let sm : FVec F S256 .f32 := multiReduction .add [1] S256 p 0x00000000#32 reduces_S256x512_S256 (.inl rfl) rfl
  let p : FVec F S256x512 .f32 := divf p (broadcastTo S256x512 (shapeCast S256x1 sm shapeCasts_S256_S256x1) broadcasts_S256x1_S256x512)
  let o : FVec F S256x128 .bf16 := truncf .bf16 (matmul dot_S256x512_S512x128_S256x128_1_0_0_1_n_n none (truncf .bf16 p bitsLt_bf16_f32) vv (constant S256x128 .f32 0x00000000#32)) bitsLt_bf16_f32
  shapeCast S256x128 o shapeCasts_S256x128_S256x128

/-- The window of a key or value buffer that a block of the first seven reads. -/
abbrev kR (qb : Fin 7) (h : Fin 8) : Rect S2048x8x128 :=
  Rect.unit (s := S2048x8x128) ![256 * qb.val - 128, h.val, 0] S512x1x128.size (by revert qb h; decide)
/-- What the last block reads of a key or value buffer and of a tail buffer. -/
abbrev kR7 (h : Fin 8) : Rect S2048x8x128 :=
  Rect.unit (s := S2048x8x128) ![1664, h.val, 0] S384x1x128.size (by revert h; decide)
abbrev tR7 (h : Fin 8) : Rect S128x8x128 :=
  Rect.unit (s := S128x8x128) ![0, h.val, 0] S128x1x128.size (by revert h; decide)
/-- The window of the queries, and of the context, of a block. -/
abbrev qR (qb h : Fin 8) : Rect S2048x1024 :=
  Rect.unit (s := S2048x1024) ![256 * qb.val, 128 * h.val] S256x128.size (by revert qb h; decide)

theorem qR_packed (qb h : Fin 8) : (qR qb h).PackedRows (EltTy.packing .bf16) := by revert qb h; decide +kernel

abbrev blkSt (qb h : Fin 8) (w : FVec F S256x128 .bf16) : PG F PUnit := do
  let _ : Vec F S256x128 .bf16 ← Prog.lift (.load cxM (qR qb h).toLoadRect (View.loadsAt_vmem h_S256x128))
  Prog.lift (.store cxM (qR qb h) w Finset.univ (View.stores_vmem h_S256x128 ((Memref.isWhole_whole cc0_scratch12).storeExact_slice rfl _ (qR_packed qb h)) (fun _ => rfl)) (.inl rfl))

def blk (qb : Fin 7) (h : Fin 8) : PG F PUnit := do
  let kk : Vec F S512x1x128 .bf16 ← Prog.lift (.load kM (kR qb h).toLoadRect (View.loadsAt_vmem h_S512x1x128))
  let vv : Vec F S512x1x128 .bf16 ← Prog.lift (.load vM (kR qb h).toLoadRect (View.loadsAt_vmem h_S512x1x128))
  let q : Vec F S256x128 .bf16 ← Prog.lift (.load qM (qR qb.castSucc h).toLoadRect (View.loadsAt_vmem h_S256x128))
  blkSt qb.castSucc h (attn (256 * qb.val) (256 * qb.val - 128) (shapeCast S512x128 kk shapeCasts_S512x1x128_S512x128) (shapeCast S512x128 vv shapeCasts_S512x1x128_S512x128) q)

def blk7 (h : Fin 8) : PG F PUnit := do
  let kk : Vec F S384x1x128 .bf16 ← Prog.lift (.load kM (kR7 h).toLoadRect (View.loadsAt_vmem h_S384x1x128))
  let kt : Vec F S128x1x128 .bf16 ← Prog.lift (.load ktM (tR7 h).toLoadRect (View.loadsAt_vmem h_S128x1x128))
  let vv : Vec F S384x1x128 .bf16 ← Prog.lift (.load vM (kR7 h).toLoadRect (View.loadsAt_vmem h_S384x1x128))
  let vt : Vec F S128x1x128 .bf16 ← Prog.lift (.load vtM (tR7 h).toLoadRect (View.loadsAt_vmem h_S128x1x128))
  let q : Vec F S256x128 .bf16 ← Prog.lift (.load qM (qR 7 h).toLoadRect (View.loadsAt_vmem h_S256x128))
  blkSt 7 h (attn 1792 1664
    (concatenate S512x128 0 [⟨S384x128, shapeCast S384x128 kk shapeCasts_S384x1x128_S384x128⟩, ⟨S128x128, shapeCast S128x128 kt shapeCasts_S128x1x128_S128x128⟩] concatenates_S384x128_S128x128_S512x128_d0)
    (concatenate S512x128 0 [⟨S384x128, shapeCast S384x128 vv shapeCasts_S384x1x128_S384x128⟩, ⟨S128x128, shapeCast S128x128 vt shapeCasts_S128x1x128_S128x128⟩] concatenates_S384x128_S128x128_S512x128_d0) q)

/-- A list of programs one after the other. -/
def seqP : List (PG F PUnit) → PG F PUnit
  | [] => pure ⟨⟩
  | p :: l => p >>= fun _ => seqP l

def heads : List (Fin 8) := [0, 1, 2, 3, 4, 5, 6, 7]

/-! ## Copies and waits -/

abbrev cR (k : Fin 4) : Rect S2048x512 := Rect.unit (s := S2048x512) ![512 * k.val, 0] S512x512.size (by revert k; decide)
abbrev aR (j : Fin 2) : Rect S2x512x512 := Rect.unit (s := S2x512x512) ![j.val, 0, 0] S1x512x512.size (by revert j; decide)
abbrev sR (b : Fin 2) (r : Fin 4) : Rect S2x2048x8x128 :=
  Rect.unit (s := S2x2048x8x128) ![b.val, 512 * r.val, 0, 0] S1x512x8x128.size (by revert b r; decide)
abbrev rR (r : Fin 4) : Rect S2048x8x128 := Rect.unit (s := S2048x8x128) ![512 * r.val, 0, 0] S512x8x128.size (by revert r; decide)
abbrev pR (r : Fin 4) : Rect S2048x1024 := Rect.unit (s := S2048x1024) ![512 * r.val, 0] S512x1024.size (by revert r; decide)
abbrev wR (r : Fin 2) : Rect S1024x1024 := Rect.unit (s := S1024x1024) ![512 * r.val, 0] S512x1024.size (by revert r; decide)
abbrev oR (r : Fin 4) (j : Fin 2) : Rect S1x2048x1024 := Rect.unit (s := S1x2048x1024) ![0, 512 * r.val, 512 * j.val] S1x512x512.size (by revert r j; decide)

theorem cR_packed (k : Fin 4) : (cR k).PackedRows (EltTy.packing .bf16) := by revert k; decide +kernel
theorem aR_packed (k : Fin 2) : (aR k).PackedRows (EltTy.packing .bf16) := by revert k; decide +kernel
theorem sR_packed (b : Fin 2) (r : Fin 4) : (sR b r).PackedRows (EltTy.packing .bf16) := by revert b r; decide +kernel
theorem rR_packed (r : Fin 4) : (rR r).PackedRows (EltTy.packing .bf16) := by revert r; decide +kernel
theorem pR_packed (r : Fin 4) : (pR r).PackedRows (EltTy.packing .bf16) := by revert r; decide +kernel
theorem wR_packed (r : Fin 2) : (wR r).PackedRows (EltTy.packing .bf16) := by revert r; decide +kernel
theorem cR_words (k : Fin 4) : (cR k).WholeWords (EltTy.packing .bf16) := by revert k; decide +kernel
theorem aR_words (k : Fin 2) : (aR k).WholeWords (EltTy.packing .bf16) := by revert k; decide +kernel
theorem sR_words (b : Fin 2) (r : Fin 4) : (sR b r).WholeWords (EltTy.packing .bf16) := by revert b r; decide +kernel
theorem rR_words (r : Fin 4) : (rR r).WholeWords (EltTy.packing .bf16) := by revert r; decide +kernel

theorem kW_we {M : Memref sig .tc .vmem S2048x8x128 .bf16} (hM : M.IsWhole) (r : Fin 4) : (kW M r).view.WordExact := hM.wordExact_slice rfl _ (rR_words r)
theorem sW_we (b : Fin 2) (r : Fin 4) : (sW b r).view.WordExact := ((Memref.isWhole_whole cc0_scratch9).wordExact_slice rfl _ (sR_words b r)).reshape _ _
theorem cW_we {M : Memref sig .tc .vmem S2048x512 .bf16} (hM : M.IsWhole) (k : Fin 4) : (cW M k).view.WordExact := hM.wordExact_slice rfl _ (cR_words k)
theorem aW_we {M : Memref sig .tc .vmem S2x512x512 .bf16} (hM : M.IsWhole) (j : Fin 2) : (aW M j).view.WordExact := (hM.wordExact_slice rfl _ (aR_words j)).reshape _ _

/-- Rows `512 r …` of head group `d` of the keys or values in HBM. -/
abbrev hW (H : Memref sig .tc .hbm S1x2048x32x128 .f32) (r d : Fin 4) : Memref sig .tc .hbm S512x8x128 .f32 :=
  (H.slice (Rect.unit (s := S1x2048x32x128) ![0, 512 * r.val, 8 * d.val, 0] S1x512x8x128.size (by revert r d; decide)) (fun _ => rfl)).squeeze
    S512x8x128 squeezes_S1x512x8x128_S512x8x128
/-- The first rows of the keys or values in HBM, of all heads. -/
abbrev tW (H : Memref sig .tc .hbm S1x2048x32x128 .f32) : Memref sig .tc .hbm S128x32x128 .f32 :=
  (H.slice (Rect.unit (s := S1x2048x32x128) ![0, 0, 0, 0] S1x128x32x128.size (by decide)) (fun _ => rfl)).squeeze
    S128x32x128 squeezes_S1x128x32x128_S128x32x128
abbrev wW (H : Memref sig .tc .hbm S1024x1024 .f32) (r : Fin 2) : Memref sig .tc .hbm S512x1024 .f32 := H.slice (wR r) (fun _ => rfl)
abbrev xW (r : Fin 4) : Memref sig .tc .hbm S512x1024 .f32 :=
  (xH.slice (Rect.unit (s := S1x2048x1024) ![0, 512 * r.val, 0] S1x512x1024.size (by revert r; decide)) (fun _ => rfl)).squeeze
    S512x1024 squeezes_S1x512x1024_S512x1024

/-- A copy from HBM and the wait for it. -/
def cpH {s : Shape} (src : Memref sig .tc .hbm s .f32) (dst : Memref sig .tc .vmem s .f32) (hs : src.view.WordExact) (hd : dst.view.WordExact) : PG F PUnit := do
  Prog.lift (.enqueueDma src (.here dst) (.dma (1 : DmaSem sig)) hs hd ⟨Or.inl rfl, trivial⟩)
  Prog.lift (.waitDma2 (1 : DmaSem sig) src dst hs hd)

/-- A copy to device `n`, counted on cells `a` here and `b` there. -/
def sndP {s : Shape} (src dst : Memref sig .tc .vmem s .bf16) (n : Dev nD) (a b : Fin 57) (hs : src.view.WordExact) (hd : dst.view.WordExact) : PG F PUnit :=
  Prog.lift (.enqueueDma src (.remote (Dev.tc n) dst (.dma (a : DmaSem sig))) (.dma (b : DmaSem sig)) hs hd ⟨⟨rfl, Or.inl rfl⟩, trivial⟩)
def wtP {s : Shape} (a : Fin 57) (src dst : Memref sig .tc .vmem s .bf16) (hs : src.view.WordExact) (hd : dst.view.WordExact) : PG F PUnit :=
  Prog.lift (.waitDma2 (a : DmaSem sig) src dst hs hd)

theorem wh {κ : Kind} (b : Ref sig κ) : (Memref.whole b).IsWhole := Memref.isWhole_whole b

/-! ## Rows of keys and values: staged for a peer, or filled into the device's own buffer -/

def stage (H : Memref sig .tc .hbm S1x2048x32x128 .f32) (b : Fin 2) (r d : Fin 4) : PG F PUnit := do
  cpH (hW H r d) stM ((View.wordExact_bits rfl).reshape _ _) (wh _).wordExact
  let v : Vec F S512x8x128 .f32 ← Prog.lift (.load stM (Rect.unit (s := S512x8x128) ![0, 0, 0] S512x8x128.size inb_S512x8x128_S512x8x128_0_0_0).toLoadRect (View.loadsAt_vmem h_S512x8x128))
  let _ : Vec F S1x512x8x128 .bf16 ← Prog.lift (.load sbM (sR b r).toLoadRect (View.loadsAt_vmem h_S1x512x8x128))
  Prog.lift (.store sbM (sR b r) (shapeCast S1x512x8x128 (truncf .bf16 v bitsLt_bf16_f32 : FVec F S512x8x128 .bf16) shapeCasts_S512x8x128_S1x512x8x128 : FVec F S1x512x8x128 .bf16) Finset.univ
    (View.stores_vmem h_S1x512x8x128 ((wh cc0_scratch9).storeExact_slice rfl _ (sR_packed b r)) (fun _ => rfl)) (.inl rfl))

def fill (H : Memref sig .tc .hbm S1x2048x32x128 .f32) (M : Memref sig .tc .vmem S2048x8x128 .bf16) (hM : M.IsWhole) (r : Fin 4) : PG F PUnit := do
  cpH (hW H r 0) stM ((View.wordExact_bits rfl).reshape _ _) (wh _).wordExact
  let v : Vec F S512x8x128 .f32 ← Prog.lift (.load stM (Rect.unit (s := S512x8x128) ![0, 0, 0] S512x8x128.size inb_S512x8x128_S512x8x128_0_0_0).toLoadRect (View.loadsAt_vmem h_S512x8x128))
  let _ : Vec F S512x8x128 .bf16 ← Prog.lift (.load M (rR r).toLoadRect (View.loadsAt_vmem h_S512x8x128))
  Prog.lift (.store M (rR r) (shapeCast S512x8x128 (truncf .bf16 v bitsLt_bf16_f32 : FVec F S512x8x128 .bf16) shapeCasts_S512x8x128_S512x8x128 : FVec F S512x8x128 .bf16) Finset.univ
    (View.stores_vmem h_S512x8x128 (hM.storeExact_slice rfl _ (rR_packed r)) (fun _ => rfl)) (.inl rfl))

/-- Device 0's send of staged rows to a peer's main buffer, and to a peer's send buffer. -/
abbrev sndM (b : Fin 2) (M : Memref sig .tc .vmem S2048x8x128 .bf16) (hM : M.IsWhole) (r : Fin 4) (n : Dev nD) (a t : Fin 57) : PG F PUnit :=
  sndP (sW b r) (kW M r) n a t (sW_we b r) (kW_we hM r)
abbrev sndS (b : Fin 2) (r : Fin 4) (n : Dev nD) (a t : Fin 57) : PG F PUnit := sndP (sW b r) (sW b r) n a t (sW_we b r) (sW_we b r)
/-- The wait for a sent piece, and for a received one. -/
abbrev wtS (M : Memref sig .tc .vmem S2048x8x128 .bf16) (hM : M.IsWhole) (a : Fin 57) (b : Fin 2) (r : Fin 4) : PG F PUnit :=
  wtP a (kW M r) (sW b r) (kW_we hM r) (sW_we b r)
abbrev wtR (M : Memref sig .tc .vmem S2048x8x128 .bf16) (hM : M.IsWhole) (a : Fin 57) (r : Fin 4) : PG F PUnit :=
  wtP a (sW 0 r) (kW M r) (sW_we 0 r) (kW_we hM r)

abbrev sCell (b : Fin 2) (r : Fin 4) : Fin 57 := ⟨2 + 4 * b.val + r.val, by omega⟩
abbrev cell (n : ℕ) (r : Fin 4) (h : n + 3 < 57 := by decide) : Fin 57 := ⟨n + r.val, by omega⟩

/-- What device 0 does first: the rows that devices 1 and 3 pass on to device 2. -/
def relayOut (r : Fin 4) : PG F PUnit := do
  stage kH 0 r 2
  sndS 0 r 1 (sCell 0 r) (cell 25 r)
  stage vH 1 r 2
  sndS 1 r 3 (sCell 1 r) (cell 29 r)
/-- The rest of the rows, keys or values. -/
def rowsOut (H : Memref sig .tc .hbm S1x2048x32x128 .f32) (M : Memref sig .tc .vmem S2048x8x128 .bf16) (hM : M.IsWhole) (r : Fin 4) (n : ℕ) (hn : n + 3 < 57) : PG F PUnit := do
  wtS kM (wh _) (sCell 0 r) 0 r
  stage H 0 r 1
  sndM 0 M hM r 1 (sCell 0 r) (cell n r hn)
  wtS kM (wh _) (sCell 1 r) 1 r
  stage H 1 r 3
  sndM 1 M hM r 3 (sCell 1 r) (cell n r hn)
  fill H M hM r
/-- Device 1 (keys, slot 0) and device 3 (values, slot 1) pass rows on. -/
def passOn (b : Fin 2) (M : Memref sig .tc .vmem S2048x8x128 .bf16) (hM : M.IsWhole) (p n : ℕ) (hp : p + 3 < 57) (hn : n + 3 < 57) (r : Fin 4) : PG F PUnit := do
  wtP (cell p r hp) (sW b r) (sW b r) (sW_we b r) (sW_we b r)
  sndM b M hM r 2 (cell 11 r) (cell n r hn)

/-! ## The tails, from device 1 -/

abbrev tR0 : Rect S128x8x128 := Rect.unit (s := S128x8x128) ![0, 0, 0] S128x8x128.size inb_S128x8x128_S128x8x128_0_0_0
/-- Head group `d` of the loaded tail rows. -/
def tailV (v : FVec F S128x32x128 .bf16) (d : Fin 4) : FVec F S128x8x128 .bf16 :=
  shapeCast S128x8x128 (extractStridedSlice S128x8x128 ![0, 8 * d.val, 0] v (by revert d; decide)) shapeCasts_S128x8x128_S128x8x128

def tailSnd (T : Memref sig .tc .vmem S128x8x128 .bf16) (hT : T.IsWhole) (v : FVec F S128x32x128 .bf16) (b : Fin 57) (d : Fin 4) : PG F PUnit := do
  let _ : Vec F S128x8x128 .bf16 ← Prog.lift (.load tlM tR0.toLoadRect (View.loadsAt_vmem h_S128x8x128))
  Prog.lift (.store tlM tR0 (tailV v d) Finset.univ (View.stores_vmem h_S128x8x128 ((wh cc0_scratch11).storeExact_slice rfl _ packedbf16_S128x8x128_S128x8x128_0_0_0) (fun _ => rfl)) (.inl rfl))
  sndP tlM T d 10 b (wh _).wordExact hT.wordExact
  wtP 10 T tlM hT.wordExact (wh _).wordExact
def tailOut (H : Memref sig .tc .hbm S1x2048x32x128 .f32) (T : Memref sig .tc .vmem S128x8x128 .bf16) (hT : T.IsWhole) (b : Fin 57) : PG F PUnit := do
  cpH (tW H) tsM ((View.wordExact_bits rfl).reshape _ _) (wh _).wordExact
  let v : Vec F S128x32x128 .f32 ← Prog.lift (.load tsM (Rect.unit (s := S128x32x128) ![0, 0, 0] S128x32x128.size inb_S128x32x128_S128x32x128_0_0_0).toLoadRect (View.loadsAt_vmem h_S128x32x128))
  let _ : Vec F S128x8x128 .bf16 ← Prog.lift (.load T tR0.toLoadRect (View.loadsAt_vmem h_S128x8x128))
  Prog.lift (.store T tR0 (tailV (truncf .bf16 v bitsLt_bf16_f32) 1) Finset.univ (View.stores_vmem h_S128x8x128 (hT.storeExact_slice rfl _ packedbf16_S128x8x128_S128x8x128_0_0_0) (fun _ => rfl)) (.inl rfl))
  tailSnd T hT (truncf .bf16 v bitsLt_bf16_f32) b 0
  tailSnd T hT (truncf .bf16 v bitsLt_bf16_f32) b 2
  tailSnd T hT (truncf .bf16 v bitsLt_bf16_f32) b 3

/-! ## Weights, queries, the output projection -/

abbrev ldR : Rect S512x1024 := Rect.unit (s := S512x1024) ![0, 0] S512x1024.size inb_S512x1024_S512x1024_0_0
abbrev wR0 : Rect S1024x1024 := Rect.unit (s := S1024x1024) ![0, 0] S1024x1024.size inb_S1024x1024_S1024x1024_0_0
def wLoad (H : Memref sig .tc .hbm S1024x1024 .f32) (M : Memref sig .tc .vmem S1024x1024 .bf16) (hM : M.IsWhole) (r : Fin 2) : PG F PUnit := do
  cpH (wW H r) ldM (View.wordExact_bits rfl) (wh _).wordExact
  let v : Vec F S512x1024 .f32 ← Prog.lift (.load ldM ldR.toLoadRect (View.loadsAt_vmem h_S512x1024))
  let _ : Vec F S512x1024 .bf16 ← Prog.lift (.load M (wR r).toLoadRect (View.loadsAt_vmem h_S512x1024))
  Prog.lift (.store M (wR r) (shapeCast S512x1024 (truncf .bf16 v bitsLt_bf16_f32 : FVec F S512x1024 .bf16) shapeCasts_S512x1024_S512x1024 : FVec F S512x1024 .bf16) Finset.univ
    (View.stores_vmem h_S512x1024 (hM.storeExact_slice rfl _ (wR_packed r)) (fun _ => rfl)) (.inl rfl))

/-- The queries of 512 rows. -/
def qproj (x : Vec F S512x1024 .f32) (w : Vec F S1024x1024 .bf16) : FVec F S512x1024 .bf16 :=
  shapeCast S512x1024 (truncf .bf16 (matmul dot_S512x1024_S1024x1024_S512x1024_1_0_0_1_n_n none (truncf .bf16 x bitsLt_bf16_f32 : FVec F S512x1024 .bf16) w (constant S512x1024 .f32 0x00000000#32)) bitsLt_bf16_f32 : FVec F S512x1024 .bf16) shapeCasts_S512x1024_S512x1024
def qRows (r : Fin 4) : PG F PUnit := do
  cpH (xW r) ldM ((View.wordExact_bits rfl).reshape _ _) (wh _).wordExact
  let v : Vec F S512x1024 .f32 ← Prog.lift (.load ldM ldR.toLoadRect (View.loadsAt_vmem h_S512x1024))
  let w : Vec F S1024x1024 .bf16 ← Prog.lift (.load wqM wR0.toLoadRect (View.loadsAt_vmem h_S1024x1024))
  let _ : Vec F S512x1024 .bf16 ← Prog.lift (.load qM (pR r).toLoadRect (View.loadsAt_vmem h_S512x1024))
  Prog.lift (.store qM (pR r) (qproj v w) Finset.univ (View.stores_vmem h_S512x1024 ((wh cc0_scratch0).storeExact_slice rfl _ (pR_packed r)) (fun _ => rfl)) (.inl rfl))

/-- The two halves of the projection of 512 rows of the context. -/
def oproj (x : Vec F S512x1024 .bf16) (w : Vec F S1024x1024 .bf16) : FVec F S512x1024 .f32 :=
  matmul dot_S512x1024_S1024x1024_S512x1024_1_0_0_1_n_n none x w (constant S512x1024 .f32 0x00000000#32)
def half (j : Fin 2) (p : FVec F S512x1024 .f32) : FVec F S512x512 .bf16 :=
  shapeCast S512x512 (truncf .bf16 (extractStridedSlice S512x512 ![0, 512 * j.val] p (by revert j; decide)) bitsLt_bf16_f32 : FVec F S512x512 .bf16) shapeCasts_S512x512_S512x512
def cSt (P : Memref sig .tc .vmem S2048x512 .bf16) (hP : P.IsWhole) (k : Fin 4) (w : FVec F S512x512 .bf16) : PG F PUnit := do
  let _ : Vec F S512x512 .bf16 ← Prog.lift (.load P (cR k).toLoadRect (View.loadsAt_vmem h_S512x512))
  Prog.lift (.store P (cR k) w Finset.univ (View.stores_vmem h_S512x512 (hP.storeExact_slice rfl _ (cR_packed k)) (fun _ => rfl)) (.inl rfl))
def oRows (r : Fin 4) : PG F PUnit := do
  let v : Vec F S512x1024 .bf16 ← Prog.lift (.load cxM (pR r).toLoadRect (View.loadsAt_vmem h_S512x1024))
  let w : Vec F S1024x1024 .bf16 ← Prog.lift (.load woM wR0.toLoadRect (View.loadsAt_vmem h_S1024x1024))
  cSt prM (wh _) r (half 0 (oproj v w))
  cSt plM (wh _) r (half 1 (oproj v w))

/-! ## The rings -/

/-- The sum of a chunk of the device's own part and of what came. -/
abbrev cLd (P : Memref sig .tc .vmem S2048x512 .bf16) (k : Fin 4) : PG F (Vec F S512x512 .bf16) :=
  Prog.lift (.load P (cR k).toLoadRect (View.loadsAt_vmem h_S512x512))
def accStep (P R : Memref sig .tc .vmem S2048x512 .bf16) (A : Memref sig .tc .vmem S2x512x512 .bf16) (hR : R.IsWhole) (hA : A.IsWhole) (j : Fin 2) (k : Fin 4) (n : Dev nD)
    (w a b : Fin 57) : PG F PUnit := do
  wtP w (cW R k) (cW R k) (cW_we hR k) (cW_we hR k)
  let x ← cLd P k
  let y ← cLd R k
  let _ : Vec F S1x512x512 .bf16 ← Prog.lift (.load A (aR j).toLoadRect (View.loadsAt_vmem h_S1x512x512))
  Prog.lift (.store A (aR j) (shapeCast S1x512x512 (addf x y : FVec F S512x512 .bf16) shapeCasts_S512x512_S1x512x512 : FVec F S1x512x512 .bf16) Finset.univ
    (View.stores_vmem h_S1x512x512 (hA.storeExact_slice rfl _ (aR_packed j)) (fun _ => rfl)) (.inl rfl))
  sndP (aW A j) (cW R k) n a b (aW_we hA j) (cW_we hR k)
def finStep (P R : Memref sig .tc .vmem S2048x512 .bf16) (hR : R.IsWhole) (k : Fin 4) (w : Fin 57) : PG F PUnit := do
  wtP w (cW R k) (cW R k) (cW_we hR k) (cW_we hR k)
  let x ← cLd P k
  let y ← cLd R k
  cSt R hR k (shapeCast S512x512 (addf x y : FVec F S512x512 .bf16) shapeCasts_S512x512_S512x512)
abbrev fwd (P R : Memref sig .tc .vmem S2048x512 .bf16) (hP : P.IsWhole) (hR : R.IsWhole) (k : Fin 4) (n : Dev nD) (a b : Fin 57) : PG F PUnit :=
  sndP (cW P k) (cW R k) n a b (cW_we hP k) (cW_we hR k)
abbrev wtC (P R : Memref sig .tc .vmem S2048x512 .bf16) (hP : P.IsWhole) (hR : R.IsWhole) (w : Fin 57) (k : Fin 4) : PG F PUnit :=
  wtP w (cW R k) (cW P k) (cW_we hR k) (cW_we hP k)
abbrev wtA (A : Memref sig .tc .vmem S2x512x512 .bf16) (R : Memref sig .tc .vmem S2048x512 .bf16) (hA : A.IsWhole) (hR : R.IsWhole) (w : Fin 57) (j : Fin 2) (k : Fin 4) : PG F PUnit :=
  wtP w (cW R k) (aW A j) (cW_we hR k) (aW_we hA j)

def ring1 (c : Dev nD) : PG F PUnit := do
  fwd prM rrM (wh _) (wh _) c (nx c) 33 39
  fwd plM rlM (wh _) (wh _) c (pv c) 45 51
  accStep prM rrM arM (wh _) (wh _) 0 (pv c) (nx c) 39 34 40
  accStep plM rlM alM (wh _) (wh _) 0 (nx c) (pv c) 51 46 52
  accStep prM rrM arM (wh _) (wh _) 1 (op c) (nx c) 40 35 41
  accStep plM rlM alM (wh _) (wh _) 1 (op c) (pv c) 52 47 53
  finStep prM rrM (wh _) (nx c) 41
  finStep plM rlM (wh _) (pv c) 53
def ring2 (c : Dev nD) : PG F PUnit := do
  fwd rrM rrM (wh _) (wh _) (nx c) (nx c) 36 42
  fwd rlM rlM (wh _) (wh _) (pv c) (pv c) 48 54
  wtC rrM rrM (wh _) (wh _) 42 c
  fwd rrM rrM (wh _) (wh _) c (nx c) 37 43
  wtC rlM rlM (wh _) (wh _) 54 c
  fwd rlM rlM (wh _) (wh _) c (pv c) 49 55
  wtC rrM rrM (wh _) (wh _) 43 (pv c)
  fwd rrM rrM (wh _) (wh _) (pv c) (nx c) 38 44
  wtC rlM rlM (wh _) (wh _) 55 (nx c)
  fwd rlM rlM (wh _) (wh _) (nx c) (pv c) 50 56
  wtC rrM rrM (wh _) (wh _) 44 (op c)
  wtC rlM rlM (wh _) (wh _) 56 (op c)
def ring3 (c : Dev nD) : PG F PUnit := do
  wtC prM rrM (wh _) (wh _) 33 c
  wtC plM rlM (wh _) (wh _) 45 c
  wtA arM rrM (wh _) (wh _) 34 0 (pv c)
  wtA alM rlM (wh _) (wh _) 46 0 (nx c)
  wtA arM rrM (wh _) (wh _) 35 1 (op c)
  wtA alM rlM (wh _) (wh _) 47 1 (op c)
  wtC rrM rrM (wh _) (wh _) 36 (nx c)
  wtC rlM rlM (wh _) (wh _) 48 (pv c)
  wtC rrM rrM (wh _) (wh _) 37 c
  wtC rlM rlM (wh _) (wh _) 49 c
  wtC rrM rrM (wh _) (wh _) 38 (pv c)
  wtC rlM rlM (wh _) (wh _) 50 (nx c)

/-- A chunk of a ring's result goes to its place in the output. -/
def outSt (R : Memref sig .tc .vmem S2048x512 .bf16) (r : Fin 4) (j : Fin 2) : PG F PUnit := do
  let v ← cLd R r
  let _ : Vec F S1x512x512 .f32 ← Prog.lift (.load outM (oR r j).toLoadRect (View.loadsAt_vmem h_S1x512x512))
  Prog.lift (.store outM (oR r j) (shapeCast S1x512x512 (extf .f32 v bitsLt_bf16_f32 : FVec F S512x512 .f32) shapeCasts_S512x512_S1x512x512 : FVec F S1x512x512 .f32) Finset.univ (View.stores_vmem_bits_univ h_S1x512x512 rfl) (.inl rfl))

/-! ## The body -/

def whenP (p : Prop) [Decidable p] (P : PG F PUnit) : PG F PUnit := if p then P else pure ⟨⟩

def handshake (c : Dev nD) : PG F PUnit := do
  Prog.lift (.semSignal (Dev.tc (nx c)) barS 1)
  Prog.lift (.semSignal (Dev.tc (op c)) barS 1)
  Prog.lift (.semSignal (Dev.tc (pv c)) barS 1)
  Prog.lift (.semWait barS 3)

def fins : List (Fin 4) := [0, 1, 2, 3]
abbrev fourP (f : Fin 4 → PG F PUnit) : PG F PUnit := do
  f 0
  f 1
  f 2
  f 3

def head0 (c : Dev nD) : PG F PUnit := do
  handshake c
  whenP (c = 0) (fourP relayOut)
  whenP (c = 1) (do
    tailOut kH ktM (wh _) 23
    tailOut vH vtM (wh _) 24)
  whenP (c = 1) (do
    fourP (passOn 0 kM (wh _) 25 15 (by decide) (by decide))
    fourP (fun r => wtS kM (wh _) (cell 11 r) 0 r))

def loads1 : PG F PUnit := do
  wLoad qH wqM (wh _) 0
  wLoad qH wqM (wh _) 1
  fourP qRows
  wLoad oH woM (wh _) 0
  wLoad oH woM (wh _) 1

def rows1 (c : Dev nD) : PG F PUnit := do
  whenP (c = 0) (do
    fourP (fun r => rowsOut kH kM (wh _) r 15 (by decide))
    fourP (fun r => rowsOut vH vM (wh _) r 19 (by decide)))
  whenP (c ≠ 0) (fourP (fun r => wtR kM (wh _) (cell 15 r) r))
  whenP (c ≠ 1) (do
    wtP 23 tlM ktM (wh _).wordExact (wh _).wordExact
    wtP 24 tlM vtM (wh _).wordExact (wh _).wordExact)

abbrev vWait (c : Dev nD) (r : Fin 4) : PG F PUnit := whenP (c ≠ 0) (wtR vM (wh _) (cell 19 r) r)
abbrev blks (qb : Fin 7) : PG F PUnit := seqP (heads.map (blk qb))

/-- The relay of device 3, the weights and queries, the main rows, and the first query block. -/
def bodyB (c : Dev nD) : PG F PUnit := do
  whenP (c = 3) (do
    fourP (passOn 1 vM (wh _) 29 19 (by decide) (by decide))
    fourP (fun r => wtS vM (wh _) (cell 11 r) 1 r))
  loads1
  rows1 c
  vWait c 0
  blks 0
  vWait c 1

def tail1 (c : Dev nD) : PG F PUnit := do
  whenP (c = 0) (do
    fourP (fun r => wtS kM (wh _) (sCell 0 r) 0 r)
    fourP (fun r => wtS kM (wh _) (sCell 1 r) 1 r))
  ring1 c
  ring2 c
  ring3 c

def outs (r : Fin 4) : PG F PUnit := do
  outSt rrM r 0
  outSt rlM r 1

/-- The other query blocks, the projection, the rings, the output. -/
def bodyC (c : Dev nD) : PG F PUnit := do
  blks 1
  blks 2
  vWait c 2
  blks 3
  blks 4
  vWait c 3
  blks 5
  blks 6
  seqP (heads.map blk7)
  fourP oRows
  tail1 c
  fourP outs

def bodyM (c : Dev nD) : PG F PUnit := do
  head0 c
  bodyB c
  bodyC c

end Cert.Att
-- ==== Proof.Steps.lean ====
module

public import proofs.«01_k».proof.Proof.Proto

@[expose] public section

noncomputable section

namespace Cert.Att

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F] [Named F]

local notation "𝕄" => MT nD τ sig Unit (Elt F) ℕ UU ℕ

variable (C : Cont F)

/-! ## The cells' records, and what a device holds of each of its own cells -/

/-- The semaphores of the protocol: the barrier, then DMA cells 2 to 56. -/
def csem (j : Fin 56) : SemLoc sig := if j.val = 0 then .reg barS else .dma (⟨j.val + 1, by show _ < 57; omega⟩ : DmaSem sig)
abbrev kcell (x : Dev nD × Fin 56) : GSem nD τ sig := ((x.1 : Thread nD τ), csem x.2)

def cix (n : Fin 57) : Fin 56 := ⟨n.val - 1, by omega⟩
theorem kcell_cix (c : Dev nD) (n : Fin 57) (h : 2 ≤ n.val) : kcell (c, cix n) = dm c n := by
  unfold kcell csem cix
  dsimp only
  rw [if_neg (by omega)]
  congr 2
  exact Fin.ext (by show n.val - 1 + 1 = n.val; omega)
theorem kcell_zero (c : Dev nD) : kcell (c, 0) = bar c := rfl

def recs (K : Dev nD × Fin 56 → ℕ) : sProp 𝕄 :=
  iprop(bigSep Finset.univ (fun x => cellInv ER (Rd C) (K x) (kcell x)) ∗ bigSep Finset.univ (fun x => reached ER (kcell x) 0))
instance recs_persistent (K : Dev nD × Fin 56 → ℕ) : BI.Persistent (recs C K) := by unfold recs; infer_instance

variable (K : Dev nD × Fin 56 → ℕ)

theorem recs_cell (x : Dev nD × Fin 56) : recs C K ⊢ iprop(cellInv ER (Rd C) (K x) (kcell x) ∗ reached ER (kcell x) 0) := by
  unfold recs
  exact BI.sep_mono (BI.bigSep_elim (Finset.mem_univ x)) (BI.bigSep_elim (Finset.mem_univ x))

theorem recs_dm (c : Dev nD) (n : Fin 57) (h : 2 ≤ n.val) :
    recs C K ⊢ iprop(cellInv ER (Rd C) (K (c, cix n)) (dm c n) ∗ reached ER (dm c n) 0) := by
  have := recs_cell C K (c, cix n)
  rwa [kcell_cix c n h] at this
theorem recs_bar (c : Dev nD) : recs C K ⊢ iprop(cellInv ER (Rd C) (K (c, 0)) (bar c) ∗ reached ER (bar c) 0) := recs_cell C K (c, 0)

/-- The tokens of `k` rounds of a send cell from round `r` on. -/
def remTok (c : Dev nD) (n : Fin 57) (r : ℕ) : ℕ → sProp 𝕄
  | 0 => iprop(emp)
  | k + 1 => iprop(dutyTok ER (dm c n) r 0 ∗ remTok c n (r + 1) k)
/-- A cell of the device's own that nothing is in flight on: at round `r`, with the tokens of `k` rounds. -/
def SC (c : Dev nD) (n : Fin 57) (r k : ℕ) : sProp 𝕄 := iprop(atPos ER (dm c n) r ∅ 0 ∗ reached ER (dm c n) r ∗ remTok (F := F) c n r k)
/-- The same while a copy of round `r` is in flight on it. -/
def SF (c : Dev nD) (n : Fin 57) (r k : ℕ) : sProp 𝕄 :=
  iprop(atPos ER (dm c n) r ∅ 0 ∗ cred (tallyAt (dm c n) () (amt n.val)) ∗ remTok (F := F) c n (r + 1) k)

theorem owedL_cons (p : Duty) (l : List Duty) : owedL (p :: l) = owedL l + tallyAt (Duty.cell p) () p.2.2.1 := rfl
theorem toksL_cons (p : Duty) (l : List Duty) : (toksL (p :: l) : sProp 𝕄) = iprop(dutyTok ER (Duty.cell p) 0 p.2.2.2 ∗ toksL l) := rfl
theorem remTok_succ (c : Dev nD) (n : Fin 57) (r k : ℕ) : (remTok (F := F) c n r (k + 1)) = iprop(dutyTok ER (dm c n) r 0 ∗ remTok (F := F) c n (r + 1) k) := rfl

/-! ## Buffers -/

theorem pts_write {sp : Space} {s : Shape} {e : EltTy} (M : Memref sig .tc sp s e) (c : Dev nD)
    (f fd : Buf (Elt F) (M.view.loc (c : Thread nD τ))) (X) (h : M.view.read (Elt F) f = X) :
    pts M c (M.view.write (Elt F) fd X Finset.univ) ⊢ pts M c f := by
  refine Entails.of_eq (pointsTo_congr fun i hi => ?_)
  obtain ⟨x, -, rfl⟩ := Finset.mem_map.mp hi
  rw [View.write_emb_of_mem _ _ (Finset.mem_univ x), ← h, View.read_apply, cast_cast, cast_eq]

/-! ## A signal of the handshake, the wait, a copy to another device, a wait for a copy -/

theorem wp_sig {c n d : Dev nD} (hn : n = d) (hcd : c ≠ d) {l : List Duty} {W : Waits sig Unit} {α} {k : PUnit → Prog (TpuEff nD τ sig (Elt F) Λ₀ .tc) α} {Q} :
    iprop(recs C K ∗ owes (c : Thread nD τ) (owedL (dB c d :: l)) W ∗ toksL (dB c d :: l) ∗ barPay d c)
      ⊢ iprop(((owes (c : Thread nD τ) (owedL l) W ∗ toksL l) -∗ wp frame (wpE (defs₀ (F := F)) 𝒱₀ c none) Set.univ (k ⟨⟩) Q)
        -∗ wp frame (wpE (defs₀ (F := F)) 𝒱₀ c none) Set.univ (.op (.semSignal (Dev.tc n : Thread nD τ) barS 1) k) Q : sProp 𝕄) := by
  subst hn
  rw [toksL_cons]
  iintro ⟨#HR, HO, ⟨Ht, HT⟩, HP⟩
  ihave #Hb := (recs_bar C K n) $$ HR
  icases Hb with ⟨#Ib, #Rb⟩
  iintro Hk
  iapply (Rounds.wp_signal 𝒱₀ ER (Rd C) (c : Thread nD τ) none (dst := (n : Thread nD τ)) (κ := K (n, 0)) (r := 0)
      (d := c) (by rw [duties_bar]; exact Finset.mem_erase.mpr ⟨hcd, Finset.mem_univ _⟩) (amount_bar C n 0 c) () (owedL l) rfl)
    $$ [HO Ht HP]
  · isplitr; · iexact Ib
    isplitl [HO]; · iexact HO
    isplitl [Ht]; · iexact Ht
    isplitl [HP]; · rw [payload_bar]; iexact HP
    iexact Rb
  iintro HO
  iapply Hk
  isplitl [HO] <;> iassumption

/-- The wait of the handshake: the other three devices' landing buffers. -/
theorem wp_bar {c : Dev nD} {l : List Duty} {W : Waits sig Unit} {α} {k : PUnit → Prog (TpuEff nD τ sig (Elt F) Λ₀ .tc) α} {Q}
    (hlv : (l.all fun p => Nat.blt 1 (lvS p.2.1)) = true) :
    iprop(recs C K ∗ levAts L lv ∗ owes (c : Thread nD τ) (owedL l) W ∗ atPos ER (bar c) 0 ∅ 0 ∗ cred (tallyAt (bar c) () 3))
      ⊢ iprop(((owes (c : Thread nD τ) (owedL l) (insert (.reg barS, ()) W) ∗ bigSep (Finset.univ.erase c) (fun d => barPay c d) ∗ atPos ER (bar c) 1 ∅ 0)
            -∗ wp frame (wpE (defs₀ (F := F)) 𝒱₀ c none) Set.univ (k ⟨⟩) Q)
        -∗ wp frame (wpE (defs₀ (F := F)) 𝒱₀ c none) Set.univ (.op (.semWait barS 3) k) Q : sProp 𝕄) := by
  iintro ⟨#HR, #HL, HO, Hat, Hc⟩
  ihave #Hb := (recs_bar C K c) $$ HR
  icases Hb with ⟨#Ib, #Rb⟩
  iintro Hk
  iapply (Rounds.wp_wait_rest_token 𝒱₀ ER (Rd C) (c : Thread nD τ) none (κ := K (c, 0))
      (wpE_semWait_eq 𝒱₀ (c : Thread nD τ) none Set.univ) (Set.mem_univ _) () (O := owedL l) (W := W) (R := 0) (m := 0) (T := ∅)
      (by rw [expect_bar])) $$ [Hc HO Hat]
  · isplitr; · iexact Ib
    isplitl [Hc]; · iexact Hc
    isplitl [HO]; · iexact HO
    isplitr; · iapply (mayWait_list c (.reg barS) l hlv); iexact HL
    iexact Hat
  iintro ⟨HO, Hat, #Hr, Hp⟩
  ihave Hp := (Entails.of_eq (by rw [Finset.sdiff_empty, duties_bar] :
    bigSep ((Rd C).duties (bar c) 0 \ ∅) (fun d => (Rd C).payload (bar c) 0 d) = bigSep (Finset.univ.erase c) (fun d => (Rd C).payload (bar c) 0 d))) $$ Hp
  iapply Hk
  isplitl [HO]; · iexact HO
  isplitl [Hp]; · iexact Hp
  iexact Hat

attribute [local irreducible] amt dmaPay

theorem wp_snd {sp sp' : Space} {s : Shape} {e : EltTy} {c c' n : Dev nD} (hn : n = c') {a b : Fin 57} {r j : ℕ} {l : List Duty} {W : Waits sig Unit}
    (src : Memref sig .tc sp s e) (dst : Memref sig .tc sp' s e) {fs : Buf (Elt F) (src.view.loc (c : Thread nD τ))} (X : sProp 𝕄)
    {hsc hsrc hdst hsem} {α} {k : PUnit → Prog (TpuEff nD τ sig (Elt F) Λ₀ .tc) α} {Q}
    (ha : 2 ≤ a.val) (hb : 2 ≤ b.val) (hra : r < nR c a.val) (hrb : 0 < nR c' b.val)
    (hNa : dst.view.dmaCredit = amt a.val) (hNb : dst.view.dmaCredit = amt b.val)
    (hs : pts src c fs ⊢ dmaPay C c a.val r)
    (hp : ∀ fd, iprop(pts dst c' (dst.view.write (Elt F) fd (src.view.read (Elt F) fs) Finset.univ) ∗ X) ⊢ dmaPay C c' b.val 0) :
    iprop(recs C K ∗ pts src c fs ∗ anyP dst c' ∗ X ∗ owes (c : Thread nD τ) (owedL (dC c' b :: l)) W ∗ toksL (dC c' b :: l) ∗ SC c a r (j + 1))
      ⊢ iprop(((owes (c : Thread nD τ) (owedL l) W ∗ toksL l ∗ SF c a r j) -∗ wp frame (wpE (defs₀ (F := F)) 𝒱₀ c none) Set.univ (k ⟨⟩) Q)
        -∗ wp frame (wpE (defs₀ (F := F)) 𝒱₀ c none) Set.univ
          (.op (.enqueueDma src (.remote (Dev.tc n : Thread nD τ) dst (.dma (a : DmaSem sig)) hsc) (.dma (b : DmaSem sig)) hsrc hdst hsem) k) Q : sProp 𝕄) := by
  subst hn
  have hO : owedL (dC n b :: l) = owedL l + tallyAt ((n : Thread nD τ), (.dma (b : DmaSem sig) : SemLoc sig)) () (amt a.val) := by
    rw [owedL_cons, ← hNa, hNb]
  rw [toksL_cons]
  unfold SC SF
  rw [remTok_succ]
  iintro ⟨#HR, Hs, ⟨%fd, Hd⟩, HX, HO, HT, HS⟩
  ihave #Ha := (recs_dm C K c a ha) $$ HR
  ihave #Hb := (recs_dm C K n b hb) $$ HR
  icases Ha with ⟨#Ia, #Ra⟩
  icases Hb with ⟨#Ib, #Rb⟩
  icases HT with ⟨Ht, HT⟩
  icases HS with ⟨Hat, #Hr, Htk, Hrem⟩
  iintro Hk
  iapply (Rounds.wp_send_pointsTo_with 𝒱₀ ER (Rd C) (c : Thread nD τ) none (κ₁ := K (c, cix a)) (κ₂ := K (n, cix b)) (F := X) (sS := .dma (a : DmaSem sig)) (sem := .dma (b : DmaSem sig))
    (r₁ := r) (r₂ := 0) (d₁ := 0) (d₂ := 0) (fd := fd) (fs := fs) (q := fullShare)
    (by rw [duties_dm C hra]; exact Finset.mem_singleton_self _) (by rw [duties_dm C hrb]; exact Finset.mem_singleton_self _)
    () () (amt a.val) hNa (amount_dm C c a r 0) ((amount_dm C n b 0 0).trans (hNb.symm.trans hNa)) (owedL l) hO (W := W) hs (hp fd)) $$ [Hs Hd HX HO Ht Htk]
  · isplitr; · iexact Ia
    isplitr; · iexact Ib
    isplitl [Hs]; · iexact Hs
    isplitl [Hd HX]
    · isplitl [Hd]; · iexact Hd
      iexact HX
    isplitl [HO]; · iexact HO
    isplitl [Htk]; · iexact Htk
    isplitr; · iexact Hr
    isplitl [Ht]; · iexact Ht
    iexact Rb
  iintro ⟨Hc, HO⟩
  iapply Hk
  isplitl [HO]; · iexact HO
  isplitl [HT]; · iexact HT
  isplitl [Hat]; · iexact Hat
  isplitl [Hc]; · iexact Hc
  iexact Hrem

theorem wp_wt {sp sp' : Space} {s s' : Shape} {e e' : EltTy} {c : Dev nD} {a : Fin 57} {r j : ℕ} {l : List Duty} {W : Waits sig Unit}
    {src : Memref sig .tc sp' s' e'} {κ' : Kind} {dst : Memref sig κ' sp s e} {hsrc hdst} {α} {k : PUnit → Prog (TpuEff nD τ sig (Elt F) Λ₀ .tc) α} {Q}
    (ha : 2 ≤ a.val) (hra : r < nR c a.val) (hN : dst.view.dmaCredit = amt a.val)
    (hlv : (l.all fun p => Nat.blt (lvS (.dma (a : DmaSem sig))) (lvS p.2.1)) = true) :
    iprop(recs C K ∗ levAts L lv ∗ owes (c : Thread nD τ) (owedL l) W ∗ SF c a r j)
      ⊢ iprop(((owes (c : Thread nD τ) (owedL l) (insert (.dma (a : DmaSem sig), ()) W) ∗ dmaPay C c a.val r ∗ SC c a (r + 1) j)
            -∗ wp frame (wpE (defs₀ (F := F)) 𝒱₀ c none) Set.univ (k ⟨⟩) Q)
        -∗ wp frame (wpE (defs₀ (F := F)) 𝒱₀ c none) Set.univ (.op (.waitDma2 (a : DmaSem sig) src dst hsrc hdst) k) Q : sProp 𝕄) := by
  unfold SF SC
  iintro ⟨#HR, #HL, HO, HS⟩
  ihave #Ha := (recs_dm C K c a ha) $$ HR
  icases Ha with ⟨#Ia, #Ra⟩
  icases HS with ⟨Hat, Hc, Hrem⟩
  iintro Hk
  iapply (Rounds.wp_wait_rest_token 𝒱₀ ER (Rd C) (c : Thread nD τ) none (κ := K (c, cix a))
      (wpE_waitDma2_eq 𝒱₀ (c : Thread nD τ) none Set.univ) (Set.mem_univ _) () (O := owedL l) (W := W) (R := r) (m := 0) (T := ∅)
      (by rw [Nat.zero_add, expect_dm C hra, hN])) $$ [Hc HO Hat]
  · isplitr; · iexact Ia
    isplitl [Hc]; · rw [hN]; iexact Hc
    isplitl [HO]; · iexact HO
    isplitr; · iapply (mayWait_list c _ l hlv); iexact HL
    iexact Hat
  iintro ⟨HO, Hat, #Hr, Hp⟩
  ihave Hp := (Entails.of_eq (rest_dm C hra)) $$ Hp
  iapply Hk
  isplitl [HO]; · iexact HO
  isplitl [Hp]; · iexact Hp
  isplitl [Hat]; · iexact Hat
  isplitr; · iexact Hr
  iexact Hrem

end Cert.Att
-- ==== Proof.Ops.lean ====
module

public import proofs.«01_k».proof.Proof.Macro
public import proofs.«01_k».proof.Proof.Steps
public import Idealize.ShloMosaic.Lib.Pipeline.Value
public import Idealize.ShloMosaic.Lib.Pipeline.ValueKit.Geometry

@[expose] public section

noncomputable section

namespace Cert.Att

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F] [Named F]

local notation "𝕄" => MT nD τ sig Unit (Elt F) ℕ UU ℕ

open Idealize.ShloMosaic.ValueKit
/-! ## What the windows read -/

section Reads
omit [FloatOps F] [Named F]

theorem read_slice {sp : Space} {s : Shape} {e : EltTy} (M : Memref sig .tc sp s e) (r : Rect s) (hr) (f) :
    (M.slice r hr).view.read (Elt F) f = fun x => M.view.read (Elt F) f (r.emb x) := rfl
theorem read_access {sp : Space} {s : Shape} {e : EltTy} (M : Memref sig .tc sp s e) (r : Rect s) (f) :
    (M.access r).read (Elt F) f = fun x => M.view.read (Elt F) f (r.emb x) := rfl
theorem set_squeeze {sp : Space} {s t : Shape} {e : EltTy} (M : Memref sig .tc sp s e) (h) : (M.squeeze t h).view.set = M.view.set := View.set_reshape ..

theorem lt512 {n : ℕ} (x : Fin 512) (r : Fin 4) (h : n = 2048 := by rfl) : 512 * r.val + x.val < n := by omega

theorem cR_emb (k : Fin 4) (x) : (cR k).emb x = ix2 ⟨512 * k.val + (x 0).val, lt512 (x 0) k⟩ (x 1) := by
  funext a
  match a with
  | 0 => exact Fin.ext (rect_emb_unit_val _ _ _ x 0)
  | 1 => exact Fin.ext ((rect_emb_unit_val _ _ _ x 1).trans (Nat.zero_add _))
theorem pR_emb (k : Fin 4) (x) : (pR k).emb x = ix2 ⟨512 * k.val + (x 0).val, lt512 (x 0) k⟩ (x 1) := by
  funext a
  match a with
  | 0 => exact Fin.ext (rect_emb_unit_val _ _ _ x 0)
  | 1 => exact Fin.ext ((rect_emb_unit_val _ _ _ x 1).trans (Nat.zero_add _))
theorem wR_emb (k : Fin 2) (x) : (wR k).emb x = ix2 ⟨512 * k.val + (x 0).val, by have : (x 0).val < 512 := (x 0).isLt; omega⟩ (x 1) := by
  funext a
  match a with
  | 0 => exact Fin.ext (rect_emb_unit_val _ _ _ x 0)
  | 1 => exact Fin.ext ((rect_emb_unit_val _ _ _ x 1).trans (Nat.zero_add _))
theorem rR_emb (k : Fin 4) (x) : (rR k).emb x = ix3 ⟨512 * k.val + (x 0).val, lt512 (x 0) k⟩ (x 1) (x 2) := by
  funext a
  match a with
  | 0 => exact Fin.ext (rect_emb_unit_val _ _ _ x 0)
  | 1 => exact Fin.ext ((rect_emb_unit_val _ _ _ x 1).trans (Nat.zero_add _))
  | 2 => exact Fin.ext ((rect_emb_unit_val _ _ _ x 2).trans (Nat.zero_add _))

theorem sW_read (b : Fin 2) (r : Fin 4) (f x) : (sW b r).view.read (Elt F) f x = f (ix4 b ⟨512 * r.val + (x 0).val, lt512 (x 0) r⟩ (x 1) (x 2)) := by
  rw [Memref.read_squeeze_slice _ _ _ _ shapeCasts_S1x512x8x128_S512x8x128]
  refine (shapeCast_dropUnit_apply _ _ _ x).trans (congrArg f ?_)
  funext a
  match a with
  | 0 => exact Fin.ext (rect_emb_unit_val _ _ _ _ 0)
  | 1 => exact Fin.ext (rect_emb_unit_val _ _ _ _ 1)
  | 2 => exact Fin.ext ((rect_emb_unit_val _ _ _ _ 2).trans (Nat.zero_add _))
  | 3 => exact Fin.ext ((rect_emb_unit_val _ _ _ _ 3).trans (Nat.zero_add _))

theorem hW_read (H : Memref sig .tc .hbm S1x2048x32x128 .f32) (r d : Fin 4) (f x) :
    (hW H r d).view.read (Elt F) f x = H.view.read (Elt F) f (ix4 0 ⟨512 * r.val + (x 0).val, lt512 (x 0) r⟩
      ⟨8 * d.val + (x 1).val, by have : (x 1).val < 8 := (x 1).isLt; omega⟩ (x 2)) := by
  rw [Memref.read_squeeze_slice _ _ _ _ shapeCasts_S1x512x8x128_S512x8x128]
  refine (shapeCast_dropUnit_apply _ _ _ x).trans (congrArg (H.view.read (Elt F) f) ?_)
  funext a
  match a with
  | 0 => exact Fin.ext (rect_emb_unit_val _ _ _ _ 0)
  | 1 => exact Fin.ext (rect_emb_unit_val _ _ _ _ 1)
  | 2 => exact Fin.ext (rect_emb_unit_val _ _ _ _ 2)
  | 3 => exact Fin.ext ((rect_emb_unit_val _ _ _ _ 3).trans (Nat.zero_add _))
theorem tW_read (H : Memref sig .tc .hbm S1x2048x32x128 .f32) (f x) :
    (tW H).view.read (Elt F) f x = H.view.read (Elt F) f (ix4 0 ⟨(x 0).val, by have : (x 0).val < 128 := (x 0).isLt; omega⟩ (x 1) (x 2)) := by
  rw [Memref.read_squeeze_slice _ _ _ _ (by decide)]
  refine (shapeCast_dropUnit_apply _ _ _ x).trans (congrArg (H.view.read (Elt F) f) ?_)
  funext a
  match a with
  | 0 => exact Fin.ext (rect_emb_unit_val _ _ _ _ 0)
  | 1 => exact Fin.ext ((rect_emb_unit_val _ _ _ _ 1).trans (Nat.zero_add _))
  | 2 => exact Fin.ext ((rect_emb_unit_val _ _ _ _ 2).trans (Nat.zero_add _))
  | 3 => exact Fin.ext ((rect_emb_unit_val _ _ _ _ 3).trans (Nat.zero_add _))
theorem xW_read (r : Fin 4) (f x) : (xW r).view.read (Elt F) f x = f (ix3 0 ⟨512 * r.val + (x 0).val, lt512 (x 0) r⟩ (x 1)) := by
  rw [Memref.read_squeeze_slice _ _ _ _ (show S1x512x1024.ShapeCasts S512x1024 by decide)]
  refine (shapeCast_dropUnit_apply _ _ _ x).trans (congrArg f ?_)
  funext a
  match a with
  | 0 => exact Fin.ext (rect_emb_unit_val _ _ _ _ 0)
  | 1 => exact Fin.ext (rect_emb_unit_val _ _ _ _ 1)
  | 2 => exact Fin.ext ((rect_emb_unit_val _ _ _ _ 2).trans (Nat.zero_add _))
end Reads

/-! ## Contents -/

/-- What a device starts from, and the values that the program makes of it. -/
structure Inp (F : FTy → Type) where
  X : Dev nD → Vec F S1x2048x1024 .f32
  Q : Dev nD → Vec F S1024x1024 .f32
  K : Dev nD → Vec F S1x2048x32x128 .f32
  V : Dev nD → Vec F S1x2048x32x128 .f32
  O : Dev nD → Vec F S1024x1024 .f32

variable (I : Inp F)

def rnd {s : Shape} (v : FVec F s .f32) : FVec F s .bf16 := truncf .bf16 v bitsLt_bf16_f32
/-- Device `d`'s heads of 2048 rows, and of the first 128. -/
def headsOf (A : Vec F S1x2048x32x128 .f32) (d : Dev nD) : FVec F S2048x8x128 .bf16 := fun i =>
  rnd A (ix4 0 (i 0) ⟨8 * d.val + (i 1).val, by have : (i 1).val < 8 := (i 1).isLt; have : d.val < 4 := d.isLt; omega⟩ (i 2))
def tailOf (A : Vec F S1x2048x32x128 .f32) (d : Dev nD) : FVec F S128x8x128 .bf16 := fun i =>
  rnd A (ix4 0 ⟨(i 0).val, by have : (i 0).val < 128 := (i 0).isLt; omega⟩ ⟨8 * d.val + (i 1).val, by have : (i 1).val < 8 := (i 1).isLt; have : d.val < 4 := d.isLt; omega⟩ (i 2))
def Inp.WQ (c : Dev nD) : FVec F S1024x1024 .bf16 := rnd (I.Q c)
def Inp.WO (c : Dev nD) : FVec F S1024x1024 .bf16 := rnd (I.O c)

/-- A tall array given by its four blocks of 512 rows. -/
def tall {α : Type} (f : Fin 4 → S512x1024.Idx → α) : S2048x1024.Idx → α := fun i =>
  f ⟨(i 0).val / 512, by have : (i 0).val < 2048 := (i 0).isLt; omega⟩ (ix2 ⟨(i 0).val % 512, Nat.mod_lt _ (by decide)⟩ (i 1))
def tallH {α : Type} (f : Fin 4 → S512x512.Idx → α) : S2048x512.Idx → α := fun i =>
  f ⟨(i 0).val / 512, by have : (i 0).val < 2048 := (i 0).isLt; omega⟩ (ix2 ⟨(i 0).val % 512, Nat.mod_lt _ (by decide)⟩ (i 1))
def rowsX (A : Vec F S1x2048x1024 .f32) (r : Fin 4) : Vec F S512x1024 .f32 := fun x => A (ix3 0 ⟨512 * r.val + (x 0).val, lt512 (x 0) r⟩ (x 1))
def rowsC (A : Vec F S2048x1024 .bf16) (r : Fin 4) : Vec F S512x1024 .bf16 := fun x => A (ix2 ⟨512 * r.val + (x 0).val, lt512 (x 0) r⟩ (x 1))
def Inp.QB (c : Dev nD) : FVec F S2048x1024 .bf16 := tall fun r => qproj (rowsX (I.X c) r) (I.WQ c)

theorem tall_rows {α : Type} (f : Fin 4 → S512x1024.Idx → α) (r : Fin 4) (x : S512x1024.Idx) : tall f ((pR r).emb x) = f r x := by
  have h : (x 0).val < 512 := (x 0).isLt
  rw [pR_emb]
  unfold tall
  refine congrArg₂ f (Fin.ext (by show (512 * r.val + (x 0).val) / 512 = r.val; omega)) (funext fun a => ?_)
  match a with
  | 0 => exact Fin.ext (by show (512 * r.val + (x 0).val) % 512 = (x 0).val; omega)
  | 1 => rfl
theorem tallH_rows {α : Type} (f : Fin 4 → S512x512.Idx → α) (r : Fin 4) (x : S512x512.Idx) : tallH f ((cR r).emb x) = f r x := by
  have h : (x 0).val < 512 := (x 0).isLt
  rw [cR_emb]
  unfold tallH
  refine congrArg₂ f (Fin.ext (by show (512 * r.val + (x 0).val) / 512 = r.val; omega)) (funext fun a => ?_)
  match a with
  | 0 => exact Fin.ext (by show (512 * r.val + (x 0).val) % 512 = (x 0).val; omega)
  | 1 => rfl

end Cert.Att
-- ==== Proof.Hoare.lean ====
module

public import proofs.«01_k».proof.Proof.Ops

@[expose] public section

noncomputable section

namespace Cert.Att

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F] [Named F]

local notation "𝕄" => MT nD τ sig Unit (Elt F) ℕ UU ℕ

variable (C : Cont F) (K : Dev nD × Fin 56 → ℕ)

/-! ## Triples in continuation form -/

abbrev WP (c : Dev nD) {α : Type} (p : Prog (TpuEff nD τ sig (Elt F) Λ₀ .tc) α) (Φ : α → sProp 𝕄) : sProp 𝕄 :=
  wp frame (wpE (defs₀ (F := F)) 𝒱₀ c none) Set.univ p Φ

/-- Holding `P`, device `c` runs `p` and then holds `Q`. -/
def Tr (c : Dev nD) (P : sProp 𝕄) (p : PG F PUnit) (Q : sProp 𝕄) : Prop := ∀ Φ, P ⊢ iprop((Q -∗ Φ ⟨⟩) -∗ WP c p Φ)

variable {c : Dev nD} {P P' Q Q' R R' : sProp (MT nD τ sig Unit (Elt F) ℕ UU ℕ)} {p p' : PG F PUnit}

theorem Tr.bind (h : Tr c P p Q) (h' : Tr c Q p' R) : Tr c P (p >>= fun _ => p') R := fun Φ => by
  show P ⊢ iprop((R -∗ Φ ⟨⟩) -∗ wp frame (wpE (defs₀ (F := F)) 𝒱₀ c none) Set.univ (p >>= fun _ => p') Φ)
  rw [wp_bind]
  iintro HP Hk
  iapply (h (fun _ => WP c p' Φ)) $$ HP
  iintro HQ
  iapply (h' Φ) $$ HQ
  iexact Hk
theorem Tr.skip (h : P ⊢ Q) : Tr c P (pure ⟨⟩) Q := fun Φ => by
  show P ⊢ iprop((Q -∗ Φ ⟨⟩) -∗ wp frame (wpE (defs₀ (F := F)) 𝒱₀ c none) Set.univ (pure ⟨⟩) Φ)
  rw [wp_pure]
  iintro HP Hk
  imodintro
  iapply Hk
  iapply h $$ HP
theorem Tr.frame (R : sProp 𝕄) (h : Tr c P p Q) : Tr c iprop(P ∗ R) p iprop(Q ∗ R) := fun Φ => by
  iintro ⟨HP, HR⟩ Hk
  iapply (h Φ) $$ HP
  iintro HQ
  iapply Hk
  isplitl [HQ] <;> iassumption
theorem Tr.conseq (h : Tr c P p Q) (h1 : P' ⊢ P) (h2 : Q ⊢ Q') : Tr c P' p Q' := fun Φ => by
  iintro HP Hk
  ihave HP := h1 $$ HP
  iapply (h Φ) $$ HP
  iintro HQ
  iapply Hk
  iapply h2 $$ HQ
theorem Tr.pre (h : Tr c P p Q) (h1 : P' ⊢ P) : Tr c P' p Q := h.conseq h1 .rfl
theorem Tr.post (h : Tr c P p Q) (h2 : Q ⊢ Q') : Tr c P p Q' := h.conseq .rfl h2

theorem Tr.when_true {q : Prop} [Decidable q] (hq : q) (h : Tr c P p Q) : Tr c P (whenP q p) Q := by
  unfold whenP; rw [if_pos hq]; exact h
theorem Tr.when_false {q : Prop} [Decidable q] (hq : ¬ q) : Tr c P (whenP q p) P := by
  unfold whenP; rw [if_neg hq]; exact Tr.skip .rfl

/-- A list of programs keeps up an invariant that counts them. -/
theorem Tr.seq {β : Type} (f : β → PG F PUnit) (S : ℕ → sProp 𝕄) (l : List β) (n : ℕ)
    (h : ∀ i : Fin l.length, Tr c (S (n + i.val)) (f l[i]) (S (n + i.val + 1))) : Tr c (S n) (seqP (l.map f)) (S (n + l.length)) := by
  induction l generalizing n with
  | nil => exact Tr.skip .rfl
  | cons b l ih =>
    refine Tr.bind (h ⟨0, Nat.succ_pos _⟩) ?_
    have := ih (n + 1) fun i => by
      have := h i.succ
      simpa [Nat.add_assoc, Nat.add_comm 1] using this
    simpa [Nat.add_assoc, Nat.add_comm 1] using this

/-! ## What a device holds throughout -/

/-- What the device owes and the tokens for it, and the semaphore of its own copies. -/
def TS (c : Dev nD) (l : List Duty) : sProp 𝕄 := iprop(∃ W, owes (c : Thread nD τ) (owedL l) W ∗ toksL (F := F) l ∗ semVal (dm c 1) 0)
def PC : sProp 𝕄 := iprop(recs C K ∗ levAts L lv)
instance PC_persistent : BI.Persistent (PC C K) := by unfold PC; infer_instance

abbrev okL (v : ℕ) (l : List Duty) : Prop := (l.all fun p => Nat.blt v (lvS p.2.1)) = true

/-! ## Windows and what they read -/

/-- The elements of a window, which reads `X`. -/
def own {sp : Space} {s : Shape} {e : EltTy} (M : Memref sig .tc sp s e) (c : Dev nD) (X : s.Idx → Elt F e) : sProp 𝕄 :=
  iprop(∃ f : Buf (Elt F) (M.view.loc (c : Thread nD τ)), ⌜M.view.read (Elt F) f = X⌝ ∗ pts M c f)

section
variable {sp : Space} {s s' : Shape} {e : EltTy} (M : Memref sig .tc sp s e)

theorem pts_squeeze (hq : s.Squeezes s') (f : Buf (Elt F) (M.view.loc (c : Thread nD τ))) :
    pts (M.squeeze s' hq) c f = pts M c f :=
  congrArg (fun S : Finset (Idx (M.view.loc (c : Thread nD τ))) => (M.view.loc (c : Thread nD τ) ↦[S]{fullShare} f : sProp 𝕄)) (set_squeeze M hq)
theorem own_any (X : s.Idx → Elt F e) : own M c X ⊢ anyP M c := by
  unfold own
  iintro ⟨%f, %hf, H⟩
  iexists f
  iexact H
theorem own_intro {f : Buf (Elt F) (M.view.loc (c : Thread nD τ))} {X : s.Idx → Elt F e} (h : M.view.read (Elt F) f = X) : pts M c f ⊢ own M c X := by
  unfold own
  iintro H
  iexists f
  isplitr; · ipureintro; exact h
  iexact H
theorem any_own : anyP M c ⊢ iprop(∃ X : s.Idx → Elt F e, own M c X) := by
  iintro ⟨%f, H⟩
  iexists M.view.read (Elt F) f
  iapply (own_intro M rfl) $$ H
theorem own_pts {f : Buf (Elt F) (M.view.loc (c : Thread nD τ))} {X : s.Idx → Elt F e} (h : M.view.read (Elt F) f = X) : own M c X ⊢ pts M c f := by
  unfold own
  iintro ⟨%g, %hg, H⟩
  iapply (Entails.of_eq (pointsTo_congr (f := g) (g := f) fun i hi => ?_)) $$ H
  obtain ⟨x, -, rfl⟩ := Finset.mem_map.mp hi
  have := congrFun (hg.trans h.symm) x
  rw [View.read_apply, View.read_apply] at this
  exact (cast_inj _).mp this
theorem own_eq {X Y : s.Idx → Elt F e} (h : X = Y) : own M c X ⊢ own M c Y := Entails.of_eq (by rw [h])
end

/-! ## Loads and stores -/

section
variable {s : Shape} {e : EltTy} {M : Memref sig .tc .vmem s e} {r : Rect s}

theorem wp_ld {S : Finset (Idx (M.view.loc (c : Thread nD τ)))} {f : Buf (Elt F) (M.view.loc (c : Thread nD τ))} {hl : M.view.LoadsAt r.toLoadRect}
    {Ψ : (r.shape.Idx → Elt F e) → sProp 𝕄} (hS : (M.access r).set ⊆ S) :
    (M.view.loc (c : Thread nD τ) ↦[S]{fullShare} f)
      ⊢ iprop(((M.view.loc (c : Thread nD τ) ↦[S]{fullShare} f) -∗ Ψ (fun x => M.view.read (Elt F) f (r.emb x))) -∗ WP c (Prog.lift (.load (cs := .vmem) M r.toLoadRect hl)) Ψ) := by
  iintro H Hk
  iapply (wp_load_rect (cs := .vmem) (m := M) 𝒱₀ (c : Thread nD τ) none Set.univ (k := Prog.ret) hS) $$ H
  iintro H
  rw [wp_ret]
  imodintro
  rw [← read_access M r f]
  iapply Hk
  iexact H

theorem wp_ldW {h} {hl : M.view.LoadsAt r.toLoadRect} {X : r.shape.Idx → Elt F e} {Ψ : (r.shape.Idx → Elt F e) → sProp 𝕄} :
    own (M.slice r h) c X ⊢ iprop((own (M.slice r h) c X -∗ Ψ X) -∗ WP c (Prog.lift (.load (cs := .vmem) M r.toLoadRect hl)) Ψ) := by
  unfold own
  iintro ⟨%f, %hf, H⟩ Hk
  iapply (wp_ld (M := M) (r := r) (c := c) (S := (M.slice r h).view.set) (f := f) subset_rfl) $$ H
  iintro H
  rw [show (fun x => M.view.read (Elt F) f (r.emb x)) = X from hf]
  iapply Hk
  iexists f
  isplitr; · ipureintro; exact hf
  iexact H

/-- A load of the whole of a memref's shape. -/
theorem wp_ldF {hl : M.view.LoadsAt r.toLoadRect} {X : s.Idx → Elt F e} {Ψ : (r.shape.Idx → Elt F e) → sProp 𝕄} :
    own M c X ⊢ iprop((own M c X -∗ Ψ (fun x => X (r.emb x))) -∗ WP c (Prog.lift (.load (cs := .vmem) M r.toLoadRect hl)) Ψ) := by
  unfold own
  iintro ⟨%f, %hf, H⟩ Hk
  iapply (wp_ld (M := M) (r := r) (c := c) (S := M.view.set) (f := f) (View.set_slice_subset _ _)) $$ H
  iintro H
  rw [hf]
  iapply Hk
  iexists f
  isplitr; · ipureintro; exact hf
  iexact H

theorem wp_st {S : Finset (Idx (M.view.loc (c : Thread nD τ)))} {f : Buf (Elt F) (M.view.loc (c : Thread nD τ))} {w : r.shape.Idx → Elt F e} {hx : (M.access r).Stores Finset.univ} {hm}
    {Ψ : PUnit → sProp 𝕄} (hS : (M.access r).set ⊆ S) :
    (M.view.loc (c : Thread nD τ) ↦[S]{fullShare} f)
      ⊢ iprop(((M.view.loc (c : Thread nD τ) ↦[S]{fullShare} ((M.access r).write (Elt F) f w Finset.univ)) -∗ Ψ ⟨⟩) -∗ WP c (Prog.lift (.store (cs := .vmem) M r w Finset.univ hx hm)) Ψ) := by
  iintro H Hk
  iapply (wp_store (cs := .vmem) (m := M) (r := r) (w := w) (Mk := Finset.univ) 𝒱₀ (c : Thread nD τ) none Set.univ (k := Prog.ret) hS) $$ H
  iintro H
  rw [wp_ret]
  imodintro
  iapply Hk
  iexact H

/-- The program's way of storing into a window: it loads the window first. -/
theorem wp_stW {h} {hl : M.view.LoadsAt r.toLoadRect} {w : r.shape.Idx → Elt F e} {hx : (M.access r).Stores Finset.univ} {hm} {Ψ : PUnit → sProp 𝕄} :
    anyP (M.slice r h) c ⊢ iprop((own (M.slice r h) c w -∗ Ψ ⟨⟩)
      -∗ WP c (Prog.lift (.load (cs := .vmem) M r.toLoadRect hl)) (fun _ => WP c (Prog.lift (.store (cs := .vmem) M r w Finset.univ hx hm)) Ψ)) := by
  iintro ⟨%f, H⟩ Hk
  iapply (wp_ld (M := M) (r := r) (c := c) (S := (M.slice r h).view.set) (f := f) subset_rfl) $$ H
  iintro H
  iapply (wp_st (M := M) (r := r) (c := c) (S := (M.slice r h).view.set) (f := f) (w := w) subset_rfl) $$ H
  iintro H
  iapply Hk
  iapply (own_intro (M.slice r h)) $$ H
  exact View.read_write_univ _ _

/-- The same for a window seen without its unit axes. -/
theorem wp_stS {h} {s' : Shape} {hq : r.shape.Squeezes s'} {hl : M.view.LoadsAt r.toLoadRect} {w : r.shape.Idx → Elt F e} {hx : (M.access r).Stores Finset.univ} {hm} {Ψ : PUnit → sProp 𝕄}
    (hc : r.shape.ShapeCasts s') {V : s'.Idx → Elt F e} (hV : shapeCast s' w hc = V) :
    anyP ((M.slice r h).squeeze s' hq) c ⊢ iprop((own ((M.slice r h).squeeze s' hq) c V -∗ Ψ ⟨⟩)
      -∗ WP c (Prog.lift (.load (cs := .vmem) M r.toLoadRect hl)) (fun _ => WP c (Prog.lift (.store (cs := .vmem) M r w Finset.univ hx hm)) Ψ)) := by
  iintro ⟨%f, H⟩ Hk
  ihave H := (Entails.of_eq (pts_squeeze (M.slice r h) hq f)) $$ H
  iapply (wp_ld (M := M) (r := r) (c := c) (S := (M.slice r h).view.set) (f := f) subset_rfl) $$ H
  iintro H
  iapply (wp_st (M := M) (r := r) (c := c) (S := (M.slice r h).view.set) (f := f) (w := w) subset_rfl) $$ H
  iintro H
  iapply Hk
  unfold own
  iexists (M.access r).write (Elt F) f w Finset.univ
  isplitr
  · ipureintro
    rw [Memref.read_squeeze_slice M r h hq hc, ← hV]
    congr 1
    exact View.read_write_univ _ _
  · iapply (Entails.of_eq (pts_squeeze (M.slice r h) hq _).symm) $$ H
end

/-! ## A buffer filled piece by piece -/

/-- A whole buffer whose elements are those of `G` where `P` holds. -/
def part {s : Shape} {e : EltTy} (M : Memref sig .tc .vmem s e) (c : Dev nD) (P : s.Idx → Prop) (G : s.Idx → Elt F e) : sProp 𝕄 :=
  iprop(∃ f : Buf (Elt F) (M.view.loc (c : Thread nD τ)), ⌜∀ i, P i → M.view.read (Elt F) f i = G i⌝ ∗ pts M c f)

section
variable {s : Shape} {e : EltTy} {M : Memref sig .tc .vmem s e} {r : Rect s} {A B : s.Idx → Prop} {G : s.Idx → Elt F e}

theorem any_part (h : ∀ i, ¬ A i) : anyP M c ⊢ part M c A G := by
  unfold part
  iintro ⟨%f, H⟩
  iexists f
  isplitr; · ipureintro; exact fun i hi => absurd hi (h i)
  iexact H
theorem part_own (h : ∀ i, A i) : part M c A G ⊢ own M c G := by
  unfold part own
  iintro ⟨%f, %hf, H⟩
  iexists f
  isplitr; · ipureintro; exact funext fun i => hf i (h i)
  iexact H
theorem part_mono (h : ∀ i, B i → A i) : part M c A G ⊢ part M c B G := by
  unfold part
  iintro ⟨%f, %hf, H⟩
  iexists f
  isplitr; · ipureintro; exact fun i hi => hf i (h i hi)
  iexact H

theorem wp_stP {hl : M.view.LoadsAt r.toLoadRect} {w : r.shape.Idx → Elt F e} {hx : (M.access r).Stores Finset.univ} {hm} {Ψ : PUnit → sProp 𝕄}
    (hin : ∀ x, w x = G (r.emb x)) (hout : ∀ i, B i → (∃ x, i = r.emb x) ∨ A i) :
    part M c A G ⊢ iprop((part M c B G -∗ Ψ ⟨⟩)
      -∗ WP c (Prog.lift (.load (cs := .vmem) M r.toLoadRect hl)) (fun _ => WP c (Prog.lift (.store (cs := .vmem) M r w Finset.univ hx hm)) Ψ)) := by
  unfold part
  iintro ⟨%f, %hf, H⟩ Hk
  iapply (wp_ld (M := M) (r := r) (c := c) (S := M.view.set) (f := f) (View.set_slice_subset _ _)) $$ H
  iintro H
  iapply (wp_st (M := M) (r := r) (c := c) (S := M.view.set) (f := f) (w := w) (View.set_slice_subset _ _)) $$ H
  iintro H
  iapply Hk
  iexists (M.access r).write (Elt F) f w Finset.univ
  isplitr
  · ipureintro
    intro i hi
    by_cases hx : ∃ x, i = r.emb x
    · obtain ⟨x, rfl⟩ := hx
      rw [← hin x]
      exact congrFun (View.read_write_univ (v := M.access r) f w) x
    · rcases hout i hi with h | h
      · exact absurd h hx
      · rw [← hf i h, View.read_apply, View.read_apply]
        congr 1
        refine View.write_of_not_mem (v := M.access r) f w Finset.univ fun hm => hx ?_
        obtain ⟨x, -, hx⟩ := Finset.mem_map.mp hm
        exact ⟨x, M.view.emb.injective hx.symm⟩
  · iexact H

/-- A load from a part that is filled. -/
theorem wp_ldP {hl : M.view.LoadsAt r.toLoadRect} {Ψ : (r.shape.Idx → Elt F e) → sProp 𝕄} (h : ∀ x, A (r.emb x)) :
    part M c A G ⊢ iprop((part M c A G -∗ Ψ (fun x => G (r.emb x))) -∗ WP c (Prog.lift (.load (cs := .vmem) M r.toLoadRect hl)) Ψ) := by
  unfold part
  iintro ⟨%f, %hf, H⟩ Hk
  iapply (wp_ld (M := M) (r := r) (c := c) (S := M.view.set) (f := f) (View.set_slice_subset _ _)) $$ H
  iintro H
  rw [show (fun x => M.view.read (Elt F) f (r.emb x)) = fun x => G (r.emb x) from funext fun x => hf _ (h x)]
  iapply Hk
  iexists f
  isplitr; · ipureintro; exact hf
  iexact H
end

/-! ## A copy of the device's own -/

theorem wp_cpH {s : Shape} {l : List Duty} (hl : okL 0 l) (src : Memref sig .tc .hbm s .f32) (dst : Memref sig .tc .vmem s .f32) {hs hd}
    {S : Finset (Idx (src.view.loc (c : Thread nD τ)))} {f : Buf (Elt F) (src.view.loc (c : Thread nD τ))} (hS : src.view.set ⊆ S) (hn : 0 < s.numel)
    {Ψ : PUnit → sProp 𝕄} :
    iprop(PC C K ∗ TS c l ∗ (src.view.loc (c : Thread nD τ) ↦[S]{fullShare} f) ∗ anyP dst c)
      ⊢ iprop(((TS c l ∗ (src.view.loc (c : Thread nD τ) ↦[S]{fullShare} f) ∗ own dst c (src.view.read (Elt F) f)) -∗ Ψ ⟨⟩) -∗ WP c (cpH src dst hs hd) Ψ) := by
  unfold cpH
  simp only [wp_bind]
  unfold PC TS
  iintro ⟨⟨#HR, #HL⟩, ⟨%W, HO, HT, Hv⟩, Hs, ⟨%fd, Hd⟩⟩ Hk
  ihave Hs := (pointsTo_split_subset hS).1 $$ Hs
  icases Hs with ⟨Hs, Hs'⟩
  iapply (Transfers.wp_dmaLocal EC 𝒱₀ (c : Thread nD τ) none (k := Prog.ret) (src := src) (dst := dst) (sm := .dma (1 : DmaSem sig)) (q := fullShare) (fs := f) (fd := fd)
    (Sd := dst.view.set) () dst.view.dmaCredit rfl (View.dmaCredit_pos _ hn) subset_rfl) $$ [Hs Hd Hv]
  · isplitl [Hs]; · iexact Hs
    isplitl [Hd] <;> iassumption
  iintro HF
  rw [wp_ret]
  imodintro
  iapply (Transfers.wp_waitLocalO EC 𝒱₀ (c : Thread nD τ) none () (k := Prog.ret) (rfl)) $$ [HF HO]
  · isplitl [HF]; · iexact HF
    isplitl [HO]; · iexact HO
    iapply (mayWait_list c (.dma (1 : DmaSem sig)) l hl); iexact HL
  iintro ⟨⟨Hd, Hs⟩, Hv, HO⟩
  rw [wp_ret]
  imodintro
  iapply Hk
  isplitl [HO HT Hv]
  · iexists _
    isplitl [HO]; · iexact HO
    isplitl [HT] <;> iassumption
  isplitl [Hs Hs']
  · iapply (pointsTo_split_subset hS).2
    isplitl [Hs] <;> iassumption
  · iapply (own_intro dst) $$ Hd
    exact View.read_write_univ _ _

end Cert.Att
-- ==== Proof.Moves.lean ====
module

public import proofs.«01_k».proof.Proof.Hoare

@[expose] public section

noncomputable section

namespace Cert.Att

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F] [Named F]

local notation "𝕄" => MT nD τ sig Unit (Elt F) ℕ UU ℕ

variable (C : Cont F) (K : Dev nD × Fin 56 → ℕ) {c : Dev nD}

/-! ## Sends and waits -/

theorem T_snd {s : Shape} {c' n : Dev nD} (hn : n = c') {a b : Fin 57} {r j : ℕ} {l : List Duty}
    (src dst : Memref sig .tc .vmem s .bf16) {hs hd} {X : s.Idx → Elt F .bf16} (Y : sProp 𝕄)
    (ha : 2 ≤ a.val) (hb : 2 ≤ b.val) (hra : r < nR c a.val) (hrb : 0 < nR c' b.val)
    (hNa : dst.view.dmaCredit = amt a.val) (hNb : dst.view.dmaCredit = amt b.val)
    (hsp : own src c X ⊢ dmaPay C c a.val r) (hp : iprop(own dst c' X ∗ Y) ⊢ dmaPay C c' b.val 0) :
    Tr c iprop(PC C K ∗ TS c (dC c' b :: l) ∗ own src c X ∗ anyP dst c' ∗ Y ∗ SC c a r (j + 1)) (sndP src dst n a b hs hd)
      iprop(TS c l ∗ SF c a r j) := fun Φ => by
  unfold PC TS sndP
  rw [show own src c X = iprop(∃ f : Buf (Elt F) (src.view.loc (c : Thread nD τ)), ⌜src.view.read (Elt F) f = X⌝ ∗ pts src c f) from rfl]
  iintro ⟨⟨#HR, #HL⟩, ⟨%W, HO, HT, Hv⟩, ⟨%fs, %hfs, Hs⟩, Hd, HY, HS⟩ Hk
  have hp' : ∀ fd, iprop(pts dst c' (dst.view.write (Elt F) fd (src.view.read (Elt F) fs) Finset.univ) ∗ Y) ⊢ dmaPay C c' b.val 0 := fun fd => by
    iintro ⟨H, HY⟩
    iapply hp
    isplitl [H]
    · iapply (own_intro dst (by rw [View.read_write_univ, hfs])) $$ H
    · iexact HY
  iapply (wp_snd C K (k := Prog.ret) hn src dst Y (fs := fs) (r := r) (j := j) (l := l) (W := W) ha hb hra hrb hNa hNb
    ((own_intro src hfs).trans hsp)
    hp') $$ [HO HT Hs Hd HY HS]
  · isplitr; · iexact HR
    isplitl [Hs]; · iexact Hs
    isplitl [Hd]; · iexact Hd
    isplitl [HY]; · iexact HY
    isplitl [HO]; · iexact HO
    isplitl [HT] <;> iassumption
  iintro ⟨HO, HT, HS⟩
  rw [wp_ret]
  imodintro
  iapply Hk
  isplitr [HS]
  · iexists W
    isplitl [HO]; · iexact HO
    isplitl [HT] <;> iassumption
  · iexact HS

theorem T_wt {s : Shape} {a : Fin 57} {r j : ℕ} {l : List Duty} {src dst : Memref sig .tc .vmem s .bf16} {hs hd}
    (ha : 2 ≤ a.val) (hra : r < nR c a.val) (hN : dst.view.dmaCredit = amt a.val) (hlv : okL (lvS (.dma (a : DmaSem sig))) l) :
    Tr c iprop(PC C K ∗ TS c l ∗ SF c a r j) (wtP a src dst hs hd) iprop(TS c l ∗ dmaPay C c a.val r ∗ SC c a (r + 1) j) := fun Φ => by
  unfold PC TS wtP
  iintro ⟨⟨#HR, #HL⟩, ⟨%W, HO, HT, Hv⟩, HS⟩ Hk
  iapply (wp_wt C K (k := Prog.ret) (r := r) (j := j) (l := l) (W := W) ha hra hN hlv) $$ [HO HS]
  · isplitr; · iexact HR
    isplitr; · iexact HL
    isplitl [HO] <;> iassumption
  iintro ⟨HO, HP, HS⟩
  rw [wp_ret]
  imodintro
  iapply Hk
  isplitl [HO HT Hv]
  · iexists _
    isplitl [HO]; · iexact HO
    isplitl [HT] <;> iassumption
  · isplitl [HP] <;> iassumption

/-! ## Credits -/

theorem amt_rows {n : ℕ} (h : n < 33) (h1 : n ≠ 10) (h2 : n ≠ 23) (h3 : n ≠ 24) : amt n = (kW kM 0).view.dmaCredit := by
  unfold amt
  rw [if_neg (by omega), if_neg (by omega)]
theorem amt_ring {n : ℕ} (h : 33 ≤ n) : amt n = (cW rrM 0).view.dmaCredit := by
  unfold amt
  rw [if_pos h]

theorem emb_zero {s : Shape} {off : Fin s.rank → ℕ} {inb} (h0 : ∀ a, off a = 0) (x : (Rect.unit off s.size inb).shape.Idx) : (Rect.unit off s.size inb).emb x = x := by
  funext a
  exact Fin.ext ((ValueKit.rect_emb_unit_val _ _ _ _ a).trans (by rw [h0, Nat.zero_add]))
theorem zero4 : ∀ a : Fin 3, (![0, 0, 0] : Fin 3 → ℕ) a = 0 := by decide
theorem zero2 : ∀ a : Fin 2, (![0, 0] : Fin 2 → ℕ) a = 0 := by decide

/-! ## Rows of keys and values -/

theorem hW_sub {H : Memref sig .tc .hbm S1x2048x32x128 .f32} (r d : Fin 4) : (hW H r d).view.set ⊆ H.view.set := by
  rw [set_squeeze]; exact View.set_slice_subset _ _

theorem T_stage {l : List Duty} (hl : okL 0 l) (H : Memref sig .tc .hbm S1x2048x32x128 .f32) (b : Fin 2) (r d : Fin 4) (h : Buf (Elt F) (H.view.loc (c : Thread nD τ))) :
    Tr c iprop(PC C K ∗ TS c l ∗ pts H c h ∗ anyP stM c ∗ anyP (sW b r) c) (stage H b r d)
      iprop(TS c l ∗ pts H c h ∗ anyP stM c ∗ own (sW b r) c (rnd ((hW H r d).view.read (Elt F) h))) := fun Φ => by
  unfold stage
  simp only [wp_bind]
  iintro ⟨#HP, HT, HH, Hst, Hs⟩ Hk
  iapply (wp_cpH C K hl (hW H r d) stM (S := H.view.set) (f := h) (hW_sub r d) (by decide)) $$ [HT HH Hst]
  · isplitr; · iexact HP
    isplitl [HT]; · iexact HT
    isplitl [HH] <;> iassumption
  iintro ⟨HT, HH, Hst⟩
  iapply (wp_ldF (M := stM)) $$ Hst
  iintro Hst
  iapply (wp_stS (M := sbM) (r := sR b r) shapeCasts_S1x512x8x128_S512x8x128 (V := rnd ((hW H r d).view.read (Elt F) h)) ?_) $$ Hs
  · refine (shapeCast_shapeCast _ _ _).trans ?_
    unfold rnd
    congr 1
    exact funext fun x => congrArg _ (emb_zero zero4 x)
  iintro Hs
  iapply Hk
  isplitl [HT]; · iexact HT
  isplitl [HH]; · iexact HH
  isplitl [Hst]; · iapply (own_any stM) $$ Hst
  iexact Hs

theorem T_fill {l : List Duty} (hl : okL 0 l) (H : Memref sig .tc .hbm S1x2048x32x128 .f32) (M hM) (r : Fin 4) (h : Buf (Elt F) (H.view.loc (c : Thread nD τ))) :
    Tr c iprop(PC C K ∗ TS c l ∗ pts H c h ∗ anyP stM c ∗ anyP (kW M r) c) (fill H M hM r)
      iprop(TS c l ∗ pts H c h ∗ anyP stM c ∗ own (kW M r) c (rnd ((hW H r 0).view.read (Elt F) h))) := fun Φ => by
  unfold fill
  simp only [wp_bind]
  iintro ⟨#HP, HT, HH, Hst, Hs⟩ Hk
  iapply (wp_cpH C K hl (hW H r 0) stM (S := H.view.set) (f := h) (hW_sub r 0) (by decide)) $$ [HT HH Hst]
  · isplitr; · iexact HP
    isplitl [HT]; · iexact HT
    isplitl [HH] <;> iassumption
  iintro ⟨HT, HH, Hst⟩
  iapply (wp_ldF (M := stM)) $$ Hst
  iintro Hst
  iapply (wp_stW (M := M) (r := rR r)) $$ Hs
  iintro Hs
  iapply Hk
  isplitl [HT]; · iexact HT
  isplitl [HH]; · iexact HH
  isplitl [Hst]; · iapply (own_any stM) $$ Hst
  iapply (own_eq (kW M r) ?_) $$ Hs
  rw [shapeCast_self]
  unfold rnd
  congr 1
  exact funext fun x => congrArg _ (emb_zero zero4 x)

/-! ## Weights and queries -/

theorem T_wLoad {l : List Duty} (hl : okL 0 l) (H : Memref sig .tc .hbm S1024x1024 .f32) (M hM) (r : Fin 2) (h : Buf (Elt F) (H.view.loc (c : Thread nD τ))) :
    Tr c iprop(PC C K ∗ TS c l ∗ pts H c h ∗ anyP ldM c ∗ part M c (fun i => (i 0).val < 512 * r.val) (rnd (H.view.read (Elt F) h))) (wLoad H M hM r)
      iprop(TS c l ∗ pts H c h ∗ anyP ldM c ∗ part M c (fun i => (i 0).val < 512 * (r.val + 1)) (rnd (H.view.read (Elt F) h))) := fun Φ => by
  unfold wLoad
  simp only [wp_bind]
  iintro ⟨#HP, HT, HH, Hst, Hs⟩ Hk
  iapply (wp_cpH C K hl (wW H r) ldM (S := H.view.set) (f := h) (View.set_slice_subset _ _) (by decide)) $$ [HT HH Hst]
  · isplitr; · iexact HP
    isplitl [HT]; · iexact HT
    isplitl [HH] <;> iassumption
  iintro ⟨HT, HH, Hst⟩
  iapply (wp_ldF (M := ldM)) $$ Hst
  iintro Hst
  iapply (wp_stP (M := M) (r := wR r) (A := fun i => (i 0).val < 512 * r.val) (B := fun i => (i 0).val < 512 * (r.val + 1)) (G := rnd (H.view.read (Elt F) h)) ?_ ?_) $$ Hs
  · intro x
    rw [shapeCast_self]
    unfold rnd
    show FloatOps.truncf _ _ _ = _
    exact congrArg _ (congrArg _ (emb_zero (s := S512x1024) zero2 x))
  · intro i hi
    by_cases hlt : (i 0).val < 512 * r.val
    · exact .inr hlt
    · refine .inl ⟨ix2 ⟨(i 0).val - 512 * r.val, by omega⟩ (i 1), ?_⟩
      rw [wR_emb]
      funext a
      match a with
      | 0 => exact Fin.ext (by show (i 0).val = 512 * r.val + ((i 0).val - 512 * r.val); omega)
      | 1 => rfl
  iintro Hs
  iapply Hk
  isplitl [HT]; · iexact HT
  isplitl [HH]; · iexact HH
  isplitl [Hst]; · iapply (own_any ldM) $$ Hst
  iexact Hs

theorem T_qRows {l : List Duty} (hl : okL 0 l) (r : Fin 4) (x : Buf (Elt F) (xH.view.loc (c : Thread nD τ))) (w : FVec F S1024x1024 .bf16) :
    Tr c iprop(PC C K ∗ TS c l ∗ pts xH c x ∗ anyP ldM c ∗ own wqM c w ∗ part qM c (fun i => (i 0).val < 512 * r.val) (tall fun r => qproj (rowsX x r) w)) (qRows r)
      iprop(TS c l ∗ pts xH c x ∗ anyP ldM c ∗ own wqM c w ∗ part qM c (fun i => (i 0).val < 512 * (r.val + 1)) (tall fun r => qproj (rowsX x r) w)) := fun Φ => by
  unfold qRows
  simp only [wp_bind]
  iintro ⟨#HP, HT, HH, Hst, Hw, Hs⟩ Hk
  iapply (wp_cpH C K hl (xW r) ldM (S := xH.view.set) (f := x) (by rw [set_squeeze]; exact View.set_slice_subset _ _) (by decide)) $$ [HT HH Hst]
  · isplitr; · iexact HP
    isplitl [HT]; · iexact HT
    isplitl [HH] <;> iassumption
  iintro ⟨HT, HH, Hst⟩
  iapply (wp_ldF (M := ldM)) $$ Hst
  iintro Hst
  iapply (wp_ldF (M := wqM)) $$ Hw
  iintro Hw
  iapply (wp_stP (M := qM) (r := pR r) (A := fun i => (i 0).val < 512 * r.val) (B := fun i => (i 0).val < 512 * (r.val + 1)) (G := tall fun r => qproj (rowsX x r) w) ?_ ?_) $$ Hs
  · intro y
    rw [tall_rows]
    congr 2
    · exact funext fun y => (congrArg _ (emb_zero zero2 y)).trans (xW_read r x y)
    · exact funext fun y => congrArg w (emb_zero zero2 y)
  · intro i hi
    by_cases hlt : (i 0).val < 512 * r.val
    · exact .inr hlt
    · refine .inl ⟨ix2 ⟨(i 0).val - 512 * r.val, by omega⟩ (i 1), ?_⟩
      rw [pR_emb]
      funext a
      match a with
      | 0 => exact Fin.ext (by show (i 0).val = 512 * r.val + ((i 0).val - 512 * r.val); omega)
      | 1 => rfl
  iintro Hs
  iapply Hk
  isplitl [HT]; · iexact HT
  isplitl [HH]; · iexact HH
  isplitl [Hst]; · iapply (own_any ldM) $$ Hst
  isplitl [Hw]; · iexact Hw
  iexact Hs

/-! ## Attention blocks -/

section Blocks
variable (KK VV : FVec F S2048x8x128 .bf16) (KT VT : FVec F S128x8x128 .bf16) (Q : FVec F S2048x1024 .bf16)

/-- The result of an attention block. -/
def ctxB (qb h : Fin 8) : FVec F S256x128 .bf16 :=
  if hq : qb.val < 7 then
    attn (256 * qb.val) (256 * qb.val - 128)
      (shapeCast S512x128 (fun x => KK ((kR ⟨qb.val, hq⟩ h).emb x) : Vec F S512x1x128 .bf16) shapeCasts_S512x1x128_S512x128)
      (shapeCast S512x128 (fun x => VV ((kR ⟨qb.val, hq⟩ h).emb x) : Vec F S512x1x128 .bf16) shapeCasts_S512x1x128_S512x128) (fun x => Q ((qR qb h).emb x))
  else
    attn 1792 1664
      (concatenate S512x128 0 [⟨S384x128, shapeCast S384x128 (fun x => KK ((kR7 h).emb x) : Vec F S384x1x128 .bf16) shapeCasts_S384x1x128_S384x128⟩,
        ⟨S128x128, shapeCast S128x128 (fun x => KT ((tR7 h).emb x) : Vec F S128x1x128 .bf16) shapeCasts_S128x1x128_S128x128⟩] concatenates_S384x128_S128x128_S512x128_d0)
      (concatenate S512x128 0 [⟨S384x128, shapeCast S384x128 (fun x => VV ((kR7 h).emb x) : Vec F S384x1x128 .bf16) shapeCasts_S384x1x128_S384x128⟩,
        ⟨S128x128, shapeCast S128x128 (fun x => VT ((tR7 h).emb x) : Vec F S128x1x128 .bf16) shapeCasts_S128x1x128_S128x128⟩] concatenates_S384x128_S128x128_S512x128_d0)
      (fun x => Q ((qR qb h).emb x))

/-- The context, block by block. -/
def ctxV : FVec F S2048x1024 .bf16 := fun i =>
  ctxB KK VV KT VT Q ⟨(i 0).val / 256, by have : (i 0).val < 2048 := (i 0).isLt; omega⟩ ⟨(i 1).val / 128, by have : (i 1).val < 1024 := (i 1).isLt; omega⟩
    (ix2 ⟨(i 0).val % 256, Nat.mod_lt _ (by decide)⟩ ⟨(i 1).val % 128, Nat.mod_lt _ (by decide)⟩)

theorem qR_emb (qb h : Fin 8) (x) : (qR qb h).emb x = ix2 ⟨256 * qb.val + (x 0).val, by have : (x 0).val < 256 := (x 0).isLt; omega⟩ ⟨128 * h.val + (x 1).val, by have : (x 1).val < 128 := (x 1).isLt; omega⟩ := by
  funext a
  match a with
  | 0 => exact Fin.ext (ValueKit.rect_emb_unit_val _ _ _ _ 0)
  | 1 => exact Fin.ext (ValueKit.rect_emb_unit_val _ _ _ _ 1)

theorem ctxV_block (qb h : Fin 8) (x) : ctxV KK VV KT VT Q ((qR qb h).emb x) = ctxB KK VV KT VT Q qb h x := by
  have h0 : (x 0).val < 256 := (x 0).isLt
  have h1 : (x 1).val < 128 := (x 1).isLt
  rw [qR_emb]
  unfold ctxV
  congr 1
  · exact Fin.ext (by show (256 * qb.val + (x 0).val) / 256 = qb.val; omega)
  · exact Fin.ext (by show (128 * h.val + (x 1).val) / 128 = h.val; omega)
  · funext a
    match a with
    | 0 => exact Fin.ext (by show (256 * qb.val + (x 0).val) % 256 = (x 0).val; omega)
    | 1 => exact Fin.ext (by show (128 * h.val + (x 1).val) % 128 = (x 1).val; omega)

abbrev done (n : ℕ) (i : S2048x1024.Idx) : Prop := 8 * ((i 0).val / 256) + (i 1).val / 128 < n
theorem done_succ (qb h : Fin 8) (i : S2048x1024.Idx) (hi : done (8 * qb.val + h.val + 1) i) : (∃ x, i = (qR qb h).emb x) ∨ done (8 * qb.val + h.val) i := by
  have h1 : (i 1).val < 1024 := (i 1).isLt
  by_cases hd : done (8 * qb.val + h.val) i
  · exact .inr hd
  · refine .inl ⟨ix2 ⟨(i 0).val - 256 * qb.val, ?_⟩ ⟨(i 1).val - 128 * h.val, ?_⟩, ?_⟩
    · show _ < 256; unfold done at hi hd; omega
    · show _ < 128; unfold done at hi hd; omega
    · rw [qR_emb]
      funext a
      match a with
      | 0 => exact Fin.ext (by show (i 0).val = 256 * qb.val + ((i 0).val - 256 * qb.val); unfold done at hi hd; omega)
      | 1 => exact Fin.ext (by show (i 1).val = 128 * h.val + ((i 1).val - 128 * h.val); unfold done at hi hd; omega)

/-- What a block reads: the keys, the values on the rows `S`, the queries; and the context so far. -/
def BS (c : Dev nD) (S : Finset (Idx (vM.view.loc (c : Thread nD τ)))) (n : ℕ) : sProp 𝕄 :=
  iprop(own kM c KK ∗ (vM.view.loc (c : Thread nD τ) ↦[S]{fullShare} VV) ∗ own qM c Q ∗ part cxM c (done n) (ctxV KK VV KT VT Q))

theorem T_blk {S : Finset (Idx (vM.view.loc (c : Thread nD τ)))} (qb : Fin 7) (h : Fin 8) (hS : (vM.access (kR qb h)).set ⊆ S) :
    Tr c (BS KK VV KT VT Q c S (8 * qb.val + h.val)) (blk qb h) (BS KK VV KT VT Q c S (8 * qb.val + h.val + 1)) := fun Φ => by
  unfold blk blkSt BS
  simp only [wp_bind]
  iintro ⟨Hkk, Hvv, Hq, Hc⟩ Hk
  iapply (wp_ldF (M := kM)) $$ Hkk
  iintro Hkk
  iapply (wp_ld (M := vM) (r := kR qb h) hS) $$ Hvv
  iintro Hvv
  iapply (wp_ldF (M := qM)) $$ Hq
  iintro Hq
  iapply (wp_stP (M := cxM) (r := qR qb.castSucc h) (A := done (8 * qb.val + h.val)) (B := done (8 * qb.val + h.val + 1)) (G := ctxV KK VV KT VT Q) ?_
    (done_succ qb.castSucc h)) $$ Hc
  · intro x
    rw [ctxV_block]
    unfold ctxB
    rw [dif_pos (show qb.castSucc.val < 7 from qb.isLt)]
    rfl
  iintro Hc
  iapply Hk
  isplitl [Hkk]; · iexact Hkk
  isplitl [Hvv]; · iexact Hvv
  isplitl [Hq] <;> iassumption

theorem T_blk7 {S : Finset (Idx (vM.view.loc (c : Thread nD τ)))} (h : Fin 8) (hS : (vM.access (kR7 h)).set ⊆ S) :
    Tr c iprop(BS KK VV KT VT Q c S (56 + h.val) ∗ own ktM c KT ∗ own vtM c VT) (blk7 h) iprop(BS KK VV KT VT Q c S (56 + h.val + 1) ∗ own ktM c KT ∗ own vtM c VT) := fun Φ => by
  unfold blk7 blkSt BS
  simp only [wp_bind]
  iintro ⟨⟨Hkk, Hvv, Hq, Hc⟩, Hkt, Hvt⟩ Hk
  iapply (wp_ldF (M := kM)) $$ Hkk
  iintro Hkk
  iapply (wp_ldF (M := ktM)) $$ Hkt
  iintro Hkt
  iapply (wp_ld (M := vM) (r := kR7 h) hS) $$ Hvv
  iintro Hvv
  iapply (wp_ldF (M := vtM)) $$ Hvt
  iintro Hvt
  iapply (wp_ldF (M := qM)) $$ Hq
  iintro Hq
  iapply (wp_stP (M := cxM) (r := qR 7 h) (A := done (56 + h.val)) (B := done (56 + h.val + 1)) (G := ctxV KK VV KT VT Q) ?_
    (done_succ 7 h)) $$ Hc
  · intro x
    rw [ctxV_block]
    unfold ctxB
    rw [dif_neg (show ¬ (7 : Fin 8).val < 7 by decide)]
    rfl
  iintro Hc
  iapply Hk
  isplitr [Hkt Hvt]
  · isplitl [Hkk]; · iexact Hkk
    isplitl [Hvv]; · iexact Hvv
    isplitl [Hq] <;> iassumption
  · isplitl [Hkt] <;> iassumption

end Blocks

/-! ## The output projection and the output -/

/-- The two halves of the projection of the whole context. -/
def projV (j : Fin 2) (X : FVec F S2048x1024 .bf16) (w : FVec F S1024x1024 .bf16) : FVec F S2048x512 .bf16 := tallH fun r => half j (oproj (rowsC X r) w)

theorem T_cSt (P : Memref sig .tc .vmem S2048x512 .bf16) (hP) (k : Fin 4) (w : FVec F S512x512 .bf16) :
    Tr c (anyP (cW P k) c) (cSt P hP k w) (own (cW P k) c w) := fun Φ => by
  unfold cSt
  simp only [wp_bind]
  iintro H Hk
  iapply (wp_stW (M := P) (r := cR k)) $$ H
  iintro H
  iapply Hk
  iexact H

theorem T_oRows (r : Fin 4) (X : FVec F S2048x1024 .bf16) (w : FVec F S1024x1024 .bf16) :
    Tr c iprop((own cxM c X ∗ own woM c w) ∗ anyP (cW prM r) c ∗ anyP (cW plM r) c) (oRows r)
      iprop((own cxM c X ∗ own woM c w) ∗ own (cW prM r) c (fun x => projV 0 X w ((cR r).emb x)) ∗ own (cW plM r) c (fun x => projV 1 X w ((cR r).emb x))) := fun Φ => by
  unfold oRows
  simp only [wp_bind]
  iintro ⟨⟨Hx, Hw⟩, Hr, Hl⟩ Hk
  iapply (wp_ldF (M := cxM)) $$ Hx
  iintro Hx
  iapply (wp_ldF (M := woM)) $$ Hw
  iintro Hw
  iapply (T_cSt prM _ r _ _) $$ Hr
  iintro Hr
  iapply (T_cSt plM _ r _ _) $$ Hl
  iintro Hl
  iapply Hk
  have e : ∀ j, half j (oproj (fun x => X ((pR r).emb x)) (fun y => w (wR0.emb y))) = fun x => projV j X w ((cR r).emb x) := fun j => by
    funext x
    unfold projV
    rw [tallH_rows]
    congr 2
    · exact funext fun y => congrArg X (pR_emb r y)
    · exact funext fun y => congrArg w (emb_zero (s := S1024x1024) zero2 y)
  isplitl [Hx Hw]
  · isplitl [Hx] <;> iassumption
  isplitl [Hr]
  · iapply (own_eq (cW prM r) ?_) $$ Hr
    exact e 0
  · iapply (own_eq (cW plM r) ?_) $$ Hl
    exact e 1

/-- The output, from the two rings' results. -/
def outV (R L : FVec F S2048x512 .bf16) : FVec F S1x2048x1024 .f32 := fun i =>
  if h : (i 2).val < 512 then FloatOps.extf .f32 bitsLt_bf16_f32 (R (ix2 (i 1) ⟨(i 2).val, h⟩))
  else FloatOps.extf .f32 bitsLt_bf16_f32 (L (ix2 (i 1) ⟨(i 2).val - 512, by have : (i 2).val < 1024 := (i 2).isLt; omega⟩))

abbrev outDone (n : ℕ) (i : S1x2048x1024.Idx) : Prop := 2 * ((i 1).val / 512) + (i 2).val / 512 < n

theorem oR_emb (r : Fin 4) (j : Fin 2) (x) : (oR r j).emb x = ix3 (x 0) ⟨512 * r.val + (x 1).val, lt512 (x 1) r⟩ ⟨512 * j.val + (x 2).val, by have : (x 2).val < 512 := (x 2).isLt; omega⟩ := by
  funext a
  match a with
  | 0 => exact Fin.ext ((ValueKit.rect_emb_unit_val _ _ _ _ 0).trans (Nat.zero_add _))
  | 1 => exact Fin.ext (ValueKit.rect_emb_unit_val _ _ _ _ 1)
  | 2 => exact Fin.ext (ValueKit.rect_emb_unit_val _ _ _ _ 2)

theorem T_outSt (R : Memref sig .tc .vmem S2048x512 .bf16) (r : Fin 4) (j : Fin 2) (X : FVec F S2048x512 .bf16) (G : FVec F S1x2048x1024 .f32)
    (hG : ∀ (a : Fin 1) (b : Fin 2048) (d : Fin 512), G (ix3 a b ⟨512 * j.val + d.val, by have := d.isLt; omega⟩) = FloatOps.extf .f32 bitsLt_bf16_f32 (X (ix2 b d))) :
    Tr c iprop(own (cW R r) c (fun x => X ((cR r).emb x)) ∗ part outM c (outDone (2 * r.val + j.val)) G) (outSt R r j)
      iprop(own (cW R r) c (fun x => X ((cR r).emb x)) ∗ part outM c (outDone (2 * r.val + j.val + 1)) G) := fun Φ => by
  unfold outSt
  simp only [wp_bind]
  iintro ⟨HR, HO⟩ Hk
  iapply (wp_ldW (M := R) (r := cR r)) $$ HR
  iintro HR
  iapply (wp_stP (M := outM) (r := oR r j) (A := outDone (2 * r.val + j.val)) (B := outDone (2 * r.val + j.val + 1)) (G := G) ?_ ?_) $$ HO
  · intro x
    refine Eq.trans ?_ ((congrArg G (oR_emb r j x)).trans (hG _ _ (x 2))).symm
    refine (shapeCast_addUnit_apply _ _ _ x).trans ?_
    exact congrArg (fun y => FloatOps.extf .f32 bitsLt_bf16_f32 (X y)) (cR_emb r fun a => x a.succ)
  · intro i hi
    have h2 : (i 2).val < 1024 := (i 2).isLt
    have h0 : (i 0).val < 1 := (i 0).isLt
    by_cases hd : outDone (2 * r.val + j.val) i
    · exact .inr hd
    · unfold outDone at hi hd
      refine .inl ⟨ix3 (i 0) ⟨(i 1).val - 512 * r.val, by omega⟩ ⟨(i 2).val - 512 * j.val, by omega⟩, ?_⟩
      rw [oR_emb]
      funext a
      match a with
      | 0 => rfl
      | 1 => exact Fin.ext (by show (i 1).val = 512 * r.val + ((i 1).val - 512 * r.val); omega)
      | 2 => exact Fin.ext (by show (i 2).val = 512 * j.val + ((i 2).val - 512 * j.val); omega)
  iintro HO
  iapply Hk
  isplitl [HR] <;> iassumption

end Cert.Att
-- ==== Proof.Rings.lean ====
module

public import proofs.«01_k».proof.Proof.Moves

@[expose] public section

noncomputable section

namespace Cert.Att

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F] [Named F]

local notation "𝕄" => MT nD τ sig Unit (Elt F) ℕ UU ℕ

variable (C : Cont F) (K : Dev nD × Fin 56 → ℕ) {c : Dev nD}

/-! ## Four of the same -/

/-- A program run for each of four indices, each using its own duties and resources and a shared one. -/
theorem Tr.four {f : Fin 4 → PG F PUnit} {v : ℕ} {g : Fin 4 → List Duty} {A B : Fin 4 → sProp 𝕄} {R : sProp 𝕄} {l : List Duty}
    (hg : ∀ r, okL v (g r)) (hl : okL v l)
    (h : ∀ r l, okL v l → Tr c iprop(PC C K ∗ TS c (g r ++ l) ∗ A r ∗ R) (f r) iprop(TS c l ∗ B r ∗ R)) :
    Tr c iprop(PC C K ∗ TS c (g 0 ++ (g 1 ++ (g 2 ++ (g 3 ++ l)))) ∗ each A ∗ R) (fourP f) iprop(TS c l ∗ each B ∗ R) := fun Φ => by
  have app : ∀ r l, okL v l → okL v (g r ++ l) := fun r l hl => by
    unfold okL
    rw [List.all_append, hg r, hl]; rfl
  unfold fourP
  simp only [wp_bind]
  iintro ⟨#HP, HT, ⟨H0, H1, H2, H3⟩, HR⟩ Hk
  iapply (h 0 _ (app 1 _ (app 2 _ (app 3 _ hl))) _) $$ [HT H0 HR]
  · isplitr; · iexact HP
    isplitl [HT]; · iexact HT
    isplitl [H0] <;> iassumption
  iintro ⟨HT, H0, HR⟩
  iapply (h 1 _ (app 2 _ (app 3 _ hl)) _) $$ [HT H1 HR]
  · isplitr; · iexact HP
    isplitl [HT]; · iexact HT
    isplitl [H1] <;> iassumption
  iintro ⟨HT, H1, HR⟩
  iapply (h 2 _ (app 3 _ hl) _) $$ [HT H2 HR]
  · isplitr; · iexact HP
    isplitl [HT]; · iexact HT
    isplitl [H2] <;> iassumption
  iintro ⟨HT, H2, HR⟩
  iapply (h 3 _ hl _) $$ [HT H3 HR]
  · isplitr; · iexact HP
    isplitl [HT]; · iexact HT
    isplitl [H3] <;> iassumption
  iintro ⟨HT, H3, HR⟩
  iapply Hk
  isplitl [HT]; · iexact HT
  isplitr [HR]
  · isplitl [H0]; · iexact H0
    isplitl [H1]; · iexact H1
    isplitl [H2] <;> iassumption
  · iexact HR

/-! ## The rings' steps -/

theorem T_accStep {P R : Memref sig .tc .vmem S2048x512 .bf16} {A : Memref sig .tc .vmem S2x512x512 .bf16} {hR hA} {j : Fin 2} {k n c' : Dev nD} (hn : n = c') {w a b : Fin 57}
    {l : List Duty} {X Y : S512x512.Idx → Elt F .bf16} {Z : sProp 𝕄}
    (ha : 33 ≤ a.val) (hb : 33 ≤ b.val) (hw : 33 ≤ w.val) (hlv : okL (lvS (.dma (w : DmaSem sig))) (dC c' b :: l))
    (hNR : ∀ k : Fin 4, (cW R k).view.dmaCredit = (cW rrM 0).view.dmaCredit)
    (hg : dmaPay C c w.val 0 ⊢ iprop(own (cW R k) c Y ∗ Z))
    {Y' Y0 : sProp 𝕄} (hz : iprop((anyP (cW R k) c ∗ Z) ∗ Y0) ⊢ Y')
    (hsp : own (aW A j) c (addf X Y : FVec F S512x512 .bf16) ⊢ dmaPay C c a.val 0)
    (hp : iprop(own (cW R k) c' (addf X Y : FVec F S512x512 .bf16) ∗ Y') ⊢ dmaPay C c' b.val 0) :
    Tr c iprop(PC C K ∗ TS c (dC c' b :: l) ∗ SF c w 0 0 ∗ own (cW P k) c X ∗ anyP (aW A j) c ∗ anyP (cW R k) c' ∗ Y0 ∗ SC c a 0 1) (accStep P R A hR hA j k n w a b)
      iprop(TS c l ∗ own (cW P k) c X ∗ SC c w 1 0 ∗ SF c a 0 0) := fun Φ => by
  have h33 : ∀ (c : Dev nD) (m : ℕ), 33 ≤ m → nR c m = 1 := fun c m h => if_pos h
  unfold accStep
  simp only [wp_bind]
  iintro ⟨#HP, HT, Hw, Hx, Ha, Hd, HY, HS⟩ Hk
  iapply (T_wt C K (r := 0) (j := 0) (by omega) (by rw [h33 _ _ hw]; exact Nat.one_pos) ((hNR k).trans (amt_ring hw).symm) hlv _) $$ [HT Hw]
  · isplitr; · iexact HP
    isplitl [HT] <;> iassumption
  iintro ⟨HT, Hg, Hw⟩
  ihave Hg := hg $$ Hg
  icases Hg with ⟨Hy, HZ⟩
  iapply (wp_ldW (M := P) (r := cR k)) $$ Hx
  iintro Hx
  iapply (wp_ldW (M := R) (r := cR k)) $$ Hy
  iintro Hy
  iapply (wp_stS (M := A) (r := aR j) shapeCasts_S1x512x512_S512x512 (V := (addf X Y : FVec F S512x512 .bf16)) (shapeCast_shapeCast (s := S512x512) _ _ _)) $$ Ha
  iintro Ha
  ihave Hy := (own_any (cW R k)) $$ Hy
  ihave HY := hz $$ [Hy HZ HY]
  · iframe
  iapply (T_snd C K hn (aW A j) (cW R k) Y' (l := l) (r := 0) (j := 0) (by omega) (by omega) (by rw [h33 _ _ ha]; exact Nat.one_pos) (by rw [h33 _ _ hb]; exact Nat.one_pos)
    ((hNR k).trans (amt_ring ha).symm) ((hNR k).trans (amt_ring hb).symm) hsp hp _) $$ [HT Ha Hd HY HS]
  · isplitr; · iexact HP
    isplitl [HT]; · iexact HT
    isplitl [Ha]; · iexact Ha
    isplitl [Hd]; · iexact Hd
    isplitl [HY] <;> iassumption
  iintro ⟨HT, HS⟩
  iapply Hk
  isplitl [HT]; · iexact HT
  isplitl [Hx]; · iexact Hx
  isplitl [Hw] <;> iassumption

theorem T_finStep {P R : Memref sig .tc .vmem S2048x512 .bf16} {hR} {k : Dev nD} {w : Fin 57}
    {l : List Duty} {X Y : S512x512.Idx → Elt F .bf16} {Z : sProp 𝕄}
    (hw : 33 ≤ w.val) (hlv : okL (lvS (.dma (w : DmaSem sig))) l)
    (hNR : ∀ k : Fin 4, (cW R k).view.dmaCredit = (cW rrM 0).view.dmaCredit)
    (hg : dmaPay C c w.val 0 ⊢ iprop(own (cW R k) c Y ∗ Z)) :
    Tr c iprop(PC C K ∗ TS c l ∗ SF c w 0 0 ∗ own (cW P k) c X) (finStep P R hR k w)
      iprop(TS c l ∗ own (cW P k) c X ∗ (own (cW R k) c (addf X Y : FVec F S512x512 .bf16) ∗ Z) ∗ SC c w 1 0) := fun Φ => by
  have h33 : ∀ (c : Dev nD) (m : ℕ), 33 ≤ m → nR c m = 1 := fun c m h => if_pos h
  unfold finStep cSt
  simp only [wp_bind]
  iintro ⟨#HP, HT, Hw, Hx⟩ Hk
  iapply (T_wt C K (r := 0) (j := 0) (by omega) (by rw [h33 _ _ hw]; exact Nat.one_pos) ((hNR k).trans (amt_ring hw).symm) hlv _) $$ [HT Hw]
  · isplitr; · iexact HP
    isplitl [HT] <;> iassumption
  iintro ⟨HT, Hg, Hw⟩
  ihave Hg := hg $$ Hg
  icases Hg with ⟨Hy, HZ⟩
  iapply (wp_ldW (M := P) (r := cR k)) $$ Hx
  iintro Hx
  iapply (wp_ldW (M := R) (r := cR k)) $$ Hy
  iintro Hy
  ihave Hy := (own_any (cW R k)) $$ Hy
  iapply (wp_stW (M := R) (r := cR k)) $$ Hy
  iintro Hy
  iapply Hk
  isplitl [HT]; · iexact HT
  isplitl [Hx]; · iexact Hx
  isplitl [Hy HZ]
  · isplitl [Hy]
    · iapply (own_eq (cW R k) ?_) $$ Hy
      exact shapeCast_self _ _
    iexact HZ
  iexact Hw

/-- A chunk forwarded, and the wait for one. -/
theorem T_fwd {P R : Memref sig .tc .vmem S2048x512 .bf16} {hP hR} {k n c' : Dev nD} (hn : n = c') {a b : Fin 57} {l : List Duty} {X : S512x512.Idx → Elt F .bf16} {Y' : sProp 𝕄}
    (ha : 33 ≤ a.val) (hb : 33 ≤ b.val)
    (hNR : ∀ k : Fin 4, (cW R k).view.dmaCredit = (cW rrM 0).view.dmaCredit)
    (hsp : own (cW P k) c X ⊢ dmaPay C c a.val 0) (hp : iprop(own (cW R k) c' X ∗ Y') ⊢ dmaPay C c' b.val 0) :
    Tr c iprop(PC C K ∗ TS c (dC c' b :: l) ∗ own (cW P k) c X ∗ anyP (cW R k) c' ∗ Y' ∗ SC c a 0 1) (fwd P R hP hR k n a b)
      iprop(TS c l ∗ SF c a 0 0) :=
  T_snd C K hn (cW P k) (cW R k) Y' (by omega) (by omega) (by show 0 < nR c a.val; unfold nR; rw [if_pos ha]; exact Nat.one_pos)
    (by show 0 < nR c' b.val; unfold nR; rw [if_pos hb]; exact Nat.one_pos) ((hNR k).trans (amt_ring ha).symm) ((hNR k).trans (amt_ring hb).symm) hsp hp

theorem T_ringWait {src dst : Memref sig .tc .vmem S512x512 .bf16} {hs hd} {w : Fin 57} {l : List Duty}
    (hw : 33 ≤ w.val) (hlv : okL (lvS (.dma (w : DmaSem sig))) l) (hN : dst.view.dmaCredit = (cW rrM 0).view.dmaCredit) :
    Tr c iprop(PC C K ∗ TS c l ∗ SF c w 0 0) (wtP w src dst hs hd) iprop(TS c l ∗ dmaPay C c w.val 0 ∗ SC c w 1 0) :=
  T_wt C K (by omega) (by show 0 < nR c w.val; unfold nR; rw [if_pos hw]; exact Nat.one_pos) (hN.trans (amt_ring hw).symm) hlv

/-! ## The tails -/

theorem tW_sub {H : Memref sig .tc .hbm S1x2048x32x128 .f32} : (tW H).view.set ⊆ H.view.set := by
  rw [set_squeeze]; exact View.set_slice_subset _ _

theorem tl_credit : tlM.view.dmaCredit = ktM.view.dmaCredit := rfl

section Tails
variable {H : Memref sig .tc .hbm S1x2048x32x128 .f32} {T : Memref sig .tc .vmem S128x8x128 .bf16} {hT : T.IsWhole} {b : Fin 57} {v : FVec F S128x32x128 .bf16} {l : List Duty}

theorem T_tailSnd (hT' : T.view.dmaCredit = ktM.view.dmaCredit) (hb : b.val = 23 ∨ b.val = 24) {d : Fin 4} (hd : d ≠ 1) (hl : okL 0 l) {r j : ℕ} (hr : r < 6)
    (hp : own T d (tailV v d) ⊢ dmaPay C d b.val 0) :
    Tr 1 iprop(PC C K ∗ TS 1 (dC d b :: l) ∗ anyP tlM 1 ∗ anyP T d ∗ SC 1 10 r (j + 1)) (tailSnd T hT v b d)
      iprop(TS 1 l ∗ anyP tlM 1 ∗ SC 1 10 (r + 1) j) := fun Φ => by
  have h10 : amt 10 = ktM.view.dmaCredit := by unfold amt; rw [if_neg (by decide), if_pos (by decide)]
  have hbb : amt b.val = ktM.view.dmaCredit := by unfold amt; rw [if_neg (by omega), if_pos (by omega)]
  have hnb : 0 < nR d b.val := by
    have : ¬ d.val = 1 := fun h => hd (Fin.ext h)
    unfold nR
    rw [if_neg (by omega), if_neg (by omega), if_neg (by omega), if_neg (by omega), if_neg (by omega), if_neg (by omega), if_pos (by omega), if_neg this]
    exact Nat.one_pos
  unfold tailSnd
  simp only [wp_bind]
  iintro ⟨#HP, HT, Ht, Hd, HS⟩ Hk
  icases Ht with ⟨%f, Ht⟩
  ihave Ht := (own_intro tlM (X := tlM.view.read (Elt F) f) rfl) $$ Ht
  ihave Ht := (own_any tlM) $$ Ht
  ihave Ht := (any_part (M := tlM) (A := fun _ => False) (G := tailV v d) (fun _ h => h)) $$ Ht
  iapply (wp_stP (M := tlM) (r := tR0) (A := fun _ => False) (B := fun _ => True) (G := tailV v d) ?_ ?_) $$ Ht
  · exact fun x => congrArg _ (emb_zero (s := S128x8x128) zero4 x).symm
  · exact fun i _ => .inl ⟨i, (emb_zero (s := S128x8x128) zero4 i).symm⟩
  iintro Ht
  ihave Ht := (part_own (M := tlM) (fun _ => trivial)) $$ Ht
  iapply (T_snd C K (c := 1) (a := 10) rfl tlM T iprop(emp) (l := l) (r := r) (j := j) (by decide) (by omega) hr hnb
    (hT'.trans h10.symm) (hT'.trans hbb.symm) (own_any tlM _) (Laws.sep_emp.1.trans hp) _) $$ [HT Ht Hd HS]
  · isplitr; · iexact HP
    isplitl [HT]; · iexact HT
    isplitl [Ht]; · iexact Ht
    isplitl [Hd]; · iexact Hd
    isplitr; · iempintro
    iexact HS
  iintro ⟨HT, HS⟩
  iapply (T_wt C K (c := 1) (a := 10) (dst := tlM) (r := r) (j := j) (by decide) hr (tl_credit.trans h10.symm) hl _) $$ [HT HS]
  · isplitr; · iexact HP
    isplitl [HT] <;> iassumption
  iintro ⟨HT, Ht, HS⟩
  iapply Hk
  isplitl [HT]; · iexact HT
  isplitl [Ht]; · iapply (Entails.of_eq (show dmaPay C 1 (10 : Fin 57).val r = anyP tlM 1 from rfl)) $$ Ht
  iexact HS

theorem T_tailOut (hT' : T.view.dmaCredit = ktM.view.dmaCredit) (hb : b.val = 23 ∨ b.val = 24) (hl : okL 0 l) {r j : ℕ} (hr : r + 3 ≤ 6) {h : Buf (Elt F) (H.view.loc ((1 : Dev nD) : Thread nD τ))}
    (hp : ∀ d, own T d (tailV (rnd ((tW H).view.read (Elt F) h)) d) ⊢ dmaPay C d b.val 0) :
    Tr 1 iprop(PC C K ∗ TS 1 (dC 0 b :: dC 2 b :: dC 3 b :: l) ∗ pts H 1 h ∗ anyP tsM 1 ∗ anyP tlM 1 ∗ anyP T 0 ∗ anyP T 1 ∗ anyP T 2 ∗ anyP T 3 ∗ SC 1 10 r (j + 3)) (tailOut H T hT b)
      iprop(TS 1 l ∗ pts H 1 h ∗ anyP tsM 1 ∗ anyP tlM 1 ∗ own T 1 (tailV (rnd ((tW H).view.read (Elt F) h)) 1) ∗ SC 1 10 (r + 3) j) := fun Φ => by
  have h3 : ∀ d : Dev nD, Nat.blt 0 (lvS (dC d b).2.1) = true := fun d => by
    rcases hb with hb | hb <;> (show Nat.blt 0 (if b.val < 15 then 0 else if b.val < 25 then 3 else _) = true; rw [hb]; rfl)
  have ok : ∀ (d : Dev nD) l, okL 0 l → okL 0 (dC d b :: l) := fun d l h => by
    unfold okL
    rw [List.all_cons, h3, h]; rfl
  unfold tailOut
  simp only [wp_bind]
  iintro ⟨#HP, HT, HH, Hts, Htl, H0, H1, H2, H3, HS⟩ Hk
  iapply (wp_cpH C K (ok 0 _ (ok 2 _ (ok 3 _ hl))) (tW H) tsM (S := H.view.set) (f := h) tW_sub (by decide)) $$ [HT HH Hts]
  · isplitr; · iexact HP
    isplitl [HT]; · iexact HT
    isplitl [HH] <;> iassumption
  iintro ⟨HT, HH, Hts⟩
  iapply (wp_ldF (M := tsM)) $$ Hts
  iintro Hts
  have e : (truncf .bf16 (fun x => (tW H).view.read (Elt F) h ((Rect.unit (s := S128x32x128) ![0, 0, 0] S128x32x128.size inb_S128x32x128_S128x32x128_0_0_0).emb x) : FVec F S128x32x128 .f32) bitsLt_bf16_f32 : FVec F S128x32x128 .bf16)
      = rnd ((tW H).view.read (Elt F) h) := by
    exact congrArg (fun v : FVec F S128x32x128 .f32 => (truncf .bf16 v bitsLt_bf16_f32 : FVec F S128x32x128 .bf16)) (funext fun x => congrArg _ (emb_zero (s := S128x32x128) zero4 x))
  ihave H1 := (any_part (M := T) (A := fun _ => False) (G := tailV (rnd ((tW H).view.read (Elt F) h)) 1) (fun _ h => h)) $$ H1
  iapply (wp_stP (M := T) (r := tR0) (A := fun _ => False) (B := fun _ => True) (G := tailV (rnd ((tW H).view.read (Elt F) h)) 1) ?_ ?_) $$ H1
  · exact fun x => (congrArg (fun v => tailV v 1 x) e).trans (congrArg _ (emb_zero (s := S128x8x128) zero4 x).symm)
  · exact fun i _ => .inl ⟨i, (emb_zero (s := S128x8x128) zero4 i).symm⟩
  iintro H1
  ihave H1 := (part_own (M := T) (fun _ => trivial)) $$ H1
  have hp' : ∀ d, own T d (tailV _ d) ⊢ dmaPay C d b.val 0 := fun d => (own_eq T (congrArg (fun v => tailV v d) e)).trans (hp d)
  iapply (T_tailSnd C K hT' hb (d := 0) (by decide) (ok 2 _ (ok 3 _ hl)) (r := r) (j := j + 2) (by omega) (hp' 0) _) $$ [HT Htl H0 HS]
  · isplitr; · iexact HP
    isplitl [HT]; · iexact HT
    isplitl [Htl]; · iexact Htl
    isplitl [H0] <;> iassumption
  iintro ⟨HT, Htl, HS⟩
  iapply (T_tailSnd C K hT' hb (d := 2) (by decide) (ok 3 _ hl) (r := r + 1) (j := j + 1) (by omega) (hp' 2) _) $$ [HT Htl H2 HS]
  · isplitr; · iexact HP
    isplitl [HT]; · iexact HT
    isplitl [Htl]; · iexact Htl
    isplitl [H2] <;> iassumption
  iintro ⟨HT, Htl, HS⟩
  iapply (T_tailSnd C K hT' hb (d := 3) (by decide) hl (r := r + 2) (j := j) (by omega) (hp' 3) _) $$ [HT Htl H3 HS]
  · isplitr; · iexact HP
    isplitl [HT]; · iexact HT
    isplitl [Htl]; · iexact Htl
    isplitl [H3] <;> iassumption
  iintro ⟨HT, Htl, HS⟩
  iapply Hk
  isplitl [HT]; · iexact HT
  isplitl [HH]; · iexact HH
  isplitl [Hts]; · iapply (own_any tsM) $$ Hts
  isplitl [Htl]; · iexact Htl
  isplitl [H1] <;> iassumption

end Tails

end Cert.Att
-- ==== Proof.Ring.lean ====
module

public import proofs.«01_k».proof.Proof.Rings

@[expose] public section

noncomputable section

namespace Cert.Att

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F] [Named F]

local notation "𝕄" => MT nD τ sig Unit (Elt F) ℕ UU ℕ

variable (C : Cont F) (K : Dev nD × Fin 56 → ℕ) {c : Dev nD}

/-! ## Four of the same -/

/-- The elements of chunk `k`. -/
abbrev rows (k : Dev nD) (G : FVec F S2048x512 .bf16) : FVec F S512x512 .bf16 := fun x => G ((cR k).emb x)

theorem chunk_emb (k : Dev nD) (x) : chunk ((cR k).emb x) = k := by
  have h : (x 0).val < 512 := (x 0).isLt
  rw [cR_emb]
  exact Fin.ext (by show (512 * k.val + (x 0).val) / 512 = k.val; omega)
theorem ringV_zero (P : Dev nD → FVec F S2048x512 .bf16) (d) (k : Dev nD) : rows k (ringV P d 0) = rows k (P k) := funext fun x => by
  show P (chunk ((cR k).emb x)) _ = _
  rw [chunk_emb]
theorem ringV_add (P : Dev nD → FVec F S2048x512 .bf16) (d) {k c : Dev nD} {s : ℕ} (h : d^[s + 1] k = c) :
    (addf (rows k (P c)) (rows k (ringV P d s)) : FVec F S512x512 .bf16) = rows k (ringV P d (s + 1)) := funext fun x => by
  show FloatOps.addf (P c _) _ = FloatOps.addf (P (d^[s + 1] (chunk ((cR k).emb x))) _) _
  rw [chunk_emb, h]

/-- One of the two rings: its buffers, its previous and next device, the contents and the cells. -/
structure Dir (P R : Memref sig .tc .vmem S2048x512 .bf16) (A : Memref sig .tc .vmem S2x512x512 .bf16) (b f : Dev nD → Dev nD) where
  W : Dev nD → FVec F S2048x512 .bf16
  s : ℕ → Fin 57
  r : ℕ → Fin 57
  X : ℕ → Dev nD → Dev nD → sProp (MT nD τ sig Unit (Elt F) ℕ UU ℕ)
  fb : ∀ c, f (b c) = c
  bf : ∀ c, b (f c) = c
  ff : ∀ c, f (f c) = op c
  bb : ∀ c, b (b c) = op c
  fo : ∀ c, f (op c) = b c
  bo : ∀ c, b (op c) = f c
  of : ∀ c, op (f c) = b c
  ob : ∀ c, op (b c) = f c
  hs : ∀ n, 33 ≤ (s n).val
  hr : ∀ n, 33 ≤ (r n).val
  hR : ∀ k : Fin 4, (cW R k).view.dmaCredit = (cW rrM 0).view.dmaCredit
  hA : ∀ k : Fin 2, (aW A k).view.dmaCredit = (cW rrM 0).view.dmaCredit
  hP : ∀ k : Fin 4, (cW P k).view.dmaCredit = (cW rrM 0).view.dmaCredit
  toX : ∀ n k c, own (cW R k) c (rows k (ringV W f n)) ⊢ X n k c
  ofX : ∀ n k c, X n k c ⊢ own (cW R k) c (rows k (ringV W f n))
  back : ∀ c n, dmaPay C c (s n).val 0 = ringBack X (anyP (cW P c) c) (fun k => anyP (aW A k) c) b f c n
  got : ∀ c n, dmaPay C c (r n).val 0 = ringGot X (fun k c => anyP (cW R k) c) b f c n

namespace Dir
variable {C}
variable {P R : Memref sig .tc .vmem S2048x512 .bf16} {A : Memref sig .tc .vmem S2x512x512 .bf16} {b f : Dev nD → Dev nD} (D : Dir C P R A b f)
variable {l : List Duty} {i j w : Fin 57}

/-- Chunk `k` of the ring's buffer on device `c`, after `n` additions. -/
abbrev O (n : ℕ) (k c : Dev nD) : sProp 𝕄 := own (cW R k) c (rows k (ringV D.W f n))
abbrev PO (k c : Dev nD) : sProp 𝕄 := own (cW P k) c (rows k (D.W c))

theorem fwd0 {hP hR} (hi : i = D.s 0) (hj : j = D.r 0) :
    Tr c iprop(PC C K ∗ TS c (dC (f c) j :: l) ∗ D.PO c c ∗ anyP (cW R c) (f c) ∗ SC c i 0 1) (fwd P R hP hR c (f c) i j) iprop(TS c l ∗ SF c i 0 0) := by
  subst hi hj
  refine (T_fwd C K (c := c) (Y' := iprop(emp)) (X := rows c (D.W c)) rfl (D.hs 0) (D.hr 0) D.hR ?_ ?_).pre ?_
  · rw [D.back]; exact own_any _ _
  · rw [D.got]
    show _ ⊢ D.X 0 (b (f c)) (f c)
    rw [D.bf]
    iintro ⟨H, -⟩
    iapply (D.toX 0 c (f c))
    iapply (own_eq (cW R c) ?_) $$ H
    exact (ringV_zero D.W f c).symm
  · iintro ⟨#HP, H1, H2, H3, H4⟩
    iframe # ∗

/-- The first two additions: what comes is added to the device's own chunk and sent on, with the places that are free again. -/
theorem acc1 {hR hA} (hw : w = D.r 0) (hi : i = D.s 1) (hj : j = D.r 1) (hlv : okL (lvS (.dma (w : DmaSem sig))) (dC (f c) j :: l)) :
    Tr c iprop(PC C K ∗ TS c (dC (f c) j :: l) ∗ SF c w 0 0 ∗ D.PO (b c) c ∗ anyP (aW A 0) c ∗ anyP (cW R (b c)) (f c) ∗ SC c i 0 1)
      (accStep P R A hR hA 0 (b c) (f c) w i j) iprop(TS c l ∗ D.PO (b c) c ∗ SC c w 1 0 ∗ SF c i 0 0) := by
  subst hw hi hj
  have e := ringV_add D.W f (k := b c) (c := c) (s := 0) (D.fb c)
  refine (T_accStep C K (c := c) (X := rows (b c) (D.W c)) (Y := rows (b c) (ringV D.W f 0)) (Z := iprop(emp)) (Y0 := iprop(emp)) (Y' := anyP (cW R (b c)) c) rfl (D.hs 1) (D.hr 1) (D.hr 0) hlv D.hR ?_ ?_ ?_ ?_).conseq ?_ ?_
  · rw [D.got]
    show D.X 0 (b c) c ⊢ _
    iintro H
    isplitl
    · iapply (D.ofX 0 (b c) c) $$ H
    · iempintro
  · iintro ⟨⟨H, -⟩, -⟩; iexact H
  · rw [D.back]; exact own_any _ _
  · rw [D.got, e]
    show _ ⊢ iprop(D.X 1 (op (f c)) (f c) ∗ anyP (cW R (op (f c))) (b (f c)))
    rw [D.of, D.bf]
    iintro ⟨H, H1⟩
    isplitl [H]; · iapply (D.toX 1 (b c) (f c)) $$ H
    iexact H1
  · iintro ⟨#HP, H1, H2, H3, H4, H5, H6⟩
    iframe # ∗
  · iintro ⟨H1, H2, H3, H4⟩
    iframe
theorem acc2 {hR hA} (hw : w = D.r 1) (hi : i = D.s 2) (hj : j = D.r 2) (hlv : okL (lvS (.dma (w : DmaSem sig))) (dC (f c) j :: l)) :
    Tr c iprop(PC C K ∗ TS c (dC (f c) j :: l) ∗ SF c w 0 0 ∗ D.PO (op c) c ∗ anyP (aW A 1) c ∗ anyP (cW R (op c)) (f c) ∗ SC c i 0 1)
      (accStep P R A hR hA 1 (op c) (f c) w i j) iprop(TS c l ∗ D.PO (op c) c ∗ SC c w 1 0 ∗ SF c i 0 0) := by
  subst hw hi hj
  have e := ringV_add D.W f (k := op c) (c := c) (s := 1) (by show f (f (op c)) = c; rw [D.fo, D.fb])
  refine (T_accStep C K (c := c) (X := rows (op c) (D.W c)) (Y := rows (op c) (ringV D.W f 1)) (Z := anyP (cW R (op c)) (b c)) (Y0 := iprop(emp))
    (Y' := iprop(anyP (cW R (op c)) (b c) ∗ anyP (cW R (op c)) c)) rfl (D.hs 2) (D.hr 2) (D.hr 1) hlv D.hR ?_ ?_ ?_ ?_).conseq ?_ ?_
  · rw [D.got]
    show iprop(D.X 1 (op c) c ∗ anyP (cW R (op c)) (b c)) ⊢ _
    iintro ⟨H, H1⟩
    isplitl [H]
    · iapply (D.ofX 1 (op c) c) $$ H
    · iexact H1
  · iintro ⟨⟨H, H1⟩, -⟩
    isplitl [H1] <;> iassumption
  · rw [D.back]; exact own_any _ _
  · rw [D.got, e]
    show _ ⊢ iprop(D.X 2 (f (f c)) (f c) ∗ anyP (cW R (f (f c))) (op (f c)) ∗ anyP (cW R (f (f c))) (b (f c)))
    rw [D.of, D.bf, D.ff]
    iintro ⟨H, H1⟩
    isplitl [H]; · iapply (D.toX 2 (op c) (f c)) $$ H
    iexact H1
  · iintro ⟨#HP, H1, H2, H3, H4, H5, H6⟩
    iframe # ∗
  · iintro ⟨H1, H2, H3, H4⟩
    iframe
/-- The last addition. -/
theorem fin {hR} (hw : w = D.r 2) (hlv : okL (lvS (.dma (w : DmaSem sig))) l) :
    Tr c iprop(PC C K ∗ TS c l ∗ SF c w 0 0 ∗ D.PO (f c) c) (finStep P R hR (f c) w)
      iprop(TS c l ∗ D.PO (f c) c ∗ (D.O 3 (f c) c ∗ anyP (cW R (f c)) (op c) ∗ anyP (cW R (f c)) (b c)) ∗ SC c w 1 0) := by
  subst hw
  have e := ringV_add D.W f (k := f c) (c := c) (s := 2) (by show f (f (f (f c))) = c; rw [D.ff, D.ff, op_op])
  refine (T_finStep C K (c := c) (X := rows (f c) (D.W c)) (Y := rows (f c) (ringV D.W f 2)) (Z := iprop(anyP (cW R (f c)) (op c) ∗ anyP (cW R (f c)) (b c)))
    (D.hr 2) hlv D.hR ?_).conseq ?_ ?_
  · rw [D.got]
    show iprop(D.X 2 (f c) c ∗ anyP (cW R (f c)) (op c) ∗ anyP (cW R (f c)) (b c)) ⊢ _
    iintro ⟨H, H1⟩
    isplitl [H]
    · iapply (D.ofX 2 (f c) c) $$ H
    · iexact H1
  · iintro ⟨#HP, H1, H2, H3⟩
    iframe # ∗
  · rw [e]

/-- A finished chunk goes on to the next device. -/
theorem fwd3 {hP hR} (hi : i = D.s 3) (hj : j = D.r 3) :
    Tr c iprop(PC C K ∗ TS c (dC (f c) j :: l) ∗ D.O 3 (f c) c ∗ anyP (cW R (f c)) (f c) ∗ (anyP (cW R (f c)) (op c) ∗ anyP (cW R (f c)) (b c)) ∗ SC c i 0 1)
      (fwd R R hP hR (f c) (f c) i j) iprop(TS c l ∗ SF c i 0 0) := by
  subst hi hj
  refine T_fwd C K (c := c) (X := rows (f c) (ringV D.W f 3)) rfl (D.hs 3) (D.hr 3) D.hR ?_ ?_
  · rw [D.back]; exact D.toX 3 _ _
  · rw [D.got]
    show _ ⊢ iprop(D.X 3 (f c) (f c) ∗ anyP (cW R (f c)) (f (f c)) ∗ anyP (cW R (f c)) (op (f c)))
    rw [D.ff, D.of]
    iintro ⟨H, H1⟩
    isplitl [H]; · iapply (D.toX 3 (f c) (f c)) $$ H
    iexact H1
theorem fwd4 {hP hR} (hi : i = D.s 4) (hj : j = D.r 4) :
    Tr c iprop(PC C K ∗ TS c (dC (f c) j :: l) ∗ D.O 3 c c ∗ anyP (cW R c) (f c) ∗ anyP (cW R c) (op c) ∗ SC c i 0 1)
      (fwd R R hP hR c (f c) i j) iprop(TS c l ∗ SF c i 0 0) := by
  subst hi hj
  refine T_fwd C K (c := c) (X := rows c (ringV D.W f 3)) rfl (D.hs 4) (D.hr 4) D.hR ?_ ?_
  · rw [D.back]; exact D.toX 3 _ _
  · rw [D.got]
    show _ ⊢ iprop(D.X 3 (b (f c)) (f c) ∗ anyP (cW R (b (f c))) (f (f c)))
    rw [D.ff, D.bf]
    iintro ⟨H, H1⟩
    isplitl [H]; · iapply (D.toX 3 c (f c)) $$ H
    iexact H1
theorem fwd5 {hP hR} (hi : i = D.s 5) (hj : j = D.r 5) :
    Tr c iprop(PC C K ∗ TS c (dC (f c) j :: l) ∗ D.O 3 (b c) c ∗ anyP (cW R (b c)) (f c) ∗ SC c i 0 1)
      (fwd R R hP hR (b c) (f c) i j) iprop(TS c l ∗ SF c i 0 0) := by
  subst hi hj
  refine (T_fwd C K (c := c) (Y' := iprop(emp)) (X := rows (b c) (ringV D.W f 3)) rfl (D.hs 5) (D.hr 5) D.hR ?_ ?_).pre ?_
  · rw [D.back]; exact D.toX 3 _ _
  · rw [D.got]
    show _ ⊢ D.X 3 (op (f c)) (f c)
    rw [D.of]
    iintro ⟨H, -⟩
    iapply (D.toX 3 (b c) (f c)) $$ H
  · iintro ⟨#HP, H1, H2, H3, H4⟩
    iframe # ∗

/-- The waits for finished chunks, and for what the device sent. -/
theorem wtG {src dst : Memref sig .tc .vmem S512x512 .bf16} {hs hd} {Q : sProp 𝕄} (n : ℕ) (hw : w = D.r n) (hlv : okL (lvS (.dma (w : DmaSem sig))) l)
    (hN : dst.view.dmaCredit = (cW rrM 0).view.dmaCredit)
    (hQ : ringGot (fun n k c => D.O n k c) (fun k c => anyP (cW R k) c) b f c n = Q) (hn : 3 ≤ n) :
    Tr c iprop(PC C K ∗ TS c l ∗ SF c w 0 0) (wtP w src dst hs hd) iprop(TS c l ∗ Q ∗ SC c w 1 0) := by
  subst hw hQ
  refine (T_ringWait C K (D.hr n) hlv hN).post ?_
  rw [D.got]
  iintro ⟨H1, H2, H3⟩
  iframe
  match n, hn with
  | 3, _ =>
    show iprop(D.X 3 c c ∗ anyP (cW R c) (f c) ∗ anyP (cW R c) (op c)) ⊢ iprop(D.O 3 c c ∗ anyP (cW R c) (f c) ∗ anyP (cW R c) (op c))
    iintro ⟨H, H1⟩
    isplitl [H]; · iapply (D.ofX 3 c c) $$ H
    iexact H1
  | 4, _ =>
    show iprop(D.X 3 (b c) c ∗ anyP (cW R (b c)) (f c)) ⊢ iprop(D.O 3 (b c) c ∗ anyP (cW R (b c)) (f c))
    iintro ⟨H, H1⟩
    isplitl [H]; · iapply (D.ofX 3 (b c) c) $$ H
    iexact H1
  | n + 5, _ => exact D.ofX 3 (op c) c
theorem wtB {src dst : Memref sig .tc .vmem S512x512 .bf16} {hs hd} {Q : sProp 𝕄} (n : ℕ) (hw : w = D.s n) (hlv : okL (lvS (.dma (w : DmaSem sig))) l)
    (hN : dst.view.dmaCredit = (cW rrM 0).view.dmaCredit)
    (hQ : ringBack (fun n k c => D.O n k c) (anyP (cW P c) c) (fun k => anyP (aW A k) c) b f c n = Q) :
    Tr c iprop(PC C K ∗ TS c l ∗ SF c w 0 0) (wtP w src dst hs hd) iprop(TS c l ∗ Q ∗ SC c w 1 0) := by
  subst hw hQ
  refine (T_ringWait C K (D.hs n) hlv hN).post ?_
  rw [D.back]
  have h : ringBack D.X (anyP (cW P c) c) (fun k => anyP (aW A k) c) b f c n ⊢ ringBack (fun n k c => D.O n k c) (anyP (cW P c) c) (fun k => anyP (aW A k) c) b f c n :=
    match n with
    | 0 => .rfl
    | 1 => .rfl
    | 2 => .rfl
    | 3 => D.ofX 3 _ _
    | 4 => D.ofX 3 _ _
    | n + 5 => D.ofX 3 _ _
  iintro ⟨H1, H2, H3⟩
  ihave H2 := h $$ H2
  iframe

end Dir
end Cert.Att
-- ==== Proof.RingRun.lean ====
module

public import proofs.«01_k».proof.Proof.Ring

@[expose] public section

noncomputable section

namespace Cert.Att

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F] [Named F]

local notation "𝕄" => MT nD τ sig Unit (Elt F) ℕ UU ℕ

variable (C : Cont F) (K : Dev nD × Fin 56 → ℕ) {c : Dev nD}

/-! ## Four of the same -/
theorem rr_to (k c : Dev nD) (G : FVec F S2048x512 .bf16) : own (cW rrM k) c (rows k G) ⊢ pts (cW rrM k) c G := own_pts _ rfl
theorem rr_of (k c : Dev nD) (G : FVec F S2048x512 .bf16) : pts (cW rrM k) c G ⊢ own (cW rrM k) c (rows k G) := own_intro _ rfl
theorem rl_to (k c : Dev nD) (G : FVec F S2048x512 .bf16) : own (cW rlM k) c (rows k G) ⊢ pts (cW rlM k) c G := own_pts _ rfl
theorem rl_of (k c : Dev nD) (G : FVec F S2048x512 .bf16) : pts (cW rlM k) c G ⊢ own (cW rlM k) c (rows k G) := own_intro _ rfl

/-- The ring to the right. -/
def dirR : Dir C prM rrM arM pv nx where
  W := C.PR
  s | 0 => 33 | 1 => 34 | 2 => 35 | 3 => 36 | 4 => 37 | _ => 38
  r | 0 => 39 | 1 => 40 | 2 => 41 | 3 => 42 | 4 => 43 | _ => 44
  X := rX C
  fb := nx_pv
  bf := pv_nx
  ff := nx_nx
  bb := pv_pv
  fo := nx_op
  bo := pv_op
  of := op_nx
  ob := op_pv
  hs n := by match n with | 0 => decide | 1 => decide | 2 => decide | 3 => decide | 4 => decide | n + 5 => exact (by decide : 33 ≤ (38 : Fin 57).val)
  hr n := by match n with | 0 => decide | 1 => decide | 2 => decide | 3 => decide | 4 => decide | n + 5 => exact (by decide : 33 ≤ (44 : Fin 57).val)
  hR k := rfl
  hA k := rfl
  hP k := rfl
  toX n k c := rr_to k c _
  ofX n k c := rr_of k c _
  back c n := match n with | 0 => rfl | 1 => rfl | 2 => rfl | 3 => rfl | 4 => rfl | n + 5 => rfl
  got c n := match n with | 0 => rfl | 1 => rfl | 2 => rfl | 3 => rfl | 4 => rfl | n + 5 => rfl

/-- The ring to the left. -/
def dirL : Dir C plM rlM alM nx pv where
  W := C.PL
  s | 0 => 45 | 1 => 46 | 2 => 47 | 3 => 48 | 4 => 49 | _ => 50
  r | 0 => 51 | 1 => 52 | 2 => 53 | 3 => 54 | 4 => 55 | _ => 56
  X := lX C
  fb := pv_nx
  bf := nx_pv
  ff := pv_pv
  bb := nx_nx
  fo := pv_op
  bo := nx_op
  of := op_pv
  ob := op_nx
  hs n := by match n with | 0 => decide | 1 => decide | 2 => decide | 3 => decide | 4 => decide | n + 5 => exact (by decide : 33 ≤ (50 : Fin 57).val)
  hr n := by match n with | 0 => decide | 1 => decide | 2 => decide | 3 => decide | 4 => decide | n + 5 => exact (by decide : 33 ≤ (56 : Fin 57).val)
  hR k := rfl
  hA k := rfl
  hP k := rfl
  toX n k c := rl_to k c _
  ofX n k c := rl_of k c _
  back c n := match n with | 0 => rfl | 1 => rfl | 2 => rfl | 3 => rfl | 4 => rfl | n + 5 => rfl
  got c n := match n with | 0 => rfl | 1 => rfl | 2 => rfl | 3 => rfl | 4 => rfl | n + 5 => rfl

section
variable {C}
variable {P R : Memref sig .tc .vmem S2048x512 .bf16} {A : Memref sig .tc .vmem S2x512x512 .bf16} {b f : Dev nD → Dev nD} (D : Dir C P R A b f)
/-- A property of all four devices, listed from device `c` on. -/
abbrev round (b f : Dev nD → Dev nD) (c : Dev nD) (g : Dev nD → sProp (MT nD τ sig Unit (Elt F) ℕ UU ℕ)) : sProp 𝕄 := iprop(g c ∗ g (b c) ∗ g (op c) ∗ g (f c))
abbrev six (g : ℕ → sProp (MT nD τ sig Unit (Elt F) ℕ UU ℕ)) : sProp 𝕄 := iprop(g 0 ∗ g 1 ∗ g 2 ∗ g 3 ∗ g 4 ∗ g 5)
/-- What a device brings to a ring, and what it has afterwards. -/
def RIn (c : Dev nD) : sProp 𝕄 :=
  iprop(round b f c (fun k => D.PO k c) ∗ (anyP (cW R c) (f c) ∗ anyP (cW R (b c)) (f c) ∗ anyP (cW R (op c)) (f c) ∗ anyP (cW R (f c)) (f c)) ∗ (anyP (aW A 0) c ∗ anyP (aW A 1) c)
    ∗ six (fun n => SC c (D.s n) 0 1) ∗ six (fun n => SF c (D.r n) 0 0))
def ROut (c : Dev nD) : sProp 𝕄 :=
  iprop((anyP (cW P c) c ∗ D.PO (b c) c ∗ D.PO (op c) c ∗ D.PO (f c) c) ∗ round b f c (fun k => D.O 3 k c) ∗ (anyP (aW A 0) c ∗ anyP (aW A 1) c)
    ∗ six (fun n => SC c (D.s n) 1 0) ∗ six (fun n => SC c (D.r n) 1 0))
end

/-- The ring copies still to be sent, the last ones first. -/
abbrev ringL6 (c : Dev nD) : List Duty := []
abbrev ringL5 (c : Dev nD) : List Duty := dC (nx c) 44 :: dC (pv c) 56 :: ringL6 c
abbrev ringL4 (c : Dev nD) : List Duty := dC (nx c) 43 :: dC (pv c) 55 :: ringL5 c
abbrev ringL3 (c : Dev nD) : List Duty := dC (nx c) 42 :: dC (pv c) 54 :: ringL4 c
abbrev ringL2 (c : Dev nD) : List Duty := dC (nx c) 41 :: dC (pv c) 53 :: ringL3 c
abbrev ringL1 (c : Dev nD) : List Duty := dC (nx c) 40 :: dC (pv c) 52 :: ringL2 c
abbrev ringL (c : Dev nD) : List Duty := dC (nx c) 39 :: dC (pv c) 51 :: ringL1 c

theorem T_rings : Tr c iprop(PC C K ∗ TS c (ringL c) ∗ RIn (dirR C) c ∗ RIn (dirL C) c) (ring1 c >>= fun _ => ring2 c >>= fun _ => ring3 c)
    iprop(TS c [] ∗ ROut (dirR C) c ∗ ROut (dirL C) c) := fun Φ => by
  unfold RIn ROut ring1 ring2 ring3
  simp only [wp_bind]
  iintro ⟨#HP, HT, ⟨⟨P0, P1, P2, P3⟩, ⟨F0, F1, F2, F3⟩, ⟨A0, A1⟩, ⟨S0, S1, S2, S3, S4, S5⟩, ⟨R0, R1, R2, R3, R4, R5⟩⟩,
    ⟨⟨p0, p1, p2, p3⟩, ⟨f0, f1, f2, f3⟩, ⟨a0, a1⟩, ⟨s0, s1, s2, s3, s4, s5⟩, ⟨r0, r1, r2, r3, r4, r5⟩⟩⟩ Hk
  iapply ((dirR C).fwd0 K (i := 33) (j := 39) rfl rfl _) $$ [HT P0 F0 S0]
  · iframe # HT P0 F0 S0
  iintro ⟨HT, S0⟩
  iapply ((dirL C).fwd0 K (i := 45) (j := 51) rfl rfl _) $$ [HT p0 f0 s0]
  · iframe # HT p0 f0 s0
  iintro ⟨HT, s0⟩
  iapply ((dirR C).acc1 K (l := dC (pv c) 52 :: ringL2 c) (w := 39) (i := 34) (j := 40) rfl rfl rfl rfl _) $$ [HT R0 P1 A0 F1 S1]
  · iframe # HT R0 P1 A0 F1 S1
  iintro ⟨HT, P1, R0, S1⟩
  iapply ((dirL C).acc1 K (l := ringL2 c) (w := 51) (i := 46) (j := 52) rfl rfl rfl rfl _) $$ [HT r0 p1 a0 f1 s1]
  · iframe # HT r0 p1 a0 f1 s1
  iintro ⟨HT, p1, r0, s1⟩
  iapply ((dirR C).acc2 K (l := dC (pv c) 53 :: ringL3 c) (w := 40) (i := 35) (j := 41) rfl rfl rfl rfl _) $$ [HT R1 P2 A1 F2 S2]
  · iframe # HT R1 P2 A1 F2 S2
  iintro ⟨HT, P2, R1, S2⟩
  iapply ((dirL C).acc2 K (l := ringL3 c) (w := 52) (i := 47) (j := 53) rfl rfl rfl rfl _) $$ [HT r1 p2 a1 f2 s2]
  · iframe # HT r1 p2 a1 f2 s2
  iintro ⟨HT, p2, r1, s2⟩
  iapply ((dirR C).fin K (l := ringL3 c) (w := 41) rfl rfl _) $$ [HT R2 P3]
  · iframe # HT R2 P3
  iintro ⟨HT, P3, ⟨O3, E⟩, R2⟩
  iapply ((dirL C).fin K (l := ringL3 c) (w := 53) rfl rfl _) $$ [HT r2 p3]
  · iframe # HT r2 p3
  iintro ⟨HT, p3, ⟨o3, e⟩, r2⟩
  iapply ((dirR C).fwd3 K (i := 36) (j := 42) rfl rfl _) $$ [HT O3 F3 E S3]
  · iframe # HT O3 F3 E S3
  iintro ⟨HT, S3⟩
  iapply ((dirL C).fwd3 K (i := 48) (j := 54) rfl rfl _) $$ [HT o3 f3 e s3]
  · iframe # HT o3 f3 e s3
  iintro ⟨HT, s3⟩
  iapply ((dirR C).wtG K (l := ringL4 c) (w := 42) (Q := iprop((dirR C).O 3 (c) c ∗ anyP (cW rrM (c)) (nx c) ∗ anyP (cW rrM (c)) (op c))) 3 rfl rfl ((dirR C).hR c) rfl (by decide) _) $$ [HT R3]
  · iframe # HT R3
  iintro ⟨HT, ⟨O0, E1, E2⟩, R3⟩
  iapply ((dirR C).fwd4 K (i := 37) (j := 43) rfl rfl _) $$ [HT O0 E1 E2 S4]
  · iframe # HT O0 E1 E2 S4
  iintro ⟨HT, S4⟩
  iapply ((dirL C).wtG K (l := dC (pv c) 55 :: ringL5 c) (w := 54) (Q := iprop((dirL C).O 3 (c) c ∗ anyP (cW rlM (c)) (pv c) ∗ anyP (cW rlM (c)) (op c))) 3 rfl rfl ((dirL C).hR c) rfl (by decide) _) $$ [HT r3]
  · iframe # HT r3
  iintro ⟨HT, ⟨o0, e1, e2⟩, r3⟩
  iapply ((dirL C).fwd4 K (i := 49) (j := 55) rfl rfl _) $$ [HT o0 e1 e2 s4]
  · iframe # HT o0 e1 e2 s4
  iintro ⟨HT, s4⟩
  iapply ((dirR C).wtG K (l := ringL5 c) (w := 43) (Q := iprop((dirR C).O 3 (pv c) c ∗ anyP (cW rrM (pv c)) (nx c))) 4 rfl rfl ((dirR C).hR (pv c)) rfl (by decide) _) $$ [HT R4]
  · iframe # HT R4
  iintro ⟨HT, ⟨O1, E1⟩, R4⟩
  iapply ((dirR C).fwd5 K (i := 38) (j := 44) rfl rfl _) $$ [HT O1 E1 S5]
  · iframe # HT O1 E1 S5
  iintro ⟨HT, S5⟩
  iapply ((dirL C).wtG K (l := dC (pv c) 56 :: ringL6 c) (w := 55) (Q := iprop((dirL C).O 3 (nx c) c ∗ anyP (cW rlM (nx c)) (pv c))) 4 rfl rfl ((dirL C).hR (nx c)) rfl (by decide) _) $$ [HT r4]
  · iframe # HT r4
  iintro ⟨HT, ⟨o1, e1⟩, r4⟩
  iapply ((dirL C).fwd5 K (i := 50) (j := 56) rfl rfl _) $$ [HT o1 e1 s5]
  · iframe # HT o1 e1 s5
  iintro ⟨HT, s5⟩
  iapply ((dirR C).wtG K (l := ringL6 c) (w := 44) (Q := (dirR C).O 3 (op c) c) 5 rfl rfl ((dirR C).hR (op c)) rfl (by decide) _) $$ [HT R5]
  · iframe # HT R5
  iintro ⟨HT, O2, R5⟩
  iapply ((dirL C).wtG K (l := ringL6 c) (w := 56) (Q := (dirL C).O 3 (op c) c) 5 rfl rfl ((dirL C).hR (op c)) rfl (by decide) _) $$ [HT r5]
  · iframe # HT r5
  iintro ⟨HT, o2, r5⟩
  iapply ((dirR C).wtB K (l := ringL6 c) (w := 33) (Q := anyP (cW prM c) c) 0 rfl rfl ((dirR C).hP c) rfl _) $$ [HT S0]
  · iframe # HT S0
  iintro ⟨HT, P0, S0⟩
  iapply ((dirL C).wtB K (l := ringL6 c) (w := 45) (Q := anyP (cW plM c) c) 0 rfl rfl ((dirL C).hP c) rfl _) $$ [HT s0]
  · iframe # HT s0
  iintro ⟨HT, p0, s0⟩
  iapply ((dirR C).wtB K (l := ringL6 c) (w := 34) (Q := anyP (aW arM 0) c) 1 rfl rfl ((dirR C).hA 0) rfl _) $$ [HT S1]
  · iframe # HT S1
  iintro ⟨HT, A0, S1⟩
  iapply ((dirL C).wtB K (l := ringL6 c) (w := 46) (Q := anyP (aW alM 0) c) 1 rfl rfl ((dirL C).hA 0) rfl _) $$ [HT s1]
  · iframe # HT s1
  iintro ⟨HT, a0, s1⟩
  iapply ((dirR C).wtB K (l := ringL6 c) (w := 35) (Q := anyP (aW arM 1) c) 2 rfl rfl ((dirR C).hA 1) rfl _) $$ [HT S2]
  · iframe # HT S2
  iintro ⟨HT, A1, S2⟩
  iapply ((dirL C).wtB K (l := ringL6 c) (w := 47) (Q := anyP (aW alM 1) c) 2 rfl rfl ((dirL C).hA 1) rfl _) $$ [HT s2]
  · iframe # HT s2
  iintro ⟨HT, a1, s2⟩
  iapply ((dirR C).wtB K (l := ringL6 c) (w := 36) (Q := (dirR C).O 3 (nx c) c) 3 rfl rfl ((dirR C).hR (nx c)) rfl _) $$ [HT S3]
  · iframe # HT S3
  iintro ⟨HT, O3, S3⟩
  iapply ((dirL C).wtB K (l := ringL6 c) (w := 48) (Q := (dirL C).O 3 (pv c) c) 3 rfl rfl ((dirL C).hR (pv c)) rfl _) $$ [HT s3]
  · iframe # HT s3
  iintro ⟨HT, o3, s3⟩
  iapply ((dirR C).wtB K (l := ringL6 c) (w := 37) (Q := (dirR C).O 3 (c) c) 4 rfl rfl ((dirR C).hR c) rfl _) $$ [HT S4]
  · iframe # HT S4
  iintro ⟨HT, O0, S4⟩
  iapply ((dirL C).wtB K (l := ringL6 c) (w := 49) (Q := (dirL C).O 3 (c) c) 4 rfl rfl ((dirL C).hR c) rfl _) $$ [HT s4]
  · iframe # HT s4
  iintro ⟨HT, o0, s4⟩
  iapply ((dirR C).wtB K (l := ringL6 c) (w := 38) (Q := (dirR C).O 3 (pv c) c) 5 rfl rfl ((dirR C).hR (pv c)) rfl _) $$ [HT S5]
  · iframe # HT S5
  iintro ⟨HT, O1, S5⟩
  iapply ((dirL C).wtB K (l := ringL6 c) (w := 50) (Q := (dirL C).O 3 (nx c) c) 5 rfl rfl ((dirL C).hR (nx c)) rfl _) $$ [HT s5]
  · iframe # HT s5
  iintro ⟨HT, o1, s5⟩
  iapply Hk
  iframe HT P0 P1 P2 P3 O0 O1 O2 O3 A0 A1 S0 S1 S2 S3 S4 S5 R0 R1 R2 R3 R4 R5 p0 p1 p2 p3 o0 o1 o2 o3 a0 a1 s0 s1 s2 s3 s4 s5 r0 r1 r2 r3 r4 r5

end Cert.Att
-- ==== Proof.Rows.lean ====
module

public import proofs.«01_k».proof.Proof.RingRun

@[expose] public section

noncomputable section

namespace Cert.Att

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F] [Named F]

local notation "𝕄" => MT nD τ sig Unit (Elt F) ℕ UU ℕ

variable (C : Cont F) (K : Dev nD × Fin 56 → ℕ) {c : Dev nD}

/-! ## Four of the same -/
/-! ## What the copies of rows carry -/

theorem hW_rows_k (A : Vec F S1x2048x32x128 .f32) (r d : Fin 4) : rnd ((hW kH r d).view.read (Elt F) A) = (fun x => headsOf A d ((rR r).emb x) : FVec F S512x8x128 .bf16) := funext fun x => by
  rw [rR_emb]
  exact congrArg (FloatOps.truncf .bf16 bitsLt_bf16_f32) (hW_read kH r d A x)
theorem hW_rows_v (A : Vec F S1x2048x32x128 .f32) (r d : Fin 4) : rnd ((hW vH r d).view.read (Elt F) A) = (fun x => headsOf A d ((rR r).emb x) : FVec F S512x8x128 .bf16) := funext fun x => by
  rw [rR_emb]
  exact congrArg (FloatOps.truncf .bf16 bitsLt_bf16_f32) (hW_read vH r d A x)
theorem sW0_rows (r : Fin 4) : (sW 0 r).view.read (Elt F) C.SB = (fun x => C.K 2 ((rR r).emb x) : FVec F S512x8x128 .bf16) := funext fun x => by
  rw [sW_read, rR_emb]
  exact if_pos rfl
theorem sW1_rows (r : Fin 4) : (sW 1 r).view.read (Elt F) C.SB = (fun x => C.V 2 ((rR r).emb x) : FVec F S512x8x128 .bf16) := funext fun x => by
  rw [sW_read, rR_emb]
  exact if_neg Nat.one_ne_zero
theorem tW_tail_k (A : Vec F S1x2048x32x128 .f32) (d : Fin 4) : tailV (rnd ((tW kH).view.read (Elt F) A)) d = tailOf A d := by
  unfold tailV
  rw [shapeCast_self]
  funext x
  refine (congrArg (FloatOps.truncf .bf16 bitsLt_bf16_f32) (tW_read kH A _)).trans ?_
  refine congrArg (rnd A) (funext fun a => ?_)
  match a with
  | 0 => rfl
  | 1 => exact Fin.ext (Nat.zero_add _)
  | 2 => rfl
  | 3 => exact Fin.ext (Nat.zero_add _)

/-- The rows of a buffer of keys or values. -/
abbrev rowsK (r : Fin 4) (G : FVec F S2048x8x128 .bf16) : FVec F S512x8x128 .bf16 := fun x => G ((rR r).emb x)

theorem k_pay (r : Fin 4) (d : Dev nD) : own (kW kM r) d (rowsK r (C.K d)) ⊢ dmaPay C d (cell 15 r).val 0 :=
  match r with | 0 => own_pts _ rfl | 1 => own_pts _ rfl | 2 => own_pts _ rfl | 3 => own_pts _ rfl
theorem v_pay (r : Fin 4) (d : Dev nD) : own (kW vM r) d (rowsK r (C.V d)) ⊢ dmaPay C d (cell 19 r).val 0 :=
  match r with | 0 => own_pts _ rfl | 1 => own_pts _ rfl | 2 => own_pts _ rfl | 3 => own_pts _ rfl
theorem k_got (r : Fin 4) (d : Dev nD) : dmaPay C d (cell 15 r).val 0 ⊢ pts (kW kM r) d (C.K d) :=
  match r with | 0 => .rfl | 1 => .rfl | 2 => .rfl | 3 => .rfl
theorem v_got (r : Fin 4) (d : Dev nD) : dmaPay C d (cell 19 r).val 0 ⊢ pts (kW vM r) d (C.V d) :=
  match r with | 0 => .rfl | 1 => .rfl | 2 => .rfl | 3 => .rfl
theorem s0_pay (r : Fin 4) (d : Dev nD) : own (sW 0 r) d (rowsK r (C.K 2)) ⊢ dmaPay C d (cell 25 r).val 0 :=
  match r with | 0 => own_pts _ (sW0_rows C 0) | 1 => own_pts _ (sW0_rows C 1) | 2 => own_pts _ (sW0_rows C 2) | 3 => own_pts _ (sW0_rows C 3)
theorem s1_pay (r : Fin 4) (d : Dev nD) : own (sW 1 r) d (rowsK r (C.V 2)) ⊢ dmaPay C d (cell 29 r).val 0 :=
  match r with | 0 => own_pts _ (sW1_rows C 0) | 1 => own_pts _ (sW1_rows C 1) | 2 => own_pts _ (sW1_rows C 2) | 3 => own_pts _ (sW1_rows C 3)
theorem s0_got (r : Fin 4) (d : Dev nD) : dmaPay C d (cell 25 r).val 0 ⊢ own (sW 0 r) d (rowsK r (C.K 2)) :=
  match r with | 0 => own_intro _ (sW0_rows C 0) | 1 => own_intro _ (sW0_rows C 1) | 2 => own_intro _ (sW0_rows C 2) | 3 => own_intro _ (sW0_rows C 3)
theorem s1_got (r : Fin 4) (d : Dev nD) : dmaPay C d (cell 29 r).val 0 ⊢ own (sW 1 r) d (rowsK r (C.V 2)) :=
  match r with | 0 => own_intro _ (sW1_rows C 0) | 1 => own_intro _ (sW1_rows C 1) | 2 => own_intro _ (sW1_rows C 2) | 3 => own_intro _ (sW1_rows C 3)
theorem send_pay (b : Fin 2) (r : Fin 4) (d : Dev nD) (t : ℕ) : anyP (sW b r) d ⊢ dmaPay C d (sCell b r).val t :=
  match b, r with | 0, 0 => .rfl | 0, 1 => .rfl | 0, 2 => .rfl | 0, 3 => .rfl | 1, 0 => .rfl | 1, 1 => .rfl | 1, 2 => .rfl | 1, 3 => .rfl
theorem send_got (b : Fin 2) (r : Fin 4) (d : Dev nD) (t : ℕ) : dmaPay C d (sCell b r).val t ⊢ anyP (sW b r) d :=
  match b, r with | 0, 0 => .rfl | 0, 1 => .rfl | 0, 2 => .rfl | 0, 3 => .rfl | 1, 0 => .rfl | 1, 1 => .rfl | 1, 2 => .rfl | 1, 3 => .rfl
theorem pass1_pay (r : Fin 4) (t : ℕ) : anyP (sW 0 r) 1 ⊢ dmaPay C 1 (cell 11 r).val t :=
  match r with | 0 => .rfl | 1 => .rfl | 2 => .rfl | 3 => .rfl
theorem pass1_got (r : Fin 4) (t : ℕ) : dmaPay C 1 (cell 11 r).val t ⊢ anyP (sW 0 r) 1 :=
  match r with | 0 => .rfl | 1 => .rfl | 2 => .rfl | 3 => .rfl
theorem pass3_pay (r : Fin 4) (t : ℕ) : anyP (sW 1 r) 3 ⊢ dmaPay C 3 (cell 11 r).val t :=
  match r with | 0 => .rfl | 1 => .rfl | 2 => .rfl | 3 => .rfl
theorem pass3_got (r : Fin 4) (t : ℕ) : dmaPay C 3 (cell 11 r).val t ⊢ anyP (sW 1 r) 3 :=
  match r with | 0 => .rfl | 1 => .rfl | 2 => .rfl | 3 => .rfl

theorem sW_amt (b : Fin 2) (r : Fin 4) {n : ℕ} (h : n < 33) (h1 : n ≠ 10) (h2 : n ≠ 23) (h3 : n ≠ 24) : (sW b r).view.dmaCredit = amt n := (amt_rows h h1 h2 h3).symm
theorem kW_amt (M : Memref sig .tc .vmem S2048x8x128 .bf16) (r : Fin 4) {n : ℕ} (h : n < 33) (h1 : n ≠ 10) (h2 : n ≠ 23) (h3 : n ≠ 24) : (kW M r).view.dmaCredit = amt n :=
  (amt_rows h h1 h2 h3).symm

theorem ok_cons {v : ℕ} {d : Dev nD} {n : Fin 57} {l : List Duty} (h : Nat.blt v (lvS (.dma (n : DmaSem sig))) = true) (hl : okL v l) : okL v (dC d n :: l) := by
  unfold okL at hl ⊢
  rw [List.all_cons, hl, Bool.and_true]
  exact h

theorem le_11 : 11 + 3 < 57 := by decide
theorem le_25 : 25 + 3 < 57 := by decide
theorem le_29 : 29 + 3 < 57 := by decide
theorem n_send : ∀ b r, nR 0 (sCell b r).val = 3 := by decide
theorem n_k : ∀ r, ∀ d : Dev nD, d ≠ 0 → nR d (cell 15 r).val = 1 := by decide
theorem n_v : ∀ r, ∀ d : Dev nD, d ≠ 0 → nR d (cell 19 r).val = 1 := by decide
theorem n_25 : ∀ r, nR 1 (cell 25 r).val = 1 := by decide
theorem n_29 : ∀ r, nR 3 (cell 29 r).val = 1 := by decide
theorem n_11 : ∀ r, ∀ d : Dev nD, (d = 1 ∨ d = 3) → nR d (cell 11 r).val = 1 := by decide
theorem lv_25 : ∀ r, lvS (.dma (cell 25 r : DmaSem sig)) = 2 := by decide
theorem lv_29 : ∀ r, lvS (.dma (cell 29 r : DmaSem sig)) = 2 := by decide
theorem lv_15 : ∀ r, lvS (.dma (cell 15 r : DmaSem sig)) = 3 := by decide
theorem lv_19 : ∀ r, lvS (.dma (cell 19 r : DmaSem sig)) = 3 := by decide
theorem lv_11 : ∀ r, lvS (.dma (cell 11 r : DmaSem sig)) = 0 := by decide
theorem lv_send : ∀ b r, lvS (.dma (sCell b r : DmaSem sig)) = 0 := by decide

/-! ## Device 0 -/

theorem T_relayOut {A B : Vec F S1x2048x32x128 .f32} (hA : headsOf A 2 = C.K 2) (hB : headsOf B 2 = C.V 2) (r : Fin 4) {l : List Duty} (hl : okL 0 l) :
    Tr 0 iprop(PC C K ∗ TS 0 ([dC 1 (cell 25 r), dC 3 (cell 29 r)] ++ l)
        ∗ (anyP (sW 0 r) 0 ∗ anyP (sW 1 r) 0 ∗ anyP (sW 0 r) 1 ∗ anyP (sW 1 r) 3 ∗ SC 0 (sCell 0 r) 0 3 ∗ SC 0 (sCell 1 r) 0 3) ∗ (pts kH 0 A ∗ pts vH 0 B ∗ anyP stM 0))
      (relayOut r) iprop(TS 0 l ∗ (SF 0 (sCell 0 r) 0 2 ∗ SF 0 (sCell 1 r) 0 2) ∗ (pts kH 0 A ∗ pts vH 0 B ∗ anyP stM 0)) := fun Φ => by
  have k1 : okL 0 (dC 3 (cell 29 r) :: l) := ok_cons (by rw [lv_29]; rfl) hl
  have k2 : okL 0 (dC 1 (cell 25 r) :: dC 3 (cell 29 r) :: l) := ok_cons (by rw [lv_25]; rfl) k1
  have n1 : 0 < nR 0 (sCell 0 r).val := by rw [n_send]; decide
  have n2 : 0 < nR 0 (sCell 1 r).val := by rw [n_send]; decide
  have n3 : 0 < nR 1 (cell 25 r).val := by rw [n_25]; decide
  have n4 : 0 < nR 3 (cell 29 r).val := by rw [n_29]; decide
  have v0 : (sCell 0 r).val = 2 + r.val := rfl
  have v1 : (sCell 1 r).val = 6 + r.val := rfl
  have v2 : (cell 25 r).val = 25 + r.val := rfl
  have v3 : (cell 29 r).val = 29 + r.val := rfl
  have hr := r.isLt
  unfold relayOut
  simp only [wp_bind]
  iintro ⟨#HP, HT, ⟨s0, s1, d0, d1, c0, c1⟩, hk, hv, st⟩ Hk
  iapply (T_stage C K k2 kH 0 r 2 A _) $$ [HT hk st s0]
  · iframe # HT hk st s0
  iintro ⟨HT, hk, st, s0⟩
  iapply (T_snd C K (c := 0) (c' := 1) (l := dC 3 (cell 29 r le_29) :: l) (X := rnd ((hW kH r 2).view.read (Elt F) A)) (r := 0) (j := 2) rfl (sW 0 r) (sW 0 r) iprop(emp) (a := sCell 0 r) (b := cell 25 r le_25) (by omega) (by omega) n1 n3
    (sW_amt 0 r (by omega) (by omega) (by omega) (by omega)) (sW_amt 0 r (by omega) (by omega) (by omega) (by omega))
    ((own_any _ _).trans (send_pay C 0 r 0 0)) (Laws.sep_emp.1.trans ((own_eq _ ((hW_rows_k A r 2).trans (by rw [hA]))).trans (s0_pay C r 1))) _) $$ [HT s0 d0 c0]
  · iframe # HT s0 d0 c0
  iintro ⟨HT, c0⟩
  iapply (T_stage C K k1 vH 1 r 2 B _) $$ [HT hv st s1]
  · iframe # HT hv st s1
  iintro ⟨HT, hv, st, s1⟩
  iapply (T_snd C K (c := 0) (c' := 3) (l := l) (X := rnd ((hW vH r 2).view.read (Elt F) B)) (r := 0) (j := 2) rfl (sW 1 r) (sW 1 r) iprop(emp) (a := sCell 1 r) (b := cell 29 r le_29) (by omega) (by omega) n2 n4
    (sW_amt 1 r (by omega) (by omega) (by omega) (by omega)) (sW_amt 1 r (by omega) (by omega) (by omega) (by omega))
    ((own_any _ _).trans (send_pay C 1 r 0 0)) (Laws.sep_emp.1.trans ((own_eq _ ((hW_rows_v B r 2).trans (by rw [hB]))).trans (s1_pay C r 3))) _) $$ [HT s1 d1 c1]
  · iframe # HT s1 d1 c1
  iintro ⟨HT, c1⟩
  iapply Hk
  iframe

theorem T_rowsOut {H : Memref sig .tc .hbm S1x2048x32x128 .f32} {M : Memref sig .tc .vmem S2048x8x128 .bf16} {hM : M.IsWhole} {n : ℕ} {hn : n + 3 < 57} (h15 : n = 15 ∨ n = 19)
    {h : Buf (Elt F) (H.view.loc ((0 : Dev nD) : Thread nD τ))} (r : Fin 4)
    (hp : ∀ d, own (kW M r) d (rnd ((hW H r d).view.read (Elt F) h)) ⊢ dmaPay C d (cell n r hn).val 0)
    (hNn : ∀ d : Dev nD, d ≠ 0 → nR d (cell n r hn).val = 1) (hv : lvS (.dma (cell n r hn : DmaSem sig)) = 3)
    {t j : ℕ} (ht : t + 1 < 3) {l : List Duty} (hl : okL 0 l) :
    Tr 0 iprop(PC C K ∗ TS 0 ([dC 1 (cell n r hn), dC 3 (cell n r hn)] ++ l)
        ∗ (SF 0 (sCell 0 r) t (j + 1) ∗ SF 0 (sCell 1 r) t (j + 1) ∗ anyP (kW M r) 1 ∗ anyP (kW M r) 3 ∗ anyP (kW M r) 0) ∗ (pts H 0 h ∗ anyP stM 0))
      (rowsOut H M hM r n hn)
      iprop(TS 0 l ∗ (SF 0 (sCell 0 r) (t + 1) j ∗ SF 0 (sCell 1 r) (t + 1) j ∗ own (kW M r) 0 (rnd ((hW H r 0).view.read (Elt F) h))) ∗ (pts H 0 h ∗ anyP stM 0)) := fun Φ => by
  have k1 : okL 0 (dC 3 (cell n r hn) :: l) := ok_cons (by rw [hv]; rfl) hl
  have k2 : okL 0 (dC 1 (cell n r hn) :: dC 3 (cell n r hn) :: l) := ok_cons (by rw [hv]; rfl) k1
  have n1 : ∀ b, nR 0 (sCell b r).val = 3 := fun b => n_send b r
  have v0 : (sCell 0 r).val = 2 + r.val := rfl
  have v1 : (sCell 1 r).val = 6 + r.val := rfl
  have v2 : (cell n r hn).val = n + r.val := rfl
  have hr := r.isLt
  unfold rowsOut
  simp only [wp_bind]
  iintro ⟨#HP, HT, ⟨c0, c1, d1, d3, d0⟩, hh, st⟩ Hk
  iapply (T_wt C K (c := 0) (a := sCell 0 r) (dst := sW 0 r) (r := t) (j := j + 1) (by omega) (by rw [n1]; omega) (sW_amt 0 r (by omega) (by omega) (by omega) (by omega)) (by rw [lv_send]; exact k2) _) $$ [HT c0]
  · iframe # HT c0
  iintro ⟨HT, s0, c0⟩
  ihave s0 := (send_got C 0 r 0 t) $$ s0
  iapply (T_stage C K k2 H 0 r 1 h _) $$ [HT hh st s0]
  · iframe # HT hh st s0
  iintro ⟨HT, hh, st, s0⟩
  iapply (T_snd C K (c := 0) (c' := 1) (l := dC 3 (cell n r hn) :: l) (X := rnd ((hW H r 1).view.read (Elt F) h)) (r := t + 1) (j := j) rfl (sW 0 r) (kW M r) iprop(emp) (a := sCell 0 r) (b := cell n r hn) (by omega) (by omega)
    (by rw [n1]; omega) (by rw [hNn 1 (by decide)]; decide)
    (kW_amt M r (by omega) (by omega) (by omega) (by omega)) (kW_amt M r (by omega) (by omega) (by omega) (by omega))
    ((own_any _ _).trans (send_pay C 0 r 0 _)) (Laws.sep_emp.1.trans (hp 1)) _) $$ [HT s0 d1 c0]
  · iframe # HT s0 d1 c0
  iintro ⟨HT, c0⟩
  iapply (T_wt C K (c := 0) (a := sCell 1 r) (dst := sW 1 r) (r := t) (j := j + 1) (by omega) (by rw [n1]; omega) (sW_amt 1 r (by omega) (by omega) (by omega) (by omega)) (by rw [lv_send]; exact k1) _) $$ [HT c1]
  · iframe # HT c1
  iintro ⟨HT, s1, c1⟩
  ihave s1 := (send_got C 1 r 0 t) $$ s1
  iapply (T_stage C K k1 H 1 r 3 h _) $$ [HT hh st s1]
  · iframe # HT hh st s1
  iintro ⟨HT, hh, st, s1⟩
  iapply (T_snd C K (c := 0) (c' := 3) (l := l) (X := rnd ((hW H r 3).view.read (Elt F) h)) (r := t + 1) (j := j) rfl (sW 1 r) (kW M r) iprop(emp) (a := sCell 1 r) (b := cell n r hn) (by omega) (by omega)
    (by rw [n1]; omega) (by rw [hNn 3 (by decide)]; decide)
    (kW_amt M r (by omega) (by omega) (by omega) (by omega)) (kW_amt M r (by omega) (by omega) (by omega) (by omega))
    ((own_any _ _).trans (send_pay C 1 r 0 _)) (Laws.sep_emp.1.trans (hp 3)) _) $$ [HT s1 d3 c1]
  · iframe # HT s1 d3 c1
  iintro ⟨HT, c1⟩
  iapply (T_fill C K hl H M hM r h _) $$ [HT hh st d0]
  · iframe # HT hh st d0
  iintro ⟨HT, hh, st, d0⟩
  iapply Hk
  iframe

/-! ## The devices that pass rows on -/

theorem T_passOn {b : Fin 2} {M : Memref sig .tc .vmem S2048x8x128 .bf16} {hM : M.IsWhole} {p n : ℕ} {hp : p + 3 < 57} {hn : n + 3 < 57} (r : Fin 4) (hc : c = 1 ∨ c = 3)
    (h25 : p = 25 ∨ p = 29) (h15 : n = 15 ∨ n = 19) {X : FVec F S512x8x128 .bf16}
    (hg : dmaPay C c (cell p r hp).val 0 ⊢ own (sW b r) c X) (hs : anyP (sW b r) c ⊢ dmaPay C c (cell 11 r).val 0) (hd : own (kW M r) 2 X ⊢ dmaPay C 2 (cell n r hn).val 0)
    (hNp : nR c (cell p r hp).val = 1) (hNn : nR 2 (cell n r hn).val = 1) (hv : lvS (.dma (cell n r hn : DmaSem sig)) = 3) (hv' : lvS (.dma (cell p r hp : DmaSem sig)) = 2)
    {l : List Duty} (hl : okL 2 l) :
    Tr c iprop(PC C K ∗ TS c ([dC 2 (cell n r hn)] ++ l) ∗ (SF c (cell p r hp) 0 0 ∗ anyP (kW M r) 2 ∗ SC c (cell 11 r) 0 1) ∗ emp)
      (passOn b M hM p n hp hn r) iprop(TS c l ∗ (SC c (cell p r hp) 1 0 ∗ SF c (cell 11 r) 0 0) ∗ emp) := fun Φ => by
  have k1 : okL 2 (dC 2 (cell n r hn) :: l) := ok_cons (by rw [hv]; rfl) hl
  have v0 : (cell 11 r).val = 11 + r.val := rfl
  have v1 : (cell p r hp).val = p + r.val := rfl
  have v2 : (cell n r hn).val = n + r.val := rfl
  have hr := r.isLt
  unfold passOn
  simp only [wp_bind]
  iintro ⟨#HP, HT, ⟨c0, d, c1⟩, -⟩ Hk
  iapply (T_wt C K (a := cell p r hp) (dst := sW b r) (r := 0) (j := 0) (by omega) (by rw [hNp]; omega) (sW_amt b r (by omega) (by omega) (by omega) (by omega)) (by rw [hv']; exact k1) _) $$ [HT c0]
  · iframe # HT c0
  iintro ⟨HT, s0, c0⟩
  ihave s0 := hg $$ s0
  iapply (T_snd C K (c' := 2) (l := l) (X := X) (r := 0) (j := 0) rfl (sW b r) (kW M r) iprop(emp) (a := cell 11 r le_11) (b := cell n r hn) (by omega) (by omega)
    (by rw [n_11 r c hc]; omega) (by rw [hNn]; decide)
    (kW_amt M r (by omega) (by omega) (by omega) (by omega)) (kW_amt M r (by omega) (by omega) (by omega) (by omega))
    ((own_any _ _).trans hs) (Laws.sep_emp.1.trans hd) _) $$ [HT s0 d c1]
  · iframe # HT s0 d c1
  iintro ⟨HT, c1⟩
  iapply Hk
  iframe

/-! ## Waits for rows -/

/-- A wait on one of the cells of whole row blocks. -/
theorem T_rowWait {a : Fin 57} {t j v : ℕ} {src dst : Memref sig .tc .vmem S512x8x128 .bf16} {hs hd} {Q : sProp 𝕄} {l : List Duty}
    (h : 2 ≤ a.val ∧ a.val < 23 ∧ a.val ≠ 10) (hn : t < nR c a.val) (hN : dst.view.dmaCredit = (kW kM 0).view.dmaCredit) (hv : lvS (.dma (a : DmaSem sig)) = v) (hl : okL v l) (hQ : dmaPay C c a.val t ⊢ Q) :
    Tr c iprop(PC C K ∗ TS c l ∗ SF c a t j ∗ emp) (wtP a src dst hs hd) iprop(TS c l ∗ (Q ∗ SC c a (t + 1) j) ∗ emp) := fun Φ => by
  iintro ⟨#HP, HT, c0, -⟩ Hk
  iapply (T_wt C K (a := a) (dst := dst) (r := t) (j := j) h.1 hn (hN.trans (amt_rows (by omega) (by omega) (by omega) (by omega)).symm) (by rw [hv]; exact hl) _) $$ [HT c0]
  · iframe # HT c0
  iintro ⟨HT, s0, c0⟩
  ihave s0 := hQ $$ s0
  iapply Hk
  iframe

/-- Four such waits. -/
theorem T_rowWaits {a : Fin 4 → Fin 57} {t j v : ℕ} {src dst : Fin 4 → Memref sig .tc .vmem S512x8x128 .bf16} {hs : ∀ r, (src r).view.WordExact} {hd : ∀ r, (dst r).view.WordExact} {Q : Fin 4 → sProp 𝕄} {l : List Duty}
    (h : ∀ r, 2 ≤ (a r).val ∧ (a r).val < 23 ∧ (a r).val ≠ 10) (hn : ∀ r, t < nR c (a r).val) (hN : ∀ r, (dst r).view.dmaCredit = (kW kM 0).view.dmaCredit)
    (hv : ∀ r, lvS (.dma (a r : DmaSem sig)) = v) (hl : okL v l) (hQ : ∀ r, dmaPay C c (a r).val t ⊢ Q r) :
    Tr c iprop(PC C K ∗ TS c l ∗ each (fun r => SF c (a r) t j)) (fourP fun r => wtP (a r) (src r) (dst r) (hs r) (hd r))
      iprop(TS c l ∗ each (fun r => iprop(Q r ∗ SC c (a r) (t + 1) j))) := by
  refine (Tr.four C K (f := fun r => wtP (a r) (src r) (dst r) (hs r) (hd r)) (v := v) (g := fun _ => []) (A := fun r => SF c (a r) t j) (B := fun r => iprop(Q r ∗ SC c (a r) (t + 1) j)) (R := iprop(emp)) (l := l)
    (fun _ => rfl) hl fun r l hl => T_rowWait C K (h r) (hn r) (hN r) (hv r) hl (hQ r)).conseq ?_ ?_
  · iintro ⟨#HP, HT, H⟩
    iframe # HT H
  · iintro ⟨HT, H, -⟩
    iframe HT H

end Cert.Att
-- ==== Proof.Windows.lean ====
module

public import proofs.«01_k».proof.Proof.Rows

@[expose] public section

noncomputable section

namespace Cert.Att

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F] [Named F]

local notation "𝕄" => MT nD τ sig Unit (Elt F) ℕ UU ℕ

variable (C : Cont F) (K : Dev nD × Fin 56 → ℕ) {c : Dev nD}
variable {c : Dev nD}

section
variable {sp : Space} {s : Shape} {e : EltTy} (M : Memref sig .tc sp s e)

theorem mem_slice {r : Rect s} {hr} {i : Idx (M.view.loc (c : Thread nD τ))} : i ∈ (M.slice r hr).view.set ↔ ∃ x, M.view.emb (r.emb x) = i := by
  constructor
  · intro h
    obtain ⟨x, -, hx⟩ := Finset.mem_map.mp h
    exact ⟨x, hx⟩
  · rintro ⟨x, hx⟩
    exact Finset.mem_map.mpr ⟨x, Finset.mem_univ _, hx⟩

variable {T : Type} [Fintype T] [DecidableEq T] {R : T → Rect s} {hr : ∀ t, ∀ a, (R t).stride a = 1}

theorem slices_disjoint (dis : ∀ t t' x x', (R t).emb x = (R t').emb x' → t = t') {t t' : T} (h : t ≠ t') :
    Disjoint (M.slice (R t) (hr t)).view.set (M.slice (R t') (hr t')).view.set :=
  Finset.disjoint_left.mpr fun i hi hj => by
    obtain ⟨x, hx⟩ := (mem_slice M (c := 0)).mp hi
    obtain ⟨y, hy⟩ := (mem_slice M (c := 0)).mp hj
    exact h (dis _ _ _ _ (M.view.emb.injective (hx.trans hy.symm)))
theorem slices_cover (cov : ∀ y, ∃ t x, (R t).emb x = y) : Finset.univ.biUnion (fun t => (M.slice (R t) (hr t)).view.set) = M.view.set := by
  ext i
  rw [Finset.mem_biUnion]
  constructor
  · rintro ⟨t, -, h⟩
    exact View.set_slice_subset _ _ h
  · intro h
    obtain ⟨y, -, rfl⟩ := Finset.mem_map.mp h
    obtain ⟨t, x, rfl⟩ := cov y
    exact ⟨t, Finset.mem_univ _, (mem_slice M (c := 0)).mpr ⟨x, rfl⟩⟩

/-- A buffer is the windows that tile it. -/
theorem pts_windows (cov : ∀ y, ∃ t x, (R t).emb x = y) (dis : ∀ t t' x x', (R t).emb x = (R t').emb x' → t = t') (f : Buf (Elt F) (M.view.loc (c : Thread nD τ))) :
    (pts M c f : sProp 𝕄) = bigSep Finset.univ fun t => pts (M.slice (R t) (hr t)) c f := by
  show (M.view.loc (c : Thread nD τ) ↦[M.view.set]{fullShare} f : sProp 𝕄) = _
  rw [← slices_cover M (hr := hr) cov]
  exact pointsTo_biUnion _ _ fun t _ t' _ h => slices_disjoint M dis h
theorem windows_any (f₀ : Buf (Elt F) (M.view.loc (c : Thread nD τ))) (cov : ∀ y, ∃ t x, (R t).emb x = y) (dis : ∀ t t' x x', (R t).emb x = (R t').emb x' → t = t') :
    bigSep Finset.univ (fun t => anyP (M.slice (R t) (hr t)) c) ⊢ (anyP M c : sProp 𝕄) := by
  have : ∀ t : T, Nonempty (Buf (Elt F) ((M.slice (R t) (hr t)).view.loc (c : Thread nD τ))) := fun _ => ⟨f₀⟩
  refine (bigSep_exists_pi _ _).trans ?_
  iintro ⟨%fs, H⟩
  ihave H := (pointsTo_biUnion_join Finset.univ (fun t => (M.slice (R t) (hr t)).view.set) fs f₀ fun t _ t' _ h => slices_disjoint M dis h) $$ H
  icases H with ⟨%g, -, H⟩
  iexists g
  iapply (Entails.of_eq ?_) $$ H
  rw [slices_cover M (hr := hr) cov]
theorem windows_pts_any (cov : ∀ y, ∃ t x, (R t).emb x = y) (dis : ∀ t t' x x', (R t).emb x = (R t').emb x' → t = t') (f : Buf (Elt F) (M.view.loc (c : Thread nD τ))) :
    (pts M c f : sProp 𝕄) ⊢ bigSep Finset.univ (fun t => anyP (M.slice (R t) (hr t)) c) :=
  (Entails.of_eq (pts_windows M (hr := hr) cov dis f)).trans
    (bigSep_mono (s := Finset.univ) fun t _ => (show (pts (M.slice (R t) (hr t)) c f : sProp 𝕄) ⊢ anyP (M.slice (R t) (hr t)) c from by iintro H; iexists f; iexact H))
theorem any_windows (cov : ∀ y, ∃ t x, (R t).emb x = y) (dis : ∀ t t' x x', (R t).emb x = (R t').emb x' → t = t') :
    (anyP M c : sProp 𝕄) ⊢ bigSep Finset.univ (fun t => anyP (M.slice (R t) (hr t)) c) := by
  iintro ⟨%f, H⟩
  iapply (windows_pts_any M cov dis f) $$ H
end

theorem univ4 (g : Fin 4 → sProp 𝕄) : bigSep Finset.univ g = each g := by
  rw [show (Finset.univ : Finset (Fin 4)) = {0, 1, 2, 3} from by decide, bigSep_insert (by decide), bigSep_insert (by decide), bigSep_insert (by decide), bigSep_singleton]
  rfl
theorem univ2 (g : Fin 2 → sProp 𝕄) : bigSep Finset.univ g = iprop(g 0 ∗ g 1) := bigSep_univ_two g

section
theorem rR_cov (y : S2048x8x128.Idx) : ∃ t x, (rR t).emb x = y := by
  have h : (y 0).val < 2048 := (y 0).isLt
  refine ⟨⟨(y 0).val / 512, by omega⟩, ix3 ⟨(y 0).val % 512, Nat.mod_lt _ (by decide)⟩ (y 1) (y 2), ?_⟩
  rw [rR_emb]
  funext a
  match a with
  | 0 => exact Fin.ext (Nat.div_add_mod _ _)
  | 1 => rfl
  | 2 => rfl
theorem rR_dis (t t' : Fin 4) (x x') (h : (rR t).emb x = (rR t').emb x') : t = t' := by
  rw [rR_emb, rR_emb] at h
  have h0 : 512 * t.val + (x 0).val = 512 * t'.val + (x' 0).val := congrArg (fun i : S2048x8x128.Idx => (i 0).val) h
  have h1 : (x 0).val < 512 := (x 0).isLt
  have h2 : (x' 0).val < 512 := (x' 0).isLt
  exact Fin.ext (by omega)
theorem cR_cov (y : S2048x512.Idx) : ∃ t x, (cR t).emb x = y := by
  have h : (y 0).val < 2048 := (y 0).isLt
  refine ⟨⟨(y 0).val / 512, by omega⟩, ix2 ⟨(y 0).val % 512, Nat.mod_lt _ (by decide)⟩ (y 1), ?_⟩
  rw [cR_emb]
  funext a
  match a with
  | 0 => exact Fin.ext (Nat.div_add_mod _ _)
  | 1 => rfl
theorem cR_dis (t t' : Fin 4) (x x') (h : (cR t).emb x = (cR t').emb x') : t = t' := by
  rw [cR_emb, cR_emb] at h
  have h0 : 512 * t.val + (x 0).val = 512 * t'.val + (x' 0).val := congrArg (fun i : S2048x512.Idx => (i 0).val) h
  have h1 : (x 0).val < 512 := (x 0).isLt
  have h2 : (x' 0).val < 512 := (x' 0).isLt
  exact Fin.ext (by omega)
theorem aR_emb (j : Fin 2) (x) : (aR j).emb x = ix3 ⟨j.val + (x 0).val, by have : (x 0).val < 1 := (x 0).isLt; omega⟩ (x 1) (x 2) := by
  funext a
  match a with
  | 0 => exact Fin.ext (ValueKit.rect_emb_unit_val _ _ _ _ 0)
  | 1 => exact Fin.ext ((ValueKit.rect_emb_unit_val _ _ _ _ 1).trans (Nat.zero_add _))
  | 2 => exact Fin.ext ((ValueKit.rect_emb_unit_val _ _ _ _ 2).trans (Nat.zero_add _))
theorem aR_cov (y : S2x512x512.Idx) : ∃ t x, (aR t).emb x = y := by
  refine ⟨y 0, ix3 0 (y 1) (y 2), ?_⟩
  refine (aR_emb _ _).trans ?_
  funext a
  match a with
  | 0 => rfl
  | 1 => rfl
  | 2 => rfl
theorem aR_dis (t t' : Fin 2) (x x') (h : (aR t).emb x = (aR t').emb x') : t = t' := by
  rw [aR_emb, aR_emb] at h
  have h0 : t.val + (x 0).val = t'.val + (x' 0).val := congrArg (fun i : S2x512x512.Idx => (i 0).val) h
  have h1 : (x 0).val < 1 := (x 0).isLt
  have h2 : (x' 0).val < 1 := (x' 0).isLt
  exact Fin.ext (by omega)
theorem sR_emb (b : Fin 2) (r : Fin 4) (x) : (sR b r).emb x = ix4 ⟨b.val + (x 0).val, by have : (x 0).val < 1 := (x 0).isLt; omega⟩ ⟨512 * r.val + (x 1).val, lt512 (x 1) r⟩ (x 2) (x 3) := by
  funext a
  match a with
  | 0 => exact Fin.ext (ValueKit.rect_emb_unit_val _ _ _ _ 0)
  | 1 => exact Fin.ext (ValueKit.rect_emb_unit_val _ _ _ _ 1)
  | 2 => exact Fin.ext ((ValueKit.rect_emb_unit_val _ _ _ _ 2).trans (Nat.zero_add _))
  | 3 => exact Fin.ext ((ValueKit.rect_emb_unit_val _ _ _ _ 3).trans (Nat.zero_add _))
theorem sR_cov (y : S2x2048x8x128.Idx) : ∃ t : Fin 2 × Fin 4, ∃ x, (sR t.1 t.2).emb x = y := by
  have h : (y 1).val < 2048 := (y 1).isLt
  refine ⟨(y 0, ⟨(y 1).val / 512, by omega⟩), ix4 0 ⟨(y 1).val % 512, Nat.mod_lt _ (by decide)⟩ (y 2) (y 3), ?_⟩
  refine (sR_emb _ _ _).trans ?_
  funext a
  match a with
  | 0 => rfl
  | 1 => exact Fin.ext (Nat.div_add_mod _ _)
  | 2 => rfl
  | 3 => rfl
theorem sR_dis (t t' : Fin 2 × Fin 4) (x x') (h : (sR t.1 t.2).emb x = (sR t'.1 t'.2).emb x') : t = t' := by
  rw [sR_emb, sR_emb] at h
  have h0 : t.1.val + (x 0).val = t'.1.val + (x' 0).val := congrArg (fun i : S2x2048x8x128.Idx => (i 0).val) h
  have h3 : 512 * t.2.val + (x 1).val = 512 * t'.2.val + (x' 1).val := congrArg (fun i : S2x2048x8x128.Idx => (i 1).val) h
  have h1 : (x 0).val < 1 := (x 0).isLt
  have h2 : (x' 0).val < 1 := (x' 0).isLt
  have h4 : (x 1).val < 512 := (x 1).isLt
  have h5 : (x' 1).val < 512 := (x' 1).isLt
  exact Prod.ext (Fin.ext (by omega)) (Fin.ext (by omega))
end

section
variable (M : Memref sig .tc .vmem S2048x8x128 .bf16)
theorem any_kW : anyP M c ⊢ (each (fun r => anyP (kW M r) c) : sProp 𝕄) :=
  (any_windows M (R := rR) (hr := fun _ _ => rfl) rR_cov rR_dis).trans (Entails.of_eq (univ4 _))
theorem kW_any (f₀ : Buf (Elt F) (M.view.loc (c : Thread nD τ))) : (each (fun r => anyP (kW M r) c) : sProp 𝕄) ⊢ anyP M c :=
  (Entails.of_eq (univ4 _).symm).trans (windows_any M (R := rR) (hr := fun _ _ => rfl) f₀ rR_cov rR_dis)
theorem kW_pts (G : Buf (Elt F) (M.view.loc (c : Thread nD τ))) : (each (fun r => pts (kW M r) c G) : sProp 𝕄) ⊢ pts M c G :=
  (Entails.of_eq (univ4 _).symm).trans (Entails.of_eq (pts_windows M (R := rR) (hr := fun _ _ => rfl) rR_cov rR_dis G).symm)
end
section
variable (M : Memref sig .tc .vmem S2048x512 .bf16)
theorem any_cW : anyP M c ⊢ (each (fun r => anyP (cW M r) c) : sProp 𝕄) :=
  (any_windows M (R := cR) (hr := fun _ _ => rfl) cR_cov cR_dis).trans (Entails.of_eq (univ4 _))
theorem cW_any (f₀ : Buf (Elt F) (M.view.loc (c : Thread nD τ))) : (each (fun r => anyP (cW M r) c) : sProp 𝕄) ⊢ anyP M c :=
  (Entails.of_eq (univ4 _).symm).trans (windows_any M (R := cR) (hr := fun _ _ => rfl) f₀ cR_cov cR_dis)
end
section
variable (M : Memref sig .tc .vmem S2x512x512 .bf16)
theorem aW_any_eq (j : Fin 2) : (anyP (aW M j) c : sProp 𝕄) = anyP (M.slice (aR j) (fun _ => rfl)) c :=
  congrArg (fun g : Buf (Elt F) (M.view.loc (c : Thread nD τ)) → sProp 𝕄 => iprop(∃ f, g f)) (funext fun f => pts_squeeze (M.slice (aR j) (fun _ => rfl)) squeezes_S1x512x512_S512x512 f)
theorem any_aW : anyP M c ⊢ (iprop(anyP (aW M 0) c ∗ anyP (aW M 1) c) : sProp 𝕄) := by
  rw [aW_any_eq, aW_any_eq]
  exact (any_windows M (R := aR) (hr := fun _ _ => rfl) aR_cov aR_dis).trans (Entails.of_eq (univ2 _))
theorem aW_any (f₀ : Buf (Elt F) (M.view.loc (c : Thread nD τ))) : (iprop(anyP (aW M 0) c ∗ anyP (aW M 1) c) : sProp 𝕄) ⊢ anyP M c := by
  rw [aW_any_eq, aW_any_eq]
  exact (Entails.of_eq (univ2 _).symm).trans (windows_any M (R := aR) (hr := fun _ _ => rfl) f₀ aR_cov aR_dis)
end
theorem sW_any_eq (b : Fin 2) (r : Fin 4) : (anyP (sW b r) c : sProp 𝕄) = anyP (sbM.slice (sR b r) (fun _ => rfl)) c :=
  congrArg (fun g : Buf (Elt F) (sbM.view.loc (c : Thread nD τ)) → sProp 𝕄 => iprop(∃ f, g f)) (funext fun f => pts_squeeze (sbM.slice (sR b r) (fun _ => rfl)) squeezes_S1x512x8x128_S512x8x128 f)
theorem slots_eq : bigSep Finset.univ (fun t : Fin 2 × Fin 4 => anyP (sbM.slice (sR t.1 t.2) (fun _ => rfl)) c) = (iprop(slotRows 0 c ∗ slotRows 1 c) : sProp 𝕄) := by
  rw [bigSep_univ_prod, univ2, univ4, univ4]
  have h (b : Fin 2) : (each (fun r => anyP (sbM.slice (sR b r) (fun _ => rfl)) c) : sProp 𝕄) = slotRows b c := congrArg each (funext fun r => (sW_any_eq b r).symm)
  rw [h, h]
theorem any_sW : anyP sbM c ⊢ (iprop(slotRows 0 c ∗ slotRows 1 c) : sProp 𝕄) :=
  (any_windows sbM (T := Fin 2 × Fin 4) (R := fun t => sR t.1 t.2) (hr := fun _ _ => rfl) sR_cov sR_dis).trans (Entails.of_eq slots_eq)
theorem sW_any (f₀ : Buf (Elt F) (sbM.view.loc (c : Thread nD τ))) : (iprop(slotRows 0 c ∗ slotRows 1 c) : sProp 𝕄) ⊢ anyP sbM c :=
  (Entails.of_eq slots_eq.symm).trans (windows_any sbM (T := Fin 2 × Fin 4) (R := fun t => sR t.1 t.2) (hr := fun _ _ => rfl) f₀ sR_cov sR_dis)

/-! ## The value rows that have come -/

/-- The elements of the first `n` blocks of 512 rows. -/
def vSet (n : ℕ) : Finset (Idx (vM.view.loc (c : Thread nD τ))) := (Finset.univ.filter fun r : Fin 4 => r.val < n).biUnion fun r => (kW vM r).view.set

theorem vSet_one (G : FVec F S2048x8x128 .bf16) : (pts (kW vM 0) c G : sProp 𝕄) ⊢ (vM.view.loc (c : Thread nD τ) ↦[vSet (c := c) 1]{fullShare} G) := by
  refine Entails.of_eq (congrArg (fun S => (vM.view.loc (c : Thread nD τ) ↦[S]{fullShare} G : sProp 𝕄)) ?_)
  unfold vSet
  rw [show (Finset.univ.filter fun r : Fin 4 => r.val < 1) = {0} from by decide, Finset.singleton_biUnion]
theorem vIdx : ∀ r : Fin 4, (Finset.univ.filter fun t : Fin 4 => t.val < r.val + 1) = (Finset.univ.filter fun t : Fin 4 => t.val < r.val) ∪ {r} := by decide
theorem vSet_next (G : FVec F S2048x8x128 .bf16) (r : Fin 4) :
    (iprop((vM.view.loc (c : Thread nD τ) ↦[vSet (c := c) r.val]{fullShare} G) ∗ pts (kW vM r) c G) : sProp 𝕄) ⊢ (vM.view.loc (c : Thread nD τ) ↦[vSet (c := c) (r.val + 1)]{fullShare} G) := by
  have hd : Disjoint (vSet (c := c) r.val) (kW vM r).view.set := by
    unfold vSet
    rw [Finset.disjoint_biUnion_left]
    intro t ht
    refine slices_disjoint vM (R := rR) (hr := fun _ _ => rfl) rR_dis fun h => ?_
    rw [h] at ht
    exact absurd (Finset.mem_filter.mp ht).2 (Nat.lt_irrefl _)
  have hu : vSet (c := c) (r.val + 1) = vSet (c := c) r.val ∪ (kW vM r).view.set := by
    unfold vSet
    rw [vIdx r, Finset.union_biUnion, Finset.singleton_biUnion]
  rw [hu]
  exact (pointsTo_union hd).2
theorem vSet_all (G : FVec F S2048x8x128 .bf16) : ((vM.view.loc (c : Thread nD τ) ↦[vSet (c := c) 4]{fullShare} G) : sProp 𝕄) ⊢ pts vM c G := by
  refine Entails.of_eq (congrArg (fun S => (vM.view.loc (c : Thread nD τ) ↦[S]{fullShare} G : sProp 𝕄)) ?_)
  unfold vSet
  rw [show (Finset.univ.filter fun t : Fin 4 => t.val < 4) = Finset.univ from by decide]
  exact slices_cover vM (R := rR) (hr := fun _ _ => rfl) rR_cov
theorem vSet_sub {R : Rect S2048x8x128} {n : ℕ} (h : ∀ x, (R.emb x 0).val < 512 * n) : (vM.access R).set ⊆ vSet (c := c) n := by
  intro i hi
  obtain ⟨x, -, rfl⟩ := Finset.mem_map.mp hi
  obtain ⟨t, y, hy⟩ := rR_cov (R.emb x)
  refine Finset.mem_biUnion.mpr ⟨t, Finset.mem_filter.mpr ⟨Finset.mem_univ _, ?_⟩, (mem_slice (c := c) vM).mpr ⟨y, congrArg vM.view.emb hy⟩⟩
  have h1 := h x
  rw [← hy, rR_emb] at h1
  have h2 : 512 * t.val + (y 0).val < 512 * n := h1
  omega

end Cert.Att
-- ==== Proof.Phases.lean ====
module

public import proofs.«01_k».proof.Proof.Windows

@[expose] public section

noncomputable section

namespace Cert.Att

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F] [Named F]

local notation "𝕄" => MT nD τ sig Unit (Elt F) ℕ UU ℕ

variable (C : Cont F) (K : Dev nD × Fin 56 → ℕ) {c : Dev nD}

/-! ## Four of the same -/
variable (I : Inp F)

/-- What a device computes and holds, of the inputs. -/
def Inp.ctx (d : Dev nD) : FVec F S2048x1024 .bf16 := ctxV (headsOf (I.K 0) d) (headsOf (I.V 0) d) (tailOf (I.K 1) d) (tailOf (I.V 1) d) (I.QB d)
def Inp.cont : Cont F where
  K d := headsOf (I.K 0) d
  V d := headsOf (I.V 0) d
  KT d := tailOf (I.K 1) d
  VT d := tailOf (I.V 1) d
  PR d := projV 0 (I.ctx d) (I.WO d)
  PL d := projV 1 (I.ctx d) (I.WO d)

variable {P Q Q' R : sProp (MT nD τ sig Unit (Elt F) ℕ UU ℕ)} {p p' : PG F PUnit}

theorem Tr.keep (h : Tr c iprop(PC C K ∗ P) p Q) : Tr c iprop(PC C K ∗ P) p iprop(PC C K ∗ Q) := fun Φ => by
  iintro ⟨#HP, H⟩ Hk
  iapply (h _) $$ [H]
  · iframe # H
  iintro H
  iapply Hk
  iframe # H
theorem Tr.bindP (h : Tr c iprop(PC C K ∗ P) p Q) (h' : Tr c iprop(PC C K ∗ Q) p' R) : Tr c iprop(PC C K ∗ P) (p >>= fun _ => p') R :=
  (Tr.keep C K h).bind h'
theorem Tr.frameP (R : sProp 𝕄) (h : Tr c iprop(PC C K ∗ P) p Q) : Tr c iprop(PC C K ∗ P ∗ R) p iprop(Q ∗ R) :=
  (h.frame R).pre (by iintro ⟨HP, HQ, HR⟩; iframe)
theorem Tr.postP (h : Tr c iprop(PC C K ∗ P) p Q) (h2 : Q ⊢ Q') : Tr c iprop(PC C K ∗ P) p Q' := h.post h2
theorem Tr.preP {P' : sProp 𝕄} (h : Tr c iprop(PC C K ∗ P) p Q) (h1 : P' ⊢ P) : Tr c iprop(PC C K ∗ P') p Q :=
  h.pre (by iintro ⟨HP, HQ⟩; ihave HQ := h1 $$ HQ; iframe)
theorem Tr.not {q : Prop} [Decidable q] (hq : ¬ q) : Tr c iprop(PC C K ∗ P) (whenP q p) P :=
  (Tr.when_false hq).post (by iintro ⟨-, HQ⟩; iframe)

theorem each_sep (A B : Fin 4 → sProp 𝕄) : each (fun r => iprop(A r ∗ B r)) ⊢ iprop(each A ∗ each B) := by
  unfold each
  iintro ⟨⟨a0, b0⟩, ⟨a1, b1⟩, ⟨a2, b2⟩, ⟨a3, b3⟩⟩
  iframe
theorem sep_each (A B : Fin 4 → sProp 𝕄) : iprop(each A ∗ each B) ⊢ each (fun r => iprop(A r ∗ B r)) := by
  show _ ⊢ iprop((A 0 ∗ B 0) ∗ (A 1 ∗ B 1) ∗ (A 2 ∗ B 2) ∗ A 3 ∗ B 3)
  iintro ⟨⟨a0, a1, a2, a3⟩, ⟨b0, b1, b2, b3⟩⟩
  iframe
theorem each_mono {A B : Fin 4 → sProp 𝕄} (h : ∀ r, A r ⊢ B r) : each A ⊢ each B :=
  BI.sep_mono (h 0) (BI.sep_mono (h 1) (BI.sep_mono (h 2) (h 3)))

/-! ## The handshake -/

theorem bar_set : ∀ c : Dev nD, (Finset.univ.erase c : Finset (Dev nD)) = {nx c, op c, pv c} := by decide
theorem bar_ne1 : ∀ c : Dev nD, nx c ∉ ({op c, pv c} : Finset (Dev nD)) := by decide
theorem bar_ne2 : ∀ c : Dev nD, op c ∉ ({pv c} : Finset (Dev nD)) := by decide
theorem ne_nx : ∀ c : Dev nD, c ≠ nx c := by decide
theorem ne_op : ∀ c : Dev nD, c ≠ op c := by decide
theorem ne_pv : ∀ c : Dev nD, c ≠ pv c := by decide

theorem bar_three (c : Dev nD) : bigSep (Finset.univ.erase c) (fun d => barPay c d) = (iprop(barPay c (nx c) ∗ barPay c (op c) ∗ barPay c (pv c)) : sProp 𝕄) := by
  rw [bar_set, bigSep_insert (bar_ne1 c), bigSep_insert (bar_ne2 c), bigSep_singleton]
  rfl
theorem T_hand {l : List Duty} (hl : okL 1 l) :
    Tr c iprop(PC C K ∗ TS c (dB c (nx c) :: dB c (op c) :: dB c (pv c) :: l) ∗ (barPay (nx c) c ∗ barPay (op c) c ∗ barPay (pv c) c) ∗ atPos ER (bar c) 0 ∅ 0 ∗ cred (tallyAt (bar c) () 3))
      (handshake c) iprop(TS c l ∗ (barPay c (nx c) ∗ barPay c (op c) ∗ barPay c (pv c)) ∗ atPos ER (bar c) 1 ∅ 0) := fun Φ => by
  unfold PC TS handshake
  simp only [wp_bind]
  iintro ⟨⟨#HR, #HL⟩, ⟨%W, HO, HT, Hv⟩, ⟨p1, p2, p3⟩, Ha, Hc⟩ Hk
  iapply (wp_sig C K (k := Prog.ret) (rfl : nx c = nx c) (ne_nx c) (l := dB c (op c) :: dB c (pv c) :: l) (W := W)) $$ [HO HT p1]
  · iframe # HO HT p1
  iintro ⟨HO, HT⟩
  rw [wp_ret]
  imodintro
  iapply (wp_sig C K (k := Prog.ret) (rfl : op c = op c) (ne_op c) (l := dB c (pv c) :: l) (W := W)) $$ [HO HT p2]
  · iframe # HO HT p2
  iintro ⟨HO, HT⟩
  rw [wp_ret]
  imodintro
  iapply (wp_sig C K (k := Prog.ret) (rfl : pv c = pv c) (ne_pv c) (l := l) (W := W)) $$ [HO HT p3]
  · iframe # HO HT p3
  iintro ⟨HO, HT⟩
  rw [wp_ret]
  imodintro
  iapply (wp_bar C K (k := Prog.ret) (l := l) (W := W) hl) $$ [HO Ha Hc]
  · iframe # HO Ha Hc
  iintro ⟨HO, Hp, Ha⟩
  rw [wp_ret]
  imodintro
  ihave Hp := (Entails.of_eq (bar_three c)) $$ Hp
  iapply Hk
  isplitl [HO HT Hv]
  · iexists _
    iframe
  iframe

/-! ## What each device holds before the rows come, and what it owes -/

abbrev four (g : Fin 4 → List Duty) (l : List Duty) : List Duty := g 0 ++ (g 1 ++ (g 2 ++ (g 3 ++ l)))
abbrev dRel (r : Fin 4) : List Duty := [dC 1 (cell 25 r), dC 3 (cell 29 r)]
abbrev dK (r : Fin 4) : List Duty := [dC 1 (cell 15 r), dC 3 (cell 15 r)]
abbrev dV (r : Fin 4) : List Duty := [dC 1 (cell 19 r), dC 3 (cell 19 r)]
abbrev dK2 (r : Fin 4) : List Duty := [dC 2 (cell 15 r)]
abbrev dV2 (r : Fin 4) : List Duty := [dC 2 (cell 19 r)]
/-- What a device owes from the main rows on. -/
def dutyA (c : Dev nD) : List Duty := match c with
  | 0 => four dK (four dV (ringL 0)) | 1 => ringL 1 | 2 => ringL 2 | 3 => ringL 3
def dutyR (c : Dev nD) : List Duty := match c with
  | 0 => four dRel (four dK (four dV (ringL 0)))
  | 1 => dC 0 23 :: dC 2 23 :: dC 3 23 :: dC 0 24 :: dC 2 24 :: dC 3 24 :: four dK2 (ringL 1)
  | 2 => ringL 2
  | 3 => four dV2 (ringL 3)
abbrev duties (c : Dev nD) : List Duty := dB c (nx c) :: dB c (op c) :: dB c (pv c) :: dutyR c

theorem ok_R : ∀ c : Dev nD, okL 1 (dutyR c) := fun c => match c with | 0 => rfl | 1 => rfl | 2 => rfl | 3 => rfl
theorem ok_A : ∀ c : Dev nD, okL 0 (dutyA c) := fun c => match c with | 0 => rfl | 1 => rfl | 2 => rfl | 3 => rfl
theorem ok_ring : ∀ c : Dev nD, okL 3 (ringL c) := fun c => match c with | 0 => rfl | 1 => rfl | 2 => rfl | 3 => rfl

abbrev eSC (c : Dev nD) (n : Fin 4 → Fin 57) (r k : ℕ) : sProp 𝕄 := each fun i => SC (F := F) c (n i) r k
abbrev eSF (c : Dev nD) (n : Fin 4 → Fin 57) (r k : ℕ) : sProp 𝕄 := each fun i => SF (F := F) c (n i) r k
abbrev c11 (r : Fin 4) : Fin 57 := cell 11 r
abbrev c15 (r : Fin 4) : Fin 57 := cell 15 r
abbrev c19 (r : Fin 4) : Fin 57 := cell 19 r
abbrev c25 (r : Fin 4) : Fin 57 := cell 25 r
abbrev c29 (r : Fin 4) : Fin 57 := cell 29 r

def keep (c : Dev nD) : sProp 𝕄 := match c with
  | 0 => iprop(kRows (F := F) 0 ∗ vRows (F := F) 0 ∗ slotRows (F := F) 0 0 ∗ slotRows (F := F) 1 0)
  | 1 => iprop(tails (F := F) 1 ∗ slotRows (F := F) 1 1)
  | 2 => iprop(slotRows (F := F) 0 2 ∗ slotRows (F := F) 1 2)
  | 3 => slotRows (F := F) 0 3
def gotB (c : Dev nD) : sProp 𝕄 := match c with
  | 0 => iprop(kRows (F := F) 1 ∗ vRows (F := F) 1 ∗ slotRows (F := F) 0 1 ∗ kRows (F := F) 3 ∗ vRows (F := F) 3 ∗ slotRows (F := F) 1 3)
  | 1 => iprop(tails (F := F) 0 ∗ tails (F := F) 2 ∗ kRows (F := F) 2 ∗ tails (F := F) 3)
  | 2 => iprop(emp)
  | 3 => vRows (F := F) 2
/-- The cells of the rows at first, without those on which nothing ever goes; the value rows' are in `VP`. -/
def cellsI (c : Dev nD) : sProp 𝕄 := match c with
  | 0 => iprop(eSC (F := F) 0 (sCell 0) 0 3 ∗ eSC (F := F) 0 (sCell 1) 0 3 ∗ SF (F := F) 0 23 0 0 ∗ SF (F := F) 0 24 0 0)
  | 1 => iprop(SC (F := F) 1 10 0 6 ∗ eSC (F := F) 1 c11 0 1 ∗ eSF (F := F) 1 c15 0 0 ∗ eSF (F := F) 1 c25 0 0 ∗ eSF (F := F) 1 c19 0 0)
  | 2 => iprop(eSF (F := F) 2 c15 0 0 ∗ SF (F := F) 2 23 0 0 ∗ SF (F := F) 2 24 0 0 ∗ eSF (F := F) 2 c19 0 0)
  | 3 => iprop(eSC (F := F) 3 c11 0 1 ∗ eSF (F := F) 3 c15 0 0 ∗ SF (F := F) 3 23 0 0 ∗ SF (F := F) 3 24 0 0 ∗ eSF (F := F) 3 c29 0 0 ∗ eSF (F := F) 3 c19 0 0)
/-- The same when all has come. -/
def cellsE (c : Dev nD) : sProp 𝕄 := match c with
  | 0 => iprop(eSC (F := F) 0 (sCell 0) 3 0 ∗ eSC (F := F) 0 (sCell 1) 3 0 ∗ SC (F := F) 0 23 1 0 ∗ SC (F := F) 0 24 1 0)
  | 1 => iprop(SC (F := F) 1 10 6 0 ∗ eSC (F := F) 1 c11 1 0 ∗ eSC (F := F) 1 c15 1 0 ∗ eSC (F := F) 1 c25 1 0)
  | 2 => iprop(eSC (F := F) 2 c15 1 0 ∗ SC (F := F) 2 23 1 0 ∗ SC (F := F) 2 24 1 0)
  | 3 => iprop(eSC (F := F) 3 c11 1 0 ∗ eSC (F := F) 3 c15 1 0 ∗ SC (F := F) 3 23 1 0 ∗ SC (F := F) 3 24 1 0 ∗ eSC (F := F) 3 c29 1 0)
/-- The key and value arguments and the buffers copies go through. -/
def KV (c : Dev nD) : sProp 𝕄 := iprop(pts kH c (I.K c) ∗ pts vH c (I.V c) ∗ anyP (F := F) stM c ∗ anyP (F := F) tsM c ∗ anyP (F := F) tlM c)

theorem bar_out : iprop(kRows c ∗ vRows c ∗ tails c ∗ slotRows 0 c ∗ slotRows 1 c ∗ rChunks c ∗ lChunks c) ⊢ (iprop(keep c ∗ (barPay (nx c) c ∗ barPay (op c) c ∗ barPay (pv c) c)) : sProp 𝕄) :=
  match c with
  | 0 => by
    show _ ⊢ iprop((kRows 0 ∗ vRows 0 ∗ slotRows 0 0 ∗ slotRows 1 0) ∗ (tails 0 ∗ lChunks 0) ∗ emp ∗ rChunks 0)
    iintro ⟨a, b, d, e, f, g, h⟩; iframe
  | 1 => by
    show _ ⊢ iprop((tails 1 ∗ slotRows 1 1) ∗ lChunks 1 ∗ emp ∗ (kRows 1 ∗ vRows 1 ∗ slotRows 0 1 ∗ rChunks 1))
    iintro ⟨a, b, d, e, f, g, h⟩; iframe
  | 2 => by
    show _ ⊢ iprop((slotRows 0 2 ∗ slotRows 1 2) ∗ (vRows 2 ∗ lChunks 2) ∗ emp ∗ (tails 2 ∗ kRows 2 ∗ rChunks 2))
    iintro ⟨a, b, d, e, f, g, h⟩; iframe
  | 3 => by
    show _ ⊢ iprop((slotRows 0 3) ∗ (kRows 3 ∗ vRows 3 ∗ slotRows 1 3 ∗ lChunks 3) ∗ tails 3 ∗ rChunks 3)
    iintro ⟨a, b, d, e, f, g, h⟩; iframe
theorem bar_in : iprop(barPay c (nx c) ∗ barPay c (op c) ∗ barPay c (pv c)) ⊢ (iprop(gotB c ∗ rChunks (nx c) ∗ lChunks (pv c)) : sProp 𝕄) :=
  match c with
  | 0 => by
    show iprop((kRows 1 ∗ vRows 1 ∗ slotRows 0 1 ∗ rChunks 1) ∗ emp ∗ (kRows 3 ∗ vRows 3 ∗ slotRows 1 3 ∗ lChunks 3))
      ⊢ iprop((kRows 1 ∗ vRows 1 ∗ slotRows 0 1 ∗ kRows 3 ∗ vRows 3 ∗ slotRows 1 3) ∗ rChunks 1 ∗ lChunks 3)
    iintro ⟨⟨a, b, d, e⟩, -, f, g, h, i⟩; iframe
  | 1 => by
    show iprop((tails 2 ∗ kRows 2 ∗ rChunks 2) ∗ tails 3 ∗ (tails 0 ∗ lChunks 0)) ⊢ iprop((tails 0 ∗ tails 2 ∗ kRows 2 ∗ tails 3) ∗ rChunks 2 ∗ lChunks 0)
    iintro ⟨⟨a, b, d⟩, e, f, g⟩; iframe
  | 2 => by
    show iprop(rChunks 3 ∗ emp ∗ lChunks 1) ⊢ iprop(emp ∗ rChunks 3 ∗ lChunks 1)
    iintro ⟨a, b, d⟩; iframe
  | 3 => by
    show iprop(rChunks 0 ∗ emp ∗ (vRows 2 ∗ lChunks 2)) ⊢ iprop(vRows 2 ∗ rChunks 0 ∗ lChunks 2)
    iintro ⟨a, -, b, d⟩; iframe

/-! ## The relays, the tail rows, the rows passed on -/

/-- After the handshake. -/
def S1 (c : Dev nD) : sProp 𝕄 := iprop(TS c (dutyR c) ∗ (keep c ∗ gotB c ∗ cellsI c) ∗ KV I c)
def rel0 : sProp 𝕄 := iprop(kRows (F := F) 0 ∗ vRows (F := F) 0 ∗ kRows (F := F) 1 ∗ vRows (F := F) 1 ∗ kRows (F := F) 3 ∗ vRows (F := F) 3
      ∗ eSF (F := F) 0 (sCell 0) 0 2 ∗ eSF (F := F) 0 (sCell 1) 0 2 ∗ SF (F := F) 0 23 0 0 ∗ SF (F := F) 0 24 0 0)
def rel1 : sProp 𝕄 := iprop(own ktM 1 (I.cont.KT 1) ∗ own vtM 1 (I.cont.VT 1) ∗ slotRows (F := F) 0 1 ∗ slotRows (F := F) 1 1 ∗ SC (F := F) 1 10 6 0 ∗ eSC (F := F) 1 c11 1 0 ∗ eSF (F := F) 1 c15 0 0
      ∗ eSC (F := F) 1 c25 1 0 ∗ eSF (F := F) 1 c19 0 0)
def rel2 : sProp 𝕄 := iprop(slotRows (F := F) 0 2 ∗ slotRows (F := F) 1 2 ∗ cellsI (F := F) 2)
def rel3 : sProp 𝕄 := iprop(slotRows (F := F) 0 3 ∗ slotRows (F := F) 1 3 ∗ eSC (F := F) 3 c11 1 0 ∗ eSF (F := F) 3 c15 0 0 ∗ SF (F := F) 3 23 0 0 ∗ SF (F := F) 3 24 0 0 ∗ eSC (F := F) 3 c29 1 0
      ∗ eSF (F := F) 3 c19 0 0)
/-- What each device has when the relays are under way. -/
def relayed (c : Dev nD) : sProp 𝕄 := match c with
  | 0 => rel0 (F := F) | 1 => rel1 I | 2 => rel2 (F := F) | 3 => rel3 (F := F)
def S3 (c : Dev nD) : sProp 𝕄 := iprop(TS c (dutyA c) ∗ relayed I c ∗ KV I c)
def S2 (c : Dev nD) : sProp 𝕄 := if c = 3 then S1 I 3 else S3 I c

theorem T_relays : Tr 0 iprop(PC I.cont K ∗ S1 I 0) (fourP relayOut) (S3 I 0) := by
  refine (Tr.four I.cont K (v := 0) (g := dRel) (l := dutyA 0)
    (A := fun r => iprop(anyP (sW 0 r) 0 ∗ anyP (sW 1 r) 0 ∗ anyP (sW 0 r) 1 ∗ anyP (sW 1 r) 3 ∗ SC 0 (sCell 0 r) 0 3 ∗ SC 0 (sCell 1 r) 0 3))
    (B := fun r => iprop(SF 0 (sCell 0 r) 0 2 ∗ SF 0 (sCell 1 r) 0 2)) (R := iprop(pts kH 0 (I.K 0) ∗ pts vH 0 (I.V 0) ∗ anyP stM 0))
    (fun r => match r with | 0 => rfl | 1 => rfl | 2 => rfl | 3 => rfl) (ok_A 0) fun r l hl => T_relayOut I.cont K rfl rfl r hl).frame
    iprop(kRows (F := F) 0 ∗ vRows (F := F) 0 ∗ kRows (F := F) 1 ∗ vRows (F := F) 1 ∗ kRows (F := F) 3 ∗ vRows (F := F) 3 ∗ SF (F := F) 0 23 0 0 ∗ SF (F := F) 0 24 0 0 ∗ anyP (F := F) tsM 0 ∗ anyP (F := F) tlM 0)
    |>.conseq ?_ ?_
  · unfold S1 keep gotB cellsI KV
    iintro ⟨#HP, HT, ⟨⟨k0, v0, a, b⟩, ⟨k1, v1, d, k3, v3, e⟩, f, g, h, i⟩, hk, hv, st, ts, tl⟩
    isplitr [k0 v0 k1 v1 k3 v3 h i ts tl]
    · isplitr; · iexact HP
      isplitl [HT]; · iexact HT
      isplitr [hk hv st]
      · ihave H := (sep_each (F := F) (fun r => SC 0 (sCell 0 r) 0 3) (fun r => SC 0 (sCell 1 r) 0 3)) $$ [f g]
        · iframe
        ihave H := (sep_each (F := F) (fun r => anyP (sW 1 r) 3) _) $$ [e H]
        · iframe
        ihave H := (sep_each (F := F) (fun r => anyP (sW 0 r) 1) _) $$ [d H]
        · iframe
        ihave H := (sep_each (F := F) (fun r => anyP (sW 1 r) 0) _) $$ [b H]
        · iframe
        iapply (sep_each (F := F) (fun r => anyP (sW 0 r) 0) _) $$ [a H]
        iframe
      · iframe
    · iframe
  · show _ ⊢ iprop(TS 0 (dutyA 0) ∗ rel0 ∗ KV I 0)
    unfold rel0 KV
    iintro ⟨⟨HT, H, hk, hv, st⟩, k0, v0, k1, v1, k3, v3, h, i, ts, tl⟩
    ihave H := (each_sep (F := F) (fun r => SF 0 (sCell 0 r) 0 2) (fun r => SF 0 (sCell 1 r) 0 2)) $$ H
    icases H with ⟨f, g⟩
    iframe

theorem tW_tail_v (A : Vec F S1x2048x32x128 .f32) (d : Fin 4) : tailV (rnd ((tW vH).view.read (Elt F) A)) d = tailOf A d := by
  unfold tailV
  rw [shapeCast_self]
  funext x
  refine (congrArg (FloatOps.truncf .bf16 bitsLt_bf16_f32) (tW_read vH A _)).trans ?_
  refine congrArg (rnd A) (funext fun a => ?_)
  match a with
  | 0 => rfl
  | 1 => exact Fin.ext (Nat.zero_add _)
  | 2 => rfl
  | 3 => exact Fin.ext (Nat.zero_add _)

/-- What device 1 owes from the tail values on, and after them. -/
abbrev d1b : List Duty := four dK2 (ringL 1)
abbrev d1a : List Duty := dC 0 24 :: dC 2 24 :: dC 3 24 :: d1b
/-- Device 1 when the tail rows are out. -/
def S1b : sProp 𝕄 := iprop(TS 1 d1b ∗ (own ktM 1 (I.cont.KT 1) ∗ own vtM 1 (I.cont.VT 1) ∗ slotRows (F := F) 1 1 ∗ kRows (F := F) 2 ∗ SC (F := F) 1 10 6 0 ∗ eSC (F := F) 1 c11 0 1
  ∗ eSF (F := F) 1 c15 0 0 ∗ eSF (F := F) 1 c25 0 0 ∗ eSF (F := F) 1 c19 0 0) ∗ KV I 1)

theorem T_tails : Tr 1 iprop(PC I.cont K ∗ S1 I 1) (do tailOut kH ktM (wh _) 23; tailOut vH vtM (wh _) 24) (S1b I) := by
  refine Tr.bindP I.cont K (Q := iprop((TS 1 d1a ∗ pts kH 1 (I.K 1) ∗ anyP tsM 1 ∗ anyP tlM 1 ∗ own ktM 1 (tailV (rnd ((tW kH).view.read (Elt F) (I.K 1))) 1) ∗ SC 1 10 3 3)
      ∗ (pts vH 1 (I.V 1) ∗ anyP stM 1 ∗ anyP vtM 0 ∗ anyP vtM 1 ∗ anyP vtM 2 ∗ anyP vtM 3 ∗ slotRows (F := F) 1 1 ∗ kRows (F := F) 2 ∗ eSC (F := F) 1 c11 0 1
        ∗ eSF (F := F) 1 c15 0 0 ∗ eSF (F := F) 1 c25 0 0 ∗ eSF (F := F) 1 c19 0 0)))
    ((Tr.frameP I.cont K _ (T_tailOut I.cont K (T := ktM) (b := 23) (j := 3) (r := 0) (l := d1a) (H := kH) (h := I.K 1) rfl (.inl rfl) rfl (by decide)
      fun d => (own_eq _ (tW_tail_k _ _)).trans (own_pts _ rfl))).pre ?_)
    ((Tr.frameP I.cont K iprop(own ktM 1 (I.cont.KT 1) ∗ pts kH 1 (I.K 1) ∗ anyP stM 1 ∗ slotRows (F := F) 1 1 ∗ kRows (F := F) 2 ∗ eSC (F := F) 1 c11 0 1
        ∗ eSF (F := F) 1 c15 0 0 ∗ eSF (F := F) 1 c25 0 0 ∗ eSF (F := F) 1 c19 0 0) (T_tailOut I.cont K (T := vtM) (b := 24) (j := 0) (r := 3) (l := d1b) (H := vH) (h := I.V 1) rfl (.inr rfl) rfl (by decide)
      fun d => (own_eq _ (tW_tail_v _ _)).trans (own_pts _ rfl))).conseq ?_ ?_)
  · show iprop(PC I.cont K ∗ TS 1 (dC 0 23 :: dC 2 23 :: dC 3 23 :: d1a) ∗ ((tails 1 ∗ slotRows 1 1) ∗ (tails 0 ∗ tails 2 ∗ kRows 2 ∗ tails 3) ∗ (SC 1 10 0 6 ∗ eSC 1 c11 0 1 ∗ eSF 1 c15 0 0 ∗ eSF 1 c25 0 0 ∗ eSF 1 c19 0 0)) ∗ KV I 1) ⊢ _
    unfold KV
    iintro ⟨#HP, HT, ⟨⟨⟨kt1, vt1⟩, s⟩, ⟨⟨kt0, vt0⟩, ⟨kt2, vt2⟩, k2, kt3, vt3⟩, a, b, d, e, f⟩, hk, hv, st, ts, tl⟩
    iframe # HT hk ts tl kt0 kt1 kt2 kt3 a
    iframe
  · iintro ⟨#HP, ⟨HT, hk, ts, tl, kt, a⟩, hv, st, vt0, vt1, vt2, vt3, s, k2, b, d, e, f⟩
    ihave kt := (own_eq _ (tW_tail_k (I.K 1) 1)) $$ kt
    iframe # HT hv ts tl vt0 vt1 vt2 vt3 a
    isplitl [kt]; · iexact kt
    iframe
  · unfold S1b KV
    iintro ⟨⟨HT, hv, ts, tl, vt, a⟩, kt, hk, st, s, k2, b, d, e, f⟩
    ihave vt := (own_eq _ (tW_tail_v (I.V 1) 1)) $$ vt
    iframe HT hv ts tl a
    isplitr [hk st]
    · isplitl [kt]; · iexact kt
      isplitl [vt]; · iexact vt
      iframe
    · iframe

end Cert.Att
-- ==== Proof.Phases2.lean ====
module

public import proofs.«01_k».proof.Proof.Phases

@[expose] public section

noncomputable section

namespace Cert.Att

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F] [Named F]

local notation "𝕄" => MT nD τ sig Unit (Elt F) ℕ UU ℕ

variable (C : Cont F) (K : Dev nD × Fin 56 → ℕ) {c : Dev nD}

/-! ## Four of the same -/
variable (I : Inp F)

theorem T_pass1 : Tr 1 iprop(PC I.cont K ∗ S1b I) (do
    fourP (passOn 0 kM (wh _) 25 15 (by decide) (by decide))
    fourP (fun r => wtS kM (wh _) (cell 11 r) 0 r)) (S3 I 1) := by
  refine Tr.bindP I.cont K (Q := iprop((TS 1 (ringL 1) ∗ each (fun r => iprop(SC 1 (c25 r) 1 0 ∗ SF 1 (c11 r) 0 0)) ∗ emp)
      ∗ (own ktM 1 (I.cont.KT 1) ∗ own vtM 1 (I.cont.VT 1) ∗ slotRows (F := F) 1 1 ∗ SC (F := F) 1 10 6 0 ∗ eSF (F := F) 1 c15 0 0 ∗ eSF (F := F) 1 c19 0 0) ∗ KV I 1))
    (((Tr.four I.cont K (v := 2) (g := dK2) (l := ringL 1) (A := fun r => iprop(SF 1 (c25 r) 0 0 ∗ anyP (kW kM r) 2 ∗ SC 1 (c11 r) 0 1))
      (B := fun r => iprop(SC 1 (c25 r) 1 0 ∗ SF 1 (c11 r) 0 0)) (R := iprop(emp))
      (fun r => match r with | 0 => rfl | 1 => rfl | 2 => rfl | 3 => rfl) rfl
      fun r l hl => T_passOn I.cont K r (X := rowsK r (I.cont.K 2)) (.inl rfl) (.inl rfl) (.inl rfl) (s0_got I.cont r 1) (pass1_pay I.cont r 0) (k_pay I.cont r 2) (n_25 r) (n_k r 2 (by decide)) (lv_15 r) (lv_25 r) hl).frame _).pre ?_)
    (((T_rowWaits I.cont K (l := ringL 1) (v := 0) (a := c11) (t := 0) (j := 0) (src := fun r => kW kM r) (dst := fun r => sW 0 r) (hs := fun r => kW_we (wh _) r) (hd := fun r => sW_we 0 r) (Q := fun r => anyP (sW 0 r) 1)
      (fun r => match r with | 0 => by decide | 1 => by decide | 2 => by decide | 3 => by decide) (fun r => by rw [n_11 r 1 (.inl rfl)]; decide) (fun r => rfl) lv_11 rfl (fun r => pass1_got I.cont r 0)).frame
      (iprop(eSC (F := F) 1 c25 1 0 ∗ (own ktM 1 (I.cont.KT 1) ∗ own vtM 1 (I.cont.VT 1) ∗ slotRows (F := F) 1 1 ∗ SC (F := F) 1 10 6 0 ∗ eSF (F := F) 1 c15 0 0 ∗ eSF (F := F) 1 c19 0 0) ∗ KV I 1))).conseq ?_ ?_)
  · unfold S1b
    iintro ⟨#HP, HT, ⟨kt, vt, s, k2, a, b, d, e, f⟩, kv⟩
    isplitl [HT k2 b e]
    · isplitr; · iexact HP
      isplitl [HT]; · iexact HT
      isplitl
      · ihave H := (sep_each (F := F) (fun r => anyP (kW kM r) 2) (fun r => SC 1 (c11 r) 0 1)) $$ [k2 b]
        · iframe
        iapply (sep_each (F := F) (fun r => SF 1 (c25 r) 0 0) _) $$ [e H]
        iframe
      · iempintro
    · iframe
  · iintro ⟨#HP, ⟨HT, H, -⟩, X, kv⟩
    ihave H := (each_sep (F := F) (fun r => SC 1 (c25 r) 1 0) (fun r => SF 1 (c11 r) 0 0)) $$ H
    icases H with ⟨H1, H2⟩
    iframe # HT H1 H2 X kv
  · show _ ⊢ iprop(TS 1 (ringL 1) ∗ rel1 I ∗ KV I 1)
    unfold rel1
    iintro ⟨⟨HT, H⟩, H1, ⟨kt, vt, s, a, d, f⟩, kv⟩
    ihave H := (each_sep (F := F) (fun r => anyP (sW 0 r) 1) (fun r => SC 1 (c11 r) 1 0)) $$ H
    icases H with ⟨H2, H3⟩
    iframe

theorem T_pass3 : Tr 3 iprop(PC I.cont K ∗ S1 I 3) (do
    fourP (passOn 1 vM (wh _) 29 19 (by decide) (by decide))
    fourP (fun r => wtS vM (wh _) (cell 11 r) 1 r)) (S3 I 3) := by
  refine Tr.bindP I.cont K (Q := iprop((TS 3 (ringL 3) ∗ each (fun r => iprop(SC 3 (c29 r) 1 0 ∗ SF 3 (c11 r) 0 0)) ∗ emp)
      ∗ (slotRows (F := F) 0 3 ∗ eSF (F := F) 3 c15 0 0 ∗ SF (F := F) 3 23 0 0 ∗ SF (F := F) 3 24 0 0 ∗ eSF (F := F) 3 c19 0 0) ∗ KV I 3))
    (((Tr.four I.cont K (v := 2) (g := dV2) (l := ringL 3) (A := fun r => iprop(SF 3 (c29 r) 0 0 ∗ anyP (kW vM r) 2 ∗ SC 3 (c11 r) 0 1))
      (B := fun r => iprop(SC 3 (c29 r) 1 0 ∗ SF 3 (c11 r) 0 0)) (R := iprop(emp))
      (fun r => match r with | 0 => rfl | 1 => rfl | 2 => rfl | 3 => rfl) rfl
      fun r l hl => T_passOn I.cont K r (X := rowsK r (I.cont.V 2)) (.inr rfl) (.inr rfl) (.inr rfl) (s1_got I.cont r 3) (pass3_pay I.cont r 0) (v_pay I.cont r 2) (n_29 r) (n_v r 2 (by decide)) (lv_19 r) (lv_29 r) hl).frame _).pre ?_)
    (((T_rowWaits I.cont K (l := ringL 3) (v := 0) (a := c11) (t := 0) (j := 0) (src := fun r => kW vM r) (dst := fun r => sW 1 r) (hs := fun r => kW_we (wh _) r) (hd := fun r => sW_we 1 r) (Q := fun r => anyP (sW 1 r) 3)
      (fun r => match r with | 0 => by decide | 1 => by decide | 2 => by decide | 3 => by decide) (fun r => by rw [n_11 r 3 (.inr rfl)]; decide) (fun r => rfl) lv_11 rfl (fun r => pass3_got I.cont r 0)).frame
      (iprop(eSC (F := F) 3 c29 1 0 ∗ (slotRows (F := F) 0 3 ∗ eSF (F := F) 3 c15 0 0 ∗ SF (F := F) 3 23 0 0 ∗ SF (F := F) 3 24 0 0 ∗ eSF (F := F) 3 c19 0 0) ∗ KV I 3))).conseq ?_ ?_)
  · show iprop(PC I.cont K ∗ TS 3 (four dV2 (ringL 3)) ∗ (slotRows 0 3 ∗ vRows 2 ∗ (eSC 3 c11 0 1 ∗ eSF 3 c15 0 0 ∗ SF 3 23 0 0 ∗ SF 3 24 0 0 ∗ eSF 3 c29 0 0 ∗ eSF 3 c19 0 0)) ∗ KV I 3) ⊢ _
    iintro ⟨#HP, HT, ⟨s, k2, b, d, f, g, e, h⟩, kv⟩
    isplitl [HT k2 b e]
    · isplitr; · iexact HP
      isplitl [HT]; · iexact HT
      isplitl
      · ihave H := (sep_each (F := F) (fun r => anyP (kW vM r) 2) (fun r => SC 3 (c11 r) 0 1)) $$ [k2 b]
        · iframe
        iapply (sep_each (F := F) (fun r => SF 3 (c29 r) 0 0) _) $$ [e H]
        iframe
      · iempintro
    · iframe
  · iintro ⟨#HP, ⟨HT, H, -⟩, X, kv⟩
    ihave H := (each_sep (F := F) (fun r => SC 3 (c29 r) 1 0) (fun r => SF 3 (c11 r) 0 0)) $$ H
    icases H with ⟨H1, H2⟩
    iframe # HT H1 H2 X kv
  · show _ ⊢ iprop(TS 3 (ringL 3) ∗ rel3 ∗ KV I 3)
    unfold rel3
    iintro ⟨⟨HT, H⟩, H1, ⟨s, d, f, g, h⟩, kv⟩
    ihave H := (each_sep (F := F) (fun r => anyP (sW 1 r) 3) (fun r => SC 3 (c11 r) 1 0)) $$ H
    icases H with ⟨H2, H3⟩
    iframe

/-- The relays and the tail rows, on any device. -/
theorem T_headrest (c : Dev nD) : Tr c iprop(PC I.cont K ∗ S1 I c) (do
    whenP (c = 0) (fourP relayOut)
    whenP (c = 1) (do
      tailOut kH ktM (wh _) 23
      tailOut vH vtM (wh _) 24)
    whenP (c = 1) (do
      fourP (passOn 0 kM (wh _) 25 15 (by decide) (by decide))
      fourP (fun r => wtS kM (wh _) (cell 11 r) 0 r))) (S2 I c) :=
  match c with
  | 0 => Tr.bindP _ K (Tr.when_true rfl (T_relays K I)) (Tr.bindP _ K (Tr.not _ K (by decide)) (Tr.not _ K (by decide)))
  | 1 => Tr.bindP _ K (Tr.not _ K (by decide)) (Tr.bindP _ K (Tr.when_true rfl (T_tails K I)) (Tr.when_true rfl (T_pass1 K I)))
  | 2 => Tr.bindP _ K (Tr.not _ K (by decide)) (Tr.bindP _ K (Tr.not _ K (by decide)) ((Tr.not _ K (by decide)).post (by
      show iprop(TS 2 (ringL 2) ∗ ((slotRows 0 2 ∗ slotRows 1 2) ∗ emp ∗ cellsI 2) ∗ KV I 2) ⊢ iprop(TS 2 (ringL 2) ∗ rel2 ∗ KV I 2)
      unfold rel2
      iintro ⟨HT, ⟨⟨a, b⟩, -, d⟩, kv⟩
      iframe)))
  | 3 => Tr.bindP _ K (Tr.not _ K (by decide)) (Tr.bindP _ K (Tr.not _ K (by decide)) (Tr.not _ K (by decide)))
theorem T_dev3 (c : Dev nD) : Tr c iprop(PC I.cont K ∗ S2 I c) (whenP (c = 3) (do
    fourP (passOn 1 vM (wh _) 29 19 (by decide) (by decide))
    fourP (fun r => wtS vM (wh _) (cell 11 r) 1 r))) (S3 I c) :=
  match c with
  | 0 => Tr.not _ K (by decide)
  | 1 => Tr.not _ K (by decide)
  | 2 => Tr.not _ K (by decide)
  | 3 => Tr.when_true rfl (T_pass3 K I)

/-! ## The weights and the queries -/

def LD (c : Dev nD) : sProp 𝕄 := iprop(pts xH c (I.X c) ∗ pts qH c (I.Q c) ∗ pts oH c (I.O c) ∗ anyP (F := F) ldM c)
def LD0 (c : Dev nD) : sProp 𝕄 := iprop(anyP (F := F) wqM c ∗ anyP (F := F) woM c ∗ anyP (F := F) qM c)
def LD1 (c : Dev nD) : sProp 𝕄 := iprop(own wqM c (I.WQ c) ∗ own woM c (I.WO c) ∗ own qM c (I.QB c))

theorem wqM_done : part wqM c (fun i => (i 0).val < 512 * ((1 : Fin 2).val + 1)) (rnd (qH.view.read (Elt F) (I.Q c))) ⊢ own wqM c (I.WQ c) := part_own fun i => (i 0).isLt
theorem woM_done : part woM c (fun i => (i 0).val < 512 * ((1 : Fin 2).val + 1)) (rnd (oH.view.read (Elt F) (I.O c))) ⊢ own woM c (I.WO c) := part_own fun i => (i 0).isLt
theorem qM_done : part qM c (fun i => (i 0).val < 512 * ((3 : Fin 4).val + 1)) (tall fun r => qproj (rowsX (I.X c) r) (I.WQ c)) ⊢ own qM c (I.QB c) := part_own fun i => (i 0).isLt

theorem T_loads1 {l : List Duty} (hl : okL 0 l) : Tr c iprop(PC I.cont K ∗ TS c l ∗ LD I c ∗ LD0 c) loads1 iprop(TS c l ∗ LD I c ∗ LD1 I c) := fun Φ => by
  unfold loads1 LD LD0 LD1
  simp only [wp_bind]
  iintro ⟨#HP, HT, ⟨x, q, o, ld⟩, wq, wo, qb⟩ Hk
  ihave wq := (any_part (M := wqM) (A := fun i => (i 0).val < 512 * (0 : Fin 2).val) (G := rnd (I.Q c)) (fun i => Nat.not_lt_zero _)) $$ wq
  iapply (T_wLoad I.cont K hl qH wqM _ 0 (I.Q c) _) $$ [HT q ld wq]
  · iframe # HT q ld wq
  iintro ⟨HT, q, ld, wq⟩
  iapply (T_wLoad I.cont K hl qH wqM _ 1 (I.Q c) _) $$ [HT q ld wq]
  · iframe # HT q ld wq
  iintro ⟨HT, q, ld, wq⟩
  ihave wq := (wqM_done I) $$ wq
  ihave qb := (any_part (M := qM) (A := fun i => (i 0).val < 512 * (0 : Fin 4).val) (G := I.QB c) (fun i => Nat.not_lt_zero _)) $$ qb
  iapply (T_qRows I.cont K hl 0 (I.X c) (I.WQ c) _) $$ [HT x ld wq qb]
  · iframe # HT x ld wq qb
  iintro ⟨HT, x, ld, wq, qb⟩
  iapply (T_qRows I.cont K hl 1 (I.X c) (I.WQ c) _) $$ [HT x ld wq qb]
  · iframe # HT x ld wq qb
  iintro ⟨HT, x, ld, wq, qb⟩
  iapply (T_qRows I.cont K hl 2 (I.X c) (I.WQ c) _) $$ [HT x ld wq qb]
  · iframe # HT x ld wq qb
  iintro ⟨HT, x, ld, wq, qb⟩
  iapply (T_qRows I.cont K hl 3 (I.X c) (I.WQ c) _) $$ [HT x ld wq qb]
  · iframe # HT x ld wq qb
  iintro ⟨HT, x, ld, wq, qb⟩
  ihave qb := (qM_done I) $$ qb
  ihave wo := (any_part (M := woM) (A := fun i => (i 0).val < 512 * (0 : Fin 2).val) (G := rnd (I.O c)) (fun i => Nat.not_lt_zero _)) $$ wo
  iapply (T_wLoad I.cont K hl oH woM _ 0 (I.O c) _) $$ [HT o ld wo]
  · iframe # HT o ld wo
  iintro ⟨HT, o, ld, wo⟩
  iapply (T_wLoad I.cont K hl oH woM _ 1 (I.O c) _) $$ [HT o ld wo]
  · iframe # HT o ld wo
  iintro ⟨HT, o, ld, wo⟩
  ihave wo := (woM_done I) $$ wo
  iapply Hk
  isplitl [HT]; · iexact HT
  isplitr [wq wo qb]
  · iframe
  · isplitl [wq]; · iexact wq
    isplitl [wo]; · iexact wo
    iexact qb

end Cert.Att
-- ==== Proof.Phases3.lean ====
module

public import proofs.«01_k».proof.Proof.Phases2

@[expose] public section

noncomputable section

namespace Cert.Att

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F] [Named F]

local notation "𝕄" => MT nD τ sig Unit (Elt F) ℕ UU ℕ

variable (C : Cont F) (K : Dev nD × Fin 56 → ℕ) {c : Dev nD}

/-! ## Four of the same -/
variable (I : Inp F)

/-! ## The main rows -/

/-- A block of value rows: device 0 has it at once, the others get it. -/
def VP (c : Dev nD) (r : Fin 4) : sProp 𝕄 := if c = 0 then pts (kW vM r) c (I.cont.V c) else SF (F := F) c (c19 r) 0 0
def VE (c : Dev nD) (r : Fin 4) : sProp 𝕄 := if c = 0 then iprop(emp) else SC (F := F) c (c19 r) 1 0
/-- Device 0's last copies of rows are not waited for before the rings. -/
def SP (c : Dev nD) : sProp 𝕄 := match c with
  | 0 => iprop(eSF (F := F) 0 (sCell 0) 2 0 ∗ eSF (F := F) 0 (sCell 1) 2 0 ∗ SC (F := F) 0 23 1 0 ∗ SC (F := F) 0 24 1 0)
  | 1 => iprop(slotRows (F := F) 0 1 ∗ slotRows (F := F) 1 1 ∗ cellsE (F := F) 1)
  | 2 => iprop(slotRows (F := F) 0 2 ∗ slotRows (F := F) 1 2 ∗ cellsE (F := F) 2)
  | 3 => iprop(slotRows (F := F) 0 3 ∗ slotRows (F := F) 1 3 ∗ cellsE (F := F) 3)
def S4 (c : Dev nD) : sProp 𝕄 :=
  iprop(TS c (ringL c) ∗ (own kM c (I.cont.K c) ∗ each (VP I c) ∗ own ktM c (I.cont.KT c) ∗ own vtM c (I.cont.VT c)) ∗ SP c ∗ KV I c)

theorem n_tail : ∀ c : Dev nD, c ≠ 1 → 0 < nR c 23 ∧ 0 < nR c 24 := by decide
theorem amt_tail {n : ℕ} (h : n = 23 ∨ n = 24) : ktM.view.dmaCredit = amt n := by
  unfold amt
  rw [if_neg (by omega), if_pos (by omega)]

theorem T_tailWaits (hc : c ≠ 1) : Tr c iprop(PC I.cont K ∗ TS c (ringL c) ∗ SF c 23 0 0 ∗ SF c 24 0 0)
    (do wtP 23 tlM ktM (wh _).wordExact (wh _).wordExact; wtP 24 tlM vtM (wh _).wordExact (wh _).wordExact)
    iprop(TS c (ringL c) ∗ own ktM c (I.cont.KT c) ∗ own vtM c (I.cont.VT c) ∗ SC c 23 1 0 ∗ SC c 24 1 0) := fun Φ => by
  simp only [wp_bind]
  iintro ⟨#HP, HT, a, b⟩ Hk
  iapply (T_wt I.cont K (c := c) (a := 23) (dst := ktM) (r := 0) (j := 0) (by decide) (n_tail c hc).1 (amt_tail (.inl rfl)) (ok_ring c) _) $$ [HT a]
  · iframe # HT a
  iintro ⟨HT, kt, a⟩
  iapply (T_wt I.cont K (c := c) (a := 24) (dst := vtM) (r := 0) (j := 0) (by decide) (n_tail c hc).2 (amt_tail (.inr rfl)) (ok_ring c) _) $$ [HT b]
  · iframe # HT b
  iintro ⟨HT, vt, b⟩
  ihave kt := (show dmaPay I.cont c (23 : Fin 57).val 0 ⊢ own ktM c (I.cont.KT c) from own_intro ktM rfl) $$ kt
  ihave vt := (show dmaPay I.cont c (24 : Fin 57).val 0 ⊢ own vtM c (I.cont.VT c) from own_intro vtM rfl) $$ vt
  iapply Hk
  iframe

theorem T_kWaits (hc : c ≠ 0) : Tr c iprop(PC I.cont K ∗ TS c (ringL c) ∗ eSF c c15 0 0) (fourP (fun r => wtR kM (wh _) (cell 15 r) r))
    iprop(TS c (ringL c) ∗ own kM c (I.cont.K c) ∗ eSC c c15 1 0) :=
  (T_rowWaits I.cont K (l := ringL c) (v := 3) (a := c15) (t := 0) (j := 0) (src := fun r => sW 0 r) (dst := fun r => kW kM r) (hs := fun r => sW_we 0 r) (hd := fun r => kW_we (wh _) r)
    (Q := fun r => pts (kW kM r) c (I.cont.K c)) (fun r => match r with | 0 => by decide | 1 => by decide | 2 => by decide | 3 => by decide)
    (fun r => by rw [n_k r c hc]; decide) (fun r => rfl) lv_15 (ok_ring c) (fun r => k_got I.cont r c)).post (by
      iintro ⟨HT, H⟩
      ihave H := (each_sep (F := F) (fun r => pts (kW kM r) c (I.cont.K c)) (fun r => SC c (c15 r) 1 0)) $$ H
      icases H with ⟨H, H2⟩
      ihave H := ((kW_pts kM (c := c) (I.cont.K c)).trans (own_intro kM (X := I.cont.K c) rfl)) $$ H
      iframe)

theorem VP_pos (r : Fin 4) (hc : c ≠ 0) : VP I c r = SF c (c19 r) 0 0 := if_neg hc
theorem VP_each (hc : c ≠ 0) : eSF c c19 0 0 ⊢ each (VP I c) := each_mono fun r => Entails.of_eq (VP_pos I r hc).symm

def S3a : sProp 𝕄 := iprop(TS 0 (four dV (ringL 0)) ∗ (own kM 0 (I.cont.K 0) ∗ vRows (F := F) 0 ∗ vRows (F := F) 1 ∗ vRows (F := F) 3
      ∗ eSF (F := F) 0 (sCell 0) 1 1 ∗ eSF (F := F) 0 (sCell 1) 1 1 ∗ SF (F := F) 0 23 0 0 ∗ SF (F := F) 0 24 0 0) ∗ KV I 0)
def S3b : sProp 𝕄 := iprop(TS 0 (ringL 0) ∗ (own kM 0 (I.cont.K 0) ∗ each (VP I 0)
      ∗ eSF (F := F) 0 (sCell 0) 2 0 ∗ eSF (F := F) 0 (sCell 1) 2 0 ∗ SF (F := F) 0 23 0 0 ∗ SF (F := F) 0 24 0 0) ∗ KV I 0)

theorem T_kRows0 : Tr 0 iprop(PC I.cont K ∗ S3 I 0) (fourP (fun r => rowsOut kH kM (wh _) r 15 (by decide))) (S3a I) := by
  refine ((Tr.four I.cont K (v := 0) (g := dK) (l := four dV (ringL 0))
    (A := fun r => iprop(SF 0 (sCell 0 r) 0 2 ∗ SF 0 (sCell 1 r) 0 2 ∗ anyP (kW kM r) 1 ∗ anyP (kW kM r) 3 ∗ anyP (kW kM r) 0))
    (B := fun r => iprop(SF 0 (sCell 0 r) 1 1 ∗ SF 0 (sCell 1 r) 1 1 ∗ own (kW kM r) 0 (rnd ((hW kH r 0).view.read (Elt F) (I.K 0))))) (R := iprop(pts kH 0 (I.K 0) ∗ anyP stM 0))
    (fun r => match r with | 0 => rfl | 1 => rfl | 2 => rfl | 3 => rfl) rfl
    fun r l hl => T_rowsOut I.cont K (.inl rfl) r (fun d => (own_eq _ (hW_rows_k _ _ _)).trans (k_pay I.cont r d)) (fun d hd => n_k r d hd) (lv_15 r) (t := 0) (j := 1) (by decide) hl).frame
    iprop(vRows (F := F) 0 ∗ vRows (F := F) 1 ∗ vRows (F := F) 3 ∗ SF (F := F) 0 23 0 0 ∗ SF (F := F) 0 24 0 0 ∗ pts vH 0 (I.V 0) ∗ anyP (F := F) tsM 0 ∗ anyP (F := F) tlM 0)).conseq ?_ ?_
  · show iprop(PC I.cont K ∗ TS 0 (dutyA 0) ∗ rel0 ∗ KV I 0) ⊢ _
    unfold rel0 KV
    iintro ⟨#HP, HT, ⟨k0, v0, k1, v1, k3, v3, f, g, a, b⟩, hk, hv, st, ts, tl⟩
    isplitr [v0 v1 v3 a b hv ts tl]
    · isplitr; · iexact HP
      isplitl [HT]; · iexact HT
      isplitr [hk st]
      · ihave H := (sep_each (F := F) (fun r => anyP (kW kM r) 3) (fun r => anyP (kW kM r) 0)) $$ [k3 k0]
        · iframe
        ihave H := (sep_each (F := F) (fun r => anyP (kW kM r) 1) _) $$ [k1 H]
        · iframe
        ihave H := (sep_each (F := F) (fun r => SF 0 (sCell 1 r) 0 2) _) $$ [g H]
        · iframe
        iapply (sep_each (F := F) (fun r => SF 0 (sCell 0 r) 0 2) _) $$ [f H]
        iframe
      · iframe
    · iframe
  · unfold S3a KV
    iintro ⟨⟨HT, H, hk, st⟩, v0, v1, v3, a, b, hv, ts, tl⟩
    ihave H := (each_sep (F := F) (fun r => SF 0 (sCell 0 r) 1 1) (fun r => iprop(SF 0 (sCell 1 r) 1 1 ∗ own (kW kM r) 0 (rnd ((hW kH r 0).view.read (Elt F) (I.K 0)))))) $$ H
    icases H with ⟨f, H⟩
    ihave H := (each_sep (F := F) (fun r => SF 0 (sCell 1 r) 1 1) (fun r => own (kW kM r) 0 (rnd ((hW kH r 0).view.read (Elt F) (I.K 0))))) $$ H
    icases H with ⟨g, H⟩
    ihave H := (each_mono (F := F) fun r => own_pts (kW kM r) (c := (0 : Dev nD)) (f := I.cont.K 0) (hW_rows_k (I.K 0) r 0).symm) $$ H
    ihave H := ((kW_pts kM (c := (0 : Dev nD)) (I.cont.K 0)).trans (own_intro kM (X := I.cont.K 0) rfl)) $$ H
    iframe

theorem T_vRows0 : Tr 0 iprop(PC I.cont K ∗ S3a I) (fourP (fun r => rowsOut vH vM (wh _) r 19 (by decide))) (S3b I) := by
  refine ((Tr.four I.cont K (v := 0) (g := dV) (l := ringL 0)
    (A := fun r => iprop(SF 0 (sCell 0 r) 1 1 ∗ SF 0 (sCell 1 r) 1 1 ∗ anyP (kW vM r) 1 ∗ anyP (kW vM r) 3 ∗ anyP (kW vM r) 0))
    (B := fun r => iprop(SF 0 (sCell 0 r) 2 0 ∗ SF 0 (sCell 1 r) 2 0 ∗ own (kW vM r) 0 (rnd ((hW vH r 0).view.read (Elt F) (I.V 0))))) (R := iprop(pts vH 0 (I.V 0) ∗ anyP stM 0))
    (fun r => match r with | 0 => rfl | 1 => rfl | 2 => rfl | 3 => rfl) rfl
    fun r l hl => T_rowsOut I.cont K (.inr rfl) r (fun d => (own_eq _ (hW_rows_v _ _ _)).trans (v_pay I.cont r d)) (fun d hd => n_v r d hd) (lv_19 r) (t := 1) (j := 0) (by decide) hl).frame
    iprop(own kM 0 (I.cont.K 0) ∗ SF (F := F) 0 23 0 0 ∗ SF (F := F) 0 24 0 0 ∗ pts kH 0 (I.K 0) ∗ anyP (F := F) tsM 0 ∗ anyP (F := F) tlM 0)).conseq ?_ ?_
  · unfold S3a KV
    iintro ⟨#HP, HT, ⟨k0, v0, v1, v3, f, g, a, b⟩, hk, hv, st, ts, tl⟩
    isplitr [k0 a b hk ts tl]
    · isplitr; · iexact HP
      isplitl [HT]; · iexact HT
      isplitr [hv st]
      · ihave H := (sep_each (F := F) (fun r => anyP (kW vM r) 3) (fun r => anyP (kW vM r) 0)) $$ [v3 v0]
        · iframe
        ihave H := (sep_each (F := F) (fun r => anyP (kW vM r) 1) _) $$ [v1 H]
        · iframe
        ihave H := (sep_each (F := F) (fun r => SF 0 (sCell 1 r) 1 1) _) $$ [g H]
        · iframe
        iapply (sep_each (F := F) (fun r => SF 0 (sCell 0 r) 1 1) _) $$ [f H]
        iframe
      · iframe
    · iframe
  · unfold S3b KV
    iintro ⟨⟨HT, H, hv, st⟩, k0, a, b, hk, ts, tl⟩
    ihave H := (each_sep (F := F) (fun r => SF 0 (sCell 0 r) 2 0) (fun r => iprop(SF 0 (sCell 1 r) 2 0 ∗ own (kW vM r) 0 (rnd ((hW vH r 0).view.read (Elt F) (I.V 0)))))) $$ H
    icases H with ⟨f, H⟩
    ihave H := (each_sep (F := F) (fun r => SF 0 (sCell 1 r) 2 0) (fun r => own (kW vM r) 0 (rnd ((hW vH r 0).view.read (Elt F) (I.V 0))))) $$ H
    icases H with ⟨g, H⟩
    ihave H := (each_mono (F := F) (B := VP I 0) fun r => own_pts (kW vM r) (c := (0 : Dev nD)) (f := I.cont.V 0) (hW_rows_v (I.V 0) r 0).symm) $$ H
    iframe

theorem T_rows1 (c : Dev nD) : Tr c iprop(PC I.cont K ∗ S3 I c) (rows1 c) (S4 I c) :=
  match c with
  | 0 => Tr.bindP _ K (Tr.when_true rfl (Tr.bindP _ K (T_kRows0 K I) (T_vRows0 K I))) (Tr.bindP _ K (Tr.not _ K (by decide))
      (Tr.when_true (by decide) (((T_tailWaits K I (c := 0) (by decide)).frame iprop(own kM 0 (I.cont.K 0) ∗ each (VP I 0) ∗ eSF (F := F) 0 (sCell 0) 2 0 ∗ eSF (F := F) 0 (sCell 1) 2 0 ∗ KV I 0)).conseq
        (by unfold S3b
            iintro ⟨#HP, HT, ⟨k, v, f, g, a, b⟩, kv⟩
            iframe # HT a b
            iframe)
        (by show _ ⊢ iprop(TS 0 (ringL 0) ∗ (own kM 0 (I.cont.K 0) ∗ each (VP I 0) ∗ own ktM 0 (I.cont.KT 0) ∗ own vtM 0 (I.cont.VT 0)) ∗ (eSF 0 (sCell 0) 2 0 ∗ eSF 0 (sCell 1) 2 0 ∗ SC 0 23 1 0 ∗ SC 0 24 1 0) ∗ KV I 0)
            iintro ⟨⟨HT, kt, vt, a, b⟩, k, v, f, g, kv⟩
            iframe))))
  | 1 => Tr.bindP _ K (Tr.not _ K (by decide)) (Tr.bindP _ K (Tr.when_true (by decide)
      (((T_kWaits K I (c := 1) (by decide)).frame iprop(own ktM 1 (I.cont.KT 1) ∗ own vtM 1 (I.cont.VT 1) ∗ slotRows (F := F) 0 1 ∗ slotRows (F := F) 1 1 ∗ SC (F := F) 1 10 6 0 ∗ eSC (F := F) 1 c11 1 0
          ∗ eSC (F := F) 1 c25 1 0 ∗ eSF (F := F) 1 c19 0 0 ∗ KV I 1)).conseq
        (by show iprop(PC I.cont K ∗ TS 1 (ringL 1) ∗ rel1 I ∗ KV I 1) ⊢ _
            unfold rel1
            iintro ⟨#HP, HT, ⟨kt, vt, s, t, a, b, d, e, f⟩, kv⟩
            iframe # HT d
            iframe) .rfl)) ((Tr.not _ K (by decide)).post
        (by show _ ⊢ iprop(TS 1 (ringL 1) ∗ (own kM 1 (I.cont.K 1) ∗ each (VP I 1) ∗ own ktM 1 (I.cont.KT 1) ∗ own vtM 1 (I.cont.VT 1)) ∗ (slotRows 0 1 ∗ slotRows 1 1 ∗ SC 1 10 6 0 ∗ eSC 1 c11 1 0 ∗ eSC 1 c15 1 0 ∗ eSC 1 c25 1 0) ∗ KV I 1)
            iintro ⟨⟨HT, k, d⟩, kt, vt, s, t, a, b, e, f, kv⟩
            ihave f := (VP_each I (c := 1) (by decide)) $$ f
            iframe)))
  | 2 => Tr.bindP _ K (Tr.not _ K (by decide)) (Tr.bindP _ K (Tr.when_true (by decide)
      (((T_kWaits K I (c := 2) (by decide)).frame iprop(slotRows (F := F) 0 2 ∗ slotRows (F := F) 1 2 ∗ SF (F := F) 2 23 0 0 ∗ SF (F := F) 2 24 0 0 ∗ eSF (F := F) 2 c19 0 0 ∗ KV I 2)).conseq
        (by show iprop(PC I.cont K ∗ TS 2 (ringL 2) ∗ (slotRows 0 2 ∗ slotRows 1 2 ∗ (eSF 2 c15 0 0 ∗ SF 2 23 0 0 ∗ SF 2 24 0 0 ∗ eSF 2 c19 0 0)) ∗ KV I 2) ⊢ _
            iintro ⟨#HP, HT, ⟨s, t, d, a, b, f⟩, kv⟩
            iframe # HT d
            iframe) .rfl)) (Tr.when_true (by decide)
      (((T_tailWaits K I (c := 2) (by decide)).frame iprop(own kM 2 (I.cont.K 2) ∗ eSC (F := F) 2 c15 1 0 ∗ slotRows (F := F) 0 2 ∗ slotRows (F := F) 1 2 ∗ eSF (F := F) 2 c19 0 0 ∗ KV I 2)).conseq
        (by iintro ⟨#HP, ⟨HT, k, d⟩, s, t, a, b, f, kv⟩
            iframe # HT a b
            iframe)
        (by show _ ⊢ iprop(TS 2 (ringL 2) ∗ (own kM 2 (I.cont.K 2) ∗ each (VP I 2) ∗ own ktM 2 (I.cont.KT 2) ∗ own vtM 2 (I.cont.VT 2)) ∗ (slotRows 0 2 ∗ slotRows 1 2 ∗ eSC 2 c15 1 0 ∗ SC 2 23 1 0 ∗ SC 2 24 1 0) ∗ KV I 2)
            iintro ⟨⟨HT, kt, vt, a, b⟩, k, d, s, t, f, kv⟩
            ihave f := (VP_each I (c := 2) (by decide)) $$ f
            iframe))))
  | 3 => Tr.bindP _ K (Tr.not _ K (by decide)) (Tr.bindP _ K (Tr.when_true (by decide)
      (((T_kWaits K I (c := 3) (by decide)).frame iprop(slotRows (F := F) 0 3 ∗ slotRows (F := F) 1 3 ∗ eSC (F := F) 3 c11 1 0 ∗ eSC (F := F) 3 c29 1 0 ∗ SF (F := F) 3 23 0 0 ∗ SF (F := F) 3 24 0 0 ∗ eSF (F := F) 3 c19 0 0 ∗ KV I 3)).conseq
        (by show iprop(PC I.cont K ∗ TS 3 (ringL 3) ∗ rel3 ∗ KV I 3) ⊢ _
            unfold rel3
            iintro ⟨#HP, HT, ⟨s, t, g, d, a, b, e, f⟩, kv⟩
            iframe # HT d
            iframe) .rfl)) (Tr.when_true (by decide)
      (((T_tailWaits K I (c := 3) (by decide)).frame iprop(own kM 3 (I.cont.K 3) ∗ eSC (F := F) 3 c15 1 0 ∗ slotRows (F := F) 0 3 ∗ slotRows (F := F) 1 3 ∗ eSC (F := F) 3 c11 1 0 ∗ eSC (F := F) 3 c29 1 0 ∗ eSF (F := F) 3 c19 0 0 ∗ KV I 3)).conseq
        (by iintro ⟨#HP, ⟨HT, k, d⟩, s, t, g, e, a, b, f, kv⟩
            iframe # HT a b
            iframe)
        (by show _ ⊢ iprop(TS 3 (ringL 3) ∗ (own kM 3 (I.cont.K 3) ∗ each (VP I 3) ∗ own ktM 3 (I.cont.KT 3) ∗ own vtM 3 (I.cont.VT 3)) ∗ (slotRows 0 3 ∗ slotRows 1 3 ∗ eSC 3 c11 1 0 ∗ eSC 3 c15 1 0 ∗ SC 3 23 1 0 ∗ SC 3 24 1 0 ∗ eSC 3 c29 1 0) ∗ KV I 3)
            iintro ⟨⟨HT, kt, vt, a, b⟩, k, d, s, t, g, e, f, kv⟩
            ihave f := (VP_each I (c := 3) (by decide)) $$ f
            iframe))))

end Cert.Att
-- ==== Proof.Phases4.lean ====
module

public import proofs.«01_k».proof.Proof.Phases3

@[expose] public section

noncomputable section

namespace Cert.Att

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F] [Named F]

local notation "𝕄" => MT nD τ sig Unit (Elt F) ℕ UU ℕ

variable (C : Cont F) (K : Dev nD × Fin 56 → ℕ) {c : Dev nD}

/-! ## Four of the same -/
variable (I : Inp F) {R R' : sProp (MT nD τ sig Unit (Elt F) ℕ UU ℕ)}

/-! ## The attention -/

abbrev BSI (c : Dev nD) (n k : ℕ) : sProp 𝕄 :=
  BS (headsOf (I.K 0) c) (headsOf (I.V 0) c) (tailOf (I.K 1) c) (tailOf (I.V 1) c) (I.QB c) c (vSet (c := c) n) k
/-- The blocks of value rows when `n` of them have come. -/
def VS (c : Dev nD) (n : ℕ) : sProp 𝕄 := each fun r => if r.val < n then VE c r else VP I c r
/-- With `n` blocks of value rows and `k` pieces of the context done. -/
def AS (c : Dev nD) (n k : ℕ) (R : sProp (MT nD τ sig Unit (Elt F) ℕ UU ℕ)) : sProp 𝕄 :=
  iprop(TS c (ringL c) ∗ BSI I c n k ∗ own ktM c (I.cont.KT c) ∗ own vtM c (I.cont.VT c) ∗ VS I c n ∗ R)

theorem VS_next (r : Fin 4) : VS I c r.val ⊢ iprop(VP I c r ∗ (VE c r -∗ VS I c (r.val + 1))) :=
  match r with
  | 0 => by
    show iprop(VP I c 0 ∗ VP I c 1 ∗ VP I c 2 ∗ VP I c 3) ⊢ iprop(VP I c 0 ∗ (VE c 0 -∗ (VE c 0 ∗ VP I c 1 ∗ VP I c 2 ∗ VP I c 3)))
    iintro ⟨a, b, d, e⟩
    isplitl [a]; · iexact a
    iintro a; iframe
  | 1 => by
    show iprop(VE c 0 ∗ VP I c 1 ∗ VP I c 2 ∗ VP I c 3) ⊢ iprop(VP I c 1 ∗ (VE c 1 -∗ (VE c 0 ∗ VE c 1 ∗ VP I c 2 ∗ VP I c 3)))
    iintro ⟨a, b, d, e⟩
    isplitl [b]; · iexact b
    iintro b; iframe
  | 2 => by
    show iprop(VE c 0 ∗ VE c 1 ∗ VP I c 2 ∗ VP I c 3) ⊢ iprop(VP I c 2 ∗ (VE c 2 -∗ (VE c 0 ∗ VE c 1 ∗ VE c 2 ∗ VP I c 3)))
    iintro ⟨a, b, d, e⟩
    isplitl [d]; · iexact d
    iintro d; iframe
  | 3 => by
    show iprop(VE c 0 ∗ VE c 1 ∗ VE c 2 ∗ VP I c 3) ⊢ iprop(VP I c 3 ∗ (VE c 3 -∗ (VE c 0 ∗ VE c 1 ∗ VE c 2 ∗ VE c 3)))
    iintro ⟨a, b, d, e⟩
    isplitl [e]; · iexact e
    iintro e; iframe

theorem c19_ok : ∀ r : Fin 4, 2 ≤ (c19 r).val ∧ (c19 r).val < 23 ∧ (c19 r).val ≠ 10 := by decide
theorem T_vWait (r : Fin 4) : Tr c iprop(PC I.cont K ∗ TS c (ringL c) ∗ VP I c r) (vWait c r) iprop(TS c (ringL c) ∗ pts (kW vM r) c (I.cont.V c) ∗ VE c r) := by
  by_cases hc : c = 0
  · refine (Tr.when_false (by simpa using hc)).post ?_
    unfold VP VE
    rw [if_pos hc, if_pos hc]
    iintro ⟨-, HT, H⟩
    iframe
  · refine Tr.when_true hc ((T_rowWait I.cont K (c := c) (a := c19 r) (t := 0) (j := 0) (v := 3) (Q := pts (kW vM r) c (I.cont.V c)) (l := ringL c)
      (src := sW 0 r) (dst := kW vM r) (hs := sW_we 0 r) (hd := kW_we (wh _) r) (c19_ok r) (by rw [n_v r c hc]; exact Nat.one_pos) rfl (lv_19 r) (ok_ring c) (v_got I.cont r c)).conseq ?_ ?_)
    · unfold VP
      rw [if_neg hc]
      iintro ⟨#HP, HT, H⟩
      iframe # HT H
    · unfold VE
      rw [if_neg hc]
      iintro ⟨HT, ⟨H, a⟩, -⟩
      iframe

theorem A_first : Tr c iprop(PC I.cont K ∗ TS c (ringL c) ∗ own kM c (I.cont.K c) ∗ own qM c (I.QB c) ∗ anyP cxM c ∗ own ktM c (I.cont.KT c) ∗ own vtM c (I.cont.VT c) ∗ each (VP I c) ∗ R)
    (vWait c 0) (AS I c 1 0 R) := fun Φ => by
  iintro ⟨#HP, HT, k, q, cx, kt, vt, V, R⟩ Hk
  ihave V := (show each (VP I c) ⊢ iprop(VP I c 0 ∗ (VE c 0 -∗ VS I c (0 + 1))) from VS_next I 0) $$ V
  icases V with ⟨v, V⟩
  iapply (T_vWait K I (c := c) 0 _) $$ [HT v]
  · iframe # HT v
  iintro ⟨HT, v, e⟩
  ihave V := V $$ e
  ihave v := (vSet_one (c := c) (I.cont.V c)) $$ v
  ihave cx := (any_part (M := cxM) (A := done 0) (G := I.ctx c) (fun i => Nat.not_lt_zero _)) $$ cx
  iapply Hk
  unfold AS BSI BS
  isplitl [HT]; · iexact HT
  isplitl [k q v cx]
  · isplitl [k]; · iexact k
    isplitl [v]; · iexact v
    isplitl [q]; · iexact q
    iexact cx
  iframe

theorem A_next (r : Fin 4) {k : ℕ} : Tr c iprop(PC I.cont K ∗ AS I c r.val k R) (vWait c r) (AS I c (r.val + 1) k R) := fun Φ => by
  unfold AS BSI BS
  iintro ⟨#HP, HT, ⟨k, v, q, cx⟩, kt, vt, V, R⟩ Hk
  ihave V := (VS_next I r) $$ V
  icases V with ⟨w, V⟩
  iapply (T_vWait K I (c := c) r _) $$ [HT w]
  · iframe # HT w
  iintro ⟨HT, w, e⟩
  ihave V := V $$ e
  ihave v := (vSet_next (c := c) (I.cont.V c) r) $$ [v w]
  · isplitl [v]; · iexact v
    iexact w
  iapply Hk
  isplitl [HT]; · iexact HT
  isplitl [k q v cx]
  · isplitl [k]; · iexact k
    isplitl [v]; · iexact v
    isplitl [q]; · iexact q
    iexact cx
  iframe

theorem heads_val : ∀ i : Fin heads.length, heads[i].val = i.val := by decide

theorem A_blks (qb : Fin 7) (n : ℕ) (h : 256 * qb.val - 128 + 512 ≤ 512 * n) :
    Tr c iprop(PC I.cont K ∗ AS I c n (8 * qb.val) R) (blks qb) (AS I c n (8 * qb.val + 8) R) := by
  have hs : Tr c (BSI I c n (8 * qb.val)) (blks qb) (BSI I c n (8 * qb.val + 8)) :=
    Tr.seq (blk qb) (BSI I c n) heads (8 * qb.val) fun i => by
      rw [← heads_val i]
      exact T_blk _ _ _ _ _ qb heads[i] (vSet_sub fun x => by
        have hx : (x 0).val < 512 := (x 0).isLt
        rw [show ((kR qb heads[i]).emb x 0).val = (256 * qb.val - 128) + (x 0).val from ValueKit.rect_emb_unit_val _ _ _ _ 0]
        omega)
  refine (hs.frame iprop(TS c (ringL c) ∗ own ktM c (I.cont.KT c) ∗ own vtM c (I.cont.VT c) ∗ VS I c n ∗ R)).conseq ?_ ?_
  · unfold AS
    iintro ⟨-, HT, b, kt, vt, V, R⟩
    iframe
  · unfold AS
    iintro ⟨b, HT, kt, vt, V, R⟩
    iframe

theorem A_blk7 : Tr c iprop(PC I.cont K ∗ AS I c 4 56 R) (seqP (heads.map blk7)) (AS I c 4 64 R) := by
  have hs : Tr c iprop(BSI I c 4 56 ∗ own ktM c (tailOf (I.K 1) c) ∗ own vtM c (tailOf (I.V 1) c)) (seqP (heads.map blk7)) iprop(BSI I c 4 64 ∗ own ktM c (tailOf (I.K 1) c) ∗ own vtM c (tailOf (I.V 1) c)) :=
    Tr.seq blk7 (fun k => iprop(BSI I c 4 k ∗ own ktM c (tailOf (I.K 1) c) ∗ own vtM c (tailOf (I.V 1) c))) heads 56 fun i => by
      rw [← heads_val i]
      exact T_blk7 _ _ _ _ _ heads[i] (vSet_sub fun x => by
        have hx : (x 0).val < 384 := (x 0).isLt
        rw [show ((kR7 heads[i]).emb x 0).val = 1664 + (x 0).val from ValueKit.rect_emb_unit_val _ _ _ _ 0]
        omega)
  refine (hs.frame iprop(TS c (ringL c) ∗ VS I c 4 ∗ R)).conseq ?_ ?_
  · unfold AS
    iintro ⟨-, HT, b, kt, vt, V, R⟩
    isplitl [b kt vt]
    · isplitl [b]; · iexact b
      isplitl [kt]; · iexact kt
      iexact vt
    iframe
  · unfold AS
    iintro ⟨⟨b, kt, vt⟩, HT, V, R⟩
    isplitl [HT]; · iexact HT
    isplitl [b]; · iexact b
    isplitl [kt]; · iexact kt
    isplitl [vt]; · iexact vt
    iframe

/-- What remains of it. -/
def AE (c : Dev nD) : sProp 𝕄 :=
  iprop(own kM c (I.cont.K c) ∗ pts vM c (I.cont.V c) ∗ own qM c (I.QB c) ∗ own ktM c (I.cont.KT c) ∗ own vtM c (I.cont.VT c) ∗ each (VE (F := F) c))
theorem AS_end : AS I c 4 64 R ⊢ iprop(TS c (ringL c) ∗ own cxM c (I.ctx c) ∗ AE I c ∗ R) := by
  unfold AS BSI BS AE
  iintro ⟨HT, ⟨k, v, q, cx⟩, kt, vt, V, R⟩
  ihave v := (vSet_all (c := c) (headsOf (I.V 0) c)) $$ v
  ihave cx := (part_own (M := cxM) (c := c) (A := done 64) (G := ctxV (headsOf (I.K 0) c) (headsOf (I.V 0) c) (tailOf (I.K 1) c) (tailOf (I.V 1) c) (I.QB c)) (fun i => by
    have h0 : (i 0).val < 2048 := (i 0).isLt
    have h1 : (i 1).val < 1024 := (i 1).isLt
    show 8 * ((i 0).val / 256) + (i 1).val / 128 < 64
    omega)) $$ cx
  isplitl [HT]; · iexact HT
  isplitl [cx]; · iexact cx
  isplitr [R]
  · isplitl [k]; · iexact k
    isplitl [v]; · iexact v
    isplitl [q]; · iexact q
    isplitl [kt]; · iexact kt
    isplitl [vt]; · iexact vt
    iapply (show VS I c 4 ⊢ each (VE (F := F) c) from .rfl) $$ V
  iexact R

/-! ## The projection -/

theorem T_oAll : Tr c iprop(PC I.cont K ∗ TS c (ringL c) ∗ (each (fun k => anyP (cW prM k) c) ∗ each (fun k => anyP (cW plM k) c)) ∗ own cxM c (I.ctx c) ∗ own woM c (I.WO c)) (fourP oRows)
    iprop(TS c (ringL c) ∗ (each (fun k => (dirR I.cont).PO k c) ∗ each (fun k => (dirL I.cont).PO k c)) ∗ own cxM c (I.ctx c) ∗ own woM c (I.WO c)) := by
  refine (Tr.four I.cont K (v := 0) (g := fun _ => []) (l := ringL c) (A := fun r => iprop(anyP (cW prM r) c ∗ anyP (cW plM r) c))
    (B := fun r => iprop((dirR I.cont).PO r c ∗ (dirL I.cont).PO r c)) (R := iprop(own cxM c (I.ctx c) ∗ own woM c (I.WO c))) (fun _ => rfl)
    (match c with | 0 => rfl | 1 => rfl | 2 => rfl | 3 => rfl)
    fun r l hl => ((T_oRows (c := c) r (I.ctx c) (I.WO c)).frame (TS c l)).conseq ?_ ?_).conseq ?_ ?_
  · iintro ⟨-, HT, ⟨a, b⟩, x, w⟩
    isplitr [HT]
    · iframe
    · iexact HT
  · iintro ⟨⟨⟨x, w⟩, a, b⟩, HT⟩
    isplitl [HT]; · iexact HT
    isplitl [a b]
    · isplitl [a]; · iexact a
      iexact b
    iframe
  · iintro ⟨#HP, HT, ⟨a, b⟩, x, w⟩
    ihave a := (sep_each (F := F) (fun r => anyP (cW prM r) c) (fun r => anyP (cW plM r) c)) $$ [a b]
    · iframe
    iframe # HT a
    iframe
  · iintro ⟨HT, H, x, w⟩
    ihave H := (each_sep (F := F) (fun r => (dirR I.cont).PO r c) (fun r => (dirL I.cont).PO r c)) $$ H
    iframe

/-! ## The rings -/

section
variable (g : Dev nD → sProp (MT nD τ sig Unit (Elt F) ℕ UU ℕ))
theorem each_roundR : each g ⊢ round pv nx c g :=
  match c with
  | 0 => by show iprop(g 0 ∗ g 1 ∗ g 2 ∗ g 3) ⊢ iprop(g 0 ∗ g 3 ∗ g 2 ∗ g 1); iintro ⟨a, b, d, e⟩; iframe
  | 1 => by show iprop(g 0 ∗ g 1 ∗ g 2 ∗ g 3) ⊢ iprop(g 1 ∗ g 0 ∗ g 3 ∗ g 2); iintro ⟨a, b, d, e⟩; iframe
  | 2 => by show iprop(g 0 ∗ g 1 ∗ g 2 ∗ g 3) ⊢ iprop(g 2 ∗ g 1 ∗ g 0 ∗ g 3); iintro ⟨a, b, d, e⟩; iframe
  | 3 => by show iprop(g 0 ∗ g 1 ∗ g 2 ∗ g 3) ⊢ iprop(g 3 ∗ g 2 ∗ g 1 ∗ g 0); iintro ⟨a, b, d, e⟩; iframe
theorem roundR_each : round pv nx c g ⊢ each g :=
  match c with
  | 0 => by show iprop(g 0 ∗ g 3 ∗ g 2 ∗ g 1) ⊢ iprop(g 0 ∗ g 1 ∗ g 2 ∗ g 3); iintro ⟨a, b, d, e⟩; iframe
  | 1 => by show iprop(g 1 ∗ g 0 ∗ g 3 ∗ g 2) ⊢ iprop(g 0 ∗ g 1 ∗ g 2 ∗ g 3); iintro ⟨a, b, d, e⟩; iframe
  | 2 => by show iprop(g 2 ∗ g 1 ∗ g 0 ∗ g 3) ⊢ iprop(g 0 ∗ g 1 ∗ g 2 ∗ g 3); iintro ⟨a, b, d, e⟩; iframe
  | 3 => by show iprop(g 3 ∗ g 2 ∗ g 1 ∗ g 0) ⊢ iprop(g 0 ∗ g 1 ∗ g 2 ∗ g 3); iintro ⟨a, b, d, e⟩; iframe
theorem round_swap : round pv nx c g ⊢ round nx pv c g := by iintro ⟨a, b, d, e⟩; isplitl [a]; iexact a; isplitl [e]; iexact e; isplitl [d]; iexact d; iexact b
theorem swap_round : round nx pv c g ⊢ round pv nx c g := by iintro ⟨a, b, d, e⟩; isplitl [a]; iexact a; isplitl [e]; iexact e; isplitl [d]; iexact d; iexact b
end

/-- The cells of the rings, at first and at the end. -/
def ringI (C : Cont F) (c : Dev nD) : sProp 𝕄 :=
  iprop((six (fun n => SC c ((dirR C).s n) 0 1) ∗ six (fun n => SF c ((dirR C).r n) 0 0)) ∗ (six (fun n => SC c ((dirL C).s n) 0 1) ∗ six (fun n => SF c ((dirL C).r n) 0 0)))
def ringE (C : Cont F) (c : Dev nD) : sProp 𝕄 :=
  iprop((six (fun n => SC c ((dirR C).s n) 1 0) ∗ six (fun n => SC c ((dirR C).r n) 1 0)) ∗ (six (fun n => SC c ((dirL C).s n) 1 0) ∗ six (fun n => SC c ((dirL C).r n) 1 0)))
def acc (c : Dev nD) : sProp 𝕄 := iprop((anyP (F := F) (aW arM 0) c ∗ anyP (F := F) (aW arM 1) c) ∗ (anyP (F := F) (aW alM 0) c ∗ anyP (F := F) (aW alM 1) c))

theorem T_ringsI : Tr c iprop(PC I.cont K ∗ TS c (ringL c) ∗ (each (fun k => (dirR I.cont).PO k c) ∗ each (fun k => (dirL I.cont).PO k c)) ∗ (rChunks (nx c) ∗ lChunks (pv c)) ∗ acc c ∗ ringI I.cont c)
    (ring1 c >>= fun _ => ring2 c >>= fun _ => ring3 c)
    iprop(TS c [] ∗ (each (fun k => anyP (cW prM k) c) ∗ each (fun k => anyP (cW plM k) c)) ∗ (each (fun k => (dirR I.cont).O 3 k c) ∗ each (fun k => (dirL I.cont).O 3 k c)) ∗ acc c ∗ ringE I.cont c) := by
  refine (T_rings I.cont K).conseq ?_ ?_
  · unfold acc ringI RIn
    iintro ⟨#HP, HT, ⟨p, q⟩, ⟨r, l⟩, ⟨a, b⟩, ⟨s, t⟩, u, v⟩
    ihave p := (each_roundR (c := c) (fun k => (dirR I.cont).PO k c)) $$ p
    ihave q := ((each_roundR (c := c) (fun k => (dirL I.cont).PO k c)).trans (round_swap _)) $$ q
    ihave r := (each_roundR (c := c) (fun k => anyP (cW rrM k) (nx c))) $$ r
    ihave l := ((each_roundR (c := c) (fun k => anyP (cW rlM k) (pv c))).trans (round_swap _)) $$ l
    isplitr; · iexact HP
    isplitl [HT]; · iexact HT
    isplitl [p r a s t]
    · isplitl [p]; · iexact p
      isplitl [r]; · iexact r
      isplitl [a]; · iexact a
      isplitl [s]; · iexact s
      iexact t
    · isplitl [q]; · iexact q
      isplitl [l]; · iexact l
      isplitl [b]; · iexact b
      isplitl [u]; · iexact u
      iexact v
  · unfold acc ringE ROut
    iintro ⟨HT, ⟨⟨p0, p1, p2, p3⟩, r, a, s, t⟩, ⟨q0, q1, q2, q3⟩, l, b, u, v⟩
    ihave p1 := (own_any _ _) $$ p1
    ihave p2 := (own_any _ _) $$ p2
    ihave p3 := (own_any _ _) $$ p3
    ihave q1 := (own_any _ _) $$ q1
    ihave q2 := (own_any _ _) $$ q2
    ihave q3 := (own_any _ _) $$ q3
    ihave p := (roundR_each (c := c) (fun k => anyP (cW prM k) c)) $$ [p0 p1 p2 p3]
    · isplitl [p0]; · iexact p0
      isplitl [p1]; · iexact p1
      isplitl [p2]; · iexact p2
      iexact p3
    ihave q := ((swap_round (c := c) _).trans (roundR_each (c := c) (fun k => anyP (cW plM k) c))) $$ [q0 q1 q2 q3]
    · isplitl [q0]; · iexact q0
      isplitl [q1]; · iexact q1
      isplitl [q2]; · iexact q2
      iexact q3
    ihave r := (roundR_each (c := c) (fun k => (dirR I.cont).O 3 k c)) $$ r
    ihave l := ((swap_round (c := c) _).trans (roundR_each (c := c) (fun k => (dirL I.cont).O 3 k c))) $$ l
    isplitl [HT]; · iexact HT
    isplitl [p q]
    · isplitl [p]; · iexact p
      iexact q
    isplitl [r l]
    · isplitl [r]; · iexact r
      iexact l
    isplitl [a b]
    · isplitl [a]; · iexact a
      iexact b
    isplitl [s t]
    · isplitl [s]; · iexact s
      iexact t
    isplitl [u]; · iexact u
    iexact v

end Cert.Att
-- ==== Proof.Phases5.lean ====
module

public import proofs.«01_k».proof.Proof.Phases4

@[expose] public section

noncomputable section

namespace Cert.Att

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F] [Named F]

local notation "𝕄" => MT nD τ sig Unit (Elt F) ℕ UU ℕ

variable (C : Cont F) (K : Dev nD × Fin 56 → ℕ) {c : Dev nD}

/-! ## Four of the same -/
variable (I : Inp F) {R R' : sProp (MT nD τ sig Unit (Elt F) ℕ UU ℕ)}

/-! ## Device 0 waits for its last copies of rows -/

/-- What a device has of the send buffer and of the row cells in the end. -/
def SE (c : Dev nD) : sProp 𝕄 := iprop((slotRows (F := F) 0 c ∗ slotRows (F := F) 1 c) ∗ cellsE (F := F) c)

theorem send_ok : ∀ b r, 2 ≤ (sCell b r).val ∧ (sCell b r).val < 23 ∧ (sCell b r).val ≠ 10 := by decide

theorem T_sWaits (b : Fin 2) : Tr 0 iprop(PC I.cont K ∗ TS 0 (ringL 0) ∗ eSF 0 (sCell b) 2 0) (fourP (fun r => wtS kM (wh _) (sCell b r) b r))
    iprop(TS 0 (ringL 0) ∗ slotRows b 0 ∗ eSC 0 (sCell b) 3 0) :=
  (T_rowWaits I.cont K (l := ringL 0) (v := 0) (a := sCell b) (t := 2) (j := 0) (src := fun r => kW kM r) (dst := fun r => sW b r) (hs := fun r => kW_we (wh _) r) (hd := fun r => sW_we b r)
    (Q := fun r => anyP (sW b r) 0) (send_ok b) (fun r => by rw [n_send]; decide) (fun r => rfl) (lv_send b) rfl (fun r => send_got I.cont b r 0 2)).post (by
      iintro ⟨HT, H⟩
      ihave H := (each_sep (F := F) (fun r => anyP (sW b r) 0) (fun r => SC 0 (sCell b r) 3 0)) $$ H
      iframe)

theorem T_dev0 (c : Dev nD) : Tr c iprop(PC I.cont K ∗ TS c (ringL c) ∗ SP c) (whenP (c = 0) (do
    fourP (fun r => wtS kM (wh _) (sCell 0 r) 0 r)
    fourP (fun r => wtS vM (wh _) (sCell 1 r) 1 r))) iprop(TS c (ringL c) ∗ SE c) :=
  match c with
  | 0 => Tr.when_true rfl (Tr.bindP _ K (Q := iprop((TS 0 (ringL 0) ∗ slotRows 0 0 ∗ eSC 0 (sCell 0) 3 0) ∗ eSF 0 (sCell 1) 2 0 ∗ SC 0 23 1 0 ∗ SC 0 24 1 0))
      (((T_sWaits K I 0).frame _).pre (by
        show iprop(PC I.cont K ∗ TS 0 (ringL 0) ∗ (eSF 0 (sCell 0) 2 0 ∗ eSF 0 (sCell 1) 2 0 ∗ SC 0 23 1 0 ∗ SC 0 24 1 0)) ⊢ _
        iintro ⟨#HP, HT, a, b, d, e⟩
        iframe # HT a
        iframe))
      (((T_sWaits K I 1).frame iprop(slotRows (F := F) 0 0 ∗ eSC (F := F) 0 (sCell 0) 3 0 ∗ SC (F := F) 0 23 1 0 ∗ SC (F := F) 0 24 1 0)).conseq
        (by iintro ⟨#HP, ⟨HT, s, a⟩, b, d, e⟩
            iframe # HT b
            iframe)
        (by show _ ⊢ iprop(TS 0 (ringL 0) ∗ (slotRows 0 0 ∗ slotRows 1 0) ∗ (eSC 0 (sCell 0) 3 0 ∗ eSC 0 (sCell 1) 3 0 ∗ SC 0 23 1 0 ∗ SC 0 24 1 0))
            iintro ⟨⟨HT, t, b⟩, s, a, d, e⟩
            iframe)))
  | 1 => (Tr.not _ K (by decide)).post (by
      show iprop(TS 1 (ringL 1) ∗ (slotRows 0 1 ∗ slotRows 1 1 ∗ cellsE 1)) ⊢ iprop(TS 1 (ringL 1) ∗ (slotRows 0 1 ∗ slotRows 1 1) ∗ cellsE 1)
      iintro ⟨HT, a, b, d⟩
      iframe)
  | 2 => (Tr.not _ K (by decide)).post (by
      show iprop(TS 2 (ringL 2) ∗ (slotRows 0 2 ∗ slotRows 1 2 ∗ cellsE 2)) ⊢ iprop(TS 2 (ringL 2) ∗ (slotRows 0 2 ∗ slotRows 1 2) ∗ cellsE 2)
      iintro ⟨HT, a, b, d⟩
      iframe)
  | 3 => (Tr.not _ K (by decide)).post (by
      show iprop(TS 3 (ringL 3) ∗ (slotRows 0 3 ∗ slotRows 1 3 ∗ cellsE 3)) ⊢ iprop(TS 3 (ringL 3) ∗ (slotRows 0 3 ∗ slotRows 1 3) ∗ cellsE 3)
      iintro ⟨HT, a, b, d⟩
      iframe)

/-! ## The output -/

/-- The result on every device. -/
def Inp.out : FVec F S1x2048x1024 .f32 := outV (I.cont.RR 3) (I.cont.RL 3)
def RO (c : Dev nD) : sProp 𝕄 := iprop(each (fun k => (dirR I.cont).O 3 k c) ∗ each (fun k => (dirL I.cont).O 3 k c))

theorem out0 (a : Fin 1) (b : Fin 2048) (d : Fin 512) : I.out (ix3 a b ⟨512 * (0 : Fin 2).val + d.val, by have := d.isLt; show 512 * 0 + d.val < 1024; omega⟩) = FloatOps.extf .f32 bitsLt_bf16_f32 (I.cont.RR 3 (ix2 b d)) := by
  have hd := d.isLt
  refine (dif_pos (show 512 * 0 + d.val < 512 by omega)).trans ?_
  exact congrArg (fun n => FloatOps.extf .f32 bitsLt_bf16_f32 (I.cont.RR 3 (ix2 b n))) (Fin.ext (by show 512 * 0 + d.val = d.val; omega))
theorem out1 (a : Fin 1) (b : Fin 2048) (d : Fin 512) : I.out (ix3 a b ⟨512 * (1 : Fin 2).val + d.val, by have := d.isLt; show 512 * 1 + d.val < 1024; omega⟩) = FloatOps.extf .f32 bitsLt_bf16_f32 (I.cont.RL 3 (ix2 b d)) := by
  have hd := d.isLt
  refine (dif_neg (show ¬ 512 * 1 + d.val < 512 by omega)).trans ?_
  exact congrArg (fun n => FloatOps.extf .f32 bitsLt_bf16_f32 (I.cont.RL 3 (ix2 b n))) (Fin.ext (by show 512 * 1 + d.val - 512 = d.val; omega))

theorem T_out2 (r : Fin 4) : Tr c iprop(((dirR I.cont).O 3 r c ∗ (dirL I.cont).O 3 r c) ∗ part outM c (outDone (2 * r.val)) I.out) (outs r)
    iprop(((dirR I.cont).O 3 r c ∗ (dirL I.cont).O 3 r c) ∗ part outM c (outDone (2 * r.val + 2)) I.out) := fun Φ => by
  unfold outs
  simp only [wp_bind]
  iintro ⟨⟨a, b⟩, o⟩ Hk
  iapply (T_outSt rrM r 0 (I.cont.RR 3) I.out (out0 I) _) $$ [a o]
  · isplitl [a]; · iexact a
    iexact o
  iintro ⟨a, o⟩
  iapply (T_outSt rlM r 1 (I.cont.RL 3) I.out (out1 I) _) $$ [b o]
  · isplitl [b]; · iexact b
    iexact o
  iintro ⟨b, o⟩
  iapply Hk
  isplitl [a b]
  · isplitl [a]; · iexact a
    iexact b
  iexact o

theorem T_outAll : Tr c iprop(RO I c ∗ anyP outM c) (fourP outs) iprop(RO I c ∗ own outM c I.out) := fun Φ => by
  unfold RO fourP
  simp only [wp_bind]
  iintro ⟨⟨⟨a0, a1, a2, a3⟩, b0, b1, b2, b3⟩, o⟩ Hk
  ihave o := (any_part (M := outM) (c := c) (A := outDone (2 * (0 : Fin 4).val)) (G := I.out) (fun i => Nat.not_lt_zero _)) $$ o
  iapply (T_out2 I 0 _) $$ [a0 b0 o]
  · isplitl [a0 b0]
    · isplitl [a0] <;> iassumption
    iexact o
  iintro ⟨⟨a0, b0⟩, o⟩
  iapply (T_out2 I 1 _) $$ [a1 b1 o]
  · isplitl [a1 b1]
    · isplitl [a1] <;> iassumption
    iexact o
  iintro ⟨⟨a1, b1⟩, o⟩
  iapply (T_out2 I 2 _) $$ [a2 b2 o]
  · isplitl [a2 b2]
    · isplitl [a2] <;> iassumption
    iexact o
  iintro ⟨⟨a2, b2⟩, o⟩
  iapply (T_out2 I 3 _) $$ [a3 b3 o]
  · isplitl [a3 b3]
    · isplitl [a3] <;> iassumption
    iexact o
  iintro ⟨⟨a3, b3⟩, o⟩
  ihave o := (part_own (M := outM) (c := c) (A := outDone (2 * (3 : Fin 4).val + 2)) (G := I.out) (fun i => by
    have h1 : (i 1).val < 2048 := (i 1).isLt
    have h2 : (i 2).val < 1024 := (i 2).isLt
    show 2 * ((i 1).val / 512) + (i 2).val / 512 < 2 * 3 + 2
    omega)) $$ o
  iapply Hk
  isplitr [o]
  · isplitl [a0 a1 a2 a3]
    · isplitl [a0]; · iexact a0
      isplitl [a1]; · iexact a1
      isplitl [a2]; · iexact a2
      iexact a3
    · isplitl [b0]; · iexact b0
      isplitl [b1]; · iexact b1
      isplitl [b2]; · iexact b2
      iexact b3
  iexact o

/-! ## The body -/

/-- The arguments. -/
def argsP (c : Dev nD) : sProp 𝕄 := iprop(pts xH c (I.X c) ∗ pts qH c (I.Q c) ∗ pts kH c (I.K c) ∗ pts vH c (I.V c) ∗ pts oH c (I.O c))
/-- The scratch buffers, with any contents. -/
def scr (c : Dev nD) : sProp 𝕄 := iprop(anyP (F := F) qM c ∗ anyP (F := F) wqM c ∗ anyP (F := F) woM c ∗ anyP (F := F) kM c ∗ anyP (F := F) vM c ∗ anyP (F := F) ktM c ∗ anyP (F := F) vtM c
  ∗ anyP (F := F) ldM c ∗ anyP (F := F) stM c ∗ anyP (F := F) sbM c ∗ anyP (F := F) tsM c ∗ anyP (F := F) tlM c ∗ anyP (F := F) cxM c ∗ anyP (F := F) prM c ∗ anyP (F := F) plM c
  ∗ anyP (F := F) rrM c ∗ anyP (F := F) rlM c ∗ anyP (F := F) arM c ∗ anyP (F := F) alM c)
def bodyI (c : Dev nD) : sProp 𝕄 :=
  iprop(TS c (duties c) ∗ (atPos ER (bar c) 0 ∅ 0 ∗ cred (tallyAt (bar c) () 3)) ∗ cellsI (F := F) c ∗ ringI I.cont c ∗ argsP I c ∗ scr (F := F) c ∗ anyP (F := F) outM c)
def bodyE (c : Dev nD) : sProp 𝕄 :=
  iprop(TS c [] ∗ atPos ER (bar c) 1 ∅ 0 ∗ (cellsE (F := F) c ∗ each (VE (F := F) c)) ∗ ringE I.cont c ∗ argsP I c ∗ scr (F := F) c ∗ own outM c I.out)

/-- What the first part of the body leaves alone. -/
def later (c : Dev nD) : sProp 𝕄 :=
  iprop(anyP (F := F) cxM c ∗ (each (fun k => anyP (F := F) (cW prM k) c) ∗ each (fun k => anyP (F := F) (cW plM k) c)) ∗ acc (F := F) c ∗ anyP (F := F) outM c ∗ ringI I.cont c
    ∗ (rChunks (F := F) (nx c) ∗ lChunks (F := F) (pv c)) ∗ atPos ER (bar c) 1 ∅ 0)

theorem T_head : Tr c iprop(PC I.cont K ∗ bodyI I c) (head0 c) iprop(S2 I c ∗ (LD I c ∗ LD0 c) ∗ later I c) := by
  refine Tr.bindP I.cont K (Q := iprop(S1 I c ∗ (LD I c ∗ LD0 c) ∗ later I c))
    (((T_hand I.cont K (ok_R c)).frame iprop(keep (F := F) c ∗ cellsI (F := F) c ∗ KV I c ∗ (LD I c ∗ LD0 (F := F) c) ∗ anyP (F := F) cxM c
      ∗ (each (fun k => anyP (F := F) (cW prM k) c) ∗ each (fun k => anyP (F := F) (cW plM k) c)) ∗ acc (F := F) c ∗ anyP (F := F) outM c ∗ ringI I.cont c)).conseq ?_ ?_)
    ((Tr.frameP I.cont K _ (T_headrest K I c)))
  · unfold bodyI argsP scr KV LD LD0 acc
    iintro ⟨#HP, HT, ⟨Ha, Hc⟩, ci, ri, ⟨x, q, k, v, o⟩, ⟨qm, wq, wo, km, vm, kt, vt, ld, st, sb, ts, tl, cx, pr, pl, rr, rl, ar, al⟩, out⟩
    ihave km := (any_kW kM) $$ km
    ihave vm := (any_kW vM) $$ vm
    ihave sb := any_sW $$ sb
    icases sb with ⟨s0, s1⟩
    ihave rr := (any_cW rrM) $$ rr
    ihave rl := (any_cW rlM) $$ rl
    ihave pr := (any_cW prM) $$ pr
    ihave pl := (any_cW plM) $$ pl
    ihave ar := (any_aW arM) $$ ar
    ihave al := (any_aW alM) $$ al
    ihave B := (bar_out (c := c)) $$ [km vm kt vt s0 s1 rr rl]
    · isplitl [km]; · iexact km
      isplitl [vm]; · iexact vm
      isplitl [kt vt]
      · isplitl [kt] <;> iassumption
      iframe
    icases B with ⟨kp, B⟩
    isplitl [HT Ha Hc B]
    · isplitr; · iexact HP
      isplitl [HT]; · iexact HT
      isplitl [B]; · iexact B
      isplitl [Ha]; · iexact Ha
      iexact Hc
    · iframe
  · unfold S1 later
    iintro ⟨⟨HT, B, Ha⟩, kp, ci, kv, ld, cx, p, ac, out, ri⟩
    ihave B := (bar_in (c := c)) $$ B
    icases B with ⟨g, r, l⟩
    isplitl [HT kp g ci kv]
    · iframe
    isplitl [ld]; · iexact ld
    iframe

/-- What the attention leaves alone. -/
def later2 (c : Dev nD) : sProp 𝕄 :=
  iprop((SP (F := F) c ∗ KV I c) ∗ (LD I c ∗ own wqM c (I.WQ c) ∗ own woM c (I.WO c)) ∗ (each (fun k => anyP (F := F) (cW prM k) c) ∗ each (fun k => anyP (F := F) (cW plM k) c)) ∗ acc (F := F) c
    ∗ anyP (F := F) outM c ∗ ringI I.cont c ∗ (rChunks (F := F) (nx c) ∗ lChunks (F := F) (pv c)) ∗ atPos ER (bar c) 1 ∅ 0)

theorem TS_S3 : iprop(S3 I c ∗ (LD I c ∗ LD0 c) ∗ later I c) ⊢ iprop((TS c (dutyA c) ∗ LD I c ∗ LD0 c) ∗ (relayed I c ∗ KV I c) ∗ later I c) := by
  unfold S3
  iintro ⟨⟨HT, r, kv⟩, ld, la⟩
  iframe

theorem T_partB : Tr c iprop(PC I.cont K ∗ S2 I c ∗ (LD I c ∗ LD0 c) ∗ later I c) (bodyB c) (AS I c 2 8 (later2 I c)) := by
  refine Tr.bindP I.cont K (Tr.frameP I.cont K _ (T_dev3 K I c)) ?_
  refine Tr.bindP I.cont K (Tr.preP I.cont K (Tr.frameP I.cont K _ (T_loads1 K I (ok_A c))) (TS_S3 I)) ?_
  refine Tr.bindP I.cont K (Q := iprop(S4 I c ∗ (LD I c ∗ LD1 I c) ∗ later I c)) (Tr.preP I.cont K (Tr.frameP I.cont K _ (T_rows1 K I c)) ?_) ?_
  · unfold S3
    iintro ⟨⟨HT, ld⟩, ⟨r, kv⟩, la⟩
    isplitl [HT r kv]
    · iframe
    iframe
  refine Tr.bindP I.cont K (Tr.preP I.cont K (A_first K I (R := later2 I c)) ?_) ?_
  · unfold S4 later later2 LD1
    iintro ⟨⟨HT, ⟨k, v, kt, vt⟩, sp, kv⟩, ⟨ld, wq, wo, q⟩, cx, p, ac, out, ri, ch, Ha⟩
    isplitl [HT]; · iexact HT
    isplitl [k]; · iexact k
    isplitl [q]; · iexact q
    isplitl [cx]; · iexact cx
    isplitl [kt]; · iexact kt
    isplitl [vt]; · iexact vt
    isplitl [v]; · iexact v
    iframe
  refine Tr.bindP I.cont K (A_blks K I 0 1 (by decide)) ?_
  exact A_next K I 1

/-- What the rings leave alone. -/
def later3 (c : Dev nD) : sProp 𝕄 :=
  iprop(AE I c ∗ (own cxM c (I.ctx c) ∗ own woM c (I.WO c)) ∗ KV I c ∗ (LD I c ∗ own wqM c (I.WQ c)) ∗ anyP (F := F) outM c ∗ atPos ER (bar c) 1 ∅ 0)

theorem T_tail1 : Tr c iprop(PC I.cont K ∗ (TS c (ringL c) ∗ SP c) ∗ (each (fun k => (dirR I.cont).PO k c) ∗ each (fun k => (dirL I.cont).PO k c)) ∗ (rChunks (nx c) ∗ lChunks (pv c)) ∗ acc c ∗ ringI I.cont c) (tail1 c)
    iprop((TS c [] ∗ (each (fun k => anyP (cW prM k) c) ∗ each (fun k => anyP (cW plM k) c)) ∗ RO I c ∗ acc c ∗ ringE I.cont c) ∗ SE c) := by
  refine Tr.bindP I.cont K (Tr.frameP I.cont K _ (T_dev0 K I c)) ?_
  refine ((T_ringsI K I).frame (SE c)).conseq ?_ ?_
  · iintro ⟨#HP, ⟨HT, se⟩, H⟩
    isplitr [se]
    · iframe # HT H
    · iexact se
  · unfold RO
    iintro ⟨H, se⟩
    iframe

theorem T_partC : Tr c iprop(PC I.cont K ∗ AS I c 2 8 (later2 I c)) (bodyC c) (bodyE I c) := by
  refine Tr.bindP I.cont K (A_blks K I 1 2 (by decide)) ?_
  refine Tr.bindP I.cont K (A_blks K I 2 2 (by decide)) ?_
  refine Tr.bindP I.cont K (A_next K I 2) ?_
  refine Tr.bindP I.cont K (A_blks K I 3 3 (by decide)) ?_
  refine Tr.bindP I.cont K (A_blks K I 4 3 (by decide)) ?_
  refine Tr.bindP I.cont K (A_next K I 3) ?_
  refine Tr.bindP I.cont K (A_blks K I 5 4 (by decide)) ?_
  refine Tr.bindP I.cont K (A_blks K I 6 4 (by decide)) ?_
  refine Tr.bindP I.cont K ((A_blk7 K I).post (AS_end I)) ?_
  refine Tr.bindP I.cont K (Q := iprop((TS c (ringL c) ∗ (each (fun k => (dirR I.cont).PO k c) ∗ each (fun k => (dirL I.cont).PO k c)) ∗ own cxM c (I.ctx c) ∗ own woM c (I.WO c))
      ∗ (SP c ∗ (rChunks (nx c) ∗ lChunks (pv c)) ∗ acc c ∗ ringI I.cont c) ∗ AE I c ∗ KV I c ∗ (LD I c ∗ own wqM c (I.WQ c)) ∗ anyP outM c ∗ atPos ER (bar c) 1 ∅ 0))
    (Tr.preP I.cont K (Tr.frameP I.cont K _ (T_oAll K I)) ?_) ?_
  · unfold later2
    iintro ⟨HT, cx, ae, ⟨sp, kv⟩, ⟨ld, wq, wo⟩, p, ac, out, ri, ch, Ha⟩
    isplitl [HT p cx wo]
    · iframe
    isplitl [sp ch ac ri]
    · iframe
    iframe
  refine Tr.bindP I.cont K (Q := iprop(((TS c [] ∗ (each (fun k => anyP (cW prM k) c) ∗ each (fun k => anyP (cW plM k) c)) ∗ RO I c ∗ acc c ∗ ringE I.cont c) ∗ SE c) ∗ later3 I c))
    (Tr.preP I.cont K (Tr.frameP I.cont K _ (T_tail1 K I)) ?_) ?_
  · unfold later3
    iintro ⟨⟨HT, p, cx⟩, ⟨sp, ch, ac, ri⟩, ae, kv, ld, out, Ha⟩
    isplitl [HT sp p ch ac ri]
    · iframe
    iframe
  refine ((T_outAll I).frame iprop(TS c [] ∗ (each (fun k => anyP (F := F) (cW prM k) c) ∗ each (fun k => anyP (F := F) (cW plM k) c)) ∗ acc (F := F) c ∗ ringE I.cont c ∗ SE (F := F) c
    ∗ AE I c ∗ (own cxM c (I.ctx c) ∗ own woM c (I.WO c)) ∗ KV I c ∗ (LD I c ∗ own wqM c (I.WQ c)) ∗ atPos ER (bar c) 1 ∅ 0)).conseq ?_ ?_
  · unfold later3
    iintro ⟨-, ⟨⟨HT, p, ro, ac, ri⟩, se⟩, ae, cx, kv, ld, out, Ha⟩
    isplitl [ro out]
    · iframe
    iframe
  · unfold bodyE RO SE AE KV LD argsP scr acc
    iintro ⟨⟨⟨rr, rl⟩, out⟩, HT, ⟨pr, pl⟩, ⟨ar, al⟩, ri, ⟨sl, ce⟩, ⟨k, v, q, kt, vt, ve⟩, ⟨cx, wo⟩, ⟨kh, vh, st, ts, tl⟩, ⟨⟨x, qh, oh, ld⟩, wq⟩, Ha⟩
    ihave rr := (each_mono (B := fun r => anyP (cW rrM r) c) fun r => own_any (cW rrM r) _) $$ rr
    ihave rl := (each_mono (B := fun r => anyP (cW rlM r) c) fun r => own_any (cW rlM r) _) $$ rl
    ihave rr := (cW_any rrM (c := c) (I.cont.PR c)) $$ rr
    ihave rl := (cW_any rlM (c := c) (I.cont.PR c)) $$ rl
    ihave pr := (cW_any prM (c := c) (I.cont.PR c)) $$ pr
    ihave pl := (cW_any plM (c := c) (I.cont.PR c)) $$ pl
    ihave ar := (aW_any arM (c := c) (fun _ => I.cont.PR c (ix2 0 0))) $$ ar
    ihave al := (aW_any alM (c := c) (fun _ => I.cont.PR c (ix2 0 0))) $$ al
    ihave sl := (sW_any (c := c) I.cont.SB) $$ sl
    ihave k := (own_any kM _) $$ k
    ihave q := (own_any qM _) $$ q
    ihave kt := (own_any ktM _) $$ kt
    ihave vt := (own_any vtM _) $$ vt
    ihave cx := (own_any cxM _) $$ cx
    ihave wo := (own_any woM _) $$ wo
    ihave wq := (own_any wqM _) $$ wq
    isplitl [HT]; · iexact HT
    isplitl [Ha]; · iexact Ha
    isplitl [ce ve]; · iframe
    isplitl [ri]; · iexact ri
    isplitl [x qh kh vh oh]; · iframe
    isplitr [out]
    · iframe
      iexists _
      iexact v
    iexact out

theorem T_body : Tr c iprop(PC I.cont K ∗ bodyI I c) (bodyM c) (bodyE I c) :=
  Tr.bindP I.cont K (T_head K I) (Tr.bindP I.cont K (T_partB K I) (T_partC K I))

end Cert.Att
-- ==== Proof.Launch1.lean ====
module

public import proofs.«01_k».proof.Proof.Phases5
public import Idealize.ShloMosaic.Lib.Pipeline.BigSepL

@[expose] public section

noncomputable section

namespace Cert.Att

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F] [Named F]

local notation "𝕄" => MT nD τ sig Unit (Elt F) ℕ UU ℕ

variable (C : Cont F) (K : Dev nD × Fin 56 → ℕ) {c : Dev nD}

/-! ## Four of the same -/

/-! ## Each device's cells, listed -/

abbrev s4 (a b d e : Fin 57) (k : ℕ) : List (Fin 57 × ℕ) := [(a, k), (b, k), (d, k), (e, k)]
abbrev sndR : List (Fin 57 × ℕ) := [(33, 1), (34, 1), (35, 1), (36, 1), (37, 1), (38, 1)]
abbrev sndL : List (Fin 57 × ℕ) := [(45, 1), (46, 1), (47, 1), (48, 1), (49, 1), (50, 1)]
abbrev rcvR : List (Fin 57) := [39, 40, 41, 42, 43, 44]
abbrev rcvL : List (Fin 57) := [51, 52, 53, 54, 55, 56]

/-- The cells that a device's own copies count up, with their number of rounds. -/
def sendL (c : Dev nD) : List (Fin 57 × ℕ) := match c with
  | 0 => s4 2 3 4 5 3 ++ (s4 6 7 8 9 3 ++ (sndR ++ sndL))
  | 1 => [(10, 6)] ++ (s4 11 12 13 14 1 ++ (sndR ++ sndL))
  | 2 => sndR ++ sndL
  | 3 => s4 11 12 13 14 1 ++ (sndR ++ sndL)
/-- The cells that other devices' copies count up. -/
def recvL (c : Dev nD) : List (Fin 57) := match c with
  | 0 => [23] ++ ([24] ++ (rcvR ++ rcvL))
  | 1 => [15, 16, 17, 18] ++ ([25, 26, 27, 28] ++ ([19, 20, 21, 22] ++ (rcvR ++ rcvL)))
  | 2 => [15, 16, 17, 18] ++ ([23] ++ ([24] ++ ([19, 20, 21, 22] ++ (rcvR ++ rcvL))))
  | 3 => [15, 16, 17, 18] ++ ([23] ++ ([24] ++ ([29, 30, 31, 32] ++ ([19, 20, 21, 22] ++ (rcvR ++ rcvL)))))
/-- The cells that nothing happens on. -/
def idleL (c : Dev nD) : List (Fin 57) := match c with
  | 0 => [10, 11, 12, 13, 14, 15, 16, 17, 18, 19, 20, 21, 22, 25, 26, 27, 28, 29, 30, 31, 32]
  | 1 => [2, 3, 4, 5, 6, 7, 8, 9, 23, 24, 29, 30, 31, 32]
  | 2 => [2, 3, 4, 5, 6, 7, 8, 9, 10, 11, 12, 13, 14, 25, 26, 27, 28, 29, 30, 31, 32]
  | 3 => [2, 3, 4, 5, 6, 7, 8, 9, 10, 25, 26, 27, 28]
def usedL (c : Dev nD) : List (Fin 57) := (sendL c).map Prod.fst ++ recvL c
def cellL (c : Dev nD) : List (Fin 57) := usedL c ++ idleL c

theorem cellL_all : ∀ c : Dev nD, (Finset.univ : Finset (Fin 56)) = (0 :: (cellL c).map cix).toFinset := by decide +kernel
theorem cellL_nodup : ∀ c : Dev nD, (0 :: (cellL c).map cix).Nodup := by decide +kernel
theorem cellL_ge : ∀ c : Dev nD, ∀ n ∈ cellL c, 2 ≤ n.val := by decide +kernel
theorem sendL_rounds : ∀ c : Dev nD, ∀ x ∈ sendL c, nR c x.1.val = x.2 := by decide +kernel
theorem recvL_rounds : ∀ c : Dev nD, ∀ n ∈ recvL c, nR c n.val = 1 := by decide +kernel
theorem idleL_rounds : ∀ c : Dev nD, ∀ n ∈ idleL c, nR c n.val = 0 := by decide +kernel

theorem bigSepL_congr' {J : Type} {l : List J} {Φ Ψ : J → sProp (MT nD τ sig Unit (Elt F) ℕ UU ℕ)} (h : ∀ i ∈ l, Φ i = Ψ i) : bigSepL l Φ = bigSepL l Ψ := by
  induction l with
  | nil => rfl
  | cons i l ih => rw [bigSepL_cons, bigSepL_cons, h i List.mem_cons_self, ih fun k hk => h k (List.mem_cons_of_mem _ hk)]

/-- Something of every cell of a device is that of its barrier and of its listed cells. -/
theorem cells_split (c : Dev nD) (Φ : GSem nD τ sig → sProp (MT nD τ sig Unit (Elt F) ℕ UU ℕ)) :
    (bigSep Finset.univ fun k : Fin 56 => Φ (kcell (c, k))) = iprop(Φ (bar c) ∗ bigSepL (usedL c) (fun n => Φ (dm c n)) ∗ bigSepL (idleL c) fun n => Φ (dm c n)) := by
  rw [bigSep_univ_eq_bigSepL _ (cellL_all c) (cellL_nodup c), bigSepL_cons, bigSepL_map,
    bigSepL_congr' (Ψ := fun n => Φ (dm c n)) (fun n hn => by rw [kcell_cix c n (cellL_ge c n hn)]), cellL, bigSepL_append]
  rfl

/-! ## The tokens, listed by who pays with them -/

abbrev Tk : Type := GSem nD τ sig × ℕ × Fin 4
def tokD (l : List Duty) : List Tk := l.map fun p => (Duty.cell p, 0, p.2.2.2)
def tokS (c : Dev nD) (l : List (Fin 57 × ℕ)) : List Tk := l.flatMap fun x => (List.range' 0 x.2).map fun r => (dm c x.1, r, 0)
def tokL (c : Dev nD) : List Tk := tokD (duties c) ++ tokS c (sendL c)
def allToks : List Tk := tokL 0 ++ (tokL 1 ++ (tokL 2 ++ tokL 3))

def semCode : SemLoc sig → ℕ
  | .reg _ => 0
  | .dma n => n.val + 1
theorem semCode_inj : ∀ {a b : SemLoc sig}, semCode a = semCode b → a = b
  | .reg a, .reg b, _ => congrArg SemLoc.reg (Fin.ext (by have h1 : a.val < 1 := a.isLt; have h2 : b.val < 1 := b.isLt; omega))
  | .reg _, .dma _, h => absurd h (by show ¬ 0 = _ + 1; omega)
  | .dma _, .reg _, h => absurd h (by show ¬ _ + 1 = 0; omega)
  | .dma a, .dma b, h => congrArg SemLoc.dma (Fin.ext (Nat.succ.inj h))
def tkCode (x : Tk) : ℕ := ((x.1.1.1.val * 64 + semCode x.1.2) * 8 + x.2.1) * 4 + x.2.2.val
theorem allToks_nodup : allToks.Nodup := List.Nodup.of_map tkCode (by decide +kernel)

abbrev tok1 (x : Tk) : sProp 𝕄 := dutyTok ER x.1 x.2.1 x.2.2

theorem tokD_eq (l : List Duty) : bigSepL (tokD l) (tok1 (F := F)) = toksL l := by
  unfold tokD
  rw [bigSepL_map]
  induction l with
  | nil => rfl
  | cons p l ih => rw [bigSepL_cons, ih]; rfl
theorem remTok_eq (c : Dev nD) (n : Fin 57) (r k : ℕ) : bigSepL ((List.range' r k).map fun r => (dm c n, r, 0)) (tok1 (F := F)) = remTok c n r k := by
  induction k generalizing r with
  | zero => rfl
  | succ k ih => rw [List.range'_succ, List.map_cons, bigSepL_cons, ih]; rfl
theorem tokS_eq (c : Dev nD) (l : List (Fin 57 × ℕ)) : bigSepL (tokS c l) (tok1 (F := F)) = bigSepL l fun x => remTok c x.1 0 x.2 := by
  induction l with
  | nil => rfl
  | cons x l ih =>
    unfold tokS at ih ⊢
    rw [List.flatMap_cons, bigSepL_append, ih, remTok_eq, bigSepL_cons]
    rfl

/-- What a device pays with. -/
def pays (c : Dev nD) : sProp 𝕄 := iprop(toksL (duties c) ∗ bigSepL (sendL c) fun x => remTok (F := F) c x.1 0 x.2)
theorem pays_eq (c : Dev nD) : bigSepL (tokL c) (tok1 (F := F)) = pays c := by
  unfold tokL pays
  rw [bigSepL_append, tokD_eq, tokS_eq]
theorem allToks_eq : bigSep allToks.toFinset (tok1 (F := F)) = bigSep Finset.univ fun c : Dev nD => pays c := by
  rw [bigSep_eq_bigSepL_of_eq _ rfl allToks_nodup, allToks, bigSepL_append, bigSepL_append, bigSepL_append, pays_eq, pays_eq, pays_eq, pays_eq,
    bigSep_univ_eq_bigSepL [(0 : Dev nD), 1, 2, 3] (by decide) (by decide)]
  rfl

/-! ## The credits -/

def amtS : SemLoc sig → ℕ
  | .reg _ => 1
  | .dma n => amt n.val
def okD : List Duty → Prop
  | [] => True
  | p :: l => p.2.2.1 = amtS p.2.1 ∧ okD l
def cnt (l : List Duty) (c : Dev nD) (s : SemLoc sig) : ℕ := match l with
  | [] => 0
  | p :: l => cnt l c s + if p.1.val = c.val ∧ semCode p.2.1 = semCode s then 1 else 0

theorem owedL_cnt {l : List Duty} (h : okD l) (c : Dev nD) (s : SemLoc sig) : owedL l ((c : Thread nD τ), s) () = amtS s * cnt l c s := by
  induction l with
  | nil => rfl
  | cons p l ih =>
    rw [owedL_cons, Pi.add_apply, Finsupp.add_apply, ih h.2, cnt, Nat.mul_add, tallyAt_apply, h.1]
    congr 1
    by_cases hp : p.1.val = c.val ∧ semCode p.2.1 = semCode s
    · have h1 : p.1 = c := Fin.ext hp.1
      have h2 := semCode_inj hp.2
      rw [if_pos hp, ← h1, ← h2, if_pos ⟨rfl, rfl⟩, Nat.mul_one]
    · rw [if_neg hp, if_neg, Nat.mul_zero]
      rintro ⟨h1, -⟩
      exact hp ⟨(congrArg (fun g : GSem nD τ sig => g.1.1.val) h1).symm, (congrArg (fun g : GSem nD τ sig => semCode g.2) h1).symm⟩

theorem okD_cons {p : Duty} {l : List Duty} (h : p.2.2.1 = amtS p.2.1) (h' : okD l) : okD (p :: l) := ⟨h, h'⟩
theorem okD_duties : ∀ c : Dev nD, okD (duties c)
  | 0 => by repeat' (first | exact trivial | refine ⟨rfl, ?_⟩)
  | 1 => by repeat' (first | exact trivial | refine ⟨rfl, ?_⟩)
  | 2 => by repeat' (first | exact trivial | refine ⟨rfl, ?_⟩)
  | 3 => by repeat' (first | exact trivial | refine ⟨rfl, ?_⟩)

theorem cnt_recv : ∀ c : Dev nD, ∀ n ∈ recvL c, cnt (duties 0) c (.dma (n : DmaSem sig)) + cnt (duties 1) c (.dma (n : DmaSem sig)) + cnt (duties 2) c (.dma (n : DmaSem sig)) + cnt (duties 3) c (.dma (n : DmaSem sig)) = 1 := by
  decide +kernel
theorem cnt_bar : ∀ c : Dev nD, cnt (duties 0) c (.reg barS) + cnt (duties 1) c (.reg barS) + cnt (duties 2) c (.reg barS) + cnt (duties 3) c (.reg barS) = 3 := by
  decide +kernel

def O₀ (c : Dev nD) : CellTallies nD τ sig Unit := owedL (duties c)

theorem credit_of {c : Dev nD} {s : SemLoc sig} {k : ℕ} (h : cnt (duties 0) c s + cnt (duties 1) c s + cnt (duties 2) c s + cnt (duties 3) c s = k) :
    tallyOn ((c : Thread nD τ), s) (launchCredit (Pipeline.owing O₀) 0 ((c : Thread nD τ), s)) = (tallyAt ((c : Thread nD τ), s) () (amtS s * k) : CellTallies nD τ sig Unit) := by
  unfold tallyAt
  refine congrArg _ (Finsupp.ext fun u => ?_)
  cases u
  rw [Pipeline.launchCredit_owing, Finsupp.single_eq_same, ← h]
  show ∑ d : Fin 4, owedL (duties d) ((c : Thread nD τ), s) () = _
  rw [Fin.sum_univ_four, owedL_cnt (okD_duties 0), owedL_cnt (okD_duties 1), owedL_cnt (okD_duties 2), owedL_cnt (okD_duties 3)]
  ring

/-- The credits a device waits with. -/
def creds (c : Dev nD) : sProp 𝕄 := iprop(cred (tallyAt (bar c) () 3) ∗ bigSepL (recvL c) fun n => cred (tallyAt (dm c n) () (amt n.val)))

theorem recv_nodup' : ∀ c : Dev nD, ((SemLoc.reg barS :: (recvL c).map fun n => (SemLoc.dma (n : DmaSem sig) : SemLoc sig)).map semCode).Nodup := by decide +kernel
theorem recv_nodup : ∀ c : Dev nD, (SemLoc.reg barS :: (recvL c).map fun n => (SemLoc.dma (n : DmaSem sig) : SemLoc sig)).Nodup :=
  fun c => List.Nodup.of_map semCode (recv_nodup' c)

theorem creds_of (c : Dev nD) : (Pipeline.launchCred O₀ c : sProp 𝕄) ⊢ creds c := by
  unfold Pipeline.launchCred creds
  refine (bigSep_subset (Finset.subset_univ (SemLoc.reg barS :: (recvL c).map fun n => (SemLoc.dma (n : DmaSem sig) : SemLoc sig)).toFinset)).trans ?_
  rw [bigSep_eq_bigSepL_of_eq _ rfl (recv_nodup c), bigSepL_cons, bigSepL_map, credit_of (cnt_bar c)]
  refine BIClass.sep_mono (Entails.of_eq rfl) (BI.bigSepL_mono fun n hn => Entails.of_eq ?_)
  rw [credit_of (cnt_recv c n hn), Nat.mul_one]
  rfl

/-! ## What the body takes and leaves -/

theorem cells_in (C : Cont F) (c : Dev nD) : iprop((bigSepL (sendL c) fun x => SC (F := F) c x.1 0 x.2) ∗ bigSepL (recvL c) fun n => SF (F := F) c n 0 0) ⊢ iprop(cellsI c ∗ ringI C c) := by
  unfold ringI
  match c with
  | 0 =>
    simp only [sendL, recvL, bigSepL_append]
    show iprop((eSC (F := F) 0 (sCell 0) 0 3 ∗ eSC (F := F) 0 (sCell 1) 0 3 ∗ six (fun n => SC (F := F) 0 ((dirR C).s n) 0 1) ∗ six (fun n => SC (F := F) 0 ((dirL C).s n) 0 1)) ∗ (SF (F := F) 0 23 0 0 ∗ SF (F := F) 0 24 0 0 ∗ six (fun n => SF (F := F) 0 ((dirR C).r n) 0 0) ∗ six (fun n => SF (F := F) 0 ((dirL C).r n) 0 0))) ⊢ iprop((eSC (F := F) 0 (sCell 0) 0 3 ∗ eSC (F := F) 0 (sCell 1) 0 3 ∗ SF (F := F) 0 23 0 0 ∗ SF (F := F) 0 24 0 0) ∗ (six (fun n => SC (F := F) 0 ((dirR C).s n) 0 1) ∗ six (fun n => SF (F := F) 0 ((dirR C).r n) 0 0)) ∗ (six (fun n => SC (F := F) 0 ((dirL C).s n) 0 1) ∗ six (fun n => SF (F := F) 0 ((dirL C).r n) 0 0)))
    iintro ⟨⟨a, b, sr, sl⟩, ⟨d, e, rr, rl⟩⟩
    iframe # a b d e sr rr sl rl
  | 1 =>
    simp only [sendL, recvL, bigSepL_append]
    show iprop((SC (F := F) 1 10 0 6 ∗ eSC (F := F) 1 c11 0 1 ∗ six (fun n => SC (F := F) 1 ((dirR C).s n) 0 1) ∗ six (fun n => SC (F := F) 1 ((dirL C).s n) 0 1)) ∗ (eSF (F := F) 1 c15 0 0 ∗ eSF (F := F) 1 c25 0 0 ∗ eSF (F := F) 1 c19 0 0 ∗ six (fun n => SF (F := F) 1 ((dirR C).r n) 0 0) ∗ six (fun n => SF (F := F) 1 ((dirL C).r n) 0 0))) ⊢ iprop((SC (F := F) 1 10 0 6 ∗ eSC (F := F) 1 c11 0 1 ∗ eSF (F := F) 1 c15 0 0 ∗ eSF (F := F) 1 c25 0 0 ∗ eSF (F := F) 1 c19 0 0) ∗ (six (fun n => SC (F := F) 1 ((dirR C).s n) 0 1) ∗ six (fun n => SF (F := F) 1 ((dirR C).r n) 0 0)) ∗ (six (fun n => SC (F := F) 1 ((dirL C).s n) 0 1) ∗ six (fun n => SF (F := F) 1 ((dirL C).r n) 0 0)))
    iintro ⟨⟨a, b, sr, sl⟩, ⟨d, e, f, rr, rl⟩⟩
    iframe # a b d e f sr rr sl rl
  | 2 =>
    simp only [sendL, recvL, bigSepL_append]
    show iprop((six (fun n => SC (F := F) 2 ((dirR C).s n) 0 1) ∗ six (fun n => SC (F := F) 2 ((dirL C).s n) 0 1)) ∗ (eSF (F := F) 2 c15 0 0 ∗ SF (F := F) 2 23 0 0 ∗ SF (F := F) 2 24 0 0 ∗ eSF (F := F) 2 c19 0 0 ∗ six (fun n => SF (F := F) 2 ((dirR C).r n) 0 0) ∗ six (fun n => SF (F := F) 2 ((dirL C).r n) 0 0))) ⊢ iprop((eSF (F := F) 2 c15 0 0 ∗ SF (F := F) 2 23 0 0 ∗ SF (F := F) 2 24 0 0 ∗ eSF (F := F) 2 c19 0 0) ∗ (six (fun n => SC (F := F) 2 ((dirR C).s n) 0 1) ∗ six (fun n => SF (F := F) 2 ((dirR C).r n) 0 0)) ∗ (six (fun n => SC (F := F) 2 ((dirL C).s n) 0 1) ∗ six (fun n => SF (F := F) 2 ((dirL C).r n) 0 0)))
    iintro ⟨⟨sr, sl⟩, ⟨a, b, d, e, rr, rl⟩⟩
    iframe # a b d e sr rr sl rl
  | 3 =>
    simp only [sendL, recvL, bigSepL_append]
    show iprop((eSC (F := F) 3 c11 0 1 ∗ six (fun n => SC (F := F) 3 ((dirR C).s n) 0 1) ∗ six (fun n => SC (F := F) 3 ((dirL C).s n) 0 1)) ∗ (eSF (F := F) 3 c15 0 0 ∗ SF (F := F) 3 23 0 0 ∗ SF (F := F) 3 24 0 0 ∗ eSF (F := F) 3 c29 0 0 ∗ eSF (F := F) 3 c19 0 0 ∗ six (fun n => SF (F := F) 3 ((dirR C).r n) 0 0) ∗ six (fun n => SF (F := F) 3 ((dirL C).r n) 0 0))) ⊢ iprop((eSC (F := F) 3 c11 0 1 ∗ eSF (F := F) 3 c15 0 0 ∗ SF (F := F) 3 23 0 0 ∗ SF (F := F) 3 24 0 0 ∗ eSF (F := F) 3 c29 0 0 ∗ eSF (F := F) 3 c19 0 0) ∗ (six (fun n => SC (F := F) 3 ((dirR C).s n) 0 1) ∗ six (fun n => SF (F := F) 3 ((dirR C).r n) 0 0)) ∗ (six (fun n => SC (F := F) 3 ((dirL C).s n) 0 1) ∗ six (fun n => SF (F := F) 3 ((dirL C).r n) 0 0)))
    iintro ⟨⟨a, sr, sl⟩, ⟨b, d, e, f, g, rr, rl⟩⟩
    iframe # a b d e f g sr rr sl rl

theorem cells_out (C : Cont F) (c : Dev nD) : iprop((cellsE c ∗ each (VE c)) ∗ ringE C c) ⊢ iprop((bigSepL (sendL c) fun x => SC (F := F) c x.1 x.2 0) ∗ bigSepL (recvL c) fun n => SC (F := F) c n 1 0) := by
  unfold ringE
  match c with
  | 0 =>
    simp only [sendL, recvL, bigSepL_append]
    show iprop(((eSC (F := F) 0 (sCell 0) 3 0 ∗ eSC (F := F) 0 (sCell 1) 3 0 ∗ SC (F := F) 0 23 1 0 ∗ SC (F := F) 0 24 1 0) ∗ each (VE (F := F) 0)) ∗ (six (fun n => SC (F := F) 0 ((dirR C).s n) 1 0) ∗ six (fun n => SC (F := F) 0 ((dirR C).r n) 1 0)) ∗ (six (fun n => SC (F := F) 0 ((dirL C).s n) 1 0) ∗ six (fun n => SC (F := F) 0 ((dirL C).r n) 1 0))) ⊢ iprop((eSC (F := F) 0 (sCell 0) 3 0 ∗ eSC (F := F) 0 (sCell 1) 3 0 ∗ six (fun n => SC (F := F) 0 ((dirR C).s n) 1 0) ∗ six (fun n => SC (F := F) 0 ((dirL C).s n) 1 0)) ∗ (SC (F := F) 0 23 1 0 ∗ SC (F := F) 0 24 1 0 ∗ six (fun n => SC (F := F) 0 ((dirR C).r n) 1 0) ∗ six (fun n => SC (F := F) 0 ((dirL C).r n) 1 0)))
    iintro ⟨⟨⟨a, b, d, e⟩, -⟩, ⟨sr, rr⟩, sl, rl⟩
    iframe # a b d e sr rr sl rl
  | 1 =>
    simp only [sendL, recvL, bigSepL_append]
    show iprop(((SC (F := F) 1 10 6 0 ∗ eSC (F := F) 1 c11 1 0 ∗ eSC (F := F) 1 c15 1 0 ∗ eSC (F := F) 1 c25 1 0) ∗ eSC (F := F) 1 c19 1 0) ∗ (six (fun n => SC (F := F) 1 ((dirR C).s n) 1 0) ∗ six (fun n => SC (F := F) 1 ((dirR C).r n) 1 0)) ∗ (six (fun n => SC (F := F) 1 ((dirL C).s n) 1 0) ∗ six (fun n => SC (F := F) 1 ((dirL C).r n) 1 0))) ⊢ iprop((SC (F := F) 1 10 6 0 ∗ eSC (F := F) 1 c11 1 0 ∗ six (fun n => SC (F := F) 1 ((dirR C).s n) 1 0) ∗ six (fun n => SC (F := F) 1 ((dirL C).s n) 1 0)) ∗ (eSC (F := F) 1 c15 1 0 ∗ eSC (F := F) 1 c25 1 0 ∗ eSC (F := F) 1 c19 1 0 ∗ six (fun n => SC (F := F) 1 ((dirR C).r n) 1 0) ∗ six (fun n => SC (F := F) 1 ((dirL C).r n) 1 0)))
    iintro ⟨⟨⟨a, b, d, e⟩, v⟩, ⟨sr, rr⟩, sl, rl⟩
    iframe # a b d e v sr rr sl rl
  | 2 =>
    simp only [sendL, recvL, bigSepL_append]
    show iprop(((eSC (F := F) 2 c15 1 0 ∗ SC (F := F) 2 23 1 0 ∗ SC (F := F) 2 24 1 0) ∗ eSC (F := F) 2 c19 1 0) ∗ (six (fun n => SC (F := F) 2 ((dirR C).s n) 1 0) ∗ six (fun n => SC (F := F) 2 ((dirR C).r n) 1 0)) ∗ (six (fun n => SC (F := F) 2 ((dirL C).s n) 1 0) ∗ six (fun n => SC (F := F) 2 ((dirL C).r n) 1 0))) ⊢ iprop((six (fun n => SC (F := F) 2 ((dirR C).s n) 1 0) ∗ six (fun n => SC (F := F) 2 ((dirL C).s n) 1 0)) ∗ (eSC (F := F) 2 c15 1 0 ∗ SC (F := F) 2 23 1 0 ∗ SC (F := F) 2 24 1 0 ∗ eSC (F := F) 2 c19 1 0 ∗ six (fun n => SC (F := F) 2 ((dirR C).r n) 1 0) ∗ six (fun n => SC (F := F) 2 ((dirL C).r n) 1 0)))
    iintro ⟨⟨⟨a, b, d⟩, v⟩, ⟨sr, rr⟩, sl, rl⟩
    iframe # a b d v sr rr sl rl
  | 3 =>
    simp only [sendL, recvL, bigSepL_append]
    show iprop(((eSC (F := F) 3 c11 1 0 ∗ eSC (F := F) 3 c15 1 0 ∗ SC (F := F) 3 23 1 0 ∗ SC (F := F) 3 24 1 0 ∗ eSC (F := F) 3 c29 1 0) ∗ eSC (F := F) 3 c19 1 0) ∗ (six (fun n => SC (F := F) 3 ((dirR C).s n) 1 0) ∗ six (fun n => SC (F := F) 3 ((dirR C).r n) 1 0)) ∗ (six (fun n => SC (F := F) 3 ((dirL C).s n) 1 0) ∗ six (fun n => SC (F := F) 3 ((dirL C).r n) 1 0))) ⊢ iprop((eSC (F := F) 3 c11 1 0 ∗ six (fun n => SC (F := F) 3 ((dirR C).s n) 1 0) ∗ six (fun n => SC (F := F) 3 ((dirL C).s n) 1 0)) ∗ (eSC (F := F) 3 c15 1 0 ∗ SC (F := F) 3 23 1 0 ∗ SC (F := F) 3 24 1 0 ∗ eSC (F := F) 3 c29 1 0 ∗ eSC (F := F) 3 c19 1 0 ∗ six (fun n => SC (F := F) 3 ((dirR C).r n) 1 0) ∗ six (fun n => SC (F := F) 3 ((dirL C).r n) 1 0)))
    iintro ⟨⟨⟨a, b, d, e, f⟩, v⟩, ⟨sr, rr⟩, sl, rl⟩
    iframe # a b d e f v sr rr sl rl

/-- The round a cell is at in the end. -/
def endR (c : Dev nD) (k : Fin 56) : ℕ := if k.val = 0 then 1 else nR c (k.val + 1)
abbrev atEnd (g : GSem nD τ sig) (r : ℕ) : sProp 𝕄 := atPos ER g r ∅ 0

theorem SC_at (c : Dev nD) (n : Fin 57) (r : ℕ) : SC (F := F) c n r 0 ⊢ atEnd (dm c n) r := by
  unfold SC
  iintro ⟨h, -⟩
  iexact h

theorem used_at (c : Dev nD) : iprop((bigSepL (sendL c) fun x => SC (F := F) c x.1 x.2 0) ∗ bigSepL (recvL c) fun n => SC (F := F) c n 1 0)
    ⊢ bigSepL (usedL c) fun n => atEnd (F := F) (dm c n) (nR c n.val) := by
  unfold usedL
  rw [bigSepL_append, bigSepL_map]
  exact BIClass.sep_mono (BI.bigSepL_mono fun x hx => by rw [sendL_rounds c x hx]; exact SC_at c x.1 x.2) (BI.bigSepL_mono fun n hn => by rw [recvL_rounds c n hn]; exact SC_at c n 1)

/-- All of a device's cells stand at the end of their rounds. -/
theorem all_at (c : Dev nD) : iprop(atEnd (bar c) 1 ∗ bigSepL (usedL c) (fun n => atEnd (F := F) (dm c n) (nR c n.val)) ∗ bigSepL (idleL c) fun n => atEnd (F := F) (dm c n) 0)
    ⊢ bigSep Finset.univ fun k : Fin 56 => atEnd (F := F) (kcell (c, k)) (endR c k) := by
  rw [bigSep_univ_eq_bigSepL _ (cellL_all c) (cellL_nodup c), bigSepL_cons, bigSepL_map,
    bigSepL_congr' (l := cellL c) (Ψ := fun n => atEnd (F := F) (dm c n) (nR c n.val)) (fun n hn => by
      have h2 := cellL_ge c n hn
      have h3 : endR c (cix n) = nR c n.val := by
        unfold endR cix
        rw [if_neg (by show ¬ n.val - 1 = 0; omega)]
        show nR c (n.val - 1 + 1) = _
        rw [Nat.sub_add_cancel (by omega)]
      rw [kcell_cix c n h2, h3]), cellL, bigSepL_append]
  exact BIClass.sep_mono .rfl (BIClass.sep_mono .rfl (BI.bigSepL_mono fun n hn => by rw [idleL_rounds c n hn]))

end Cert.Att
-- ==== Proof.BodyEq.lean ====
module

public import proofs.«01_k».proof.Proof.Macro

@[expose] public section

noncomputable section

namespace Cert.Att

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F] [Named F]

/-! The printed body is cut in many pieces that hand partial results to one another. Here the pieces are put together again, per device, and read
as the composition of the steps in `Macro`. -/

/-- A program after it has read its device. -/
def pin {α : Type} (P : PG F α) : Dev nD → PG F α := fun c =>
  match P with
  | .op .deviceId k => k c
  | P => P

/-- Pieces 43 to 53. -/
def g43 (d0 : Dev nD) (v2 : BitVec 32) (v25 : BitVec 1) : PG F PUnit := do
  let ⟨v47, v48, cst⟩ ← ap (k0_part43 (F := F)) d0 v25
  let v74 ← ap (k0_part44 (F := F)) v47 v48 cst
  ap (k0_part45 (F := F)) v74
  let ⟨v119, v123, v131⟩ ← ap (k0_part46 (F := F)) d0 v2
  let ⟨v154, v158, v168, v169⟩ ← ap (k0_part47 (F := F)) v119 v123 v131
  let ⟨v189, v205, v208⟩ ← ap (k0_part48 (F := F)) v154 v158 v168 v169
  let ⟨v224, v245, v247⟩ ← ap (k0_part49 (F := F)) v189 v205 v208
  let v286 ← ap (k0_part50 (F := F)) v224 v245 v247
  let v322 ← ap (k0_part51 (F := F)) v286
  ap (k0_part52 (F := F)) v322
  ap (k0_part53 (F := F)) v2

/-- Pieces 54 to 64. -/
def g54 : PG F PUnit := do
  let v435 ← ap (k0_part54 (F := F))
  let ⟨v470, v472⟩ ← ap (k0_part55 (F := F)) v435
  let ⟨v507, v509, v510⟩ ← ap (k0_part56 (F := F)) v470 v472
  let ⟨v542, v546, v549⟩ ← ap (k0_part57 (F := F)) v507 v509 v510
  let ⟨v577, v581, v588⟩ ← ap (k0_part58 (F := F)) v542 v546 v549
  let ⟨v612, v616, v626, cst_371⟩ ← ap (k0_part59 (F := F)) v577 v581 v588
  let ⟨v647, v663, v665⟩ ← ap (k0_part60 (F := F)) v612 v616 v626 cst_371
  let ⟨v682, v703, v704⟩ ← ap (k0_part61 (F := F)) v647 v663 v665
  let ⟨v717, v743, cst_430⟩ ← ap (k0_part62 (F := F)) v682 v703 v704
  let ⟨v780, v781⟩ ← ap (k0_part63 (F := F)) v717 v743 cst_430
  ap (k0_part64 (F := F)) v780 v781

/-- Pieces 65 to 105. -/
def g65 (v2 : BitVec 32) : PG F PUnit := do
  let v855 ← ap (k0_part65 (F := F))
  let ⟨v890, v892⟩ ← ap (k0_part66 (F := F)) v855
  let ⟨v927, v929, v930⟩ ← ap (k0_part67 (F := F)) v890 v892
  let ⟨v965, v967, cst_558⟩ ← ap (k0_part68 (F := F)) v2 v927 v929 v930
  let ⟨v1000, v1004, v1005, v1006⟩ ← ap (k0_part69 (F := F)) v965 v967 cst_558
  let ⟨v1035, v1039, v1042, v1045⟩ ← ap (k0_part70 (F := F)) v1000 v1004 v1005 v1006
  let ⟨v1070, v1074, v1084⟩ ← ap (k0_part71 (F := F)) v1035 v1039 v1042 v1045
  let ⟨v1105, v1121, v1122⟩ ← ap (k0_part72 (F := F)) v1070 v1074 v1084
  let ⟨v1140, v1161⟩ ← ap (k0_part73 (F := F)) v1105 v1121 v1122
  let ⟨v1175, v1201⟩ ← ap (k0_part74 (F := F)) v1140 v1161
  let v1238 ← ap (k0_part75 (F := F)) v1175 v1201
  ap (k0_part76 (F := F)) v1238
  let v1313 ← ap (k0_part77 (F := F))
  let ⟨v1348, v1350⟩ ← ap (k0_part78 (F := F)) v1313
  let ⟨v1385, v1387, cst_783⟩ ← ap (k0_part79 (F := F)) v1348 v1350
  let ⟨v1420, v1424, v1425, v1426⟩ ← ap (k0_part80 (F := F)) v1385 v1387 cst_783
  let ⟨v1455, v1459, v1462, v1465⟩ ← ap (k0_part81 (F := F)) v1420 v1424 v1425 v1426
  let ⟨v1490, v1494, v1504⟩ ← ap (k0_part82 (F := F)) v1455 v1459 v1462 v1465
  let ⟨v1528, v1532, v1540, v1541⟩ ← ap (k0_part83 (F := F)) v2 v1490 v1494 v1504
  let ⟨v1563, v1579⟩ ← ap (k0_part84 (F := F)) v1528 v1532 v1540 v1541
  let ⟨v1598, v1619⟩ ← ap (k0_part85 (F := F)) v1563 v1579
  let ⟨v1633, v1658⟩ ← ap (k0_part86 (F := F)) v1598 v1619
  let v1696 ← ap (k0_part87 (F := F)) v1633 v1658
  ap (k0_part88 (F := F)) v1696
  let v1771 ← ap (k0_part89 (F := F))
  let ⟨v1806, v1808⟩ ← ap (k0_part90 (F := F)) v1771
  let ⟨v1843, v1845⟩ ← ap (k0_part91 (F := F)) v1806 v1808
  let ⟨v1878, v1882, v1883, c1536_i32_1046⟩ ← ap (k0_part92 (F := F)) v1843 v1845
  let ⟨v1913, v1917, v1920, v1921, v1922⟩ ← ap (k0_part93 (F := F)) v1878 v1882 v1883 c1536_i32_1046
  let ⟨v1948, v1952, v1960, v1961⟩ ← ap (k0_part94 (F := F)) v1913 v1917 v1920 v1921 v1922
  let ⟨v1983, v1999⟩ ← ap (k0_part95 (F := F)) v1948 v1952 v1960 v1961
  let ⟨v2018, v2039⟩ ← ap (k0_part96 (F := F)) v1983 v1999
  let ⟨v2053, v2078⟩ ← ap (k0_part97 (F := F)) v2018 v2039
  let ⟨v2094, v2110, v2113⟩ ← ap (k0_part98 (F := F)) v2053 v2078
  let ⟨v2135, v2139, v2149⟩ ← ap (k0_part99 (F := F)) v2094 v2110 v2113
  let ⟨v2176, v2180, v2183, v2184, c1664_i32_1213⟩ ← ap (k0_part100 (F := F)) v2135 v2139 v2149
  let ⟨v2217, v2219, v2220⟩ ← ap (k0_part101 (F := F)) v2176 v2180 v2183 v2184 c1664_i32_1213
  let ⟨v2253, v2258⟩ ← ap (k0_part102 (F := F)) v2217 v2219 v2220
  let ⟨v2294, v2295⟩ ← ap (k0_part103 (F := F)) v2253 v2258
  let v2332 ← ap (k0_part104 (F := F)) v2294 v2295
  ap (k0_part105 (F := F)) v2332

/-- Pieces 106 to 119. -/
def g106 (d0 : Dev nD) (v2 : BitVec 32) : PG F PUnit := do
  let v2409 ← ap (k0_part106 (F := F))
  let ⟨v2439, v2440⟩ ← ap (k0_part107 (F := F)) v2409
  let ⟨v2469, v2471, v2473⟩ ← ap (k0_part108 (F := F)) v2 v2439 v2440
  let ⟨v2499, v2502, c0_i32_1418⟩ ← ap (k0_part109 (F := F)) d0 v2 v2469 v2471 v2473
  let ⟨v2529, v2532, c0_i32_1445⟩ ← ap (k0_part110 (F := F)) d0 v2 v2469 v2499 v2502 c0_i32_1418
  let ⟨v2560, c0_i32_1471, c1_i32_1472⟩ ← ap (k0_part111 (F := F)) d0 v2 v2471 v2529 v2532 c0_i32_1445
  let ⟨v2590, c0_i32_1498, c1_i32_1499⟩ ← ap (k0_part112 (F := F)) d0 v2 v2469 v2560 c0_i32_1471 c1_i32_1472
  let ⟨v2620, c0_i32_1525, c1_i32_1526⟩ ← ap (k0_part113 (F := F)) d0 v2 v2471 v2590 c0_i32_1498 c1_i32_1499
  let ⟨v2642, v2653⟩ ← ap (k0_part114 (F := F)) d0 v2 v2620 c0_i32_1525 c1_i32_1526
  ap (k0_part115 (F := F)) d0 v2 v2469 v2471 v2642 v2653
  let v2712 ← ap (k0_part116 (F := F)) d0 v2 v2469
  ap (k0_part117 (F := F)) d0 v2 v2469 v2471 v2712
  ap (k0_part118 (F := F)) d0 v2 v2471
  ap (k0_part119 (F := F)) d0 v2

/-- Pieces 120 to the end. -/
def g120 (d0 : Dev nD) : PG F PUnit := do
  ap (k0_part120 (F := F)) d0
  ap (k0_part121 (F := F)) d0
  let v2876 ← ap (k0_part122 (F := F))
  let _ : Vec F S1x512x512 .f32 ← Prog.lift (.load outM (Rect.unit (s := S1x2048x1024) ![0, 1536, 0] S1x512x512.size inb_S1x2048x1024_S1x512x512_0_1536_0).toLoadRect (View.loadsAt_vmem h_S1x512x512))
  Prog.lift (.store outM (Rect.unit (s := S1x2048x1024) ![0, 1536, 0] S1x512x512.size inb_S1x2048x1024_S1x512x512_0_1536_0) (shapeCast S1x512x512 v2876 shapeCasts_S512x512_S1x512x512 : FVec F S1x512x512 .f32) Finset.univ (View.stores_vmem_bits_univ h_S1x512x512 rfl) (.inl rfl))
  outSt rlM 3 1

set_option maxRecDepth 100000 in
set_option maxHeartbeats 800000 in
theorem g54_eq : g54 (F := F) = seqP (heads.map (blk 1) ++ [0, 1, 2, 3].map (blk 2)) := by delta g54; rfl
set_option maxRecDepth 100000 in
set_option maxHeartbeats 800000 in
theorem g42_0 : pin (ap (k0_part42 (F := F))) 0 = (do
  handshake 0
  whenP ((0 : Dev nD) = 0) (fourP relayOut)
  whenP ((0 : Dev nD) = 1) (do
    tailOut kH ktM (wh _) 23
    tailOut vH vtM (wh _) 24)
  whenP ((0 : Dev nD) = 1) (do
    fourP (passOn 0 kM (wh _) 25 15 (by decide) (by decide))
    fourP (fun r => wtS kM (wh _) (cell 11 r) 0 r))
  pure ⟨0, 0#32, Scalar.cmpi .eq 0#32 3#32⟩) := by rfl
set_option maxRecDepth 100000 in
set_option maxHeartbeats 800000 in
theorem g43_0 : g43 (F := F) 0 0#32 (Scalar.cmpi .eq 0#32 3#32) = (do
  whenP ((0 : Dev nD) = 3) (do
    fourP (passOn 1 vM (wh _) 29 19 (by decide) (by decide))
    fourP (fun r => wtS vM (wh _) (cell 11 r) 1 r))
  loads1
  rows1 0
  vWait 0 0
  blks 0
  vWait 0 1) := by delta g43; rfl
set_option maxRecDepth 100000 in
set_option maxHeartbeats 800000 in
theorem g65_0 : g65 (F := F) 0#32 = (do
  seqP ([4, 5, 6, 7].map (blk 2))
  vWait 0 2
  blks 3
  blks 4
  vWait 0 3
  blks 5
  blks 6
  seqP ([0, 1, 2, 3, 4, 5, 6].map blk7)) := by delta g65; rfl
set_option maxRecDepth 100000 in
set_option maxHeartbeats 800000 in
theorem g106_0 : g106 (F := F) 0 0#32 = (do
  blk7 7
  fourP oRows
  whenP ((0 : Dev nD) = 0) (do
    fourP (fun r => wtS kM (wh _) (sCell 0 r) 0 r)
    fourP (fun r => wtS kM (wh _) (sCell 1 r) 1 r))
  ring1 0
  ring2 0
  wtC prM rrM (wh _) (wh _) 33 0
  wtC plM rlM (wh _) (wh _) 45 0) := by delta g106; rfl
set_option maxRecDepth 100000 in
set_option maxHeartbeats 800000 in
theorem g120_0 : g120 (F := F) 0 = (do
  wtA arM rrM (wh _) (wh _) 34 0 (pv 0)
  wtA alM rlM (wh _) (wh _) 46 0 (nx 0)
  wtA arM rrM (wh _) (wh _) 35 1 (op 0)
  wtA alM rlM (wh _) (wh _) 47 1 (op 0)
  wtC rrM rrM (wh _) (wh _) 36 (nx 0)
  wtC rlM rlM (wh _) (wh _) 48 (pv 0)
  wtC rrM rrM (wh _) (wh _) 37 0
  wtC rlM rlM (wh _) (wh _) 49 0
  wtC rrM rrM (wh _) (wh _) 38 (pv 0)
  wtC rlM rlM (wh _) (wh _) 50 (nx 0)
  fourP outs) := by delta g120; rfl
set_option maxRecDepth 100000 in
set_option maxHeartbeats 800000 in
theorem g42_1 : pin (ap (k0_part42 (F := F))) 1 = (do
  handshake 1
  whenP ((1 : Dev nD) = 0) (fourP relayOut)
  whenP ((1 : Dev nD) = 1) (do
    tailOut kH ktM (wh _) 23
    tailOut vH vtM (wh _) 24)
  whenP ((1 : Dev nD) = 1) (do
    fourP (passOn 0 kM (wh _) 25 15 (by decide) (by decide))
    fourP (fun r => wtS kM (wh _) (cell 11 r) 0 r))
  pure ⟨1, 1#32, Scalar.cmpi .eq 1#32 3#32⟩) := by rfl
set_option maxRecDepth 100000 in
set_option maxHeartbeats 800000 in
theorem g43_1 : g43 (F := F) 1 1#32 (Scalar.cmpi .eq 1#32 3#32) = (do
  whenP ((1 : Dev nD) = 3) (do
    fourP (passOn 1 vM (wh _) 29 19 (by decide) (by decide))
    fourP (fun r => wtS vM (wh _) (cell 11 r) 1 r))
  loads1
  rows1 1
  vWait 1 0
  blks 0
  vWait 1 1) := by delta g43; rfl
set_option maxRecDepth 100000 in
set_option maxHeartbeats 800000 in
theorem g65_1 : g65 (F := F) 1#32 = (do
  seqP ([4, 5, 6, 7].map (blk 2))
  vWait 1 2
  blks 3
  blks 4
  vWait 1 3
  blks 5
  blks 6
  seqP ([0, 1, 2, 3, 4, 5, 6].map blk7)) := by delta g65; rfl
set_option maxRecDepth 100000 in
set_option maxHeartbeats 800000 in
theorem g106_1 : g106 (F := F) 1 1#32 = (do
  blk7 7
  fourP oRows
  whenP ((1 : Dev nD) = 0) (do
    fourP (fun r => wtS kM (wh _) (sCell 0 r) 0 r)
    fourP (fun r => wtS kM (wh _) (sCell 1 r) 1 r))
  ring1 1
  ring2 1
  wtC prM rrM (wh _) (wh _) 33 1
  wtC plM rlM (wh _) (wh _) 45 1) := by delta g106; rfl
set_option maxRecDepth 100000 in
set_option maxHeartbeats 800000 in
theorem g120_1 : g120 (F := F) 1 = (do
  wtA arM rrM (wh _) (wh _) 34 0 (pv 1)
  wtA alM rlM (wh _) (wh _) 46 0 (nx 1)
  wtA arM rrM (wh _) (wh _) 35 1 (op 1)
  wtA alM rlM (wh _) (wh _) 47 1 (op 1)
  wtC rrM rrM (wh _) (wh _) 36 (nx 1)
  wtC rlM rlM (wh _) (wh _) 48 (pv 1)
  wtC rrM rrM (wh _) (wh _) 37 1
  wtC rlM rlM (wh _) (wh _) 49 1
  wtC rrM rrM (wh _) (wh _) 38 (pv 1)
  wtC rlM rlM (wh _) (wh _) 50 (nx 1)
  fourP outs) := by delta g120; rfl
set_option maxRecDepth 100000 in
set_option maxHeartbeats 800000 in
theorem g42_2 : pin (ap (k0_part42 (F := F))) 2 = (do
  handshake 2
  whenP ((2 : Dev nD) = 0) (fourP relayOut)
  whenP ((2 : Dev nD) = 1) (do
    tailOut kH ktM (wh _) 23
    tailOut vH vtM (wh _) 24)
  whenP ((2 : Dev nD) = 1) (do
    fourP (passOn 0 kM (wh _) 25 15 (by decide) (by decide))
    fourP (fun r => wtS kM (wh _) (cell 11 r) 0 r))
  pure ⟨2, 2#32, Scalar.cmpi .eq 2#32 3#32⟩) := by rfl
set_option maxRecDepth 100000 in
set_option maxHeartbeats 800000 in
theorem g43_2 : g43 (F := F) 2 2#32 (Scalar.cmpi .eq 2#32 3#32) = (do
  whenP ((2 : Dev nD) = 3) (do
    fourP (passOn 1 vM (wh _) 29 19 (by decide) (by decide))
    fourP (fun r => wtS vM (wh _) (cell 11 r) 1 r))
  loads1
  rows1 2
  vWait 2 0
  blks 0
  vWait 2 1) := by delta g43; rfl
set_option maxRecDepth 100000 in
set_option maxHeartbeats 800000 in
theorem g65_2 : g65 (F := F) 2#32 = (do
  seqP ([4, 5, 6, 7].map (blk 2))
  vWait 2 2
  blks 3
  blks 4
  vWait 2 3
  blks 5
  blks 6
  seqP ([0, 1, 2, 3, 4, 5, 6].map blk7)) := by delta g65; rfl
set_option maxRecDepth 100000 in
set_option maxHeartbeats 800000 in
theorem g106_2 : g106 (F := F) 2 2#32 = (do
  blk7 7
  fourP oRows
  whenP ((2 : Dev nD) = 0) (do
    fourP (fun r => wtS kM (wh _) (sCell 0 r) 0 r)
    fourP (fun r => wtS kM (wh _) (sCell 1 r) 1 r))
  ring1 2
  ring2 2
  wtC prM rrM (wh _) (wh _) 33 2
  wtC plM rlM (wh _) (wh _) 45 2) := by delta g106; rfl
set_option maxRecDepth 100000 in
set_option maxHeartbeats 800000 in
theorem g120_2 : g120 (F := F) 2 = (do
  wtA arM rrM (wh _) (wh _) 34 0 (pv 2)
  wtA alM rlM (wh _) (wh _) 46 0 (nx 2)
  wtA arM rrM (wh _) (wh _) 35 1 (op 2)
  wtA alM rlM (wh _) (wh _) 47 1 (op 2)
  wtC rrM rrM (wh _) (wh _) 36 (nx 2)
  wtC rlM rlM (wh _) (wh _) 48 (pv 2)
  wtC rrM rrM (wh _) (wh _) 37 2
  wtC rlM rlM (wh _) (wh _) 49 2
  wtC rrM rrM (wh _) (wh _) 38 (pv 2)
  wtC rlM rlM (wh _) (wh _) 50 (nx 2)
  fourP outs) := by delta g120; rfl
set_option maxRecDepth 100000 in
set_option maxHeartbeats 800000 in
theorem g42_3 : pin (ap (k0_part42 (F := F))) 3 = (do
  handshake 3
  whenP ((3 : Dev nD) = 0) (fourP relayOut)
  whenP ((3 : Dev nD) = 1) (do
    tailOut kH ktM (wh _) 23
    tailOut vH vtM (wh _) 24)
  whenP ((3 : Dev nD) = 1) (do
    fourP (passOn 0 kM (wh _) 25 15 (by decide) (by decide))
    fourP (fun r => wtS kM (wh _) (cell 11 r) 0 r))
  pure ⟨3, 3#32, Scalar.cmpi .eq 3#32 3#32⟩) := by rfl
set_option maxRecDepth 100000 in
set_option maxHeartbeats 800000 in
theorem g43_3 : g43 (F := F) 3 3#32 (Scalar.cmpi .eq 3#32 3#32) = (do
  whenP ((3 : Dev nD) = 3) (do
    fourP (passOn 1 vM (wh _) 29 19 (by decide) (by decide))
    fourP (fun r => wtS vM (wh _) (cell 11 r) 1 r))
  loads1
  rows1 3
  vWait 3 0
  blks 0
  vWait 3 1) := by delta g43; rfl
set_option maxRecDepth 100000 in
set_option maxHeartbeats 800000 in
theorem g65_3 : g65 (F := F) 3#32 = (do
  seqP ([4, 5, 6, 7].map (blk 2))
  vWait 3 2
  blks 3
  blks 4
  vWait 3 3
  blks 5
  blks 6
  seqP ([0, 1, 2, 3, 4, 5, 6].map blk7)) := by delta g65; rfl
set_option maxRecDepth 100000 in
set_option maxHeartbeats 800000 in
theorem g106_3 : g106 (F := F) 3 3#32 = (do
  blk7 7
  fourP oRows
  whenP ((3 : Dev nD) = 0) (do
    fourP (fun r => wtS kM (wh _) (sCell 0 r) 0 r)
    fourP (fun r => wtS kM (wh _) (sCell 1 r) 1 r))
  ring1 3
  ring2 3
  wtC prM rrM (wh _) (wh _) 33 3
  wtC plM rlM (wh _) (wh _) 45 3) := by delta g106; rfl
set_option maxRecDepth 100000 in
set_option maxHeartbeats 800000 in
theorem g120_3 : g120 (F := F) 3 = (do
  wtA arM rrM (wh _) (wh _) 34 0 (pv 3)
  wtA alM rlM (wh _) (wh _) 46 0 (nx 3)
  wtA arM rrM (wh _) (wh _) 35 1 (op 3)
  wtA alM rlM (wh _) (wh _) 47 1 (op 3)
  wtC rrM rrM (wh _) (wh _) 36 (nx 3)
  wtC rlM rlM (wh _) (wh _) 48 (pv 3)
  wtC rrM rrM (wh _) (wh _) 37 3
  wtC rlM rlM (wh _) (wh _) 49 3
  wtC rrM rrM (wh _) (wh _) 38 (pv 3)
  wtC rlM rlM (wh _) (wh _) 50 (nx 3)
  fourP outs) := by delta g120; rfl

end Cert.Att
-- ==== Proof.BodyEq2.lean ====
module

public import proofs.«01_k».proof.Proof.BodyEq

@[expose] public section

noncomputable section

namespace Cert.Att

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F] [Named F]

section
attribute [local irreducible] k0_part42 k0_part43 k0_part44 k0_part45 k0_part46 k0_part47 k0_part48 k0_part49 k0_part50 k0_part51 k0_part52 k0_part53 k0_part54 k0_part55 k0_part56 k0_part57 k0_part58 k0_part59 k0_part60 k0_part61 k0_part62 k0_part63 k0_part64 k0_part65 k0_part66 k0_part67 k0_part68 k0_part69 k0_part70 k0_part71 k0_part72 k0_part73 k0_part74 k0_part75 k0_part76 k0_part77 k0_part78 k0_part79 k0_part80 k0_part81 k0_part82 k0_part83 k0_part84 k0_part85 k0_part86 k0_part87 k0_part88 k0_part89 k0_part90 k0_part91 k0_part92 k0_part93 k0_part94 k0_part95 k0_part96 k0_part97 k0_part98 k0_part99 k0_part100 k0_part101 k0_part102 k0_part103 k0_part104 k0_part105 k0_part106 k0_part107 k0_part108 k0_part109 k0_part110 k0_part111 k0_part112 k0_part113 k0_part114 k0_part115 k0_part116 k0_part117 k0_part118 k0_part119 k0_part120 k0_part121 k0_part122
theorem flat123 : ap (k0_part123 (F := F)) = (do
  let x42 ← ap (k0_part42 (F := F))
  let x43 ← ap (k0_part43 (F := F)) x42.1 x42.2.2
  let x44 ← ap (k0_part44 (F := F)) x43.1 x43.2.1 x43.2.2
  ap (k0_part45 (F := F)) x44
  let x46 ← ap (k0_part46 (F := F)) x42.1 x42.2.1
  let x47 ← ap (k0_part47 (F := F)) x46.1 x46.2.1 x46.2.2
  let x48 ← ap (k0_part48 (F := F)) x47.1 x47.2.1 x47.2.2.1 x47.2.2.2
  let x49 ← ap (k0_part49 (F := F)) x48.1 x48.2.1 x48.2.2
  let x50 ← ap (k0_part50 (F := F)) x49.1 x49.2.1 x49.2.2
  let x51 ← ap (k0_part51 (F := F)) x50
  ap (k0_part52 (F := F)) x51
  ap (k0_part53 (F := F)) x42.2.1
  let x54 ← ap (k0_part54 (F := F))
  let x55 ← ap (k0_part55 (F := F)) x54
  let x56 ← ap (k0_part56 (F := F)) x55.1 x55.2
  let x57 ← ap (k0_part57 (F := F)) x56.1 x56.2.1 x56.2.2
  let x58 ← ap (k0_part58 (F := F)) x57.1 x57.2.1 x57.2.2
  let x59 ← ap (k0_part59 (F := F)) x58.1 x58.2.1 x58.2.2
  let x60 ← ap (k0_part60 (F := F)) x59.1 x59.2.1 x59.2.2.1 x59.2.2.2
  let x61 ← ap (k0_part61 (F := F)) x60.1 x60.2.1 x60.2.2
  let x62 ← ap (k0_part62 (F := F)) x61.1 x61.2.1 x61.2.2
  let x63 ← ap (k0_part63 (F := F)) x62.1 x62.2.1 x62.2.2
  ap (k0_part64 (F := F)) x63.1 x63.2
  let x65 ← ap (k0_part65 (F := F))
  let x66 ← ap (k0_part66 (F := F)) x65
  let x67 ← ap (k0_part67 (F := F)) x66.1 x66.2
  let x68 ← ap (k0_part68 (F := F)) x42.2.1 x67.1 x67.2.1 x67.2.2
  let x69 ← ap (k0_part69 (F := F)) x68.1 x68.2.1 x68.2.2
  let x70 ← ap (k0_part70 (F := F)) x69.1 x69.2.1 x69.2.2.1 x69.2.2.2
  let x71 ← ap (k0_part71 (F := F)) x70.1 x70.2.1 x70.2.2.1 x70.2.2.2
  let x72 ← ap (k0_part72 (F := F)) x71.1 x71.2.1 x71.2.2
  let x73 ← ap (k0_part73 (F := F)) x72.1 x72.2.1 x72.2.2
  let x74 ← ap (k0_part74 (F := F)) x73.1 x73.2
  let x75 ← ap (k0_part75 (F := F)) x74.1 x74.2
  ap (k0_part76 (F := F)) x75
  let x77 ← ap (k0_part77 (F := F))
  let x78 ← ap (k0_part78 (F := F)) x77
  let x79 ← ap (k0_part79 (F := F)) x78.1 x78.2
  let x80 ← ap (k0_part80 (F := F)) x79.1 x79.2.1 x79.2.2
  let x81 ← ap (k0_part81 (F := F)) x80.1 x80.2.1 x80.2.2.1 x80.2.2.2
  let x82 ← ap (k0_part82 (F := F)) x81.1 x81.2.1 x81.2.2.1 x81.2.2.2
  let x83 ← ap (k0_part83 (F := F)) x42.2.1 x82.1 x82.2.1 x82.2.2
  let x84 ← ap (k0_part84 (F := F)) x83.1 x83.2.1 x83.2.2.1 x83.2.2.2
  let x85 ← ap (k0_part85 (F := F)) x84.1 x84.2
  let x86 ← ap (k0_part86 (F := F)) x85.1 x85.2
  let x87 ← ap (k0_part87 (F := F)) x86.1 x86.2
  ap (k0_part88 (F := F)) x87
  let x89 ← ap (k0_part89 (F := F))
  let x90 ← ap (k0_part90 (F := F)) x89
  let x91 ← ap (k0_part91 (F := F)) x90.1 x90.2
  let x92 ← ap (k0_part92 (F := F)) x91.1 x91.2
  let x93 ← ap (k0_part93 (F := F)) x92.1 x92.2.1 x92.2.2.1 x92.2.2.2
  let x94 ← ap (k0_part94 (F := F)) x93.1 x93.2.1 x93.2.2.1 x93.2.2.2.1 x93.2.2.2.2
  let x95 ← ap (k0_part95 (F := F)) x94.1 x94.2.1 x94.2.2.1 x94.2.2.2
  let x96 ← ap (k0_part96 (F := F)) x95.1 x95.2
  let x97 ← ap (k0_part97 (F := F)) x96.1 x96.2
  let x98 ← ap (k0_part98 (F := F)) x97.1 x97.2
  let x99 ← ap (k0_part99 (F := F)) x98.1 x98.2.1 x98.2.2
  let x100 ← ap (k0_part100 (F := F)) x99.1 x99.2.1 x99.2.2
  let x101 ← ap (k0_part101 (F := F)) x100.1 x100.2.1 x100.2.2.1 x100.2.2.2.1 x100.2.2.2.2
  pure ⟨x42.1, x42.2.1, x101.1, x101.2.1, x101.2.2⟩) := by unfold ap k0_part123; rfl
theorem flatB : (ap (cc0_body (F := F)) : PG F PUnit) = (do
  let y ← ap (k0_part123 (F := F))
  let x102 ← ap (k0_part102 (F := F)) y.2.2.1 y.2.2.2.1 y.2.2.2.2
  let x103 ← ap (k0_part103 (F := F)) x102.1 x102.2
  let x104 ← ap (k0_part104 (F := F)) x103.1 x103.2
  ap (k0_part105 (F := F)) x104
  let x106 ← ap (k0_part106 (F := F))
  let x107 ← ap (k0_part107 (F := F)) x106
  let x108 ← ap (k0_part108 (F := F)) y.2.1 x107.1 x107.2
  let x109 ← ap (k0_part109 (F := F)) y.1 y.2.1 x108.1 x108.2.1 x108.2.2
  let x110 ← ap (k0_part110 (F := F)) y.1 y.2.1 x108.1 x109.1 x109.2.1 x109.2.2
  let x111 ← ap (k0_part111 (F := F)) y.1 y.2.1 x108.2.1 x110.1 x110.2.1 x110.2.2
  let x112 ← ap (k0_part112 (F := F)) y.1 y.2.1 x108.1 x111.1 x111.2.1 x111.2.2
  let x113 ← ap (k0_part113 (F := F)) y.1 y.2.1 x108.2.1 x112.1 x112.2.1 x112.2.2
  let x114 ← ap (k0_part114 (F := F)) y.1 y.2.1 x113.1 x113.2.1 x113.2.2
  ap (k0_part115 (F := F)) y.1 y.2.1 x108.1 x108.2.1 x114.1 x114.2
  let x116 ← ap (k0_part116 (F := F)) y.1 y.2.1 x108.1
  ap (k0_part117 (F := F)) y.1 y.2.1 x108.1 x108.2.1 x116
  ap (k0_part118 (F := F)) y.1 y.2.1 x108.2.1
  ap (k0_part119 (F := F)) y.1 y.2.1
  ap (k0_part120 (F := F)) y.1
  ap (k0_part121 (F := F)) y.1
  let x122 ← ap (k0_part122 (F := F))
  let _ : Vec F S1x512x512 .f32 ← Prog.lift (.load outM (Rect.unit (s := S1x2048x1024) ![0, 1536, 0] S1x512x512.size inb_S1x2048x1024_S1x512x512_0_1536_0).toLoadRect (View.loadsAt_vmem h_S1x512x512))
  Prog.lift (.store outM (Rect.unit (s := S1x2048x1024) ![0, 1536, 0] S1x512x512.size inb_S1x2048x1024_S1x512x512_0_1536_0) (shapeCast S1x512x512 x122 shapeCasts_S512x512_S1x512x512 : FVec F S1x512x512 .f32) Finset.univ (View.stores_vmem_bits_univ h_S1x512x512 rfl) (.inl rfl))
  outSt rlM 3 1) := by unfold ap cc0_body; rfl
theorem g43_flat (d0 : Dev nD) (v2 : BitVec 32) (v25 : BitVec 1) : g43 (F := F) d0 v2 v25 = (do
  let x43 ← ap (k0_part43 (F := F)) d0 v25
  let x44 ← ap (k0_part44 (F := F)) x43.1 x43.2.1 x43.2.2
  ap (k0_part45 (F := F)) x44
  let x46 ← ap (k0_part46 (F := F)) d0 v2
  let x47 ← ap (k0_part47 (F := F)) x46.1 x46.2.1 x46.2.2
  let x48 ← ap (k0_part48 (F := F)) x47.1 x47.2.1 x47.2.2.1 x47.2.2.2
  let x49 ← ap (k0_part49 (F := F)) x48.1 x48.2.1 x48.2.2
  let x50 ← ap (k0_part50 (F := F)) x49.1 x49.2.1 x49.2.2
  let x51 ← ap (k0_part51 (F := F)) x50
  ap (k0_part52 (F := F)) x51
  ap (k0_part53 (F := F)) v2) := by unfold ap g43; rfl
theorem g54_flat : g54 (F := F) = (do
  let x54 ← ap (k0_part54 (F := F))
  let x55 ← ap (k0_part55 (F := F)) x54
  let x56 ← ap (k0_part56 (F := F)) x55.1 x55.2
  let x57 ← ap (k0_part57 (F := F)) x56.1 x56.2.1 x56.2.2
  let x58 ← ap (k0_part58 (F := F)) x57.1 x57.2.1 x57.2.2
  let x59 ← ap (k0_part59 (F := F)) x58.1 x58.2.1 x58.2.2
  let x60 ← ap (k0_part60 (F := F)) x59.1 x59.2.1 x59.2.2.1 x59.2.2.2
  let x61 ← ap (k0_part61 (F := F)) x60.1 x60.2.1 x60.2.2
  let x62 ← ap (k0_part62 (F := F)) x61.1 x61.2.1 x61.2.2
  let x63 ← ap (k0_part63 (F := F)) x62.1 x62.2.1 x62.2.2
  ap (k0_part64 (F := F)) x63.1 x63.2) := by unfold ap g54; rfl
theorem g65_flat (v2 : BitVec 32) : g65 (F := F) v2 = (do
  let x65 ← ap (k0_part65 (F := F))
  let x66 ← ap (k0_part66 (F := F)) x65
  let x67 ← ap (k0_part67 (F := F)) x66.1 x66.2
  let x68 ← ap (k0_part68 (F := F)) v2 x67.1 x67.2.1 x67.2.2
  let x69 ← ap (k0_part69 (F := F)) x68.1 x68.2.1 x68.2.2
  let x70 ← ap (k0_part70 (F := F)) x69.1 x69.2.1 x69.2.2.1 x69.2.2.2
  let x71 ← ap (k0_part71 (F := F)) x70.1 x70.2.1 x70.2.2.1 x70.2.2.2
  let x72 ← ap (k0_part72 (F := F)) x71.1 x71.2.1 x71.2.2
  let x73 ← ap (k0_part73 (F := F)) x72.1 x72.2.1 x72.2.2
  let x74 ← ap (k0_part74 (F := F)) x73.1 x73.2
  let x75 ← ap (k0_part75 (F := F)) x74.1 x74.2
  ap (k0_part76 (F := F)) x75
  let x77 ← ap (k0_part77 (F := F))
  let x78 ← ap (k0_part78 (F := F)) x77
  let x79 ← ap (k0_part79 (F := F)) x78.1 x78.2
  let x80 ← ap (k0_part80 (F := F)) x79.1 x79.2.1 x79.2.2
  let x81 ← ap (k0_part81 (F := F)) x80.1 x80.2.1 x80.2.2.1 x80.2.2.2
  let x82 ← ap (k0_part82 (F := F)) x81.1 x81.2.1 x81.2.2.1 x81.2.2.2
  let x83 ← ap (k0_part83 (F := F)) v2 x82.1 x82.2.1 x82.2.2
  let x84 ← ap (k0_part84 (F := F)) x83.1 x83.2.1 x83.2.2.1 x83.2.2.2
  let x85 ← ap (k0_part85 (F := F)) x84.1 x84.2
  let x86 ← ap (k0_part86 (F := F)) x85.1 x85.2
  let x87 ← ap (k0_part87 (F := F)) x86.1 x86.2
  ap (k0_part88 (F := F)) x87
  let x89 ← ap (k0_part89 (F := F))
  let x90 ← ap (k0_part90 (F := F)) x89
  let x91 ← ap (k0_part91 (F := F)) x90.1 x90.2
  let x92 ← ap (k0_part92 (F := F)) x91.1 x91.2
  let x93 ← ap (k0_part93 (F := F)) x92.1 x92.2.1 x92.2.2.1 x92.2.2.2
  let x94 ← ap (k0_part94 (F := F)) x93.1 x93.2.1 x93.2.2.1 x93.2.2.2.1 x93.2.2.2.2
  let x95 ← ap (k0_part95 (F := F)) x94.1 x94.2.1 x94.2.2.1 x94.2.2.2
  let x96 ← ap (k0_part96 (F := F)) x95.1 x95.2
  let x97 ← ap (k0_part97 (F := F)) x96.1 x96.2
  let x98 ← ap (k0_part98 (F := F)) x97.1 x97.2
  let x99 ← ap (k0_part99 (F := F)) x98.1 x98.2.1 x98.2.2
  let x100 ← ap (k0_part100 (F := F)) x99.1 x99.2.1 x99.2.2
  let x101 ← ap (k0_part101 (F := F)) x100.1 x100.2.1 x100.2.2.1 x100.2.2.2.1 x100.2.2.2.2
  let x102 ← ap (k0_part102 (F := F)) x101.1 x101.2.1 x101.2.2
  let x103 ← ap (k0_part103 (F := F)) x102.1 x102.2
  let x104 ← ap (k0_part104 (F := F)) x103.1 x103.2
  ap (k0_part105 (F := F)) x104) := by unfold ap g65; rfl
theorem g106_flat (d0 : Dev nD) (v2 : BitVec 32) : g106 (F := F) d0 v2 = (do
  let x106 ← ap (k0_part106 (F := F))
  let x107 ← ap (k0_part107 (F := F)) x106
  let x108 ← ap (k0_part108 (F := F)) v2 x107.1 x107.2
  let x109 ← ap (k0_part109 (F := F)) d0 v2 x108.1 x108.2.1 x108.2.2
  let x110 ← ap (k0_part110 (F := F)) d0 v2 x108.1 x109.1 x109.2.1 x109.2.2
  let x111 ← ap (k0_part111 (F := F)) d0 v2 x108.2.1 x110.1 x110.2.1 x110.2.2
  let x112 ← ap (k0_part112 (F := F)) d0 v2 x108.1 x111.1 x111.2.1 x111.2.2
  let x113 ← ap (k0_part113 (F := F)) d0 v2 x108.2.1 x112.1 x112.2.1 x112.2.2
  let x114 ← ap (k0_part114 (F := F)) d0 v2 x113.1 x113.2.1 x113.2.2
  ap (k0_part115 (F := F)) d0 v2 x108.1 x108.2.1 x114.1 x114.2
  let x116 ← ap (k0_part116 (F := F)) d0 v2 x108.1
  ap (k0_part117 (F := F)) d0 v2 x108.1 x108.2.1 x116
  ap (k0_part118 (F := F)) d0 v2 x108.2.1
  ap (k0_part119 (F := F)) d0 v2) := by unfold ap g106; rfl
theorem g120_flat (d0 : Dev nD) : g120 (F := F) d0 = (do
  ap (k0_part120 (F := F)) d0
  ap (k0_part121 (F := F)) d0
  let x122 ← ap (k0_part122 (F := F))
  let _ : Vec F S1x512x512 .f32 ← Prog.lift (.load outM (Rect.unit (s := S1x2048x1024) ![0, 1536, 0] S1x512x512.size inb_S1x2048x1024_S1x512x512_0_1536_0).toLoadRect (View.loadsAt_vmem h_S1x512x512))
  Prog.lift (.store outM (Rect.unit (s := S1x2048x1024) ![0, 1536, 0] S1x512x512.size inb_S1x2048x1024_S1x512x512_0_1536_0) (shapeCast S1x512x512 x122 shapeCasts_S512x512_S1x512x512 : FVec F S1x512x512 .f32) Finset.univ (View.stores_vmem_bits_univ h_S1x512x512 rfl) (.inl rfl))
  outSt rlM 3 1) := by unfold ap g120; rfl
end

theorem body_flat : (ap (cc0_body (F := F)) : PG F PUnit) = (do
  let x ← ap (k0_part42 (F := F))
  g43 x.1 x.2.1 x.2.2
  g54
  g65 x.2.1
  g106 x.1 x.2.1
  g120 x.1) := by
  rw [flatB, flat123]
  simp only [bind_assoc, pure_bind, g43_flat, g54_flat, g65_flat, g106_flat, g120_flat]

theorem body_pin : (ap (cc0_body (F := F)) : PG F PUnit) = .op .deviceId (fun c => do
  let x ← pin (ap (k0_part42 (F := F))) c
  g43 x.1 x.2.1 x.2.2
  g54
  g65 x.2.1
  g106 x.1 x.2.1
  g120 x.1) := by
  rw [body_flat]
  have h : ap (k0_part42 (F := F)) = .op .deviceId (pin (ap (k0_part42 (F := F)))) := by rfl
  conv_lhs => rw [h]
  rfl

theorem seqP_append (l l' : List (PG F PUnit)) : seqP (l ++ l') = (do seqP l; seqP l') := by
  induction l with
  | nil => simp only [List.nil_append, seqP, pure_bind]
  | cons a l ih => simp only [List.cons_append, seqP, ih, bind_assoc]

theorem seqP_half (f : Fin 8 → PG F PUnit) : seqP (heads.map f) = (do seqP ([0, 1, 2, 3].map f); seqP ([4, 5, 6, 7].map f)) := seqP_append ([0, 1, 2, 3].map f) ([4, 5, 6, 7].map f)
theorem seqP_last (f : Fin 8 → PG F PUnit) : seqP (heads.map f) = (do seqP ([0, 1, 2, 3, 4, 5, 6].map f); f 7) := by
  rw [show heads.map f = [0, 1, 2, 3, 4, 5, 6].map f ++ [f 7] from rfl, seqP_append, show seqP [f 7] = (do f 7; pure ⟨⟩) from rfl]
  rw [show (do f 7; pure ⟨⟩ : PG F PUnit) = f 7 from bind_pure (f 7)]

theorem fold42 (c : Dev nD) (x : Σ' (_ : Dev nD) (_ : BitVec 32), BitVec 1) : (do
  handshake c
  whenP (c = 0) (fourP relayOut)
  whenP (c = 1) (do
    tailOut kH ktM (wh _) 23
    tailOut vH vtM (wh _) 24)
  whenP (c = 1) (do
    fourP (passOn 0 kM (wh _) 25 15 (by decide) (by decide))
    fourP (fun r => wtS kM (wh _) (cell 11 r) 0 r))
  pure x) = (do head0 (F := F) c; pure x) := by
  simp only [head0, bind_assoc]

theorem foldC (c : Dev nD) : bodyC (F := F) c = (do
  seqP (heads.map (blk 1) ++ [0, 1, 2, 3].map (blk 2))
  (do
  seqP ([4, 5, 6, 7].map (blk 2))
  vWait c 2
  blks 3
  blks 4
  vWait c 3
  blks 5
  blks 6
  seqP ([0, 1, 2, 3, 4, 5, 6].map blk7))
  (do
  blk7 7
  fourP oRows
  whenP (c = 0) (do
    fourP (fun r => wtS kM (wh _) (sCell 0 r) 0 r)
    fourP (fun r => wtS kM (wh _) (sCell 1 r) 1 r))
  ring1 c
  ring2 c
  wtC prM rrM (wh _) (wh _) 33 c
  wtC plM rlM (wh _) (wh _) 45 c)
  wtA arM rrM (wh _) (wh _) 34 0 (pv c)
  wtA alM rlM (wh _) (wh _) 46 0 (nx c)
  wtA arM rrM (wh _) (wh _) 35 1 (op c)
  wtA alM rlM (wh _) (wh _) 47 1 (op c)
  wtC rrM rrM (wh _) (wh _) 36 (nx c)
  wtC rlM rlM (wh _) (wh _) 48 (pv c)
  wtC rrM rrM (wh _) (wh _) 37 c
  wtC rlM rlM (wh _) (wh _) 49 c
  wtC rrM rrM (wh _) (wh _) 38 (pv c)
  wtC rlM rlM (wh _) (wh _) 50 (nx c)
  fourP outs) := by
  rw [bodyC, show blks (F := F) 2 = _ from seqP_half (blk 2), show seqP (heads.map (blk7 (F := F))) = _ from seqP_last blk7]
  simp only [tail1, ring3, seqP_append, bind_assoc, blks]

/-- The printed body reads its device and then does the steps of `bodyM`. -/
theorem body_eq : (ap (cc0_body (F := F)) : PG F PUnit) = .op .deviceId bodyM := by
  rw [body_pin]
  congr 1
  funext c
  match c with
  | 0 => rw [g42_0, fold42]; simp only [bind_assoc, pure_bind, g43_0, g54_eq, g65_0, g106_0, g120_0, bodyM, bodyB, foldC]
  | 1 => rw [g42_1, fold42]; simp only [bind_assoc, pure_bind, g43_1, g54_eq, g65_1, g106_1, g120_1, bodyM, bodyB, foldC]
  | 2 => rw [g42_2, fold42]; simp only [bind_assoc, pure_bind, g43_2, g54_eq, g65_2, g106_2, g120_2, bodyM, bodyB, foldC]
  | 3 => rw [g42_3, fold42]; simp only [bind_assoc, pure_bind, g43_3, g54_eq, g65_3, g106_3, g120_3, bodyM, bodyB, foldC]

end Cert.Att
-- ==== Proof.Launch2.lean ====
module

public import proofs.«01_k».proof.Proof.Launch1
public import proofs.«01_k».proof.Proof.BodyEq2
public import Idealize.ShloMosaic.Lib.Rounds.Family
public import Idealize.ShloMosaic.Lib.Pipeline.CollectiveSegs

@[expose] public section

noncomputable section

namespace Cert.Att

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F] [Named F]

local notation "𝕄" => MT nD τ sig Unit (Elt F) ℕ UU ℕ

variable (C : Cont F) (K : Dev nD × Fin 56 → ℕ) {c : Dev nD}

/-! ## Four of the same -/

/-! ## The kernel's own semaphores -/

def osem (k : Fin 56) : SemLoc sig := .dma (⟨k.val + 1, by show _ < 57; omega⟩ : DmaSem sig)

theorem osem_cix (n : Fin 57) (h : 2 ≤ n.val) : osem (cix n) = .dma (n : DmaSem sig) := by
  unfold osem cix
  exact congrArg SemLoc.dma (Fin.ext (show n.val - 1 + 1 = n.val by omega))

theorem ownSems0_eq (c : Dev nD) : (Pipeline.ownSems0 (Ix := Unit) (Name := ℕ) (U := UU) (Lvl := ℕ) (Val := Elt F) (τ := τ) osem c : sProp 𝕄)
    = iprop(semVal (dm c 1) 0 ∗ bigSepL (usedL c) (fun n => semVal (dm c n) 0) ∗ bigSepL (idleL c) fun n => semVal (dm c n) 0) := by
  rw [Pipeline.ownSems0_eq_of_list c osem _ (cellL_all c) (cellL_nodup c), bigSepL_cons, bigSepL_map,
    bigSepL_congr' (l := cellL c) (Ψ := fun n => semVal (dm c n) 0) (fun n hn => by rw [osem_cix n (cellL_ge c n hn)]), cellL, bigSepL_append]
  rfl
theorem unscopedSems0_eq (c : Dev nD) : (unscopedSems0 c : sProp 𝕄) = semVal (bar c) 0 := by
  unfold unscopedSems0
  rw [bigSep_eq_bigSepL_of_eq [SemLoc.reg barS] (by decide) (by decide)]
  rfl

/-- The kernel's own semaphores and the barrier's are the local copies' and the protocol's. -/
theorem sems0_eq (c : Dev nD) : iprop(Pipeline.ownSems0 (Ix := Unit) (Name := ℕ) (U := UU) (Lvl := ℕ) (Val := Elt F) (τ := τ) osem c ∗ unscopedSems0 c)
    ⊢ (iprop(semVal (dm c 1) 0 ∗ bigSep Finset.univ fun k : Fin 56 => semVal (kcell (c, k)) 0) : sProp 𝕄) := by
  rw [ownSems0_eq, unscopedSems0_eq, cells_split c (fun g => semVal g 0)]
  iintro ⟨⟨h1, hu, hi⟩, hb⟩
  iframe # h1 hb hu hi
theorem sems1_eq (c : Dev nD) : (iprop(semVal (dm c 1) 0 ∗ bigSep Finset.univ fun k : Fin 56 => semVal (kcell (c, k)) 0) : sProp 𝕄)
    ⊢ iprop(unscopedSems0 c ∗ Pipeline.ownSems0 (Ix := Unit) (Name := ℕ) (U := UU) (Lvl := ℕ) (Val := Elt F) (τ := τ) osem c) := by
  rw [ownSems0_eq, unscopedSems0_eq, cells_split c (fun g => semVal g 0)]
  iintro ⟨h1, hb, hu, hi⟩
  iframe # h1 hb hu hi

/-! ## The data of the launch -/

theorem zipL {J : Type} {l : List J} {R : sProp (MT nD τ sig Unit (Elt F) ℕ UU ℕ)} [BI.Persistent R] {A B D : J → sProp (MT nD τ sig Unit (Elt F) ℕ UU ℕ)}
    (h : ∀ x ∈ l, iprop(R ∗ A x ∗ B x) ⊢ D x) : iprop(R ∗ bigSepL l A ∗ bigSepL l B) ⊢ bigSepL l D := by
  induction l with
  | nil => exact show iprop(R ∗ emp ∗ emp) ⊢ iprop(emp) from by iintro ⟨-, -, -⟩; iempintro
  | cons x l ih =>
    have h1 := h x List.mem_cons_self
    have h2 := ih fun y hy => h y (List.mem_cons_of_mem _ hy)
    rw [bigSepL_cons', bigSepL_cons', bigSepL_cons']
    iintro ⟨#HR, ⟨ha, hA⟩, hb, hB⟩
    isplitl [ha hb]
    · iapply h1
      isplitr; · iexact HR
      isplitl [ha]; · iexact ha
      iexact hb
    · iapply h2
      isplitr; · iexact HR
      isplitl [hA]; · iexact hA
      iexact hB

/-- What a device holds of the protocol when it starts. -/
def lin (c : Dev nD) : sProp 𝕄 :=
  iprop((atEnd (bar c) 0 ∗ bigSepL (usedL c) (fun n => atEnd (F := F) (dm c n) 0) ∗ bigSepL (idleL c) fun n => atEnd (F := F) (dm c n) 0) ∗ pays c ∗ semVal (dm c 1) 0)

theorem cells_start (c : Dev nD) : iprop(recs C K ∗ bigSepL (usedL c) (fun n => atEnd (F := F) (dm c n) 0) ∗ (bigSepL (sendL c) fun x => remTok (F := F) c x.1 0 x.2)
      ∗ bigSepL (recvL c) fun n => cred (tallyAt (dm c n) () (amt n.val)))
    ⊢ iprop(cellsI c ∗ ringI C c) := by
  refine BIBase.Entails.trans ?_ (cells_in C c)
  unfold usedL
  rw [bigSepL_append, bigSepL_map]
  have h1 := zipL (R := recs C K) (l := sendL c) (A := fun x => atEnd (F := F) (dm c x.1) 0) (B := fun x => remTok (F := F) c x.1 0 x.2) (D := fun x => SC (F := F) c x.1 0 x.2)
    (fun x hx => by
      unfold SC
      iintro ⟨#HR, ha, hb⟩
      ihave Hc := (recs_dm C K c x.1 (cellL_ge c x.1 (List.mem_append_left _ (List.mem_append_left _ (List.mem_map_of_mem hx))))) $$ HR
      icases Hc with ⟨-, #Hr⟩
      iframe # ha hb)
  have h2 := zipL (R := recs C K) (l := recvL c) (A := fun n => atEnd (F := F) (dm c n) 0) (B := fun n => cred (tallyAt (dm c n) () (amt n.val))) (D := fun n => SF (F := F) c n 0 0)
    (fun n hn => by
      unfold SF
      show _ ⊢ iprop(_ ∗ _ ∗ emp)
      iintro ⟨-, ha, hb⟩
      iframe # ha hb)
  iintro ⟨#HR, ⟨ha, hb⟩, ht, hc⟩
  isplitl [ha ht]
  · iapply h1
    iframe # ha ht
  · iapply h2
    iframe # hb hc

variable (m : (ℓ : Loc nD τ sig) → Buf (Elt F) ℓ) (ρ : Dev nD → PrngReg)

def inp : Inp F where
  X c := m ((c : Thread nD τ).loc main_arg0)
  Q c := m ((c : Thread nD τ).loc main_arg1)
  K c := m ((c : Thread nD τ).loc main_arg2)
  V c := m ((c : Thread nD τ).loc main_arg3)
  O c := m ((c : Thread nD τ).loc main_arg4)

abbrev cont : Cont F := (inp m).cont

def start (c : Dev nD) : sProp 𝕄 := iprop((∃ K, recs (cont m) K ∗ lin c) ∗ levAts L lv ∗ creds c ∗ argsP (inp m) c)
def Φ₀ (c : Dev nD) : sProp 𝕄 := iprop(start m c ∗ scr c)
def Φ₁ (c : Dev nD) : sProp 𝕄 :=
  iprop(argsP (inp m) c ∗ (semVal (dm c 1) 0 ∗ bigSep Finset.univ fun k : Fin 56 => semVal (kcell (c, k)) 0) ∗ scr c)

def dats (_ : Fin 1) (c : Dev nD) : Dat τ (Elt F) Unit ℕ UU ℕ cfg0 c where
  A w := m ((cfg0.win w).arr.view.loc (c : Thread nD τ))
  after w _ := match w with
    | ⟨0, _⟩ => (inp m).out
  Φ t := match t with
    | ⟨0, _⟩ => Φ₀ m c
    | ⟨_ + 1, _⟩ => Φ₁ m c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns
  simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem pts_whole (b : Ref sig .tc) (c : Dev nD) (f) : pts (F := F) (Memref.whole b) c f = ((c : Thread nD τ).loc b ↦{fullShare} f) := by
  unfold pts
  simp only [Memref.view_whole, View.set_whole]

/-! ## The body's obligation -/

theorem nR_done (c : Dev nD) (k : Fin 56) : ∀ r, endR c k ≤ r → (Rd C).duties (kcell (c, k)) r = ∅ := by
  unfold endR kcell csem
  by_cases hk : k.val = 0
  · rw [if_pos hk, if_pos hk]
    exact duties_bar_later C c
  · rw [if_neg hk, if_neg hk]
    exact duties_dm_later C (le_refl _)

/-- The protocol's cells, at the end of their rounds, close. -/
theorem close (c : Dev nD) : iprop(recs C K ∗ bigSep Finset.univ fun k : Fin 56 => atEnd (F := F) (kcell (c, k)) (endR c k))
    ⊢ |={Set.univ}=> (bigSep Finset.univ fun k : Fin 56 => semVal (kcell (c, k)) 0 : sProp 𝕄) := by
  refine BIBase.Entails.trans ?_ (Rounds.cells_close ER (Rd C) Finset.univ (fun k : Fin 56 => kcell (c, k)) (fun k => K (c, k)) (fun _ _ => Set.mem_univ _) (fun _ _ h => h)
    (endR c) (fun k _ => nR_done C c k))
  refine (sep_mono_left (BI.bigSep_of_persistent (Finset.univ : Finset (Fin 56)) (recs C K))).trans ?_
  rw [← bigSep_sep']
  refine bigSep_mono fun k _ => ?_
  show iprop(recs C K ∗ atEnd (F := F) (kcell (c, k)) (endR c k)) ⊢ iprop(cellInv ER (Rd C) (K (c, k)) (kcell (c, k)) ∗ atEnd (F := F) (kcell (c, k)) (endR c k))
  iintro ⟨#HR, ha⟩
  ihave Hc := (recs_cell C K (c, k)) $$ HR
  icases Hc with ⟨#Hc, -⟩
  iframe # ha

def bodyPre (c : Dev nD) : sProp 𝕄 :=
  iprop(Φ₀ m c ∗ (dats m 0 c).owesAt () t0_0.castSucc ∗ ∃ d, stg c cc0_stg0_0 ((dats m 0 c).before (0 : Fin 1) t0_0 d))
def bodyPost (c : Dev nD) : sProp 𝕄 :=
  iprop(Φ₁ m c ∗ (dats m 0 c).owesAt () t0_0.succ ∗ stg c cc0_stg0_0 (inp m).out)

theorem body_sound (c : Dev nD) : bodyPre m c ⊢ WP c (bodyM c) (fun _ => bodyPost m c) := by
  refine BIBase.Entails.trans ?_ (wp_fupd _ _ Set.univ _ _)
  unfold bodyPre Φ₀ start lin pays creds Dat.owesAt Pipeline.owesWithin
  rw [show (dats m 0 c).owed t0_0.castSucc = O₀ c from rfl]
  iintro ⟨⟨⟨⟨%K, #HR, ⟨hb, hu, hi⟩, ⟨hd, ht⟩, h1⟩, #HL, ⟨cb, cr⟩, ha⟩, hs⟩, ⟨%W, %hW, HO⟩, ⟨%d, %g, %hg, hout⟩⟩
  ihave Hc := (cells_start (cont m) K (c := c)) $$ [hu ht cr]
  · iframe # hu ht cr
  icases Hc with ⟨hc, hr⟩
  iapply (T_body K (inp m) (c := c) _) $$ [HO hd h1 hb cb hc hr ha hs hout]
  · unfold PC bodyI TS
    isplitr; · iframe #
    isplitl [HO hd h1]
    · iexists W
      iframe # HO hd h1
    isplitl [hb cb]; · iframe # hb cb
    isplitl [hc]; · iexact hc
    isplitl [hr]; · iexact hr
    isplitl [ha]; · iexact ha
    isplitl [hs]; · iexact hs
    iexists g
    iapply (Entails.of_eq (pts_whole cc0_stg0_0 c g).symm)
    iexact hout
  · unfold bodyE TS own
    iintro ⟨⟨%W', HO, -, h1⟩, hb, hc, hr, ha, hs, ⟨%f, %hf, hout⟩⟩
    ihave Hc := (cells_out (cont m) c) $$ [hc hr]
    · isplitl [hc]; · iexact hc
      iexact hr
    ihave Hu := (used_at (F := F) c) $$ Hc
    ihave Hat := (all_at (F := F) c) $$ [hb Hu hi]
    · iframe # hb Hu hi
    imod (close (cont m) K (c := c)) $$ [Hat] with Hz
    · iframe # Hat
    imodintro
    unfold bodyPost Φ₁ Dat.owesAt Pipeline.owesWithin
    rw [show (dats m 0 c).owed t0_0.succ = 0 from rfl]
    isplitl [ha h1 Hz hs]
    · iframe # ha h1 Hz hs
    isplitl [HO]
    · iexists W'
      isplitr; · ipureintro; exact fun _ _ => Or.inl trivial
      iexact HO
    iexists f
    isplitr; · ipureintro; exact hf
    iapply (Entails.of_eq (pts_whole cc0_stg0_0 c f))
    iexact hout

theorem body_obligation (c : Dev nD) : BodyObligation (dats (F := F) m 0 c) (defs₀ (F := F)) 𝒱₀ () Set.univ := fun t => by
  rw [fin_N0 t]
  rw [bigSep_W0, bigSep_W0]
  simp only [owns_whole_eq]
  show bodyPre m c ⊢ wp frame (wpE (defs₀ (F := F)) 𝒱₀ c none) Set.univ (ap (cc0_body (F := F)) : PG F PUnit) (fun _ => bodyPost m c)
  rw [body_eq, wp_deviceId]
  exact body_sound m c

end Cert.Att
-- ==== Proof.Launch3.lean ====
module

public import proofs.«01_k».proof.Proof.Launch2
public import Idealize.ShloMosaic.Lib.Rounds.Family
public import Idealize.ShloMosaic.Lib.Pipeline.CollectiveSegs
public import Idealize.ShloMosaic.Lib.Pipeline.ValueKit.Geometry

@[expose] public section

noncomputable section

namespace Cert.Att

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F] [Named F]

local notation "𝕄" => MT nD τ sig Unit (Elt F) ℕ UU ℕ

variable (C : Cont F) (K : Dev nD × Fin 56 → ℕ) {c : Dev nD}

/-! ## Four of the same -/

/-! ## The launch's ghost state -/

theorem ownSemFacts : Pipeline.OwnSemFacts cfg0.spec osem := by decide

theorem csem_inj : Function.Injective csem := by
  intro a b h
  have h' := congrArg semCode h
  unfold csem at h'
  by_cases ha : a.val = 0 <;> by_cases hb : b.val = 0
  · exact Fin.ext (ha.trans hb.symm)
  · rw [if_pos ha, if_neg hb] at h'; exact absurd h' (by show ¬ 0 = _ + 1; omega)
  · rw [if_neg ha, if_pos hb] at h'; exact absurd h' (by show ¬ _ + 1 = 0; omega)
  · rw [if_neg ha, if_neg hb] at h'
    have h2 : a.val + 1 + 1 = b.val + 1 + 1 := h'
    exact Fin.ext (by omega)
theorem kcell_inj : Function.Injective (kcell : Dev nD × Fin 56 → GSem nD τ sig) := by
  rintro ⟨c, k⟩ ⟨c', k'⟩ h
  have h1 : c = c' := congrArg (fun g : GSem nD τ sig => g.1.1) h
  have h2 : k = k' := csem_inj (congrArg Prod.snd h)
  rw [h1, h2]
def ringCells : Finset (GSem nD τ sig) := Finset.univ.map ⟨kcell, kcell_inj⟩

def u₀ : UU := (initOf (Pipeline.cells cfgs cellOf_inj) (Pipeline.launchToks cfgs cellOf_inj), (initOf ringCells allToks.toFinset, 1))

abbrev ats (c : Dev nD) : sProp 𝕄 := bigSep Finset.univ fun k : Fin 56 => iprop(atPos ER (kcell (c, k)) 0 ∅ 0 ∗ reached ER (kcell (c, k)) 0)

/-- What the launch element deals a device. -/
def G (c : Dev nD) : sProp 𝕄 := iprop((bigSep Finset.univ fun k : Fin 56 => roundState ER (Rd C) (kcell (c, k)) 0) ∗ ats c ∗ pays c)
/-- What the global step makes of it. -/
def G' (c : Dev nD) : sProp 𝕄 := iprop(∃ K, recs C K ∗ lin c)

theorem over_cells (Φ : GSem nD τ sig → sProp (MT nD τ sig Unit (Elt F) ℕ UU ℕ)) : bigSep ringCells Φ = bigSep Finset.univ fun c : Dev nD => bigSep Finset.univ fun k : Fin 56 => Φ (kcell (c, k)) := by
  unfold ringCells
  rw [bigSep_map, bigSep_univ_prod]
  rfl

theorem fund_ring : BI.own (ER (initOf ringCells allToks.toFinset)) ⊢ (|==> bigSep Finset.univ (G C) : sProp 𝕄) := by
  iintro HX
  imod (Rounds.fund ER (Rd C) ringCells allToks.toFinset) $$ HX with ⟨Hst, Hr, Hat, Htok⟩
  imodintro
  ihave Hst' := (Entails.of_eq (over_cells fun g => roundState ER (Rd C) g 0)) $$ Hst
  ihave Hat' := (Entails.of_eq (over_cells fun g => atPos ER g 0 ∅ 0)) $$ Hat
  ihave Hr' := (Entails.of_eq (over_cells fun g => reached ER g 0)) $$ Hr
  ihave Htok' := (Entails.of_eq allToks_eq) $$ Htok
  unfold G ats
  simp only [bigSep_sep']
  isplitl [Hst']; · iexact Hst'
  isplitl [Hat' Hr']
  · isplitl [Hat'] <;> iassumption
  iexact Htok'

abbrev invs (c : Dev nD) : sProp 𝕄 := bigSep Finset.univ fun k : Fin 56 => iprop(∃ κ : ℕ, cellInv ER (Rd C) κ (kcell (c, k)))
def shares (c : Dev nD) : sProp 𝕄 := iprop(pays c ∗ semVal (dm c 1) 0)

theorem core_alloc (c : Dev nD) : iprop(Pipeline.ownSems0 (Ix := Unit) (Name := ℕ) (U := UU) (Lvl := ℕ) (Val := Elt F) (τ := τ) osem c ∗ unscopedSems0 c ∗ G C c)
    ⊢ |={Set.univ}=> iprop(invs C c ∗ ats c ∗ shares c) := by
  unfold G shares
  iintro ⟨Hos, Hus, Hst, Hat, Htok⟩
  ihave Hv := (sems0_eq (F := F) c) $$ [Hos Hus]
  · isplitl [Hos] <;> iassumption
  icases Hv with ⟨h1, Hv⟩
  imod (show iprop((bigSep Finset.univ fun k : Fin 56 => semVal (kcell (c, k)) 0) ∗ bigSep Finset.univ fun k : Fin 56 => roundState ER (Rd C) (kcell (c, k)) 0)
      ⊢ (|={Set.univ}=> invs C c : sProp 𝕄) from by
        rw [← bigSep_sep']
        exact (bigSep_mono fun k _ => (Rounds.body_intro ER (Rd C) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok] <;> iassumption

theorem lin_intro (c : Dev nD) : iprop(recs C K ∗ (bigSep Finset.univ fun k : Fin 56 => atPos ER (kcell (c, k)) 0 ∅ 0) ∗ shares c) ⊢ G' C c := by
  unfold G' lin shares
  rw [cells_split c fun g => atPos ER g 0 ∅ 0]
  iintro ⟨#HR, Ha, Ht, h1⟩
  iexists K
  isplitr; · iexact HR
  isplitl [Ha]; · iexact Ha
  isplitl [Ht] <;> iassumption

theorem all_with {I : Type} [DecidableEq I] {S : Finset I} {R : sProp (MT nD τ sig Unit (Elt F) ℕ UU ℕ)} [BI.Persistent R] {Φ Ψ : I → sProp (MT nD τ sig Unit (Elt F) ℕ UU ℕ)}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup : (bigSep Finset.univ fun c : Dev nD => iprop(invs C c ∗ ats c ∗ shares c) : sProp 𝕄) ⊢ bigSep Finset.univ (G' C) := by
  unfold invs ats
  rw [bigSep_sep', bigSep_sep', ← bigSep_univ_prod (fun x : Dev nD × Fin 56 => iprop(∃ κ : ℕ, cellInv ER (Rd C) κ (kcell x))),
    bigSep_congr (s := Finset.univ) (fun (c : Dev nD) _ => bigSep_sep' Finset.univ (fun k : Fin 56 => (atPos ER (kcell (c, k)) 0 ∅ 0 : sProp 𝕄)) (fun k => reached ER (kcell (c, k)) 0)),
    bigSep_sep', ← bigSep_univ_prod (fun x : Dev nD × Fin 56 => (reached ER (kcell x) 0 : sProp 𝕄))]
  iintro ⟨HI, ⟨Hat, #HR⟩, Htok⟩
  ihave HK := (BI.bigSep_exists_pi Finset.univ (fun (x : Dev nD × Fin 56) (κ : ℕ) => (cellInv ER (Rd C) κ (kcell x) : sProp 𝕄))) $$ HI
  icases HK with ⟨%K, #HI⟩
  iapply (all_with (R := recs C K) fun c _ => lin_intro C K (c := c))
  isplitr
  · unfold recs
    isplitl; · iexact HI
    iexact HR
  · iapply (Entails.of_eq (bigSep_sep' Finset.univ (fun c : Dev nD => bigSep Finset.univ fun k : Fin 56 => (atPos ER (kcell (c, k)) 0 ∅ 0 : sProp 𝕄)) shares).symm)
    isplitl [Hat]; · iexact Hat
    iexact Htok

theorem glob : (bigSep Finset.univ fun c => iprop(Pipeline.ownSems0 (Ix := Unit) (Name := ℕ) (U := UU) (Lvl := ℕ) (Val := Elt F) (τ := τ) osem c ∗ unscopedSems0 c ∗ G C c) : sProp 𝕄)
    ⊢ |={Set.univ}=> bigSep Finset.univ (G' C) :=
  ((bigSep_mono fun c _ => core_alloc C (c := c)).trans (bigSep_fupd _ _)).trans (BI.fupd_mono (regroup C))

variable (m : (ℓ : Loc nD τ sig) → Buf (Elt F) ℓ) (ρ : Dev nD → PrngReg)

/-! ## Before and after the body -/

theorem args_eq (c : Dev nD) : (Pipeline.unscopedRestP Pipeline.Prefetch.none cfg0.spec c (fun b => m ((c : Thread nD τ).loc b)) : sProp 𝕄) = argsP (inp m) c := by
  rw [Pipeline.unscopedRestP_none]
  refine (unscopedRest0_eq c _).trans ?_
  unfold argsP
  rw [pts_whole, pts_whole, pts_whole, pts_whole, pts_whole]
  rfl

theorem any_whole (b : Ref sig .tc) (c : Dev nD) : anyP (F := F) (Memref.whole b) c = iprop(∃ f : Buf (Elt F) ((c : Thread nD τ).loc b), ((c : Thread nD τ).loc b) ↦{fullShare} f) :=
  congrArg BIBase.exists (funext fun f => pts_whole b c f)

theorem scr_eq (c : Dev nD) : (Pipeline.scopedRest cfg0.spec c : sProp 𝕄) = scr c := by
  refine (scopedRest0_eq c).trans ?_
  unfold scr
  refine Eq.symm ?_
  exact congrArg₂ BIBase.sep (any_whole cc0_scratch0 c)
    (congrArg₂ BIBase.sep (any_whole cc0_scratch1 c)
    (congrArg₂ BIBase.sep (any_whole cc0_scratch2 c)
    (congrArg₂ BIBase.sep (any_whole cc0_scratch3 c)
    (congrArg₂ BIBase.sep (any_whole cc0_scratch4 c)
    (congrArg₂ BIBase.sep (any_whole cc0_scratch5 c)
    (congrArg₂ BIBase.sep (any_whole cc0_scratch6 c)
    (congrArg₂ BIBase.sep (any_whole cc0_scratch7 c)
    (congrArg₂ BIBase.sep (any_whole cc0_scratch8 c)
    (congrArg₂ BIBase.sep (any_whole cc0_scratch9 c)
    (congrArg₂ BIBase.sep (any_whole cc0_scratch10 c)
    (congrArg₂ BIBase.sep (any_whole cc0_scratch11 c)
    (congrArg₂ BIBase.sep (any_whole cc0_scratch12 c)
    (congrArg₂ BIBase.sep (any_whole cc0_scratch13 c)
    (congrArg₂ BIBase.sep (any_whole cc0_scratch14 c)
    (congrArg₂ BIBase.sep (any_whole cc0_scratch15 c)
    (congrArg₂ BIBase.sep (any_whole cc0_scratch16 c)
    (congrArg₂ BIBase.sep (any_whole cc0_scratch17 c)
    (any_whole cc0_scratch18 c))))))))))))))))))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (cont m) c)
      ⊢ |={Set.univ}=> iprop(start m c ∗ emp) := by
  rw [args_eq]
  iintro ⟨Ha, Hlev, Hcr, -, HG⟩
  ihave Hc := (creds_of (F := F) c) $$ Hcr
  imodintro
  unfold start G'
  isplitl
  · isplitl [HG]; · iexact HG
    isplitl [Hlev]; · iexact Hlev
    isplitl [Hc]; · iexact Hc
    iexact Ha
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scr_eq]
  unfold Φ₀
  iintro ⟨Hs, -, Hr⟩
  isplitl [Hs] <;> iassumption

theorem phi1_exit (c : Dev nD) :
    (dats m 0 c).Φ (Fin.last cfg0.N) ⊢ iprop((unscopedSems0 c ∗ argsP (inp m) c) ∗ Pipeline.ownSems0 osem c ∗ Pipeline.scopedRest cfg0.spec c) := by
  rw [show (dats m 0 c).Φ (Fin.last cfg0.N) = Φ₁ m c from rfl, scr_eq]
  unfold Φ₁
  iintro ⟨Ha, Hz, Hr⟩
  ihave Hz := (sems1_eq (F := F) c) $$ Hz
  icases Hz with ⟨Hu, Ho⟩
  isplitl [Hu Ha]
  · isplitl [Hu] <;> iassumption
  isplitl [Ho] <;> iassumption

theorem duties_stage : ∀ c : Dev nD, ((duties c).all fun p => Nat.blt (lvS (.dma (0 : DmaSem sig))) (lvS p.2.1)) = true := by decide +kernel
theorem waits (c : Dev nD) : (levAts L lv : sProp 𝕄) ⊢ Pipeline.cellsWaits cfgs (dats m) () 0 c :=
  Pipeline.cellsWaits_intro cfgs (dats m) () 0 c fun w s t => by
    have hs : ((cfgs 0).win w).sem s = (0 : DmaSem sig) := by fin_cases w; fin_cases s; rfl
    rw [hs]
    rcases t with ⟨_ | _, ht⟩
    · exact mayWait_list c _ (duties c) (duties_stage c)
    · exact mayWait_list c _ [] rfl

theorem share_eq (c : Dev nD) (w : Fin cfg0.W) : (dats m 0 c).share w = fullShare := by unfold Dat.share; split <;> rfl

/-! ## The run -/

theorem out_eq (c : Dev nD) : (dats m 0 c).arrAt (0 : Fin 1) cfg0.N = (inp m).out :=
  Pipeline.Dat.arrAt_eq_of_after_last (dats (F := F) m 0 c) (0 : Fin 1) t0_0 (by decide +kernel) (inp m).out (fun _ => rfl)

/-- What every device's memory holds in the end. -/
def Fin1 (s : MemSt nD τ sig (Elt F)) : Prop :=
  (∀ c : Dev nD, s.mem ((c : Thread nD τ).loc main_v1) = (inp m).out
    ∧ s.mem ((c : Thread nD τ).loc main_arg0) = m ((c : Thread nD τ).loc main_arg0) ∧ s.mem ((c : Thread nD τ).loc main_arg1) = m ((c : Thread nD τ).loc main_arg1)
    ∧ s.mem ((c : Thread nD τ).loc main_arg2) = m ((c : Thread nD τ).loc main_arg2) ∧ s.mem ((c : Thread nD τ).loc main_arg3) = m ((c : Thread nD τ).loc main_arg3)
    ∧ s.mem ((c : Thread nD τ).loc main_arg4) = m ((c : Thread nD τ).loc main_arg4))
  ∧ s.sem = fun _ => 0

def atArgs (c : Dev nD) (s : MemSt nD τ sig (Elt F)) : Prop :=
  s.mem ((c : Thread nD τ).loc main_arg0) = m ((c : Thread nD τ).loc main_arg0) ∧ s.mem ((c : Thread nD τ).loc main_arg1) = m ((c : Thread nD τ).loc main_arg1)
    ∧ s.mem ((c : Thread nD τ).loc main_arg2) = m ((c : Thread nD τ).loc main_arg2) ∧ s.mem ((c : Thread nD τ).loc main_arg3) = m ((c : Thread nD τ).loc main_arg3)
    ∧ s.mem ((c : Thread nD τ).loc main_arg4) = m ((c : Thread nD τ).loc main_arg4)

theorem args_read (c : Dev nD) (s' : Phys nD τ sig (Elt F)) : iprop(argsP (inp m) c ∗ SI s') ⊢ (iprop(⌜atArgs m c s'.mem⌝ ∗ SI s') : sProp 𝕄) := by
  unfold argsP
  rw [pts_whole, pts_whole, pts_whole, pts_whole, pts_whole]
  iintro ⟨⟨H0, H1, H2, H3, H4⟩, HSI⟩
  icombine HSI H0 gives %h0
  icombine HSI H1 gives %h1
  icombine HSI H2 gives %h2
  icombine HSI H3 gives %h3
  icombine HSI H4 gives %h4
  isplitr
  · ipureintro
    exact ⟨Buf.eq_of_forall_mem_univ h0, Buf.eq_of_forall_mem_univ h1, Buf.eq_of_forall_mem_univ h2, Buf.eq_of_forall_mem_univ h3, Buf.eq_of_forall_mem_univ h4⟩
  iexact HSI

set_option maxRecDepth 8000 in
theorem run_main : θ_run defs (onTc (τ := τ) (main (F := F))) (⟨m, fun _ => 0, ρ⟩ : MemSt nD τ sig (Elt F)) (fun r => Fin1 m r.2) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w; exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G (cont m)) (G' := G' (cont m)) (u₀ := u₀)
    (hu₀ := by
      unfold u₀
      iintro Hu
      ihave H := (ownU_pair _ _) $$ Hu
      icases H with ⟨HP, HX⟩
      ihave HX := (own_pair_emb embR _ _) $$ HX
      icases HX with ⟨HX, -⟩
      imod (fund_ring (cont m)) $$ HX with HG
      imodintro
      isplitl [HP] <;> iassumption)
    (hglob := glob (cont m))
    (hA := fun _ _ => rfl) (hpf := fun _ k => k.elim0)
    (X := start m) (Y := fun c => iprop(unscopedSems0 c ∗ argsP (inp m) c)) (Z := fun _ => iprop(emp))
    (hX := start_intro m ρ) (hin := phi0_intro m) (hout := phi1_exit m)
    (QY := fun c s => (∀ sm : SemLoc sig, sm.isScoped .tc = false → s.sem ((c.tc : Thread nD τ), sm) = 0) ∧ atArgs m c s)
    (hY := fun c s' => by
      iintro ⟨⟨Hu, Ha⟩, -, HSI⟩
      ihave H := (args_read m c s') $$ [Ha HSI]
      · isplitl [Ha] <;> iassumption
      icases H with ⟨%ha, HSI⟩
      imod (Pipeline.unscopedSems0_read (X := unscopedSems0 c) (c := c) fupd_intro s') $$ [Hu HSI] with ⟨%hu, HSI⟩
      · isplitl [Hu] <;> iassumption
      imodintro
      isplitr
      · ipureintro
        exact ⟨hu, ha⟩
      iexact HSI)
    (hQ := fun _ h hs => ⟨fun c => ⟨((h c).1 (0 : Fin 1)).trans (out_eq m c), (h c).2.2.2⟩, sem_eq_zero hs fun c => (h c).2.2.1⟩)

end Cert.Att
-- ==== Proof.Frames.lean ====
module

public import proofs.«01_k».proof.Proof.Launch3
public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Lib.Quiescent

@[expose] public section

noncomputable section

namespace Cert.Att

open Idealize.ShloMosaic Idealize.SL.Sem

/-- At machine floats the named constant is its literal. -/
local instance named_bits : Named Bits where
  named _ _ {φ} bits := Scalar.ofBits φ bits

/-- The kernel with the mask's constant named leaves its arguments and semaphores as they were. -/
theorem frame_ideal [Cert.KernelIdeal.Facts] : Cert.quiescent_KernelIdeal := fun m ρ _ =>
  (θ_run Cert.KernelIdeal.defs _ _).mono (fun _ h => ⟨fun c => (h.1 c).2, h.2⟩) (run_main (F := Ideal) m ρ)

/-- The two programs' bodies are the same at machine floats. -/
theorem bodies_same : Cert.Kernel.defs₀ (F := Bits) = Cert.KernelIdeal.defs₀ (F := Bits) := by
  unfold Cert.Kernel.defs₀ Cert.KernelIdeal.defs₀
  refine congrArg Defs.onTc ?_
  funext l x
  match l, x with
  | 0, (t, s) =>
    show Cert.Kernel.cc0_body (F := Bits) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ = Cert.KernelIdeal.cc0_body (F := Bits) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
    rfl
theorem tables_same : Cert.Kernel.defs (F := Bits) = Cert.KernelIdeal.defs (F := Bits) :=
  congrArg (Pipeline.defs (Cert.KernelIdeal.pcfgs (F := Bits))) bodies_same

/-- The kernel itself, at machine floats: the same run, the constant read as its literal. -/
theorem run_kernel (m : (ℓ : Loc Cert.Kernel.nD Cert.Kernel.τ Cert.Kernel.sig) → Buf (Elt Bits) ℓ) (ρ : Dev Cert.Kernel.nD → PrngReg) :
    θ_run (Cert.Kernel.defs (F := Bits)) (onTc (τ := Cert.Kernel.τ) (Cert.Kernel.main (F := Bits))) ⟨m, fun _ => 0, ρ⟩ (fun r => Fin1 (F := Bits) m r.2) := by
  rw [tables_same]
  exact run_main (F := Bits) m ρ
theorem frame_kernel [Cert.Kernel.Facts] : Cert.quiescent_Kernel := fun m ρ _ =>
  (θ_run Cert.Kernel.defs _ _).mono (fun _ h => ⟨fun c => (h.1 c).2, h.2⟩) (run_kernel m ρ)

/-- The reference, which has no semaphores, leaves its arguments as they were. -/
theorem frame_reference [Cert.ReferenceIdeal.Facts] : Cert.quiescent_ReferenceIdeal := fun m ρ _ =>
  (θ_run Cert.ReferenceIdeal.defs _ _).mono
    (fun r h => ⟨fun c => (h c).2, sem_eq_zero_of_no_sems rfl r.2⟩) (Cert.ReferenceIdeal.Value.run m ρ)

/-- The named constant is the literal the kernel has at machine floats, and minus infinity at the ideal ones. -/
theorem preserved : Cert.preserves_Kernel_KernelIdeal :=
  IdealRules.named_const.statement Cert.KernelIdeal.κ "mask" .f32 0xCE6E6B28#32 ⊥ rfl

end Cert.Att
-- ==== Proof.Soft.lean ====
module

public import Idealize.ShloMosaic.PureOps.Ideal
public import Idealize.ShloMosaic.PureOps.Ideal.Laws
public import Idealize.ShloMosaic.Lib.IdealHost
public import Idealize.ShloMosaic.Lib.FinSumWindow

@[expose] public section

noncomputable section

namespace Cert.Att

open Idealize.ShloMosaic
open scoped BigOperators

/-! ## Reals among the extended reals -/

/-- The extended real is a real. -/
def Fine (x : EReal) : Prop := ∃ r : ℝ, x = r

theorem Fine.mul {x y : EReal} : Fine x → Fine y → Fine (x * y)
  | ⟨a, ha⟩, ⟨b, hb⟩ => ⟨a * b, by rw [ha, hb, EReal.coe_mul]⟩
theorem Fine.add {x y : EReal} : Fine x → Fine y → Fine (x + y)
  | ⟨a, ha⟩, ⟨b, hb⟩ => ⟨a + b, by rw [ha, hb, EReal.coe_add]⟩
theorem Fine.sum {ι : Type} (t : Finset ι) {f : ι → EReal} (h : ∀ i, Fine (f i)) : Fine (∑ i ∈ t, f i) := by
  classical
  induction t using Finset.induction_on with
  | empty => exact ⟨0, by simp⟩
  | insert a t ha ih => rw [Finset.sum_insert ha]; exact (h a).add ih
theorem Fine.ne_bot {x : EReal} : Fine x → x ≠ ⊥
  | ⟨a, ha⟩ => ha ▸ EReal.coe_ne_bot a
theorem Fine.ne_top {x : EReal} : Fine x → x ≠ ⊤
  | ⟨a, ha⟩ => ha ▸ EReal.coe_ne_top a

/-- An extended real whose absolute value is below infinity is a real. -/
theorem fine_of_abs {x : EReal} (h : max x (-x) < ⊤) : Fine x := by
  obtain ⟨h1, h2⟩ := max_lt_iff.1 h
  induction x using EReal.rec with
  | bot => simp at h2
  | top => simp at h1
  | coe r => exact ⟨r, rfl⟩

theorem exp_nonneg (x : EReal) : 0 ≤ Ideal.exp x := by
  induction x using EReal.rec with
  | bot => exact le_rfl
  | top => exact le_top
  | coe r => exact EReal.coe_nonneg.2 (Real.exp_pos r).le

/-! ## A row's weights -/

/-- The largest entry of a row. -/
def top {n : ℕ} (s : Fin n → EReal) : EReal := Finset.univ.fold max ⊥ s

/-- The weight that the row's entry `j` gets: its exponential over the sum of all, the largest entry taken off first. -/
def soft {n : ℕ} (s : Fin n → EReal) (j : Fin n) : EReal :=
  Ideal.div (Ideal.exp (s j - top s)) (∑ k, Ideal.exp (s k - top s))

theorem top_eq_sup {n : ℕ} (s : Fin n → EReal) : top s = Finset.univ.sup s := rfl

theorem exp_off (M : EReal) : Ideal.exp (⊥ - M) = 0 := by
  rw [sub_eq_add_neg, EReal.bot_add]; rfl

section Window
variable {N W : ℕ} (lo : ℕ) (hlo : lo + W ≤ N) (s : Fin N → EReal)
  (off : ∀ P : Fin N, ¬(lo ≤ P.val ∧ P.val < lo + W) → s P = ⊥)

/-- The entries of the row that lie in the window. -/
def inWin (p : Fin W) : EReal := s ⟨lo + p.val, by omega⟩

include off in
/-- The largest entry lies in the window when all others are masked. -/
theorem top_window : top s = top (inWin lo hlo s) := by
  rw [top_eq_sup, top_eq_sup]
  refine le_antisymm (Finset.sup_le fun P _ => ?_) (Finset.sup_le fun p _ => ?_)
  · by_cases h : lo ≤ P.val ∧ P.val < lo + W
    · refine le_trans (le_of_eq ?_) (Finset.le_sup (Finset.mem_univ (⟨P.val - lo, by omega⟩ : Fin W)))
      exact congrArg s (Fin.ext (by show P.val = lo + (P.val - lo); omega))
    · rw [off P h]; exact bot_le
  · exact Finset.le_sup (f := s) (Finset.mem_univ _)

include off in
theorem sum_exp_window : ∑ k, Ideal.exp (s k - top s) = ∑ k, Ideal.exp (inWin lo hlo s k - top (inWin lo hlo s)) := by
  rw [FinSumWindow.sum_window lo hlo (fun k => Ideal.exp (s k - top s)) (fun P h => by rw [off P h]; exact exp_off _), ← top_window lo hlo s off]
  rfl

/-- The sum of the exponentials of a row with a real entry and none infinite is not zero. -/
theorem sum_exp_ne (nt : ∀ k, s k ≠ ⊤) (k0 : Fin N) (nb : s k0 ≠ ⊥) : ∑ k, Ideal.exp (s k - top s) ≠ 0 := by
  obtain ⟨k1, -, hk1⟩ := Finset.exists_mem_eq_sup Finset.univ ⟨k0, Finset.mem_univ _⟩ s
  have hb : s k1 ≠ ⊥ := fun e => nb (le_bot_iff.1 (by
    rw [← e, ← hk1]; exact Finset.le_sup (f := s) (Finset.mem_univ k0)))
  have h1 : Ideal.exp (s k1 - top s) = 1 := by
    rw [top_eq_sup, hk1, EReal.sub_self (nt k1) hb]
    show ((Real.exp 0 : ℝ) : EReal) = 1
    rw [Real.exp_zero]; rfl
  intro h0
  have := (Finset.sum_eq_zero_iff_of_nonneg (fun k _ => exp_nonneg (s k - top s))).1 h0 k1 (Finset.mem_univ _)
  rw [h1] at this
  exact one_ne_zero this

include off in
/-- **A row's weighted sum is that of its window**, when everything outside the window is masked. -/
theorem soft_window (nt : ∀ k, s k ≠ ⊤) (k0 : Fin N) (nb : s k0 ≠ ⊥) (v : Fin N → EReal) :
    ∑ P, v P * soft s P = ∑ p, v ⟨lo + p.val, by omega⟩ * soft (inWin lo hlo s) p := by
  rw [FinSumWindow.sum_window lo hlo (fun P => v P * soft s P) (fun P h => by
    show v P * Ideal.div (Ideal.exp (s P - top s)) _ = 0
    rw [off P h, exp_off, Ideal.zero_div (sum_exp_ne s nt k0 nb), mul_zero])]
  refine Finset.sum_congr rfl fun p _ => ?_
  unfold soft
  rw [← sum_exp_window lo hlo s off, ← top_window lo hlo s off]
  rfl

end Window

end Cert.Att
-- ==== Proof.AttnVal.lean ====
module

public import proofs.«01_k».proof.Proof.Soft
public import proofs.«01_k».proof.Proof.Macro
public import Idealize.ShloMosaic.Lib.ValueIdx
public import Idealize.ShloMosaic.Lib.MatmulPlain
public import Idealize.ShloMosaic.Lib.Pipeline.Value
public import Idealize.ShloMosaic.Lib.ValueLayoutCasts

@[expose] public section

noncomputable section

namespace Cert.Att

open Cert.KernelIdeal Cert.KernelIdeal.Gen
open Idealize.ShloMosaic
open Idealize.ShloMosaic.ValueIdx
open scoped BigOperators

/-! ## The mask -/

/-- The score's scale. -/
def scl : EReal := Ideal.ofBits .f32 0x3DB504F3#32

theorem scl_fine : Fine scl := by
  have h : scl = ((11863283 : ℝ) : EReal) * (((2 ^ 27 : ℝ)⁻¹ : ℝ) : EReal) := by
    unfold scl; simp [Ideal.ofBits, Ideal.ieee]
  rw [h]
  exact Fine.mul ⟨_, rfl⟩ ⟨_, rfl⟩

/-- The score of a masked pair is −∞. -/
def msc (a b : ℕ) (x : EReal) : EReal := if a ≤ b + 128 ∧ b ≤ a + 128 then x else ⊥

theorem sle_128 (n : ℕ) (hn : n < 2 ^ 20) : (BitVec.ofNat 32 n).sle 128#32 = decide (n ≤ 128) := by
  have h : (BitVec.ofNat 32 n).toInt = n := by
    have e : (BitVec.ofNat 32 n).toNat = n := by rw [BitVec.toNat_ofNat]; omega
    rw [BitVec.toInt_eq_toNat_of_lt (by rw [e]; omega), e]
  rw [BitVec.sle_eq_decide, h]
  exact decide_eq_decide.2 (by show (n : ℤ) ≤ 128 ↔ _; omega)

/-- The word comparison of two places. -/
theorem near_word (a b : ℕ) (ha : a < 2 ^ 20) (hb : b < 2 ^ 20) :
    IntOp.cmpi .sle (IntOp.absi (IntOp.subi (BitVec.ofNat 32 a) (BitVec.ofNat 32 b))) 128#32 = BitVec.ofBool (decide (a ≤ b + 128 ∧ b ≤ a + 128)) := by
  have key : ∃ n < 2 ^ 20, IntOp.absi (IntOp.subi (BitVec.ofNat 32 a) (BitVec.ofNat 32 b)) = BitVec.ofNat 32 n ∧ (n ≤ 128 ↔ a ≤ b + 128 ∧ b ≤ a + 128) := by
    unfold IntOp.absi IntOp.subi
    by_cases h : a < b
    · refine ⟨b - a, by omega, ?_, by omega⟩
      have e : BitVec.ofNat 32 a - BitVec.ofNat 32 b = -(BitVec.ofNat 32 (b - a)) := by
        apply BitVec.eq_of_toNat_eq
        simp only [BitVec.toNat_sub, BitVec.toNat_ofNat, BitVec.toNat_neg]; omega
      have hm : (BitVec.ofNat 32 a - BitVec.ofNat 32 b).msb = true := by
        rw [e, BitVec.msb_eq_decide]; simp only [BitVec.toNat_neg, BitVec.toNat_ofNat]
        exact decide_eq_true (by omega)
      rw [if_pos hm, e, BitVec.neg_neg]
    · refine ⟨a - b, by omega, ?_, by omega⟩
      have e : BitVec.ofNat 32 a - BitVec.ofNat 32 b = BitVec.ofNat 32 (a - b) := by
        apply BitVec.eq_of_toNat_eq
        simp only [BitVec.toNat_sub, BitVec.toNat_ofNat]; omega
      have hm : ¬ (BitVec.ofNat 32 a - BitVec.ofNat 32 b).msb = true := by
        rw [e, BitVec.msb_eq_decide]; simp only [BitVec.toNat_ofNat]
        intro h; have := of_decide_eq_true h; omega
      rw [if_neg hm, e]
  obtain ⟨n, hn, e, h⟩ := key
  rw [e]
  unfold IntOp.cmpi
  show BitVec.ofBool (BitVec.sle _ _) = _
  rw [sle_128 n hn]
  exact congrArg BitVec.ofBool (decide_eq_decide.2 h)

/-- Choosing by that comparison is masking. -/
theorem select_near (a b : ℕ) (ha : a < 2 ^ 20) (hb : b < 2 ^ 20) (x : EReal) :
    Scalar.select (IntOp.cmpi .sle (IntOp.absi (IntOp.subi (BitVec.ofNat 32 a) (BitVec.ofNat 32 b))) 128#32) x (⊥ : EReal) = msc a b x := by
  rw [near_word a b ha hb]
  unfold msc
  by_cases h : a ≤ b + 128 ∧ b ≤ a + 128
  · rw [decide_eq_true h, if_pos h]; rfl
  · rw [decide_eq_false h, if_neg h]; rfl

theorem mask_bot : (Named.named (F := Ideal) κ "mask" (φ := .f32) 0xCE6E6B28#32 : EReal) = ⊥ :=
  IdealRules.named_const.ideal_named_scalar _ _ _ _ rfl

/-! ## A block of attention, entry by entry -/

theorem dot_qk : dot_S256x128_S512x128_S256x512_1_1_0_0_n_n = DotDims.transposedRhs 256 128 512 := rfl
theorem dot_pv : dot_S256x512_S512x128_S256x128_1_0_0_1_n_n = DotDims.plain 256 512 128 := rfl

variable (qs ks : ℕ) (kk vv : FVec Ideal S512x128 .bf16) (q : FVec Ideal S256x128 .bf16)

/-- A row of masked scores of a block. -/
def rowS (r : Fin 256) : Fin 512 → EReal := fun j => msc (qs + r.val) (ks + j.val) ((∑ d : Fin 128, q (ix2 r d) * kk (ix2 j d)) * scl)

/-- The masked scores as the kernel writes them. -/
def scores : FVec Ideal S256x512 .f32 :=
  select (cmpi .sle (absi (subi (addi (broadcast S256x512 (BitVec.ofNat 32 qs)) (iota .tc S256x512 32 [0] iota_S256x512_d0_w32))
    (addi (broadcast S256x512 (BitVec.ofNat 32 ks)) (iota .tc S256x512 32 [1] iota_S256x512_d1_w32)))) (broadcast S256x512 128#32))
   (mulf (matmul dot_S256x128_S512x128_S256x512_1_1_0_0_n_n none q kk (constant S256x512 .f32 0x00000000#32))
    (broadcast S256x512 (Scalar.ofBits .f32 0x3DB504F3#32))) (broadcast S256x512 (Named.named κ "mask" 0xCE6E6B28#32))

theorem add_word (a b : ℕ) : BitVec.ofNat 32 a + BitVec.ofNat 32 b = BitVec.ofNat 32 (a + b) := (BitVec.ofNat_add ..).symm

theorem scores_apply (hq : qs ≤ 4096) (hk : ks ≤ 4096) (r : Fin 256) (j : Fin 512) :
    scores qs ks kk q (ix2 r j) = rowS qs ks kk q r j := by
  unfold scores rowS
  rw [select_apply, mulf_apply, broadcast_apply, broadcast_apply, mask_bot, dot_qk]
  refine (?_ : _ = _).trans (select_near (qs + r.val) (ks + j.val) (by omega) (by omega) _)
  have e1 : addi (broadcast S256x512 (BitVec.ofNat 32 qs)) (iota .tc S256x512 32 [0] iota_S256x512_d0_w32) (ix2 r j) = BitVec.ofNat 32 (qs + r.val) := by
    show BitVec.ofNat 32 qs + iota .tc S256x512 32 [0] iota_S256x512_d0_w32 (ix2 r j) = _
    rw [← add_word, iota_single_apply]
  have e2 : addi (broadcast S256x512 (BitVec.ofNat 32 ks)) (iota .tc S256x512 32 [1] iota_S256x512_d1_w32) (ix2 r j) = BitVec.ofNat 32 (ks + j.val) := by
    show BitVec.ofNat 32 ks + iota .tc S256x512 32 [1] iota_S256x512_d1_w32 (ix2 r j) = _
    rw [← add_word, iota_single_apply]
  rw [← e1, ← e2]
  have e3 : matmul (DotDims.transposedRhs 256 128 512) none q kk (constant S256x512 .f32 0x00000000#32) (ix2 r j) = ∑ d : Fin 128, q (ix2 r d) * kk (ix2 j d) := by
    refine (Ideal.matmul_transposedRhs_apply none q kk _ r j).trans ?_
    rw [constant_apply, Ideal.ofBits_zero_f32, zero_add]
  rw [e3]
  rfl

/-- The largest score of every row. -/
def rowMx : FVec Ideal S256 .f32 := multiReduction .maximumf [1] S256 (scores qs ks kk q) 0xFF800000#32 reduces_S256x512_S256 (.inl rfl) rfl
theorem lift_row (h : S256x512.Reduces [1] S256) (r : Fin 256) (j : Fin 512) : h.lift (ix1 r) j = ix2 r j := by
  funext a
  match a with
  | 0 => rfl
  | 1 => rfl

theorem ofBits_ninf : Ideal.ofBits .f32 0xFF800000#32 = ⊥ := by simp [Ideal.ofBits, Ideal.ieee]

theorem rowMx_apply (hq : qs ≤ 4096) (hk : ks ≤ 4096) (r : Fin 256) : rowMx qs ks kk q (ix1 r) = top (rowS qs ks kk q r) := by
  refine (Ideal.multiReduction_maximumf_single (a := 1) _ _ _ _ _ _).trans ?_
  rw [Ideal.ofBits_def, ofBits_ninf]
  refine congrArg (fun f => Finset.univ.fold max (⊥ : EReal) f) (funext fun j => ?_)
  exact (congrArg (scores qs ks kk q) (lift_row _ r j)).trans (scores_apply qs ks kk q hq hk r j)

/-- A row's number spread over the row. -/
theorem spread_apply {n : ℕ} (f : FVec Ideal S256 .f32) (h1 : S256.ShapeCasts S256x1) (h2 : S256x1.Broadcasts ⟨2, ![256, n]⟩) (r : Fin 256) (j : Fin n) :
    broadcastTo ⟨2, ![256, n]⟩ (shapeCast S256x1 f h1) h2 (ix2 r j) = f (ix1 r) := by
  refine (broadcastTo_apply _ h2 (ix2 r j) (ix2 r (0 : Fin 1)) fun a => ?_).trans (shapeCast_a_a1_apply f h1 r 0)
  match a with
  | 0 => rfl
  | 1 => rfl

/-- The exponentials of a block. -/
def expS : FVec Ideal S256x512 .f32 :=
  exp (subf (scores qs ks kk q) (broadcastTo S256x512 (shapeCast S256x1 (rowMx qs ks kk q) shapeCasts_S256_S256x1) broadcasts_S256x1_S256x512))

theorem expS_apply (hq : qs ≤ 4096) (hk : ks ≤ 4096) (r : Fin 256) (j : Fin 512) :
    expS qs ks kk q (ix2 r j) = Ideal.exp (rowS qs ks kk q r j - top (rowS qs ks kk q r)) := by
  unfold expS
  show Ideal.exp (scores qs ks kk q (ix2 r j) - _) = _
  rw [scores_apply qs ks kk q hq hk, spread_apply, rowMx_apply qs ks kk q hq hk]

def rowSm : FVec Ideal S256 .f32 := multiReduction .add [1] S256 (expS qs ks kk q) 0x00000000#32 reduces_S256x512_S256 (.inl rfl) rfl
theorem rowSm_apply (hq : qs ≤ 4096) (hk : ks ≤ 4096) (r : Fin 256) :
    rowSm qs ks kk q (ix1 r) = ∑ j, Ideal.exp (rowS qs ks kk q r j - top (rowS qs ks kk q r)) := by
  refine (Ideal.multiReduction_add_single (a := 1) _ _ _ _ _ _).trans (Finset.sum_congr rfl fun j _ => ?_)
  exact (congrArg (expS qs ks kk q) (lift_row _ r j)).trans (expS_apply qs ks kk q hq hk r j)

/-- **A block of attention at an entry**: the values weighted by the row's weights. -/
theorem attn_apply (hq : qs ≤ 4096) (hk : ks ≤ 4096) (r : Fin 256) (d : Fin 128) :
    attn qs ks kk vv q (ix2 r d) = ∑ j : Fin 512, vv (ix2 j d) * soft (rowS qs ks kk q r) j := by
  have e : attn qs ks kk vv q = shapeCast S256x128 (truncf .bf16 (matmul dot_S256x512_S512x128_S256x128_1_0_0_1_n_n none
      (truncf .bf16 (divf (expS qs ks kk q) (broadcastTo S256x512 (shapeCast S256x1 (rowSm qs ks kk q) shapeCasts_S256_S256x1) broadcasts_S256x1_S256x512)) bitsLt_bf16_f32)
      vv (constant S256x128 .f32 0x00000000#32)) bitsLt_bf16_f32) shapeCasts_S256x128_S256x128 := rfl
  rw [e, shapeCast_self, truncf_apply, dot_pv]
  refine (Ideal.matmul_plain_apply none _ vv _ r d).trans ?_
  rw [constant_apply, Ideal.ofBits_zero_f32, zero_add]
  refine Finset.sum_congr rfl fun j _ => ?_
  rw [mul_comm, truncf_apply, divf_apply, spread_apply, expS_apply qs ks kk q hq hk, rowSm_apply qs ks kk q hq hk]
  rfl

end Cert.Att
-- ==== Proof.Whole.lean ====
module

public import proofs.«01_k».proof.Proof.AttnVal
public import proofs.«01_k».proof.Proof.Phases5

@[expose] public section

noncomputable section

namespace Cert.Att

open Cert.KernelIdeal Cert.KernelIdeal.Gen
open Idealize.ShloMosaic
open Idealize.ShloMosaic.ValueIdx
open scoped BigOperators

/-! ## What is computed, of the whole arrays -/

/-- The whole arrays: the rows, the query weights, the keys and values, the output weights. -/
structure Whole where
  X : Fin 2048 → Fin 1024 → EReal
  Wq : Fin 1024 → Fin 4096 → EReal
  K : Fin 8192 → Fin 32 → Fin 128 → EReal
  V : Fin 8192 → Fin 32 → Fin 128 → EReal
  Wo : Fin 4096 → Fin 1024 → EReal

namespace Whole
variable (A : Whole)

/-- The column of head `h`'s coordinate `d`. -/
def col (h : Fin 32) (d : Fin 128) : Fin 4096 := ⟨128 * h.val + d.val, by omega⟩

def q (i : Fin 2048) (n : Fin 4096) : EReal := ∑ k, A.X i k * A.Wq k n
/-- The masked scores of query `i` in head `h`. -/
def s (i : Fin 2048) (h : Fin 32) : Fin 8192 → EReal := fun j => msc i.val j.val ((∑ d, A.q i (col h d) * A.K j h d) * scl)
def ctx (i : Fin 2048) (h : Fin 32) (d : Fin 128) : EReal := ∑ j, A.V j h d * soft (A.s i h) j
def out (i : Fin 2048) (n : Fin 1024) : EReal :=
  ∑ k : Fin 4096, A.ctx i ⟨k.val / 128, by omega⟩ ⟨k.val % 128, Nat.mod_lt _ (by decide)⟩ * A.Wo k n

/-- Rows, query weights and keys are reals. -/
structure Real : Prop where
  X : ∀ i k, Fine (A.X i k)
  Wq : ∀ k n, Fine (A.Wq k n)
  K : ∀ j h d, Fine (A.K j h d)

variable {A}
theorem Real.dot (hA : A.Real) (i : Fin 2048) (h : Fin 32) (j : Fin 8192) : Fine ((∑ d, A.q i (col h d) * A.K j h d) * scl) :=
  (Fine.sum _ fun d => (Fine.sum _ fun k => (hA.X i k).mul (hA.Wq k _)).mul (hA.K j h d)).mul scl_fine

theorem Real.s_top (hA : A.Real) (i : Fin 2048) (h : Fin 32) (j : Fin 8192) : A.s i h j ≠ ⊤ := by
  unfold s msc
  split
  · exact (hA.dot i h j).ne_top
  · exact bot_ne_top
theorem Real.s_self (hA : A.Real) (i : Fin 2048) (h : Fin 32) : A.s i h ⟨i.val, by omega⟩ ≠ ⊥ := by
  unfold s msc
  rw [if_pos ⟨Nat.le_add_right _ _, Nat.le_add_right _ _⟩]
  exact (hA.dot i h _).ne_bot

/-- The context of a query is that of the 512 keys around its block. -/
theorem Real.ctx_window (hA : A.Real) (qb : Fin 8) (r : Fin 256) (i : Fin 2048) (hi : i.val = 256 * qb.val + r.val) (h : Fin 32) (d : Fin 128) :
    A.ctx i h d = ∑ p : Fin 512, A.V ⟨256 * qb.val - 128 + p.val, by omega⟩ h d
      * soft (fun p : Fin 512 => msc (256 * qb.val + r.val) (256 * qb.val - 128 + p.val)
          ((∑ d, A.q i (col h d) * A.K ⟨256 * qb.val - 128 + p.val, by omega⟩ h d) * scl)) p := by
  refine (soft_window (W := 512) (256 * qb.val - 128) (by omega) (A.s i h) (fun P hP => ?_) (hA.s_top i h) ⟨i.val, by omega⟩ (hA.s_self i h) (fun j => A.V j h d)).trans ?_
  · unfold s msc
    exact if_neg (by omega)
  · refine Finset.sum_congr rfl fun p _ => congrArg (_ * soft · p) (funext fun p => ?_)
    unfold inWin s
    rw [hi]

end Whole

/-- What each device has of the whole arrays. -/
structure Cut (A : Whole) (I : Inp Ideal) : Prop where
  X : ∀ c i k, I.X c (ix3 0 i k) = A.X i k
  Q : ∀ (c : Fin 4) k (n : Fin 1024), I.Q c (ix2 k n) = A.Wq k ⟨1024 * c.val + n.val, by omega⟩
  K : ∀ (c : Fin 4) (i : Fin 2048) h d, I.K c (ix4 0 i h d) = A.K ⟨2048 * c.val + i.val, by omega⟩ h d
  V : ∀ (c : Fin 4) (i : Fin 2048) h d, I.V c (ix4 0 i h d) = A.V ⟨2048 * c.val + i.val, by omega⟩ h d
  O : ∀ (c : Fin 4) (k : Fin 1024) n, I.O c (ix2 k n) = A.Wo ⟨1024 * c.val + k.val, by omega⟩ n

end Cert.Att
-- ==== Proof.CtxVal.lean ====
module

public import proofs.«01_k».proof.Proof.Whole

@[expose] public section

noncomputable section

namespace Cert.Att

open Cert.KernelIdeal Cert.KernelIdeal.Gen
open Idealize.ShloMosaic
open Idealize.ShloMosaic.ValueIdx
open scoped BigOperators

/-! ## The queries -/

theorem dot_q : dot_S512x1024_S1024x1024_S512x1024_1_0_0_1_n_n = DotDims.plain 512 1024 1024 := rfl

theorem qproj_apply (x : FVec Ideal S512x1024 .f32) (w : FVec Ideal S1024x1024 .bf16) (r : Fin 512) (n : Fin 1024) :
    (qproj (F := Ideal) x w (ix2 r n) : EReal) = ∑ k : Fin 1024, x (ix2 r k) * w (ix2 k n) := by
  unfold qproj
  rw [shapeCast_self, truncf_apply, dot_q]
  refine (Ideal.matmul_plain_apply none _ w _ r n).trans ?_
  rw [constant_apply, Ideal.ofBits_zero_f32, zero_add]
  rfl

theorem oproj_apply (x : FVec Ideal S512x1024 .bf16) (w : FVec Ideal S1024x1024 .bf16) (r : Fin 512) (n : Fin 1024) :
    (oproj (F := Ideal) x w (ix2 r n) : EReal) = ∑ k : Fin 1024, x (ix2 r k) * w (ix2 k n) := by
  unfold oproj
  rw [dot_q]
  refine (Ideal.matmul_plain_apply none x w _ r n).trans ?_
  rw [constant_apply, Ideal.ofBits_zero_f32, zero_add]

theorem row_split (i : Fin 2048) (h : 512 * (i.val / 512) + i.val % 512 < 2048) : (⟨512 * (i.val / 512) + i.val % 512, h⟩ : Fin 2048) = i :=
  Fin.ext (Nat.div_add_mod ..)

variable {A : Whole} {I : Inp Ideal}

theorem QB_apply (hI : Cut A I) (c : Fin 4) (i : Fin 2048) (n : Fin 1024) : I.QB c (ix2 i n) = A.q i ⟨1024 * c.val + n.val, by omega⟩ := by
  refine (qproj_apply _ _ _ _).trans (Finset.sum_congr rfl fun k _ => congrArg₂ (· * ·) ?_ (hI.Q c k n))
  refine Eq.trans ?_ (hI.X c i k)
  exact congrArg (fun i => I.X c (ix3 0 i k)) (row_split i _)

/-! ## The blocks of attention -/

/-- The entries of a window with a unit axis in its middle. -/
theorem mid_apply {n : ℕ} {α : Type} (v : (⟨3, ![n, 1, 128]⟩ : Shape).Idx → α) (h : (⟨3, ![n, 1, 128]⟩ : Shape).ShapeCasts ⟨2, ![n, 128]⟩)
    (j : Fin n) (d : Fin 128) : shapeCast ⟨2, ![n, 128]⟩ v h (ix2 j d) = v (ix3 j 0 d) :=
  shapeCast_apply v h _ _ (by
    rw [Shape.rowMajor_val_two, Shape.rowMajor_val_three]
    show (j.val * 1 + 0) * 128 + d.val = j.val * 128 + d.val
    omega)

variable (KK : FVec Ideal S2048x8x128 .bf16) (KT : FVec Ideal S128x8x128 .bf16) (G : Fin 8192 → Fin 8 → Fin 128 → EReal)

/-- A buffer of 2048 rows and one of 128 are the first 2176 rows of a longer array. -/
structure Lie : Prop where
  main : ∀ (i : Fin 2048) h d, KK (ix3 i h d) = G ⟨i.val, by omega⟩ h d
  tail : ∀ (i : Fin 128) h d, KT (ix3 i h d) = G ⟨2048 + i.val, by omega⟩ h d

variable {KK KT G}

theorem Lie.low (hL : Lie KK KT G) (qb : Fin 7) (h : Fin 8) (j : Fin 512) (d : Fin 128) :
    shapeCast S512x128 (fun x => KK ((kR qb h).emb x) : Vec Ideal S512x1x128 .bf16) shapeCasts_S512x1x128_S512x128 (ix2 j d)
      = G ⟨256 * qb.val - 128 + j.val, by omega⟩ h d := by
  refine (mid_apply _ _ j d).trans (Eq.trans (congrArg KK ?_) (hL.main ⟨256 * qb.val - 128 + j.val, by omega⟩ h d))
  funext a
  match a with
  | 0 => exact Fin.ext (ValueKit.rect_emb_unit_val _ _ _ _ 0)
  | 1 => exact Fin.ext (ValueKit.rect_emb_unit_val _ _ _ _ 1)
  | 2 => exact Fin.ext ((ValueKit.rect_emb_unit_val _ _ _ _ 2).trans (Nat.zero_add _))

theorem Lie.high (hL : Lie KK KT G) (h : Fin 8) (j : Fin 512) (d : Fin 128) :
    concatenate S512x128 0 [⟨S384x128, shapeCast S384x128 (fun x => KK ((kR7 h).emb x) : Vec Ideal S384x1x128 .bf16) shapeCasts_S384x1x128_S384x128⟩,
        ⟨S128x128, shapeCast S128x128 (fun x => KT ((tR7 h).emb x) : Vec Ideal S128x1x128 .bf16) shapeCasts_S128x1x128_S128x128⟩] concatenates_S384x128_S128x128_S512x128_d0 (ix2 j d)
      = G ⟨1664 + j.val, by omega⟩ h d := by
  by_cases hj : j.val < 384
  · refine (concatenate_pair_apply_left (t := S512x128) (s₁ := S384x128) (s₂ := S128x128) 0 _ _ _ (ix2 j d) rfl (ix2 ⟨j.val, hj⟩ d) (fun b => ?_)).trans ?_
    · match b with
      | 0 => rfl
      | 1 => rfl
    refine (mid_apply _ _ _ d).trans (Eq.trans (congrArg KK ?_) (hL.main ⟨1664 + j.val, by omega⟩ h d))
    funext a
    match a with
    | 0 => exact Fin.ext (ValueKit.rect_emb_unit_val _ _ _ _ 0)
    | 1 => exact Fin.ext (ValueKit.rect_emb_unit_val _ _ _ _ 1)
    | 2 => exact Fin.ext ((ValueKit.rect_emb_unit_val _ _ _ _ 2).trans (Nat.zero_add _))
  · refine (concatenate_pair_apply_right (t := S512x128) (s₁ := S384x128) (s₂ := S128x128) 0 _ _ _ (ix2 j d) rfl rfl (ix2 ⟨j.val - 384, by omega⟩ d) (fun b hb => ?_) ?_).trans ?_
    · match b with
      | 0 => exact absurd rfl hb
      | 1 => rfl
    · show j.val - 384 + 384 = j.val
      omega
    refine (mid_apply _ _ _ d).trans (Eq.trans (congrArg KT ?_) ((hL.tail ⟨j.val - 384, by omega⟩ h d).trans
      (congrArg (fun n => G n h d) (Fin.ext (by show 2048 + (j.val - 384) = 1664 + j.val; omega)))))
    funext a
    match a with
    | 0 => exact Fin.ext ((ValueKit.rect_emb_unit_val _ _ _ _ 0).trans (Nat.zero_add _))
    | 1 => exact Fin.ext (ValueKit.rect_emb_unit_val _ _ _ _ 1)
    | 2 => exact Fin.ext ((ValueKit.rect_emb_unit_val _ _ _ _ 2).trans (Nat.zero_add _))

variable {VV : FVec Ideal S2048x8x128 .bf16} {VT : FVec Ideal S128x8x128 .bf16} {H : Fin 8192 → Fin 8 → Fin 128 → EReal}

/-- A block of attention, of the keys and values as one array each. -/
theorem ctxB_apply (hK : Lie KK KT G) (hV : Lie VV VT H) (Q : FVec Ideal S2048x1024 .bf16) (qb h : Fin 8) (r : Fin 256) (d : Fin 128) :
    ctxB KK VV KT VT Q qb h (ix2 r d) = ∑ p : Fin 512, H ⟨256 * qb.val - 128 + p.val, by omega⟩ h d
      * soft (fun p : Fin 512 => msc (256 * qb.val + r.val) (256 * qb.val - 128 + p.val)
          ((∑ d : Fin 128, Q (ix2 ⟨256 * qb.val + r.val, by omega⟩ ⟨128 * h.val + d.val, by omega⟩) * G ⟨256 * qb.val - 128 + p.val, by omega⟩ h d) * scl)) p := by
  have hq : ∀ e : Fin 128, Q ((qR qb h).emb (ix2 r e)) = Q (ix2 ⟨256 * qb.val + r.val, by omega⟩ ⟨128 * h.val + e.val, by omega⟩) := fun e =>
    congrArg Q (qR_emb qb h _)
  unfold ctxB
  by_cases hb : qb.val < 7
  · rw [dif_pos hb, attn_apply _ _ _ _ _ (by omega) (by omega)]
    refine Finset.sum_congr rfl fun p _ => congrArg₂ (· * ·) (hV.low ⟨qb.val, hb⟩ h p d) (congrArg (soft · p) (funext fun p => ?_))
    refine congrArg (fun x => msc (256 * qb.val + r.val) (256 * qb.val - 128 + p.val) (x * scl)) (Finset.sum_congr rfl fun e _ => congrArg₂ (· * ·) (hq e) (hK.low ⟨qb.val, hb⟩ h p e))
  · obtain rfl : qb = 7 := Fin.ext (by show qb.val = 7; omega)
    rw [dif_neg hb, attn_apply _ _ _ _ _ (by omega) (by omega)]
    refine Finset.sum_congr rfl fun p _ => congrArg₂ (· * ·) (hV.high h p d) (congrArg (soft · p) (funext fun p => ?_))
    refine congrArg (fun x => msc (1792 + r.val) (1664 + p.val) (x * scl)) (Finset.sum_congr rfl fun e _ => congrArg₂ (· * ·) (hq e) (hK.high h p e))

/-! ## The context and its projection -/

/-- A device's eight heads of a longer array of keys or values. -/
def eight (c : Fin 4) (G : Fin 8192 → Fin 32 → Fin 128 → EReal) : Fin 8192 → Fin 8 → Fin 128 → EReal := fun i h d => G i ⟨8 * c.val + h.val, by omega⟩ d

theorem lie_K (hI : Cut A I) (c : Fin 4) : Lie (headsOf (I.K 0) c) (tailOf (I.K 1) c) (eight c A.K) where
  main i h d := (hI.K 0 i _ d).trans (congrArg (fun i => A.K i _ d) (Fin.ext (by show 2048 * 0 + i.val = i.val; omega)))
  tail i h d := (hI.K 1 ⟨i.val, by omega⟩ _ d).trans (congrArg (fun i => A.K i _ d) (Fin.ext (by show 2048 * 1 + i.val = 2048 + i.val; omega)))
theorem lie_V (hI : Cut A I) (c : Fin 4) : Lie (headsOf (I.V 0) c) (tailOf (I.V 1) c) (eight c A.V) where
  main i h d := (hI.V 0 i _ d).trans (congrArg (fun i => A.V i _ d) (Fin.ext (by show 2048 * 0 + i.val = i.val; omega)))
  tail i h d := (hI.V 1 ⟨i.val, by omega⟩ _ d).trans (congrArg (fun i => A.V i _ d) (Fin.ext (by show 2048 * 1 + i.val = 2048 + i.val; omega)))

/-- **A device's context** is that of its eight heads. -/
theorem ctx_apply (hA : A.Real) (hI : Cut A I) (c : Fin 4) (i : Fin 2048) (n : Fin 1024) :
    I.ctx c (ix2 i n) = A.ctx i ⟨8 * c.val + n.val / 128, by omega⟩ ⟨n.val % 128, Nat.mod_lt _ (by decide)⟩ := by
  have hi : 256 * (i.val / 256) + i.val % 256 = i.val := Nat.div_add_mod ..
  refine (ctxB_apply (lie_K hI c) (lie_V hI c) (I.QB c) ⟨i.val / 256, by omega⟩ ⟨n.val / 128, by omega⟩ ⟨i.val % 256, Nat.mod_lt _ (by decide)⟩ ⟨n.val % 128, Nat.mod_lt _ (by decide)⟩).trans ?_
  refine Eq.trans ?_ (hA.ctx_window ⟨i.val / 256, by omega⟩ ⟨i.val % 256, Nat.mod_lt _ (by decide)⟩ i hi.symm _ _).symm
  refine Finset.sum_congr rfl fun p _ => congrArg (_ * soft · p) (funext fun p => ?_)
  refine congrArg (fun x => msc _ _ (x * scl)) (Finset.sum_congr rfl fun e _ => congrArg (· * _) ?_)
  refine (QB_apply hI c _ _).trans (congrArg₂ A.q (Fin.ext hi) (Fin.ext ?_))
  show 1024 * c.val + (128 * (n.val / 128) + e.val) = 128 * (8 * c.val + n.val / 128) + e.val
  omega

theorem half_apply (j : Fin 2) (p : FVec Ideal S512x1024 .f32) (r n : Fin 512) :
    (half j p (ix2 r n) : EReal) = p (ix2 r ⟨512 * j.val + n.val, by omega⟩) := by
  unfold half
  rw [shapeCast_self, truncf_apply]
  refine congrArg p (funext fun a => ?_)
  match a with
  | 0 => exact Fin.ext (Nat.zero_add _)
  | 1 => rfl

/-- A device's part of the output. -/
theorem projV_apply (j : Fin 2) (X : FVec Ideal S2048x1024 .bf16) (w : FVec Ideal S1024x1024 .bf16) (i : Fin 2048) (n : Fin 512) :
    (projV j X w (ix2 i n) : EReal) = ∑ k : Fin 1024, X (ix2 i k) * w (ix2 k ⟨512 * j.val + n.val, by omega⟩) := by
  refine (half_apply j _ _ n).trans ((oproj_apply _ w _ _).trans (Finset.sum_congr rfl fun k _ => congrArg (· * _) ?_))
  exact congrArg (fun i => X (ix2 i k)) (row_split i _)

/-! ## The ring's sum -/

theorem ring_nx (f : Fin 4 → EReal) (c : Fin 4) : f (nx^[3] c) + (f (nx^[2] c) + (f (nx^[1] c) + f c)) = ∑ d, f d := by
  rw [Fin.sum_univ_four]
  match c with
  | 0 => show f 3 + (f 2 + (f 1 + f 0)) = _; ac_rfl
  | 1 => show f 0 + (f 3 + (f 2 + f 1)) = _; ac_rfl
  | 2 => show f 1 + (f 0 + (f 3 + f 2)) = _; ac_rfl
  | 3 => show f 2 + (f 1 + (f 0 + f 3)) = _; ac_rfl
theorem ring_pv (f : Fin 4 → EReal) (c : Fin 4) : f (pv^[3] c) + (f (pv^[2] c) + (f (pv^[1] c) + f c)) = ∑ d, f d := by
  rw [Fin.sum_univ_four]
  match c with
  | 0 => show f 1 + (f 2 + (f 3 + f 0)) = _; ac_rfl
  | 1 => show f 2 + (f 3 + (f 0 + f 1)) = _; ac_rfl
  | 2 => show f 3 + (f 0 + (f 1 + f 2)) = _; ac_rfl
  | 3 => show f 0 + (f 1 + (f 2 + f 3)) = _; ac_rfl

/-- The sum over the 4096 columns is that over the devices of each one's 1024. -/
theorem sum_devs (f : Fin 4096 → EReal) : ∑ k, f k = ∑ c : Fin 4, ∑ k : Fin 1024, f ⟨1024 * c.val + k.val, by omega⟩ := by
  rw [← Fintype.sum_prod_type' (fun (c : Fin 4) (k : Fin 1024) => f ⟨1024 * c.val + k.val, by omega⟩)]
  refine (Fintype.sum_equiv (finProdFinEquiv (m := 4) (n := 1024)) _ _ fun x => congrArg f (Fin.ext ?_)).symm
  show 1024 * x.1.val + x.2.val = x.2.val + 1024 * x.1.val
  omega

theorem out_sum (hA : A.Real) (hI : Cut A I) (i : Fin 2048) (n : Fin 1024) (j : Fin 2) (m : Fin 512) (hn : n.val = 512 * j.val + m.val) :
    ∑ c : Fin 4, (projV j (I.ctx c) (I.WO c) (ix2 i m) : EReal) = A.out i n := by
  unfold Whole.out
  rw [sum_devs]
  refine Finset.sum_congr rfl fun c _ => (projV_apply j _ _ i m).trans (Finset.sum_congr rfl fun k _ => congrArg₂ (· * ·) ?_ ?_)
  · refine (ctx_apply hA hI c i k).trans (congrArg₂ (A.ctx i) (Fin.ext ?_) (Fin.ext ?_))
    · show 8 * c.val + k.val / 128 = (1024 * c.val + k.val) / 128
      omega
    · show k.val % 128 = (1024 * c.val + k.val) % 128
      omega
  · refine (hI.O c k _).trans (congrArg (A.Wo _) (Fin.ext hn.symm))

/-- **The kernel's result**, on every device, is the output of the whole arrays. -/
theorem out_apply (hA : A.Real) (hI : Cut A I) (a : Fin 1) (i : Fin 2048) (n : Fin 1024) : (I.out (ix3 a i n) : EReal) = A.out i n := by
  by_cases hn : n.val < 512
  · refine (dif_pos hn).trans ?_
    refine Eq.trans ?_ (out_sum hA hI i n 0 ⟨n.val, hn⟩ (by show n.val = 512 * 0 + n.val; omega))
    exact ring_nx (fun c => projV 0 (I.ctx c) (I.WO c) (ix2 i ⟨n.val, hn⟩)) (chunk (ix2 i ⟨n.val, hn⟩))
  · refine (dif_neg hn).trans ?_
    refine Eq.trans ?_ (out_sum hA hI i n 1 ⟨n.val - 512, by omega⟩ (by show n.val = 512 * 1 + (n.val - 512); omega))
    exact ring_pv (fun c => projV 1 (I.ctx c) (I.WO c) (ix2 i ⟨n.val - 512, by omega⟩)) (chunk (ix2 i ⟨n.val - 512, by omega⟩))

end Cert.Att
-- ==== Proof.RefVal.lean ====
module

public import proofs.«01_k».proof.Proof.Whole
public import proofs.«01_k».proof.Proof.Gen.ReferenceIdeal.Run

@[expose] public section

noncomputable section

namespace Cert.Att

open Cert.ReferenceIdeal Cert.ReferenceIdeal.Gen
open Idealize.ShloMosaic
open Idealize.ShloMosaic.TcCoe
open Idealize.ShloMosaic.ValueIdx
open scoped BigOperators

/-! ## The reference's stages -/

/-- Which of the keys each query keeps. -/
def rMask : IVec S2048x8192 1 :=
  cmpi .sle (absi (subi (broadcastInDim S2048x8192 ![0, 1] bcast_S2048x1_S2048x8192_0_1 (broadcastInDim S2048x1 ![0] bcast_S2048_S2048x1_0 (iotaInDim S2048 32 0))) (broadcastInDim S2048x8192 ![0, 1] bcast_S1x8192_S2048x8192_0_1 (broadcastInDim S1x8192 ![1] bcast_S8192_S1x8192_1 (iotaInDim S8192 32 0))))) (broadcastInDim S2048x8192 ![] bcast_S_S2048x8192 (constantI S_ 32 128#32))

/-- The queries of all heads. -/
def rQ (x : FVec Ideal S1x2048x1024 .f32) (wq : FVec Ideal S1024x4096 .f32) : FVec Ideal S1x2048x32x128 .f32 :=
  shapeCast _ (Host.dotGeneral dot_S1x2048x1024_S1024x4096_S1x2048x4096_2_0_01_1_n_n none x wq) shapeCasts_S1x2048x4096_S1x2048x32x128

/-- The masked scores. -/
def rS (x : FVec Ideal S1x2048x1024 .f32) (wq : FVec Ideal S1024x4096 .f32) (k : FVec Ideal S1x8192x32x128 .f32) : FVec Ideal S1x32x2048x8192 .f32 :=
  select (broadcastInDim S1x32x2048x8192 ![0, 1, 2, 3] bcast_S1x1x2048x8192_S1x32x2048x8192_0_1_2_3 (broadcastInDim S1x1x2048x8192 ![2, 3] bcast_S2048x8192_S1x1x2048x8192_2_3 rMask)) (mulf (Host.dotGeneral dot_S1x2048x32x128_S1x8192x32x128_S1x32x2048x8192_3_3_1_1_02_02 none (rQ x wq) k) (broadcastInDim S1x32x2048x8192 ![] bcast_S_S1x32x2048x8192 (constant S_ .f32 0x3DB504F3#32))) (broadcastInDim S1x32x2048x8192 ![] bcast_S_S1x32x2048x8192 (id (constant S_ .f32 0xFF800000#32)))

/-- The largest score of each row. -/
def rTop (x : FVec Ideal S1x2048x1024 .f32) (wq : FVec Ideal S1024x4096 .f32) (k : FVec Ideal S1x8192x32x128 .f32) : FVec Ideal S1x32x2048 .f32 :=
  Host.reduce FloatOps.maximumf (rS x wq k) (constant S_ .f32 0xFF800000#32) reducesTo_S1x32x2048x8192_S1x32x2048_d3 h_S_

/-- The exponentials of the scores, each row's largest score taken off. -/
def rExp (x : FVec Ideal S1x2048x1024 .f32) (wq : FVec Ideal S1024x4096 .f32) (k : FVec Ideal S1x8192x32x128 .f32) : FVec Ideal S1x32x2048x8192 .f32 :=
  Host.exp (subf (rS x wq k) (broadcastInDim S1x32x2048x8192 ![0, 1, 2, 3] bcast_S1x32x2048x1_S1x32x2048x8192_0_1_2_3 (broadcastInDim S1x32x2048x1 ![0, 1, 2] bcast_S1x32x2048_S1x32x2048x1_0_1_2 (rTop x wq k))))

/-- Whether a query keeps any key. -/
def rKeep : IVec S1x1x2048x1 1 :=
  broadcastInDim S1x1x2048x1 ![2] bcast_S2048_S1x1x2048x1_2 (Host.reduce IntOp.ori rMask (constantI S_ 1 0#1) reducesTo_S2048x8192_S2048_d1 h_S_)

/-- The sum of each row's exponentials, one where no key is kept. -/
def rSum (x : FVec Ideal S1x2048x1024 .f32) (wq : FVec Ideal S1024x4096 .f32) (k : FVec Ideal S1x8192x32x128 .f32) : FVec Ideal S1x32x2048x1 .f32 :=
  select (broadcastInDim S1x32x2048x1 ![0, 1, 2, 3] bcast_S1x1x2048x1_S1x32x2048x1_0_1_2_3 rKeep) (broadcastInDim S1x32x2048x1 ![0, 1, 2] bcast_S1x32x2048_S1x32x2048x1_0_1_2 (Host.reduceAdd (rExp x wq k) (constant S_ .f32 0x00000000#32) reducesTo_S1x32x2048x8192_S1x32x2048_d3 h_S_)) (broadcastInDim S1x32x2048x1 ![] bcast_S_S1x32x2048x1 (id (constant S_ .f32 0x3F800000#32)))

/-- The softmax weights. -/
def rW (x : FVec Ideal S1x2048x1024 .f32) (wq : FVec Ideal S1024x4096 .f32) (k : FVec Ideal S1x8192x32x128 .f32) : FVec Ideal S1x32x2048x8192 .f32 :=
  select (broadcastInDim S1x32x2048x8192 ![0, 1, 2, 3] bcast_S1x1x2048x1_S1x32x2048x8192_0_1_2_3 rKeep) (Host.divf (rExp x wq k) (broadcastInDim S1x32x2048x8192 ![0, 1, 2, 3] bcast_S1x32x2048x1_S1x32x2048x8192_0_1_2_3 (rSum x wq k))) (broadcastInDim S1x32x2048x8192 ![] bcast_S_S1x32x2048x8192 (id (constant S_ .f32 0x00000000#32)))

/-- The weighted values, the heads side by side. -/
def rCtx (x : FVec Ideal S1x2048x1024 .f32) (wq : FVec Ideal S1024x4096 .f32) (k : FVec Ideal S1x8192x32x128 .f32) (v : FVec Ideal S1x8192x32x128 .f32) : FVec Ideal S1x2048x4096 .f32 :=
  shapeCast _ (transpose S1x2048x32x128 [0, 3, 1, 2] (Host.dotGeneral dot_S1x8192x32x128_S1x32x2048x8192_S1x32x128x2048_1_3_3_2_02_01 none v (rW x wq k)) transposes_S1x32x128x2048_S1x2048x32x128_0_3_1_2) shapeCasts_S1x2048x32x128_S1x2048x4096

/-- The reference's result. -/
def rOut (x : FVec Ideal S1x2048x1024 .f32) (wq : FVec Ideal S1024x4096 .f32) (k : FVec Ideal S1x8192x32x128 .f32) (v : FVec Ideal S1x8192x32x128 .f32) (wo : FVec Ideal S4096x1024 .f32) : FVec Ideal S1x2048x1024 .f32 :=
  Host.dotGeneral dot_S1x2048x4096_S4096x1024_S1x2048x1024_2_0_01_1_n_n none (rCtx x wq k v) wo

/-- The reference's arrays as the whole arrays. -/
def wholeOf (x : FVec Ideal S1x2048x1024 .f32) (wq : FVec Ideal S1024x4096 .f32) (k : FVec Ideal S1x8192x32x128 .f32) (v : FVec Ideal S1x8192x32x128 .f32) (wo : FVec Ideal S4096x1024 .f32) : Whole where
  X i p := x (ix3 0 i p)
  Wq p n := wq (ix2 p n)
  K j h d := k (ix4 0 j h d)
  V j h d := v (ix4 0 j h d)
  Wo p n := wo (ix2 p n)

/-! ## The stages at an index -/

/-- A product at an index, from the places its factors are read at. -/
theorem hdot_apply {sl sr so : Shape} (D : DotDims sl sr so) (n : ℕ) (hr : D.contr.rank = 1)
    (hs : D.contr.size ⟨0, by omega⟩ = n) (l : FVec Ideal sl .f32) (r : FVec Ideal sr .f32) (j : so.Idx)
    (L : Fin n → sl.Idx) (R : Fin n → sr.Idx)
    (hL : ∀ k a, (D.lhsIdx j ((contrEquiv1 D n hr hs).symm k) a).val = (L k a).val)
    (hR : ∀ k a, (D.rhsIdx j ((contrEquiv1 D n hr hs).symm k) a).val = (R k a).val) :
    (Host.dotGeneral (F := Ideal) D none l r j : EReal) = ∑ k, (l (L k) : EReal) * r (R k) := by
  show FloatOps.dotGeneral D none .single l r j = _
  rw [Ideal.dotGeneral_apply, ← Equiv.sum_comp (contrEquiv1 D n hr hs).symm]
  refine Finset.sum_congr rfl fun k _ => ?_
  rw [show D.lhsIdx j ((contrEquiv1 D n hr hs).symm k) = L k from funext fun a => Fin.ext (hL k a),
    show D.rhsIdx j ((contrEquiv1 D n hr hs).symm k) = R k from funext fun a => Fin.ext (hR k a)]

variable (x : FVec Ideal S1x2048x1024 .f32) (wq : FVec Ideal S1024x4096 .f32) (k : FVec Ideal S1x8192x32x128 .f32)
  (v : FVec Ideal S1x8192x32x128 .f32) (wo : FVec Ideal S4096x1024 .f32)

theorem rMask_apply (i : Fin 2048) (j : Fin 8192) :
    rMask (ix2 i j) = IntOp.cmpi .sle (IntOp.absi (IntOp.subi (BitVec.ofNat 32 i.val) (BitVec.ofNat 32 j.val))) 128#32 := rfl

theorem rQ_apply (i : Fin 2048) (h : Fin 32) (d : Fin 128) :
    (rQ x wq (ix4 0 i h d) : EReal) = (wholeOf x wq k v wo).q i (Whole.col h d) := by
  unfold rQ
  rw [shapeCast_apply _ _ (ix4 0 i h d) (ix3 0 i (Whole.col h d)) (by
    rw [Shape.rowMajor_val_three, Shape.rowMajor_val_four]
    show (0 * 2048 + i.val) * 4096 + (128 * h.val + d.val) = ((0 * 2048 + i.val) * 32 + h.val) * 128 + d.val
    omega)]
  exact hdot_apply _ 1024 rfl rfl _ _ _ (fun p => ix3 0 i p) (fun p => ix2 p (Whole.col h d))
    (fun p a => match a with
      | ⟨0, _⟩ => rfl | ⟨1, _⟩ => rfl
      | ⟨2, _⟩ => contrEquiv1_symm_val dot_S1x2048x1024_S1024x4096_S1x2048x4096_2_0_01_1_n_n 1024 rfl rfl p)
    (fun p a => match a with
      | ⟨0, _⟩ => contrEquiv1_symm_val dot_S1x2048x1024_S1024x4096_S1x2048x4096_2_0_01_1_n_n 1024 rfl rfl p
      | ⟨1, _⟩ => rfl)

theorem rS_apply (i : Fin 2048) (h : Fin 32) (j : Fin 8192) :
    (rS x wq k (ix4 0 h i j) : EReal) = (wholeOf x wq k v wo).s i h j := by
  have e : (Host.dotGeneral (F := Ideal) dot_S1x2048x32x128_S1x8192x32x128_S1x32x2048x8192_3_3_1_1_02_02 none (rQ x wq) k (ix4 0 h i j) : EReal)
      = ∑ d : Fin 128, (rQ x wq (ix4 0 i h d) : EReal) * k (ix4 0 j h d) :=
    hdot_apply _ 128 rfl rfl _ _ _ (fun d => ix4 0 i h d) (fun d => ix4 0 j h d)
      (fun p a => match a with
        | ⟨0, _⟩ => rfl | ⟨1, _⟩ => rfl | ⟨2, _⟩ => rfl
        | ⟨3, _⟩ => contrEquiv1_symm_val dot_S1x2048x32x128_S1x8192x32x128_S1x32x2048x8192_3_3_1_1_02_02 128 rfl rfl p)
      (fun p a => match a with
        | ⟨0, _⟩ => rfl | ⟨1, _⟩ => rfl | ⟨2, _⟩ => rfl
        | ⟨3, _⟩ => contrEquiv1_symm_val dot_S1x2048x32x128_S1x8192x32x128_S1x32x2048x8192_3_3_1_1_02_02 128 rfl rfl p)
  show Scalar.select (rMask (ix2 i j))
    ((Host.dotGeneral (F := Ideal) dot_S1x2048x32x128_S1x8192x32x128_S1x32x2048x8192_3_3_1_1_02_02 none (rQ x wq) k (ix4 0 h i j) : EReal)
      * Ideal.ofBits .f32 0x3DB504F3#32) (Ideal.ofBits .f32 0xFF800000#32) = _
  rw [rMask_apply, ofBits_ninf, select_near i.val j.val (by omega) (by omega), e]
  simp only [rQ_apply x wq k v wo]
  rfl

theorem red_keys : S1x32x2048x8192.Reduces [3] S1x32x2048 := by decide
theorem red_mask : S2048x8192.Reduces [1] S2048 := by decide

theorem lift_keys (h : Fin 32) (i : Fin 2048) (j : Fin 8192) : red_keys.lift (ix3 0 h i) j = ix4 0 h i j :=
  funext fun a => match a with | ⟨0, _⟩ => rfl | ⟨1, _⟩ => rfl | ⟨2, _⟩ => rfl | ⟨3, _⟩ => rfl
theorem lift_mask (i : Fin 2048) (j : Fin 8192) : red_mask.lift (ix1 i) j = ix2 i j :=
  funext fun a => match a with | ⟨0, _⟩ => rfl | ⟨1, _⟩ => rfl

theorem rTop_apply (i : Fin 2048) (h : Fin 32) :
    (rTop x wq k (ix3 0 h i) : EReal) = top ((wholeOf x wq k v wo).s i h) := by
  unfold rTop
  rw [Host.reduce_eq_fold_single FloatOps.maximumf _ _ _ red_keys]
  show Finset.univ.fold max (Ideal.ofBits .f32 0xFF800000#32) (fun j : Fin 8192 => (rS x wq k (red_keys.lift (ix3 0 h i) j) : EReal)) = _
  simp only [lift_keys, rS_apply x wq k v wo, ofBits_ninf]
  rfl

/-! A row's value, and whether a query keeps a key, laid along the keys or not. -/

theorem bc_row {α : Type} (y : S1x32x2048.Idx → α) (h : Fin 32) (i : Fin 2048) :
    broadcastInDim S1x32x2048x1 ![0, 1, 2] bcast_S1x32x2048_S1x32x2048x1_0_1_2 y (ix4 0 h i 0) = y (ix3 0 h i) :=
  broadcastInDim_apply _ _ _ _ _ fun a => match a with | ⟨0, _⟩ => rfl | ⟨1, _⟩ => rfl | ⟨2, _⟩ => rfl
theorem bc_keys {α : Type} (y : S1x32x2048x1.Idx → α) (h : Fin 32) (i : Fin 2048) (j : Fin 8192) :
    broadcastInDim S1x32x2048x8192 ![0, 1, 2, 3] bcast_S1x32x2048x1_S1x32x2048x8192_0_1_2_3 y (ix4 0 h i j) = y (ix4 0 h i 0) :=
  broadcastInDim_apply _ _ _ _ _ fun a => match a with | ⟨0, _⟩ => rfl | ⟨1, _⟩ => rfl | ⟨2, _⟩ => rfl | ⟨3, _⟩ => rfl
theorem bc_heads {α : Type} (y : S1x1x2048x1.Idx → α) (h : Fin 32) (i : Fin 2048) :
    broadcastInDim S1x32x2048x1 ![0, 1, 2, 3] bcast_S1x1x2048x1_S1x32x2048x1_0_1_2_3 y (ix4 0 h i 0) = y (ix4 0 0 i 0) :=
  broadcastInDim_apply _ _ _ _ _ fun a => match a with | ⟨0, _⟩ => rfl | ⟨1, _⟩ => rfl | ⟨2, _⟩ => rfl | ⟨3, _⟩ => rfl
theorem bc_all {α : Type} (y : S1x1x2048x1.Idx → α) (h : Fin 32) (i : Fin 2048) (j : Fin 8192) :
    broadcastInDim S1x32x2048x8192 ![0, 1, 2, 3] bcast_S1x1x2048x1_S1x32x2048x8192_0_1_2_3 y (ix4 0 h i j) = y (ix4 0 0 i 0) :=
  broadcastInDim_apply _ _ _ _ _ fun a => match a with | ⟨0, _⟩ => rfl | ⟨1, _⟩ => rfl | ⟨2, _⟩ => rfl | ⟨3, _⟩ => rfl

theorem exp_sub_apply {s : Shape} (a b : FVec Ideal s .f32) (j : s.Idx) :
    (Host.exp (F := Ideal) (subf a b) j : EReal) = Ideal.exp ((a j : EReal) - b j) := rfl

theorem rExp_apply (i : Fin 2048) (h : Fin 32) (j : Fin 8192) :
    (rExp x wq k (ix4 0 h i j) : EReal)
      = Ideal.exp ((wholeOf x wq k v wo).s i h j - top ((wholeOf x wq k v wo).s i h)) := by
  unfold rExp
  rw [exp_sub_apply, bc_keys, bc_row, rS_apply x wq k v wo, rTop_apply x wq k v wo]

/-- A query keeps its own key. -/
theorem rKeep_apply (i : Fin 2048) : rKeep (ix4 0 0 i 0) = 1#1 := by
  unfold rKeep
  rw [broadcastInDim_apply _ _ _ _ (ix1 i) fun a => match a with | ⟨0, _⟩ => rfl]
  rw [Host.reduce_eq_fold_single (IntOp.ori (w := 1)) _ _ _ red_mask]
  show Finset.univ.fold IntOp.ori 0#1 (fun j : Fin 8192 => rMask (red_mask.lift (ix1 i) j)) = 1#1
  simp only [lift_mask, rMask_apply]
  rw [← Finset.insert_erase (Finset.mem_univ (⟨i.val, by omega⟩ : Fin 8192)), Finset.fold_insert (op := IntOp.ori (w := 1)) (Finset.notMem_erase _ _)]
  rw [near_word i.val i.val (by omega) (by omega), decide_eq_true (by omega : i.val ≤ i.val + 128 ∧ i.val ≤ i.val + 128)]
  have keep : ∀ b : BitVec 1, IntOp.ori (BitVec.ofBool true) b = 1#1 := by decide
  exact keep _

theorem rSum_apply (i : Fin 2048) (h : Fin 32) :
    (rSum x wq k (ix4 0 h i 0) : EReal)
      = ∑ j, Ideal.exp ((wholeOf x wq k v wo).s i h j - top ((wholeOf x wq k v wo).s i h)) := by
  unfold rSum
  rw [select_apply, bc_heads, bc_row, rKeep_apply]
  show Ideal.hostReduceAdd reducesTo_S1x32x2048x8192_S1x32x2048_d3 (rExp x wq k) (Ideal.ofBits .f32 0x00000000#32) (ix3 0 h i) = _
  rw [Ideal.hostReduceAdd_single _ red_keys]
  show Ideal.ofBits .f32 0x00000000#32 + ∑ j : Fin 8192, (rExp x wq k (red_keys.lift (ix3 0 h i) j) : EReal) = _
  simp only [lift_keys, rExp_apply x wq k v wo]
  rw [Ideal.ofBits_zero_f32, zero_add]

theorem rW_apply (i : Fin 2048) (h : Fin 32) (j : Fin 8192) :
    (rW x wq k (ix4 0 h i j) : EReal) = soft ((wholeOf x wq k v wo).s i h) j := by
  unfold rW
  rw [select_apply, bc_all, rKeep_apply, ValueIdx.select_one, hostDivf_apply, bc_keys, rExp_apply x wq k v wo, rSum_apply x wq k v wo]
  rfl

theorem rCtx_apply (i : Fin 2048) (h : Fin 32) (d : Fin 128) :
    (rCtx x wq k v (ix3 0 i (Whole.col h d)) : EReal) = (wholeOf x wq k v wo).ctx i h d := by
  unfold rCtx
  rw [shapeCast_apply _ _ (ix3 0 i (Whole.col h d)) (ix4 0 i h d) (by
    rw [Shape.rowMajor_val_three, Shape.rowMajor_val_four]
    show ((0 * 2048 + i.val) * 32 + h.val) * 128 + d.val = (0 * 2048 + i.val) * 4096 + (128 * h.val + d.val)
    omega)]
  rw [transpose_apply _ _ _ (ix4 0 i h d) (ix4 0 h d i) (fun b => match b with
    | ⟨0, _⟩ => rfl | ⟨1, _⟩ => rfl | ⟨2, _⟩ => rfl | ⟨3, _⟩ => rfl)]
  rw [hdot_apply _ 8192 rfl rfl _ _ _ (fun j => ix4 0 j h d) (fun j => ix4 0 h i j)
      (fun p a => match a with
        | ⟨0, _⟩ => rfl | ⟨2, _⟩ => rfl | ⟨3, _⟩ => rfl
        | ⟨1, _⟩ => contrEquiv1_symm_val dot_S1x8192x32x128_S1x32x2048x8192_S1x32x128x2048_1_3_3_2_02_01 8192 rfl rfl p)
      (fun p a => match a with
        | ⟨0, _⟩ => rfl | ⟨1, _⟩ => rfl | ⟨2, _⟩ => rfl
        | ⟨3, _⟩ => contrEquiv1_symm_val dot_S1x8192x32x128_S1x32x2048x8192_S1x32x128x2048_1_3_3_2_02_01 8192 rfl rfl p)]
  simp only [rW_apply x wq k v wo]
  rfl

theorem rOut_apply (a : Fin 1) (i : Fin 2048) (n : Fin 1024) :
    (rOut x wq k v wo (ix3 a i n) : EReal) = (wholeOf x wq k v wo).out i n := by
  obtain rfl : a = 0 := Subsingleton.elim _ _
  unfold rOut
  rw [hdot_apply dot_S1x2048x4096_S4096x1024_S1x2048x1024_2_0_01_1_n_n 4096 rfl rfl _ _ _ (fun p => ix3 0 i p) (fun p => ix2 p n)
      (fun p a => match a with
        | ⟨0, _⟩ => rfl | ⟨1, _⟩ => rfl
        | ⟨2, _⟩ => contrEquiv1_symm_val dot_S1x2048x4096_S4096x1024_S1x2048x1024_2_0_01_1_n_n 4096 rfl rfl p)
      (fun p a => match a with
        | ⟨0, _⟩ => contrEquiv1_symm_val dot_S1x2048x4096_S4096x1024_S1x2048x1024_2_0_01_1_n_n 4096 rfl rfl p
        | ⟨1, _⟩ => rfl)]
  refine Finset.sum_congr rfl fun p _ => ?_
  have hp : p = Whole.col ⟨p.val / 128, by omega⟩ ⟨p.val % 128, Nat.mod_lt _ (by decide)⟩ :=
    Fin.ext (Nat.div_add_mod p.val 128).symm
  rw [show (rCtx x wq k v (ix3 0 i p) : EReal) = _ from (congrArg (fun p => (rCtx x wq k v (ix3 0 i p) : EReal)) hp).trans (rCtx_apply x wq k v wo i _ _)]
  rfl

theorem res_eq (m : (ℓ : Loc nD τ sig) → Buf (Elt Ideal) ℓ) (c : Dev nD) : Value.res_main_v34 (F := Ideal) m c
    = rOut (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) := by
  unfold Value.res_main_v34 rOut rCtx rW rSum rKeep rExp rTop rS rQ rMask
  rfl

end Cert.Att
-- ==== Proof.Alg.lean ====
module

public import proofs.«01_k».proof.Proof.Frames
public import proofs.«01_k».proof.Proof.CtxVal
public import proofs.«01_k».proof.Proof.RefVal

@[expose] public section

noncomputable section

namespace Cert.Att

open Idealize.ShloMosaic Idealize.SL.Sem
open Idealize.ShloMosaic.TcCoe
open Idealize.ShloMosaic.ValueIdx

instance pre_facts : Cert.Pre_real_KernelIdeal.Facts := ⟨by decide, by decide, by decide⟩
instance pre_ref_facts : Cert.Pre_real_ReferenceIdeal.Facts := ⟨by decide, by decide, by decide⟩

theorem ofBits_inf : Ideal.ofBits .f32 0x7F800000#32 = ⊤ := by simp [Ideal.ofBits, Ideal.ieee]

/-- What the precondition says of one entry. -/
theorem fine_of_word {x : EReal} (h : Ideal.cmp .olt (max x (-x)) (Ideal.ofBits .f32 0x7F800000#32) = 1#1) : Fine x := by
  rw [ofBits_inf] at h
  exact fine_of_abs (of_decide_eq_true ((BitVec.ofBool_eq_iff_eq (b' := true)).1 h))

abbrev MemK := (ℓ : Loc Cert.KernelIdeal.nD Cert.KernelIdeal.τ Cert.KernelIdeal.sig) → Buf (Elt Ideal) ℓ
abbrev MemR := (ℓ : Loc Cert.ReferenceIdeal.nD Cert.ReferenceIdeal.τ Cert.ReferenceIdeal.sig) → Buf (Elt Ideal) ℓ

/-- The place of the reference's array that is read as a whole one. -/
abbrev at0 (m' : MemR) (b : Ref Cert.ReferenceIdeal.sig .tc) :=
  m' (((0 : Dev Cert.ReferenceIdeal.nD).tc : Thread Cert.ReferenceIdeal.nD Cert.ReferenceIdeal.τ).loc b)

/-- The reference's arguments. -/
def refWhole (m' : MemR) : Whole :=
  wholeOf (at0 m' Cert.ReferenceIdeal.main_arg0) (at0 m' Cert.ReferenceIdeal.main_arg1) (at0 m' Cert.ReferenceIdeal.main_arg2)
    (at0 m' Cert.ReferenceIdeal.main_arg3) (at0 m' Cert.ReferenceIdeal.main_arg4)

/-- The kernel's arguments are the reference's, cut over the devices. -/
abbrev Laid (m : MemK) (m' : MemR) : Prop := ∀ c : Dev Cert.KernelIdeal.nD,
  (inp m).X c = at0 m' Cert.ReferenceIdeal.main_arg0
  ∧ (inp m).Q c = Layout.block ⟨2, ![1024, 1024]⟩ ⟨2, ![1024, 4096]⟩ 1 4 c (at0 m' Cert.ReferenceIdeal.main_arg1)
  ∧ (inp m).K c = Layout.block ⟨4, ![1, 2048, 32, 128]⟩ ⟨4, ![1, 8192, 32, 128]⟩ 1 4 c (at0 m' Cert.ReferenceIdeal.main_arg2)
  ∧ (inp m).V c = Layout.block ⟨4, ![1, 2048, 32, 128]⟩ ⟨4, ![1, 8192, 32, 128]⟩ 1 4 c (at0 m' Cert.ReferenceIdeal.main_arg3)
  ∧ (inp m).O c = Layout.block ⟨2, ![1024, 1024]⟩ ⟨2, ![4096, 1024]⟩ 0 4 c (at0 m' Cert.ReferenceIdeal.main_arg4)

/-- An entry of a block of keys or values. -/
theorem block_rows (y : (⟨4, ![1, 8192, 32, 128]⟩ : Shape).Idx → EReal) (c : Fin 4) (i : Fin 2048) (h : Fin 32) (d : Fin 128) :
    Layout.block ⟨4, ![1, 2048, 32, 128]⟩ ⟨4, ![1, 8192, 32, 128]⟩ 1 4 c y (by decide) (ix4 0 i h d)
      = y (ix4 0 ⟨2048 * c.val + i.val, by omega⟩ h d) :=
  congrArg y (funext fun a => Fin.ext (match a with
    | ⟨0, _⟩ => rfl
    | ⟨1, _⟩ => congrArg (· + i.val) (Nat.mul_comm c.val 2048)
    | ⟨2, _⟩ => rfl | ⟨3, _⟩ => rfl))

theorem cut_of_laid (m : MemK) (m' : MemR) (hl : Laid m m') : Cut (refWhole m') (inp m) where
  X c i k := congrFun (hl c).1 (ix3 0 i k)
  Q c k n := (congrFun (hl c).2.1 (ix2 k n)).trans
    (congrArg (at0 m' Cert.ReferenceIdeal.main_arg1) (funext fun a => Fin.ext (match a with
      | ⟨0, _⟩ => rfl | ⟨1, _⟩ => congrArg (· + n.val) (Nat.mul_comm c.val 1024))))
  K c i h d := (congrFun (hl c).2.2.1 (ix4 0 i h d)).trans (block_rows _ c i h d)
  V c i h d := (congrFun (hl c).2.2.2.1 (ix4 0 i h d)).trans (block_rows _ c i h d)
  O c k n := (congrFun (hl c).2.2.2.2 (ix2 k n)).trans
    (congrArg (at0 m' Cert.ReferenceIdeal.main_arg4) (funext fun a => Fin.ext (match a with
      | ⟨0, _⟩ => congrArg (· + k.val) (Nat.mul_comm c.val 1024) | ⟨1, _⟩ => rfl)))

/-- With rows, query weights and keys finite on every device, the whole arrays are. -/
theorem real_of_pre [Cert.Pre_real_KernelIdeal.Facts] (m : MemK) (m' : MemR) (hp : Cert.Pre_KernelIdeal_real_KernelIdeal m) (hl : Laid m m') :
    (refWhole m').Real where
  X i k := by
    rw [← (cut_of_laid m m' hl).X 0 i k]
    exact fine_of_word (congrFun (hp 0).1 (ix3 0 i k))
  Wq k n := by
    have e := (cut_of_laid m m' hl).Q ⟨n.val / 1024, by omega⟩ k ⟨n.val % 1024, Nat.mod_lt _ (by decide)⟩
    rw [show (⟨1024 * (n.val / 1024) + n.val % 1024, _⟩ : Fin 4096) = n from Fin.ext (Nat.div_add_mod n.val 1024)] at e
    rw [← e]
    exact fine_of_word (congrFun (hp _).2.1 (ix2 k _))
  K j h d := by
    have e := (cut_of_laid m m' hl).K ⟨j.val / 2048, by omega⟩ ⟨j.val % 2048, Nat.mod_lt _ (by decide)⟩ h d
    rw [show (⟨2048 * (j.val / 2048) + j.val % 2048, _⟩ : Fin 8192) = j from Fin.ext (Nat.div_add_mod j.val 2048)] at e
    rw [← e]
    exact fine_of_word (congrFun (hp _).2.2 (ix4 0 _ h d))

/-- The kernel's result is the reference's. -/
theorem result_eq [Cert.Pre_real_KernelIdeal.Facts] (m : MemK) (m' : MemR) (hp : Cert.Pre_KernelIdeal_real_KernelIdeal m) (hl : Laid m m') :
    (inp m).out = Cert.ReferenceIdeal.Value.res_main_v34 (F := Ideal) m' 0 := by
  rw [res_eq]
  funext j
  obtain ⟨a, i, n, rfl⟩ : ∃ a i n, j = ix3 a i n := ⟨_, _, _, eq_ix3 j⟩
  exact (out_apply (real_of_pre m m' hp hl) (cut_of_laid m m' hl) a i n).trans (rOut_apply _ _ _ _ _ a i n).symm

/-- The kernel and the reference end with one result on every device. -/
theorem values [Cert.KernelIdeal.Facts] [Cert.ReferenceIdeal.Facts] [Cert.Pre_real_KernelIdeal.Facts] :
    Cert.algebraic_KernelIdeal_ReferenceIdeal_pre_real_KernelIdeal := fun m g m' g' hp hl =>
  ⟨Cert.ReferenceIdeal.Value.res_main_v34 (F := Ideal) m' 0,
    (θ_run Cert.KernelIdeal.defs _ _).mono (fun _ h c => ⟨(h.1 c).1.trans (result_eq m m' hp hl), (h.1 c).2⟩) (run_main (F := Ideal) m g),
    (θ_run Cert.ReferenceIdeal.defs _ _).mono (fun _ h => h 0) (Cert.ReferenceIdeal.Value.run m' g')⟩

end Cert.Att
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Frames
public import proofs.«01_k».proof.Proof.Alg
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Att.pre_facts, Cert.Att.pre_ref_facts,
  Cert.Att.frame_kernel, Cert.Att.frame_ideal, fun m g _ => Cert.Att.frame_ideal m g trivial,
  Cert.Att.frame_reference, fun m g _ => Cert.Att.frame_reference m g trivial,
  Cert.Att.preserved, Cert.Att.values⟩

end Cert.Proof

end
